-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_W1 (m : (ℓ : Loc Cert.W1.nD Cert.W1.τ Cert.W1.sig) → Buf (Elt Bits) ℓ) : Prop :=
  True

def Pre_W1Ideal (m : (ℓ : Loc Cert.W1Ideal.nD Cert.W1Ideal.τ Cert.W1Ideal.sig) → Buf (Elt Ideal) ℓ) : Prop :=
  True

def Pre_W1RefIdeal (m : (ℓ : Loc Cert.W1RefIdeal.nD Cert.W1RefIdeal.τ Cert.W1RefIdeal.sig) → Buf (Elt Ideal) ℓ) : Prop :=
  True

def Pre_W2 (m : (ℓ : Loc Cert.W2.nD Cert.W2.τ Cert.W2.sig) → Buf (Elt Bits) ℓ) : Prop :=
  True

def Pre_W2Ideal (m : (ℓ : Loc Cert.W2Ideal.nD Cert.W2Ideal.τ Cert.W2Ideal.sig) → Buf (Elt Ideal) ℓ) : Prop :=
  True

def Pre_W2RefIdeal (m : (ℓ : Loc Cert.W2RefIdeal.nD Cert.W2RefIdeal.τ Cert.W2RefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_WadaRefIdeal (m : (ℓ : Loc Cert.WadaRefIdeal.nD Cert.WadaRefIdeal.τ Cert.WadaRefIdeal.sig) → Buf (Elt Ideal) ℓ) : Prop :=
  True

def Pre_AdamWada (m : (ℓ : Loc Cert.AdamWada.nD Cert.AdamWada.τ Cert.AdamWada.sig) → Buf (Elt Bits) ℓ) : Prop :=
  True

def Pre_AdamWadaIdeal (m : (ℓ : Loc Cert.AdamWadaIdeal.nD Cert.AdamWadaIdeal.τ Cert.AdamWadaIdeal.sig) → Buf (Elt Ideal) ℓ) : Prop :=
  True

def Pre_AdamWadaRefIdeal (m : (ℓ : Loc Cert.AdamWadaRefIdeal.nD Cert.AdamWadaRefIdeal.τ Cert.AdamWadaRefIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamWout (m : (ℓ : Loc Cert.AdamWout.nD Cert.AdamWout.τ Cert.AdamWout.sig) → Buf (Elt Bits) ℓ) : Prop :=
  True

def Pre_AdamWoutIdeal (m : (ℓ : Loc Cert.AdamWoutIdeal.nD Cert.AdamWoutIdeal.τ Cert.AdamWoutIdeal.sig) → Buf (Elt Ideal) ℓ) : Prop :=
  True

def Pre_AdamWoutRefIdeal (m : (ℓ : Loc Cert.AdamWoutRefIdeal.nD Cert.AdamWoutRefIdeal.τ Cert.AdamWoutRefIdeal.sig) → Buf (Elt Ideal) ℓ) : Prop :=
  True

def Pre_AdamW1 (m : (ℓ : Loc Cert.AdamW1.nD Cert.AdamW1.τ Cert.AdamW1.sig) → Buf (Elt Bits) ℓ) : Prop :=
  True

def Pre_AdamW1Ideal (m : (ℓ : Loc Cert.AdamW1Ideal.nD Cert.AdamW1Ideal.τ Cert.AdamW1Ideal.sig) → Buf (Elt Ideal) ℓ) : Prop :=
  True

def Pre_AdamW1RefIdeal (m : (ℓ : Loc Cert.AdamW1RefIdeal.nD Cert.AdamW1RefIdeal.τ Cert.AdamW1RefIdeal.sig) → Buf (Elt Ideal) ℓ) : Prop :=
  True

def Pre_AdamW2 (m : (ℓ : Loc Cert.AdamW2.nD Cert.AdamW2.τ Cert.AdamW2.sig) → Buf (Elt Bits) ℓ) : Prop :=
  True

def Pre_AdamW2Ideal (m : (ℓ : Loc Cert.AdamW2Ideal.nD Cert.AdamW2Ideal.τ Cert.AdamW2Ideal.sig) → Buf (Elt Ideal) ℓ) : Prop :=
  True

def Pre_AdamW2RefIdeal (m : (ℓ : Loc Cert.AdamW2RefIdeal.nD Cert.AdamW2RefIdeal.τ Cert.AdamW2RefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_W1 [hW1 : Cert.W1.Facts] : Prop :=
  ∀ (m : (ℓ : Loc Cert.W1.nD Cert.W1.τ Cert.W1.sig) → Buf (Elt Bits) ℓ) (g : Dev Cert.W1.nD → PrngReg), Pre_W1 m →
    θ_run (Cert.W1.defs (F := Bits)) (onTc (τ := Cert.W1.τ) (Cert.W1.main (F := Bits))) ⟨m, fun _ => 0, g⟩ (fun r => (∀ c : Dev Cert.W1.nD,
      r.2.mem ((c.tc : Thread Cert.W1.nD Cert.W1.τ).loc Cert.W1.main_arg0) = m ((c.tc : Thread Cert.W1.nD Cert.W1.τ).loc Cert.W1.main_arg0)
      ∧ r.2.mem ((c.tc : Thread Cert.W1.nD Cert.W1.τ).loc Cert.W1.main_arg1) = m ((c.tc : Thread Cert.W1.nD Cert.W1.τ).loc Cert.W1.main_arg1))
      ∧ r.2.sem = fun _ => 0)

def quiescent_W1Ideal [hW1Ideal : Cert.W1Ideal.Facts] : Prop :=
  ∀ (m : (ℓ : Loc Cert.W1Ideal.nD Cert.W1Ideal.τ Cert.W1Ideal.sig) → Buf (Elt Ideal) ℓ) (g : Dev Cert.W1Ideal.nD → PrngReg), Pre_W1Ideal m →
    θ_run (Cert.W1Ideal.defs (F := Ideal)) (onTc (τ := Cert.W1Ideal.τ) (Cert.W1Ideal.main (F := Ideal))) ⟨m, fun _ => 0, g⟩ (fun r => (∀ c : Dev Cert.W1Ideal.nD,
      r.2.mem ((c.tc : Thread Cert.W1Ideal.nD Cert.W1Ideal.τ).loc Cert.W1Ideal.main_arg0) = m ((c.tc : Thread Cert.W1Ideal.nD Cert.W1Ideal.τ).loc Cert.W1Ideal.main_arg0)
      ∧ r.2.mem ((c.tc : Thread Cert.W1Ideal.nD Cert.W1Ideal.τ).loc Cert.W1Ideal.main_arg1) = m ((c.tc : Thread Cert.W1Ideal.nD Cert.W1Ideal.τ).loc Cert.W1Ideal.main_arg1))
      ∧ r.2.sem = fun _ => 0)

def quiescent_W1RefIdeal [hW1RefIdeal : Cert.W1RefIdeal.Facts] : Prop :=
  ∀ (m : (ℓ : Loc Cert.W1RefIdeal.nD Cert.W1RefIdeal.τ Cert.W1RefIdeal.sig) → Buf (Elt Ideal) ℓ) (g : Dev Cert.W1RefIdeal.nD → PrngReg), Pre_W1RefIdeal m →
    θ_run (Cert.W1RefIdeal.defs (F := Ideal)) (onTc (τ := Cert.W1RefIdeal.τ) (Cert.W1RefIdeal.main (F := Ideal))) ⟨m, fun _ => 0, g⟩ (fun r => (∀ c : Dev Cert.W1RefIdeal.nD,
      r.2.mem ((c.tc : Thread Cert.W1RefIdeal.nD Cert.W1RefIdeal.τ).loc Cert.W1RefIdeal.main_arg0) = m ((c.tc : Thread Cert.W1RefIdeal.nD Cert.W1RefIdeal.τ).loc Cert.W1RefIdeal.main_arg0)
      ∧ r.2.mem ((c.tc : Thread Cert.W1RefIdeal.nD Cert.W1RefIdeal.τ).loc Cert.W1RefIdeal.main_arg1) = m ((c.tc : Thread Cert.W1RefIdeal.nD Cert.W1RefIdeal.τ).loc Cert.W1RefIdeal.main_arg1))
      ∧ r.2.sem = fun _ => 0)

def quiescent_W2 [hW2 : Cert.W2.Facts] : Prop :=
  ∀ (m : (ℓ : Loc Cert.W2.nD Cert.W2.τ Cert.W2.sig) → Buf (Elt Bits) ℓ) (g : Dev Cert.W2.nD → PrngReg), Pre_W2 m →
    θ_run (Cert.W2.defs (F := Bits)) (onTc (τ := Cert.W2.τ) (Cert.W2.main (F := Bits))) ⟨m, fun _ => 0, g⟩ (fun r => (∀ c : Dev Cert.W2.nD,
      r.2.mem ((c.tc : Thread Cert.W2.nD Cert.W2.τ).loc Cert.W2.main_arg0) = m ((c.tc : Thread Cert.W2.nD Cert.W2.τ).loc Cert.W2.main_arg0)
      ∧ r.2.mem ((c.tc : Thread Cert.W2.nD Cert.W2.τ).loc Cert.W2.main_arg1) = m ((c.tc : Thread Cert.W2.nD Cert.W2.τ).loc Cert.W2.main_arg1))
      ∧ r.2.sem = fun _ => 0)

def quiescent_W2Ideal [hW2Ideal : Cert.W2Ideal.Facts] : Prop :=
  ∀ (m : (ℓ : Loc Cert.W2Ideal.nD Cert.W2Ideal.τ Cert.W2Ideal.sig) → Buf (Elt Ideal) ℓ) (g : Dev Cert.W2Ideal.nD → PrngReg), Pre_W2Ideal m →
    θ_run (Cert.W2Ideal.defs (F := Ideal)) (onTc (τ := Cert.W2Ideal.τ) (Cert.W2Ideal.main (F := Ideal))) ⟨m, fun _ => 0, g⟩ (fun r => (∀ c : Dev Cert.W2Ideal.nD,
      r.2.mem ((c.tc : Thread Cert.W2Ideal.nD Cert.W2Ideal.τ).loc Cert.W2Ideal.main_arg0) = m ((c.tc : Thread Cert.W2Ideal.nD Cert.W2Ideal.τ).loc Cert.W2Ideal.main_arg0)
      ∧ r.2.mem ((c.tc : Thread Cert.W2Ideal.nD Cert.W2Ideal.τ).loc Cert.W2Ideal.main_arg1) = m ((c.tc : Thread Cert.W2Ideal.nD Cert.W2Ideal.τ).loc Cert.W2Ideal.main_arg1))
      ∧ r.2.sem = fun _ => 0)

def quiescent_W2RefIdeal [hW2RefIdeal : Cert.W2RefIdeal.Facts] : Prop :=
  ∀ (m : (ℓ : Loc Cert.W2RefIdeal.nD Cert.W2RefIdeal.τ Cert.W2RefIdeal.sig) → Buf (Elt Ideal) ℓ) (g : Dev Cert.W2RefIdeal.nD → PrngReg), Pre_W2RefIdeal m →
    θ_run (Cert.W2RefIdeal.defs (F := Ideal)) (onTc (τ := Cert.W2RefIdeal.τ) (Cert.W2RefIdeal.main (F := Ideal))) ⟨m, fun _ => 0, g⟩ (fun r => (∀ c : Dev Cert.W2RefIdeal.nD,
      r.2.mem ((c.tc : Thread Cert.W2RefIdeal.nD Cert.W2RefIdeal.τ).loc Cert.W2RefIdeal.main_arg0) = m ((c.tc : Thread Cert.W2RefIdeal.nD Cert.W2RefIdeal.τ).loc Cert.W2RefIdeal.main_arg0)
      ∧ r.2.mem ((c.tc : Thread Cert.W2RefIdeal.nD Cert.W2RefIdeal.τ).loc Cert.W2RefIdeal.main_arg1) = m ((c.tc : Thread Cert.W2RefIdeal.nD Cert.W2RefIdeal.τ).loc Cert.W2RefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1))
      ∧ r.2.sem = fun _ => 0)

def quiescent_WadaRefIdeal [hWadaRefIdeal : Cert.WadaRefIdeal.Facts] : Prop :=
  ∀ (m : (ℓ : Loc Cert.WadaRefIdeal.nD Cert.WadaRefIdeal.τ Cert.WadaRefIdeal.sig) → Buf (Elt Ideal) ℓ) (g : Dev Cert.WadaRefIdeal.nD → PrngReg), Pre_WadaRefIdeal m →
    θ_run (Cert.WadaRefIdeal.defs (F := Ideal)) (onTc (τ := Cert.WadaRefIdeal.τ) (Cert.WadaRefIdeal.main (F := Ideal))) ⟨m, fun _ => 0, g⟩ (fun r => (∀ c : Dev Cert.WadaRefIdeal.nD,
      r.2.mem ((c.tc : Thread Cert.WadaRefIdeal.nD Cert.WadaRefIdeal.τ).loc Cert.WadaRefIdeal.main_arg0) = m ((c.tc : Thread Cert.WadaRefIdeal.nD Cert.WadaRefIdeal.τ).loc Cert.WadaRefIdeal.main_arg0)
      ∧ r.2.mem ((c.tc : Thread Cert.WadaRefIdeal.nD Cert.WadaRefIdeal.τ).loc Cert.WadaRefIdeal.main_arg1) = m ((c.tc : Thread Cert.WadaRefIdeal.nD Cert.WadaRefIdeal.τ).loc Cert.WadaRefIdeal.main_arg1))
      ∧ r.2.sem = fun _ => 0)

def quiescent_AdamWada [hAdamWada : Cert.AdamWada.Facts] : Prop :=
  ∀ (m : (ℓ : Loc Cert.AdamWada.nD Cert.AdamWada.τ Cert.AdamWada.sig) → Buf (Elt Bits) ℓ) (g : Dev Cert.AdamWada.nD → PrngReg), Pre_AdamWada m →
    θ_run (Cert.AdamWada.defs (F := Bits)) (onTc (τ := Cert.AdamWada.τ) (Cert.AdamWada.main (F := Bits))) ⟨m, fun _ => 0, g⟩ (fun r => (∀ c : Dev Cert.AdamWada.nD,
      r.2.mem ((c.tc : Thread Cert.AdamWada.nD Cert.AdamWada.τ).loc Cert.AdamWada.main_arg0) = m ((c.tc : Thread Cert.AdamWada.nD Cert.AdamWada.τ).loc Cert.AdamWada.main_arg0)
      ∧ r.2.mem ((c.tc : Thread Cert.AdamWada.nD Cert.AdamWada.τ).loc Cert.AdamWada.main_arg1) = m ((c.tc : Thread Cert.AdamWada.nD Cert.AdamWada.τ).loc Cert.AdamWada.main_arg1)
      ∧ r.2.mem ((c.tc : Thread Cert.AdamWada.nD Cert.AdamWada.τ).loc Cert.AdamWada.main_arg2) = m ((c.tc : Thread Cert.AdamWada.nD Cert.AdamWada.τ).loc Cert.AdamWada.main_arg2)
      ∧ r.2.mem ((c.tc : Thread Cert.AdamWada.nD Cert.AdamWada.τ).loc Cert.AdamWada.main_arg3) = m ((c.tc : Thread Cert.AdamWada.nD Cert.AdamWada.τ).loc Cert.AdamWada.main_arg3))
      ∧ r.2.sem = fun _ => 0)

def quiescent_AdamWadaIdeal [hAdamWadaIdeal : Cert.AdamWadaIdeal.Facts] : Prop :=
  ∀ (m : (ℓ : Loc Cert.AdamWadaIdeal.nD Cert.AdamWadaIdeal.τ Cert.AdamWadaIdeal.sig) → Buf (Elt Ideal) ℓ) (g : Dev Cert.AdamWadaIdeal.nD → PrngReg), Pre_AdamWadaIdeal m →
    θ_run (Cert.AdamWadaIdeal.defs (F := Ideal)) (onTc (τ := Cert.AdamWadaIdeal.τ) (Cert.AdamWadaIdeal.main (F := Ideal))) ⟨m, fun _ => 0, g⟩ (fun r => (∀ c : Dev Cert.AdamWadaIdeal.nD,
      r.2.mem ((c.tc : Thread Cert.AdamWadaIdeal.nD Cert.AdamWadaIdeal.τ).loc Cert.AdamWadaIdeal.main_arg0) = m ((c.tc : Thread Cert.AdamWadaIdeal.nD Cert.AdamWadaIdeal.τ).loc Cert.AdamWadaIdeal.main_arg0)
      ∧ r.2.mem ((c.tc : Thread Cert.AdamWadaIdeal.nD Cert.AdamWadaIdeal.τ).loc Cert.AdamWadaIdeal.main_arg1) = m ((c.tc : Thread Cert.AdamWadaIdeal.nD Cert.AdamWadaIdeal.τ).loc Cert.AdamWadaIdeal.main_arg1)
      ∧ r.2.mem ((c.tc : Thread Cert.AdamWadaIdeal.nD Cert.AdamWadaIdeal.τ).loc Cert.AdamWadaIdeal.main_arg2) = m ((c.tc : Thread Cert.AdamWadaIdeal.nD Cert.AdamWadaIdeal.τ).loc Cert.AdamWadaIdeal.main_arg2)
      ∧ r.2.mem ((c.tc : Thread Cert.AdamWadaIdeal.nD Cert.AdamWadaIdeal.τ).loc Cert.AdamWadaIdeal.main_arg3) = m ((c.tc : Thread Cert.AdamWadaIdeal.nD Cert.AdamWadaIdeal.τ).loc Cert.AdamWadaIdeal.main_arg3))
      ∧ r.2.sem = fun _ => 0)

def quiescent_AdamWadaRefIdeal [hAdamWadaRefIdeal : Cert.AdamWadaRefIdeal.Facts] : Prop :=
  ∀ (m : (ℓ : Loc Cert.AdamWadaRefIdeal.nD Cert.AdamWadaRefIdeal.τ Cert.AdamWadaRefIdeal.sig) → Buf (Elt Ideal) ℓ) (g : Dev Cert.AdamWadaRefIdeal.nD → PrngReg), Pre_AdamWadaRefIdeal m →
    θ_run (Cert.AdamWadaRefIdeal.defs (F := Ideal)) (onTc (τ := Cert.AdamWadaRefIdeal.τ) (Cert.AdamWadaRefIdeal.main (F := Ideal))) ⟨m, fun _ => 0, g⟩ (fun r => (∀ c : Dev Cert.AdamWadaRefIdeal.nD,
      r.2.mem ((c.tc : Thread Cert.AdamWadaRefIdeal.nD Cert.AdamWadaRefIdeal.τ).loc Cert.AdamWadaRefIdeal.main_arg0) = m ((c.tc : Thread Cert.AdamWadaRefIdeal.nD Cert.AdamWadaRefIdeal.τ).loc Cert.AdamWadaRefIdeal.main_arg0)
      ∧ r.2.mem ((c.tc : Thread Cert.AdamWadaRefIdeal.nD Cert.AdamWadaRefIdeal.τ).loc Cert.AdamWadaRefIdeal.main_arg1) = m ((c.tc : Thread Cert.AdamWadaRefIdeal.nD Cert.AdamWadaRefIdeal.τ).loc Cert.AdamWadaRefIdeal.main_arg1)
      ∧ r.2.mem ((c.tc : Thread Cert.AdamWadaRefIdeal.nD Cert.AdamWadaRefIdeal.τ).loc Cert.AdamWadaRefIdeal.main_arg2) = m ((c.tc : Thread Cert.AdamWadaRefIdeal.nD Cert.AdamWadaRefIdeal.τ).loc Cert.AdamWadaRefIdeal.main_arg2)
      ∧ r.2.mem ((c.tc : Thread Cert.AdamWadaRefIdeal.nD Cert.AdamWadaRefIdeal.τ).loc Cert.AdamWadaRefIdeal.main_arg3) = m ((c.tc : Thread Cert.AdamWadaRefIdeal.nD Cert.AdamWadaRefIdeal.τ).loc Cert.AdamWadaRefIdeal.main_arg3))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3))
      ∧ r.2.sem = fun _ => 0)

def quiescent_AdamWout [hAdamWout : Cert.AdamWout.Facts] : Prop :=
  ∀ (m : (ℓ : Loc Cert.AdamWout.nD Cert.AdamWout.τ Cert.AdamWout.sig) → Buf (Elt Bits) ℓ) (g : Dev Cert.AdamWout.nD → PrngReg), Pre_AdamWout m →
    θ_run (Cert.AdamWout.defs (F := Bits)) (onTc (τ := Cert.AdamWout.τ) (Cert.AdamWout.main (F := Bits))) ⟨m, fun _ => 0, g⟩ (fun r => (∀ c : Dev Cert.AdamWout.nD,
      r.2.mem ((c.tc : Thread Cert.AdamWout.nD Cert.AdamWout.τ).loc Cert.AdamWout.main_arg0) = m ((c.tc : Thread Cert.AdamWout.nD Cert.AdamWout.τ).loc Cert.AdamWout.main_arg0)
      ∧ r.2.mem ((c.tc : Thread Cert.AdamWout.nD Cert.AdamWout.τ).loc Cert.AdamWout.main_arg1) = m ((c.tc : Thread Cert.AdamWout.nD Cert.AdamWout.τ).loc Cert.AdamWout.main_arg1)
      ∧ r.2.mem ((c.tc : Thread Cert.AdamWout.nD Cert.AdamWout.τ).loc Cert.AdamWout.main_arg2) = m ((c.tc : Thread Cert.AdamWout.nD Cert.AdamWout.τ).loc Cert.AdamWout.main_arg2)
      ∧ r.2.mem ((c.tc : Thread Cert.AdamWout.nD Cert.AdamWout.τ).loc Cert.AdamWout.main_arg3) = m ((c.tc : Thread Cert.AdamWout.nD Cert.AdamWout.τ).loc Cert.AdamWout.main_arg3))
      ∧ r.2.sem = fun _ => 0)

def quiescent_AdamWoutIdeal [hAdamWoutIdeal : Cert.AdamWoutIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg), Pre_AdamWoutIdeal m →
    θ_run (Cert.AdamWoutIdeal.defs (F := Ideal)) (onTc (τ := Cert.AdamWoutIdeal.τ) (Cert.AdamWoutIdeal.main (F := Ideal))) ⟨m, fun _ => 0, g⟩ (fun r => (∀ c : Dev Cert.AdamWoutIdeal.nD,
      r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
      ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
      ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
      ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3))
      ∧ r.2.sem = fun _ => 0)

def quiescent_AdamWoutRefIdeal [hAdamWoutRefIdeal : Cert.AdamWoutRefIdeal.Facts] : Prop :=
  ∀ (m : (ℓ : Loc Cert.AdamWoutRefIdeal.nD Cert.AdamWoutRefIdeal.τ Cert.AdamWoutRefIdeal.sig) → Buf (Elt Ideal) ℓ) (g : Dev Cert.AdamWoutRefIdeal.nD → PrngReg), Pre_AdamWoutRefIdeal m →
    θ_run (Cert.AdamWoutRefIdeal.defs (F := Ideal)) (onTc (τ := Cert.AdamWoutRefIdeal.τ) (Cert.AdamWoutRefIdeal.main (F := Ideal))) ⟨m, fun _ => 0, g⟩ (fun r => (∀ c : Dev Cert.AdamWoutRefIdeal.nD,
      r.2.mem ((c.tc : Thread Cert.AdamWoutRefIdeal.nD Cert.AdamWoutRefIdeal.τ).loc Cert.AdamWoutRefIdeal.main_arg0) = m ((c.tc : Thread Cert.AdamWoutRefIdeal.nD Cert.AdamWoutRefIdeal.τ).loc Cert.AdamWoutRefIdeal.main_arg0)
      ∧ r.2.mem ((c.tc : Thread Cert.AdamWoutRefIdeal.nD Cert.AdamWoutRefIdeal.τ).loc Cert.AdamWoutRefIdeal.main_arg1) = m ((c.tc : Thread Cert.AdamWoutRefIdeal.nD Cert.AdamWoutRefIdeal.τ).loc Cert.AdamWoutRefIdeal.main_arg1)
      ∧ r.2.mem ((c.tc : Thread Cert.AdamWoutRefIdeal.nD Cert.AdamWoutRefIdeal.τ).loc Cert.AdamWoutRefIdeal.main_arg2) = m ((c.tc : Thread Cert.AdamWoutRefIdeal.nD Cert.AdamWoutRefIdeal.τ).loc Cert.AdamWoutRefIdeal.main_arg2)
      ∧ r.2.mem ((c.tc : Thread Cert.AdamWoutRefIdeal.nD Cert.AdamWoutRefIdeal.τ).loc Cert.AdamWoutRefIdeal.main_arg3) = m ((c.tc : Thread Cert.AdamWoutRefIdeal.nD Cert.AdamWoutRefIdeal.τ).loc Cert.AdamWoutRefIdeal.main_arg3))
      ∧ r.2.sem = fun _ => 0)

def quiescent_AdamW1 [hAdamW1 : Cert.AdamW1.Facts] : Prop :=
  ∀ (m : (ℓ : Loc Cert.AdamW1.nD Cert.AdamW1.τ Cert.AdamW1.sig) → Buf (Elt Bits) ℓ) (g : Dev Cert.AdamW1.nD → PrngReg), Pre_AdamW1 m →
    θ_run (Cert.AdamW1.defs (F := Bits)) (onTc (τ := Cert.AdamW1.τ) (Cert.AdamW1.main (F := Bits))) ⟨m, fun _ => 0, g⟩ (fun r => (∀ c : Dev Cert.AdamW1.nD,
      r.2.mem ((c.tc : Thread Cert.AdamW1.nD Cert.AdamW1.τ).loc Cert.AdamW1.main_arg0) = m ((c.tc : Thread Cert.AdamW1.nD Cert.AdamW1.τ).loc Cert.AdamW1.main_arg0)
      ∧ r.2.mem ((c.tc : Thread Cert.AdamW1.nD Cert.AdamW1.τ).loc Cert.AdamW1.main_arg1) = m ((c.tc : Thread Cert.AdamW1.nD Cert.AdamW1.τ).loc Cert.AdamW1.main_arg1)
      ∧ r.2.mem ((c.tc : Thread Cert.AdamW1.nD Cert.AdamW1.τ).loc Cert.AdamW1.main_arg2) = m ((c.tc : Thread Cert.AdamW1.nD Cert.AdamW1.τ).loc Cert.AdamW1.main_arg2)
      ∧ r.2.mem ((c.tc : Thread Cert.AdamW1.nD Cert.AdamW1.τ).loc Cert.AdamW1.main_arg3) = m ((c.tc : Thread Cert.AdamW1.nD Cert.AdamW1.τ).loc Cert.AdamW1.main_arg3))
      ∧ r.2.sem = fun _ => 0)

def quiescent_AdamW1Ideal [hAdamW1Ideal : Cert.AdamW1Ideal.Facts] : Prop :=
  ∀ (m : (ℓ : Loc Cert.AdamW1Ideal.nD Cert.AdamW1Ideal.τ Cert.AdamW1Ideal.sig) → Buf (Elt Ideal) ℓ) (g : Dev Cert.AdamW1Ideal.nD → PrngReg), Pre_AdamW1Ideal m →
    θ_run (Cert.AdamW1Ideal.defs (F := Ideal)) (onTc (τ := Cert.AdamW1Ideal.τ) (Cert.AdamW1Ideal.main (F := Ideal))) ⟨m, fun _ => 0, g⟩ (fun r => (∀ c : Dev Cert.AdamW1Ideal.nD,
      r.2.mem ((c.tc : Thread Cert.AdamW1Ideal.nD Cert.AdamW1Ideal.τ).loc Cert.AdamW1Ideal.main_arg0) = m ((c.tc : Thread Cert.AdamW1Ideal.nD Cert.AdamW1Ideal.τ).loc Cert.AdamW1Ideal.main_arg0)
      ∧ r.2.mem ((c.tc : Thread Cert.AdamW1Ideal.nD Cert.AdamW1Ideal.τ).loc Cert.AdamW1Ideal.main_arg1) = m ((c.tc : Thread Cert.AdamW1Ideal.nD Cert.AdamW1Ideal.τ).loc Cert.AdamW1Ideal.main_arg1)
      ∧ r.2.mem ((c.tc : Thread Cert.AdamW1Ideal.nD Cert.AdamW1Ideal.τ).loc Cert.AdamW1Ideal.main_arg2) = m ((c.tc : Thread Cert.AdamW1Ideal.nD Cert.AdamW1Ideal.τ).loc Cert.AdamW1Ideal.main_arg2)
      ∧ r.2.mem ((c.tc : Thread Cert.AdamW1Ideal.nD Cert.AdamW1Ideal.τ).loc Cert.AdamW1Ideal.main_arg3) = m ((c.tc : Thread Cert.AdamW1Ideal.nD Cert.AdamW1Ideal.τ).loc Cert.AdamW1Ideal.main_arg3))
      ∧ r.2.sem = fun _ => 0)

def quiescent_AdamW1RefIdeal [hAdamW1RefIdeal : Cert.AdamW1RefIdeal.Facts] : Prop :=
  ∀ (m : (ℓ : Loc Cert.AdamW1RefIdeal.nD Cert.AdamW1RefIdeal.τ Cert.AdamW1RefIdeal.sig) → Buf (Elt Ideal) ℓ) (g : Dev Cert.AdamW1RefIdeal.nD → PrngReg), Pre_AdamW1RefIdeal m →
    θ_run (Cert.AdamW1RefIdeal.defs (F := Ideal)) (onTc (τ := Cert.AdamW1RefIdeal.τ) (Cert.AdamW1RefIdeal.main (F := Ideal))) ⟨m, fun _ => 0, g⟩ (fun r => (∀ c : Dev Cert.AdamW1RefIdeal.nD,
      r.2.mem ((c.tc : Thread Cert.AdamW1RefIdeal.nD Cert.AdamW1RefIdeal.τ).loc Cert.AdamW1RefIdeal.main_arg0) = m ((c.tc : Thread Cert.AdamW1RefIdeal.nD Cert.AdamW1RefIdeal.τ).loc Cert.AdamW1RefIdeal.main_arg0)
      ∧ r.2.mem ((c.tc : Thread Cert.AdamW1RefIdeal.nD Cert.AdamW1RefIdeal.τ).loc Cert.AdamW1RefIdeal.main_arg1) = m ((c.tc : Thread Cert.AdamW1RefIdeal.nD Cert.AdamW1RefIdeal.τ).loc Cert.AdamW1RefIdeal.main_arg1)
      ∧ r.2.mem ((c.tc : Thread Cert.AdamW1RefIdeal.nD Cert.AdamW1RefIdeal.τ).loc Cert.AdamW1RefIdeal.main_arg2) = m ((c.tc : Thread Cert.AdamW1RefIdeal.nD Cert.AdamW1RefIdeal.τ).loc Cert.AdamW1RefIdeal.main_arg2)
      ∧ r.2.mem ((c.tc : Thread Cert.AdamW1RefIdeal.nD Cert.AdamW1RefIdeal.τ).loc Cert.AdamW1RefIdeal.main_arg3) = m ((c.tc : Thread Cert.AdamW1RefIdeal.nD Cert.AdamW1RefIdeal.τ).loc Cert.AdamW1RefIdeal.main_arg3))
      ∧ r.2.sem = fun _ => 0)

def quiescent_AdamW2 [hAdamW2 : Cert.AdamW2.Facts] : Prop :=
  ∀ (m : (ℓ : Loc Cert.AdamW2.nD Cert.AdamW2.τ Cert.AdamW2.sig) → Buf (Elt Bits) ℓ) (g : Dev Cert.AdamW2.nD → PrngReg), Pre_AdamW2 m →
    θ_run (Cert.AdamW2.defs (F := Bits)) (onTc (τ := Cert.AdamW2.τ) (Cert.AdamW2.main (F := Bits))) ⟨m, fun _ => 0, g⟩ (fun r => (∀ c : Dev Cert.AdamW2.nD,
      r.2.mem ((c.tc : Thread Cert.AdamW2.nD Cert.AdamW2.τ).loc Cert.AdamW2.main_arg0) = m ((c.tc : Thread Cert.AdamW2.nD Cert.AdamW2.τ).loc Cert.AdamW2.main_arg0)
      ∧ r.2.mem ((c.tc : Thread Cert.AdamW2.nD Cert.AdamW2.τ).loc Cert.AdamW2.main_arg1) = m ((c.tc : Thread Cert.AdamW2.nD Cert.AdamW2.τ).loc Cert.AdamW2.main_arg1)
      ∧ r.2.mem ((c.tc : Thread Cert.AdamW2.nD Cert.AdamW2.τ).loc Cert.AdamW2.main_arg2) = m ((c.tc : Thread Cert.AdamW2.nD Cert.AdamW2.τ).loc Cert.AdamW2.main_arg2)
      ∧ r.2.mem ((c.tc : Thread Cert.AdamW2.nD Cert.AdamW2.τ).loc Cert.AdamW2.main_arg3) = m ((c.tc : Thread Cert.AdamW2.nD Cert.AdamW2.τ).loc Cert.AdamW2.main_arg3))
      ∧ r.2.sem = fun _ => 0)

def quiescent_AdamW2Ideal [hAdamW2Ideal : Cert.AdamW2Ideal.Facts] : Prop :=
  ∀ (m : (ℓ : Loc Cert.AdamW2Ideal.nD Cert.AdamW2Ideal.τ Cert.AdamW2Ideal.sig) → Buf (Elt Ideal) ℓ) (g : Dev Cert.AdamW2Ideal.nD → PrngReg), Pre_AdamW2Ideal m →
    θ_run (Cert.AdamW2Ideal.defs (F := Ideal)) (onTc (τ := Cert.AdamW2Ideal.τ) (Cert.AdamW2Ideal.main (F := Ideal))) ⟨m, fun _ => 0, g⟩ (fun r => (∀ c : Dev Cert.AdamW2Ideal.nD,
      r.2.mem ((c.tc : Thread Cert.AdamW2Ideal.nD Cert.AdamW2Ideal.τ).loc Cert.AdamW2Ideal.main_arg0) = m ((c.tc : Thread Cert.AdamW2Ideal.nD Cert.AdamW2Ideal.τ).loc Cert.AdamW2Ideal.main_arg0)
      ∧ r.2.mem ((c.tc : Thread Cert.AdamW2Ideal.nD Cert.AdamW2Ideal.τ).loc Cert.AdamW2Ideal.main_arg1) = m ((c.tc : Thread Cert.AdamW2Ideal.nD Cert.AdamW2Ideal.τ).loc Cert.AdamW2Ideal.main_arg1)
      ∧ r.2.mem ((c.tc : Thread Cert.AdamW2Ideal.nD Cert.AdamW2Ideal.τ).loc Cert.AdamW2Ideal.main_arg2) = m ((c.tc : Thread Cert.AdamW2Ideal.nD Cert.AdamW2Ideal.τ).loc Cert.AdamW2Ideal.main_arg2)
      ∧ r.2.mem ((c.tc : Thread Cert.AdamW2Ideal.nD Cert.AdamW2Ideal.τ).loc Cert.AdamW2Ideal.main_arg3) = m ((c.tc : Thread Cert.AdamW2Ideal.nD Cert.AdamW2Ideal.τ).loc Cert.AdamW2Ideal.main_arg3))
      ∧ r.2.sem = fun _ => 0)

def quiescent_AdamW2RefIdeal [hAdamW2RefIdeal : Cert.AdamW2RefIdeal.Facts] : Prop :=
  ∀ (m : (ℓ : Loc Cert.AdamW2RefIdeal.nD Cert.AdamW2RefIdeal.τ Cert.AdamW2RefIdeal.sig) → Buf (Elt Ideal) ℓ) (g : Dev Cert.AdamW2RefIdeal.nD → PrngReg), Pre_AdamW2RefIdeal m →
    θ_run (Cert.AdamW2RefIdeal.defs (F := Ideal)) (onTc (τ := Cert.AdamW2RefIdeal.τ) (Cert.AdamW2RefIdeal.main (F := Ideal))) ⟨m, fun _ => 0, g⟩ (fun r => (∀ c : Dev Cert.AdamW2RefIdeal.nD,
      r.2.mem ((c.tc : Thread Cert.AdamW2RefIdeal.nD Cert.AdamW2RefIdeal.τ).loc Cert.AdamW2RefIdeal.main_arg0) = m ((c.tc : Thread Cert.AdamW2RefIdeal.nD Cert.AdamW2RefIdeal.τ).loc Cert.AdamW2RefIdeal.main_arg0)
      ∧ r.2.mem ((c.tc : Thread Cert.AdamW2RefIdeal.nD Cert.AdamW2RefIdeal.τ).loc Cert.AdamW2RefIdeal.main_arg1) = m ((c.tc : Thread Cert.AdamW2RefIdeal.nD Cert.AdamW2RefIdeal.τ).loc Cert.AdamW2RefIdeal.main_arg1)
      ∧ r.2.mem ((c.tc : Thread Cert.AdamW2RefIdeal.nD Cert.AdamW2RefIdeal.τ).loc Cert.AdamW2RefIdeal.main_arg2) = m ((c.tc : Thread Cert.AdamW2RefIdeal.nD Cert.AdamW2RefIdeal.τ).loc Cert.AdamW2RefIdeal.main_arg2)
      ∧ r.2.mem ((c.tc : Thread Cert.AdamW2RefIdeal.nD Cert.AdamW2RefIdeal.τ).loc Cert.AdamW2RefIdeal.main_arg3) = m ((c.tc : Thread Cert.AdamW2RefIdeal.nD Cert.AdamW2RefIdeal.τ).loc Cert.AdamW2RefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_W1_W1Ideal : Prop :=
  True

def algebraic_W1Ideal_W1RefIdeal [hW1Ideal : Cert.W1Ideal.Facts] [hW1RefIdeal : Cert.W1RefIdeal.Facts] : Prop :=
  ∀ (m : (ℓ : Loc Cert.W1Ideal.nD Cert.W1Ideal.τ Cert.W1Ideal.sig) → Buf (Elt Ideal) ℓ) (g : Dev Cert.W1Ideal.nD → PrngReg)
    (m' : (ℓ : Loc Cert.W1RefIdeal.nD Cert.W1RefIdeal.τ Cert.W1RefIdeal.sig) → Buf (Elt Ideal) ℓ) (g' : Dev Cert.W1RefIdeal.nD → PrngReg), Pre_W1Ideal m →
    (∀ c : Dev Cert.W1Ideal.nD,
      m' ((c.tc : Thread Cert.W1RefIdeal.nD Cert.W1RefIdeal.τ).loc Cert.W1RefIdeal.main_arg0) = m ((c.tc : Thread Cert.W1Ideal.nD Cert.W1Ideal.τ).loc Cert.W1Ideal.main_arg0)
      ∧ m' ((c.tc : Thread Cert.W1RefIdeal.nD Cert.W1RefIdeal.τ).loc Cert.W1RefIdeal.main_arg1) = m ((c.tc : Thread Cert.W1Ideal.nD Cert.W1Ideal.τ).loc Cert.W1Ideal.main_arg1)) →
    ∃ (v0 : (c : Dev Cert.W1Ideal.nD) → Buf (Elt Ideal) ((c.tc : Thread Cert.W1Ideal.nD Cert.W1Ideal.τ).loc Cert.W1Ideal.main_v2)),
      θ_run (Cert.W1Ideal.defs (F := Ideal)) (onTc (τ := Cert.W1Ideal.τ) (Cert.W1Ideal.main (F := Ideal))) ⟨m, fun _ => 0, g⟩ (fun r => ∀ c : Dev Cert.W1Ideal.nD,
          r.2.mem ((c.tc : Thread Cert.W1Ideal.nD Cert.W1Ideal.τ).loc Cert.W1Ideal.main_v2) = v0 c
          ∧ r.2.mem ((c.tc : Thread Cert.W1Ideal.nD Cert.W1Ideal.τ).loc Cert.W1Ideal.main_arg0) = m ((c.tc : Thread Cert.W1Ideal.nD Cert.W1Ideal.τ).loc Cert.W1Ideal.main_arg0)
          ∧ r.2.mem ((c.tc : Thread Cert.W1Ideal.nD Cert.W1Ideal.τ).loc Cert.W1Ideal.main_arg1) = m ((c.tc : Thread Cert.W1Ideal.nD Cert.W1Ideal.τ).loc Cert.W1Ideal.main_arg1))
      ∧ θ_run (Cert.W1RefIdeal.defs (F := Ideal)) (onTc (τ := Cert.W1RefIdeal.τ) (Cert.W1RefIdeal.main (F := Ideal))) ⟨m', fun _ => 0, g'⟩ (fun r => ∀ c : Dev Cert.W1RefIdeal.nD,
          r.2.mem ((c.tc : Thread Cert.W1RefIdeal.nD Cert.W1RefIdeal.τ).loc Cert.W1RefIdeal.main_v12) = v0 c
          ∧ r.2.mem ((c.tc : Thread Cert.W1RefIdeal.nD Cert.W1RefIdeal.τ).loc Cert.W1RefIdeal.main_arg0) = m' ((c.tc : Thread Cert.W1RefIdeal.nD Cert.W1RefIdeal.τ).loc Cert.W1RefIdeal.main_arg0)
          ∧ r.2.mem ((c.tc : Thread Cert.W1RefIdeal.nD Cert.W1RefIdeal.τ).loc Cert.W1RefIdeal.main_arg1) = m' ((c.tc : Thread Cert.W1RefIdeal.nD Cert.W1RefIdeal.τ).loc Cert.W1RefIdeal.main_arg1))

def preserves_W2_W2Ideal : Prop :=
  True

def algebraic_W2Ideal_W2RefIdeal [hW2Ideal : Cert.W2Ideal.Facts] [hW2RefIdeal : Cert.W2RefIdeal.Facts] : Prop :=
  ∀ (m : (ℓ : Loc Cert.W2Ideal.nD Cert.W2Ideal.τ Cert.W2Ideal.sig) → Buf (Elt Ideal) ℓ) (g : Dev Cert.W2Ideal.nD → PrngReg)
    (m' : (ℓ : Loc Cert.W2RefIdeal.nD Cert.W2RefIdeal.τ Cert.W2RefIdeal.sig) → Buf (Elt Ideal) ℓ) (g' : Dev Cert.W2RefIdeal.nD → PrngReg), Pre_W2Ideal m →
    (∀ c : Dev Cert.W2Ideal.nD,
      m' ((c.tc : Thread Cert.W2RefIdeal.nD Cert.W2RefIdeal.τ).loc Cert.W2RefIdeal.main_arg0) = m ((c.tc : Thread Cert.W2Ideal.nD Cert.W2Ideal.τ).loc Cert.W2Ideal.main_arg0)
      ∧ m' ((c.tc : Thread Cert.W2RefIdeal.nD Cert.W2RefIdeal.τ).loc Cert.W2RefIdeal.main_arg1) = m ((c.tc : Thread Cert.W2Ideal.nD Cert.W2Ideal.τ).loc Cert.W2Ideal.main_arg1)) →
    ∃ (v0 : (c : Dev Cert.W2Ideal.nD) → Buf (Elt Ideal) ((c.tc : Thread Cert.W2Ideal.nD Cert.W2Ideal.τ).loc Cert.W2Ideal.main_v2)),
      θ_run (Cert.W2Ideal.defs (F := Ideal)) (onTc (τ := Cert.W2Ideal.τ) (Cert.W2Ideal.main (F := Ideal))) ⟨m, fun _ => 0, g⟩ (fun r => ∀ c : Dev Cert.W2Ideal.nD,
          r.2.mem ((c.tc : Thread Cert.W2Ideal.nD Cert.W2Ideal.τ).loc Cert.W2Ideal.main_v2) = v0 c
          ∧ r.2.mem ((c.tc : Thread Cert.W2Ideal.nD Cert.W2Ideal.τ).loc Cert.W2Ideal.main_arg0) = m ((c.tc : Thread Cert.W2Ideal.nD Cert.W2Ideal.τ).loc Cert.W2Ideal.main_arg0)
          ∧ r.2.mem ((c.tc : Thread Cert.W2Ideal.nD Cert.W2Ideal.τ).loc Cert.W2Ideal.main_arg1) = m ((c.tc : Thread Cert.W2Ideal.nD Cert.W2Ideal.τ).loc Cert.W2Ideal.main_arg1))
      ∧ θ_run (Cert.W2RefIdeal.defs (F := Ideal)) (onTc (τ := Cert.W2RefIdeal.τ) (Cert.W2RefIdeal.main (F := Ideal))) ⟨m', fun _ => 0, g'⟩ (fun r => ∀ c : Dev Cert.W2RefIdeal.nD,
          r.2.mem ((c.tc : Thread Cert.W2RefIdeal.nD Cert.W2RefIdeal.τ).loc Cert.W2RefIdeal.main_v8) = v0 c
          ∧ r.2.mem ((c.tc : Thread Cert.W2RefIdeal.nD Cert.W2RefIdeal.τ).loc Cert.W2RefIdeal.main_arg0) = m' ((c.tc : Thread Cert.W2RefIdeal.nD Cert.W2RefIdeal.τ).loc Cert.W2RefIdeal.main_arg0)
          ∧ r.2.mem ((c.tc : Thread Cert.W2RefIdeal.nD Cert.W2RefIdeal.τ).loc Cert.W2RefIdeal.main_arg1) = m' ((c.tc : Thread Cert.W2RefIdeal.nD Cert.W2RefIdeal.τ).loc Cert.W2RefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v2)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v2) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v12) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v2)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v2) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v8) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)) (v2 : (c : Dev Cert.FfnIdeal.nD) → Buf (Elt Ideal) ((c.tc : Thread Cert.FfnIdeal.nD Cert.FfnIdeal.τ).loc Cert.FfnIdeal.main_v11_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_v11_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_v33) = v1 c
          ∧ r.2.mem ((c.tc : Thread Cert.FfnRefIdeal.nD Cert.FfnRefIdeal.τ).loc Cert.FfnRefIdeal.main_v34) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Wada_WadaIdeal : Prop :=
  True

def algebraic_WadaIdeal_WadaRefIdeal [hWadaIdeal : Cert.WadaIdeal.Facts] [hWadaRefIdeal : Cert.WadaRefIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.WadaRefIdeal.nD Cert.WadaRefIdeal.τ Cert.WadaRefIdeal.sig) → Buf (Elt Ideal) ℓ) (g' : Dev Cert.WadaRefIdeal.nD → PrngReg), Pre_WadaIdeal m →
    (∀ c : Dev Cert.WadaIdeal.nD,
      m' ((c.tc : Thread Cert.WadaRefIdeal.nD Cert.WadaRefIdeal.τ).loc Cert.WadaRefIdeal.main_arg0) = m ((c.tc : Thread Cert.WadaIdeal.nD Cert.WadaIdeal.τ).loc Cert.WadaIdeal.main_arg0)
      ∧ m' ((c.tc : Thread Cert.WadaRefIdeal.nD Cert.WadaRefIdeal.τ).loc Cert.WadaRefIdeal.main_arg1) = m ((c.tc : Thread Cert.WadaIdeal.nD Cert.WadaIdeal.τ).loc Cert.WadaIdeal.main_arg1)) →
    ∃ (v0 : (c : Dev Cert.WadaIdeal.nD) → Buf (Elt Ideal) ((c.tc : Thread Cert.WadaIdeal.nD Cert.WadaIdeal.τ).loc Cert.WadaIdeal.main_v3)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v3) = v0 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1))
      ∧ θ_run (Cert.WadaRefIdeal.defs (F := Ideal)) (onTc (τ := Cert.WadaRefIdeal.τ) (Cert.WadaRefIdeal.main (F := Ideal))) ⟨m', fun _ => 0, g'⟩ (fun r => ∀ c : Dev Cert.WadaRefIdeal.nD,
          r.2.mem ((c.tc : Thread Cert.WadaRefIdeal.nD Cert.WadaRefIdeal.τ).loc Cert.WadaRefIdeal.main_v24) = v0 c
          ∧ r.2.mem ((c.tc : Thread Cert.WadaRefIdeal.nD Cert.WadaRefIdeal.τ).loc Cert.WadaRefIdeal.main_arg0) = m' ((c.tc : Thread Cert.WadaRefIdeal.nD Cert.WadaRefIdeal.τ).loc Cert.WadaRefIdeal.main_arg0)
          ∧ r.2.mem ((c.tc : Thread Cert.WadaRefIdeal.nD Cert.WadaRefIdeal.τ).loc Cert.WadaRefIdeal.main_arg1) = m' ((c.tc : Thread Cert.WadaRefIdeal.nD Cert.WadaRefIdeal.τ).loc Cert.WadaRefIdeal.main_arg1))

def preserves_AdamWada_AdamWadaIdeal : Prop :=
  True

def algebraic_AdamWadaIdeal_AdamWadaRefIdeal [hAdamWadaIdeal : Cert.AdamWadaIdeal.Facts] [hAdamWadaRefIdeal : Cert.AdamWadaRefIdeal.Facts] : Prop :=
  ∀ (m : (ℓ : Loc Cert.AdamWadaIdeal.nD Cert.AdamWadaIdeal.τ Cert.AdamWadaIdeal.sig) → Buf (Elt Ideal) ℓ) (g : Dev Cert.AdamWadaIdeal.nD → PrngReg)
    (m' : (ℓ : Loc Cert.AdamWadaRefIdeal.nD Cert.AdamWadaRefIdeal.τ Cert.AdamWadaRefIdeal.sig) → Buf (Elt Ideal) ℓ) (g' : Dev Cert.AdamWadaRefIdeal.nD → PrngReg), Pre_AdamWadaIdeal m →
    (∀ c : Dev Cert.AdamWadaIdeal.nD,
      m' ((c.tc : Thread Cert.AdamWadaRefIdeal.nD Cert.AdamWadaRefIdeal.τ).loc Cert.AdamWadaRefIdeal.main_arg0) = m ((c.tc : Thread Cert.AdamWadaIdeal.nD Cert.AdamWadaIdeal.τ).loc Cert.AdamWadaIdeal.main_arg0)
      ∧ m' ((c.tc : Thread Cert.AdamWadaRefIdeal.nD Cert.AdamWadaRefIdeal.τ).loc Cert.AdamWadaRefIdeal.main_arg1) = m ((c.tc : Thread Cert.AdamWadaIdeal.nD Cert.AdamWadaIdeal.τ).loc Cert.AdamWadaIdeal.main_arg1)
      ∧ m' ((c.tc : Thread Cert.AdamWadaRefIdeal.nD Cert.AdamWadaRefIdeal.τ).loc Cert.AdamWadaRefIdeal.main_arg2) = m ((c.tc : Thread Cert.AdamWadaIdeal.nD Cert.AdamWadaIdeal.τ).loc Cert.AdamWadaIdeal.main_arg2)
      ∧ m' ((c.tc : Thread Cert.AdamWadaRefIdeal.nD Cert.AdamWadaRefIdeal.τ).loc Cert.AdamWadaRefIdeal.main_arg3) = m ((c.tc : Thread Cert.AdamWadaIdeal.nD Cert.AdamWadaIdeal.τ).loc Cert.AdamWadaIdeal.main_arg3)) →
    ∃ (v0 : (c : Dev Cert.AdamWadaIdeal.nD) → Buf (Elt Ideal) ((c.tc : Thread Cert.AdamWadaIdeal.nD Cert.AdamWadaIdeal.τ).loc Cert.AdamWadaIdeal.main_v5_0)) (v1 : (c : Dev Cert.AdamWadaIdeal.nD) → Buf (Elt Ideal) ((c.tc : Thread Cert.AdamWadaIdeal.nD Cert.AdamWadaIdeal.τ).loc Cert.AdamWadaIdeal.main_v5_1)) (v2 : (c : Dev Cert.AdamWadaIdeal.nD) → Buf (Elt Ideal) ((c.tc : Thread Cert.AdamWadaIdeal.nD Cert.AdamWadaIdeal.τ).loc Cert.AdamWadaIdeal.main_v5_2)) (v3 : (c : Dev Cert.AdamWadaIdeal.nD) → Buf (Elt Ideal) ((c.tc : Thread Cert.AdamWadaIdeal.nD Cert.AdamWadaIdeal.τ).loc Cert.AdamWadaIdeal.main_v5_3)),
      θ_run (Cert.AdamWadaIdeal.defs (F := Ideal)) (onTc (τ := Cert.AdamWadaIdeal.τ) (Cert.AdamWadaIdeal.main (F := Ideal))) ⟨m, fun _ => 0, g⟩ (fun r => ∀ c : Dev Cert.AdamWadaIdeal.nD,
          r.2.mem ((c.tc : Thread Cert.AdamWadaIdeal.nD Cert.AdamWadaIdeal.τ).loc Cert.AdamWadaIdeal.main_v5_0) = v0 c
          ∧ r.2.mem ((c.tc : Thread Cert.AdamWadaIdeal.nD Cert.AdamWadaIdeal.τ).loc Cert.AdamWadaIdeal.main_v5_1) = v1 c
          ∧ r.2.mem ((c.tc : Thread Cert.AdamWadaIdeal.nD Cert.AdamWadaIdeal.τ).loc Cert.AdamWadaIdeal.main_v5_2) = v2 c
          ∧ r.2.mem ((c.tc : Thread Cert.AdamWadaIdeal.nD Cert.AdamWadaIdeal.τ).loc Cert.AdamWadaIdeal.main_v5_3) = v3 c
          ∧ r.2.mem ((c.tc : Thread Cert.AdamWadaIdeal.nD Cert.AdamWadaIdeal.τ).loc Cert.AdamWadaIdeal.main_arg0) = m ((c.tc : Thread Cert.AdamWadaIdeal.nD Cert.AdamWadaIdeal.τ).loc Cert.AdamWadaIdeal.main_arg0)
          ∧ r.2.mem ((c.tc : Thread Cert.AdamWadaIdeal.nD Cert.AdamWadaIdeal.τ).loc Cert.AdamWadaIdeal.main_arg1) = m ((c.tc : Thread Cert.AdamWadaIdeal.nD Cert.AdamWadaIdeal.τ).loc Cert.AdamWadaIdeal.main_arg1)
          ∧ r.2.mem ((c.tc : Thread Cert.AdamWadaIdeal.nD Cert.AdamWadaIdeal.τ).loc Cert.AdamWadaIdeal.main_arg2) = m ((c.tc : Thread Cert.AdamWadaIdeal.nD Cert.AdamWadaIdeal.τ).loc Cert.AdamWadaIdeal.main_arg2)
          ∧ r.2.mem ((c.tc : Thread Cert.AdamWadaIdeal.nD Cert.AdamWadaIdeal.τ).loc Cert.AdamWadaIdeal.main_arg3) = m ((c.tc : Thread Cert.AdamWadaIdeal.nD Cert.AdamWadaIdeal.τ).loc Cert.AdamWadaIdeal.main_arg3))
      ∧ θ_run (Cert.AdamWadaRefIdeal.defs (F := Ideal)) (onTc (τ := Cert.AdamWadaRefIdeal.τ) (Cert.AdamWadaRefIdeal.main (F := Ideal))) ⟨m', fun _ => 0, g'⟩ (fun r => ∀ c : Dev Cert.AdamWadaRefIdeal.nD,
          r.2.mem ((c.tc : Thread Cert.AdamWadaRefIdeal.nD Cert.AdamWadaRefIdeal.τ).loc Cert.AdamWadaRefIdeal.main_arg3) = v0 c
          ∧ r.2.mem ((c.tc : Thread Cert.AdamWadaRefIdeal.nD Cert.AdamWadaRefIdeal.τ).loc Cert.AdamWadaRefIdeal.main_v23) = v1 c
          ∧ r.2.mem ((c.tc : Thread Cert.AdamWadaRefIdeal.nD Cert.AdamWadaRefIdeal.τ).loc Cert.AdamWadaRefIdeal.main_v4) = v2 c
          ∧ r.2.mem ((c.tc : Thread Cert.AdamWadaRefIdeal.nD Cert.AdamWadaRefIdeal.τ).loc Cert.AdamWadaRefIdeal.main_v10) = v3 c
          ∧ r.2.mem ((c.tc : Thread Cert.AdamWadaRefIdeal.nD Cert.AdamWadaRefIdeal.τ).loc Cert.AdamWadaRefIdeal.main_arg0) = m' ((c.tc : Thread Cert.AdamWadaRefIdeal.nD Cert.AdamWadaRefIdeal.τ).loc Cert.AdamWadaRefIdeal.main_arg0)
          ∧ r.2.mem ((c.tc : Thread Cert.AdamWadaRefIdeal.nD Cert.AdamWadaRefIdeal.τ).loc Cert.AdamWadaRefIdeal.main_arg1) = m' ((c.tc : Thread Cert.AdamWadaRefIdeal.nD Cert.AdamWadaRefIdeal.τ).loc Cert.AdamWadaRefIdeal.main_arg1)
          ∧ r.2.mem ((c.tc : Thread Cert.AdamWadaRefIdeal.nD Cert.AdamWadaRefIdeal.τ).loc Cert.AdamWadaRefIdeal.main_arg2) = m' ((c.tc : Thread Cert.AdamWadaRefIdeal.nD Cert.AdamWadaRefIdeal.τ).loc Cert.AdamWadaRefIdeal.main_arg2)
          ∧ r.2.mem ((c.tc : Thread Cert.AdamWadaRefIdeal.nD Cert.AdamWadaRefIdeal.τ).loc Cert.AdamWadaRefIdeal.main_arg3) = m' ((c.tc : Thread Cert.AdamWadaRefIdeal.nD Cert.AdamWadaRefIdeal.τ).loc Cert.AdamWadaRefIdeal.main_arg3))

def preserves_AdamWin_AdamWinIdeal : Prop :=
  True

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)) →
    ∃ (v0 : (c : Dev Cert.AdamWinIdeal.nD) → Buf (Elt Ideal) ((c.tc : Thread Cert.AdamWinIdeal.nD Cert.AdamWinIdeal.τ).loc Cert.AdamWinIdeal.main_v9_0)) (v1 : (c : Dev Cert.AdamWinIdeal.nD) → Buf (Elt Ideal) ((c.tc : Thread Cert.AdamWinIdeal.nD Cert.AdamWinIdeal.τ).loc Cert.AdamWinIdeal.main_v9_1)) (v2 : (c : Dev Cert.AdamWinIdeal.nD) → Buf (Elt Ideal) ((c.tc : Thread Cert.AdamWinIdeal.nD Cert.AdamWinIdeal.τ).loc Cert.AdamWinIdeal.main_v9_2)) (v3 : (c : Dev Cert.AdamWinIdeal.nD) → Buf (Elt Ideal) ((c.tc : Thread Cert.AdamWinIdeal.nD Cert.AdamWinIdeal.τ).loc Cert.AdamWinIdeal.main_v9_3)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v9_0) = v0 c
          ∧ r.2.mem ((c.tc : Thread Cert.AdamWinIdeal.nD Cert.AdamWinIdeal.τ).loc Cert.AdamWinIdeal.main_v9_1) = v1 c
          ∧ r.2.mem ((c.tc : Thread Cert.AdamWinIdeal.nD Cert.AdamWinIdeal.τ).loc Cert.AdamWinIdeal.main_v9_2) = v2 c
          ∧ r.2.mem ((c.tc : Thread Cert.AdamWinIdeal.nD Cert.AdamWinIdeal.τ).loc Cert.AdamWinIdeal.main_v9_3) = v3 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_arg3) = v0 c
          ∧ r.2.mem ((c.tc : Thread Cert.AdamWinRefIdeal.nD Cert.AdamWinRefIdeal.τ).loc Cert.AdamWinRefIdeal.main_v23) = v1 c
          ∧ r.2.mem ((c.tc : Thread Cert.AdamWinRefIdeal.nD Cert.AdamWinRefIdeal.τ).loc Cert.AdamWinRefIdeal.main_v4) = v2 c
          ∧ r.2.mem ((c.tc : Thread Cert.AdamWinRefIdeal.nD Cert.AdamWinRefIdeal.τ).loc Cert.AdamWinRefIdeal.main_v10) = v3 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3))

def preserves_AdamWout_AdamWoutIdeal : Prop :=
  True

def algebraic_AdamWoutIdeal_AdamWoutRefIdeal [hAdamWoutIdeal : Cert.AdamWoutIdeal.Facts] [hAdamWoutRefIdeal : Cert.AdamWoutRefIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg)
    (m' : (ℓ : Loc Cert.AdamWoutRefIdeal.nD Cert.AdamWoutRefIdeal.τ Cert.AdamWoutRefIdeal.sig) → Buf (Elt Ideal) ℓ) (g' : Dev Cert.AdamWoutRefIdeal.nD → PrngReg), Pre_AdamWoutIdeal m →
    (∀ c : Dev Cert.AdamWoutIdeal.nD,
      m' ((c.tc : Thread Cert.AdamWoutRefIdeal.nD Cert.AdamWoutRefIdeal.τ).loc Cert.AdamWoutRefIdeal.main_arg0) = m ((c.tc : Thread Cert.AdamWoutIdeal.nD Cert.AdamWoutIdeal.τ).loc Cert.AdamWoutIdeal.main_arg0)
      ∧ m' ((c.tc : Thread Cert.AdamWoutRefIdeal.nD Cert.AdamWoutRefIdeal.τ).loc Cert.AdamWoutRefIdeal.main_arg1) = m ((c.tc : Thread Cert.AdamWoutIdeal.nD Cert.AdamWoutIdeal.τ).loc Cert.AdamWoutIdeal.main_arg1)
      ∧ m' ((c.tc : Thread Cert.AdamWoutRefIdeal.nD Cert.AdamWoutRefIdeal.τ).loc Cert.AdamWoutRefIdeal.main_arg2) = m ((c.tc : Thread Cert.AdamWoutIdeal.nD Cert.AdamWoutIdeal.τ).loc Cert.AdamWoutIdeal.main_arg2)
      ∧ m' ((c.tc : Thread Cert.AdamWoutRefIdeal.nD Cert.AdamWoutRefIdeal.τ).loc Cert.AdamWoutRefIdeal.main_arg3) = m ((c.tc : Thread Cert.AdamWoutIdeal.nD Cert.AdamWoutIdeal.τ).loc Cert.AdamWoutIdeal.main_arg3)) →
    ∃ (v0 : (c : Dev Cert.AdamWoutIdeal.nD) → Buf (Elt Ideal) ((c.tc : Thread Cert.AdamWoutIdeal.nD Cert.AdamWoutIdeal.τ).loc Cert.AdamWoutIdeal.main_v9_0)) (v1 : (c : Dev Cert.AdamWoutIdeal.nD) → Buf (Elt Ideal) ((c.tc : Thread Cert.AdamWoutIdeal.nD Cert.AdamWoutIdeal.τ).loc Cert.AdamWoutIdeal.main_v9_1)) (v2 : (c : Dev Cert.AdamWoutIdeal.nD) → Buf (Elt Ideal) ((c.tc : Thread Cert.AdamWoutIdeal.nD Cert.AdamWoutIdeal.τ).loc Cert.AdamWoutIdeal.main_v9_2)) (v3 : (c : Dev Cert.AdamWoutIdeal.nD) → Buf (Elt Ideal) ((c.tc : Thread Cert.AdamWoutIdeal.nD Cert.AdamWoutIdeal.τ).loc Cert.AdamWoutIdeal.main_v9_3)),
      θ_run (Cert.AdamWoutIdeal.defs (F := Ideal)) (onTc (τ := Cert.AdamWoutIdeal.τ) (Cert.AdamWoutIdeal.main (F := Ideal))) ⟨m, fun _ => 0, g⟩ (fun r => ∀ c : Dev Cert.AdamWoutIdeal.nD,
          r.2.mem ((c.tc : Thread Cert.AdamWoutIdeal.nD Cert.AdamWoutIdeal.τ).loc Cert.AdamWoutIdeal.main_v9_0) = v0 c
          ∧ r.2.mem ((c.tc : Thread Cert.AdamWoutIdeal.nD Cert.AdamWoutIdeal.τ).loc Cert.AdamWoutIdeal.main_v9_1) = v1 c
          ∧ r.2.mem ((c.tc : Thread Cert.AdamWoutIdeal.nD Cert.AdamWoutIdeal.τ).loc Cert.AdamWoutIdeal.main_v9_2) = v2 c
          ∧ r.2.mem ((c.tc : Thread Cert.AdamWoutIdeal.nD Cert.AdamWoutIdeal.τ).loc Cert.AdamWoutIdeal.main_v9_3) = v3 c
          ∧ r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
          ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
          ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
          ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3))
      ∧ θ_run (Cert.AdamWoutRefIdeal.defs (F := Ideal)) (onTc (τ := Cert.AdamWoutRefIdeal.τ) (Cert.AdamWoutRefIdeal.main (F := Ideal))) ⟨m', fun _ => 0, g'⟩ (fun r => ∀ c : Dev Cert.AdamWoutRefIdeal.nD,
          r.2.mem ((c.tc : Thread Cert.AdamWoutRefIdeal.nD Cert.AdamWoutRefIdeal.τ).loc Cert.AdamWoutRefIdeal.main_arg3) = v0 c
          ∧ r.2.mem ((c.tc : Thread Cert.AdamWoutRefIdeal.nD Cert.AdamWoutRefIdeal.τ).loc Cert.AdamWoutRefIdeal.main_v23) = v1 c
          ∧ r.2.mem ((c.tc : Thread Cert.AdamWoutRefIdeal.nD Cert.AdamWoutRefIdeal.τ).loc Cert.AdamWoutRefIdeal.main_v4) = v2 c
          ∧ r.2.mem ((c.tc : Thread Cert.AdamWoutRefIdeal.nD Cert.AdamWoutRefIdeal.τ).loc Cert.AdamWoutRefIdeal.main_v10) = v3 c
          ∧ r.2.mem ((c.tc : Thread Cert.AdamWoutRefIdeal.nD Cert.AdamWoutRefIdeal.τ).loc Cert.AdamWoutRefIdeal.main_arg0) = m' ((c.tc : Thread Cert.AdamWoutRefIdeal.nD Cert.AdamWoutRefIdeal.τ).loc Cert.AdamWoutRefIdeal.main_arg0)
          ∧ r.2.mem ((c.tc : Thread Cert.AdamWoutRefIdeal.nD Cert.AdamWoutRefIdeal.τ).loc Cert.AdamWoutRefIdeal.main_arg1) = m' ((c.tc : Thread Cert.AdamWoutRefIdeal.nD Cert.AdamWoutRefIdeal.τ).loc Cert.AdamWoutRefIdeal.main_arg1)
          ∧ r.2.mem ((c.tc : Thread Cert.AdamWoutRefIdeal.nD Cert.AdamWoutRefIdeal.τ).loc Cert.AdamWoutRefIdeal.main_arg2) = m' ((c.tc : Thread Cert.AdamWoutRefIdeal.nD Cert.AdamWoutRefIdeal.τ).loc Cert.AdamWoutRefIdeal.main_arg2)
          ∧ r.2.mem ((c.tc : Thread Cert.AdamWoutRefIdeal.nD Cert.AdamWoutRefIdeal.τ).loc Cert.AdamWoutRefIdeal.main_arg3) = m' ((c.tc : Thread Cert.AdamWoutRefIdeal.nD Cert.AdamWoutRefIdeal.τ).loc Cert.AdamWoutRefIdeal.main_arg3))

def preserves_AdamW1_AdamW1Ideal : Prop :=
  True

def algebraic_AdamW1Ideal_AdamW1RefIdeal [hAdamW1Ideal : Cert.AdamW1Ideal.Facts] [hAdamW1RefIdeal : Cert.AdamW1RefIdeal.Facts] : Prop :=
  ∀ (m : (ℓ : Loc Cert.AdamW1Ideal.nD Cert.AdamW1Ideal.τ Cert.AdamW1Ideal.sig) → Buf (Elt Ideal) ℓ) (g : Dev Cert.AdamW1Ideal.nD → PrngReg)
    (m' : (ℓ : Loc Cert.AdamW1RefIdeal.nD Cert.AdamW1RefIdeal.τ Cert.AdamW1RefIdeal.sig) → Buf (Elt Ideal) ℓ) (g' : Dev Cert.AdamW1RefIdeal.nD → PrngReg), Pre_AdamW1Ideal m →
    (∀ c : Dev Cert.AdamW1Ideal.nD,
      m' ((c.tc : Thread Cert.AdamW1RefIdeal.nD Cert.AdamW1RefIdeal.τ).loc Cert.AdamW1RefIdeal.main_arg0) = m ((c.tc : Thread Cert.AdamW1Ideal.nD Cert.AdamW1Ideal.τ).loc Cert.AdamW1Ideal.main_arg0)
      ∧ m' ((c.tc : Thread Cert.AdamW1RefIdeal.nD Cert.AdamW1RefIdeal.τ).loc Cert.AdamW1RefIdeal.main_arg1) = m ((c.tc : Thread Cert.AdamW1Ideal.nD Cert.AdamW1Ideal.τ).loc Cert.AdamW1Ideal.main_arg1)
      ∧ m' ((c.tc : Thread Cert.AdamW1RefIdeal.nD Cert.AdamW1RefIdeal.τ).loc Cert.AdamW1RefIdeal.main_arg2) = m ((c.tc : Thread Cert.AdamW1Ideal.nD Cert.AdamW1Ideal.τ).loc Cert.AdamW1Ideal.main_arg2)
      ∧ m' ((c.tc : Thread Cert.AdamW1RefIdeal.nD Cert.AdamW1RefIdeal.τ).loc Cert.AdamW1RefIdeal.main_arg3) = m ((c.tc : Thread Cert.AdamW1Ideal.nD Cert.AdamW1Ideal.τ).loc Cert.AdamW1Ideal.main_arg3)) →
    ∃ (v0 : (c : Dev Cert.AdamW1Ideal.nD) → Buf (Elt Ideal) ((c.tc : Thread Cert.AdamW1Ideal.nD Cert.AdamW1Ideal.τ).loc Cert.AdamW1Ideal.main_v17_0)) (v1 : (c : Dev Cert.AdamW1Ideal.nD) → Buf (Elt Ideal) ((c.tc : Thread Cert.AdamW1Ideal.nD Cert.AdamW1Ideal.τ).loc Cert.AdamW1Ideal.main_v17_1)) (v2 : (c : Dev Cert.AdamW1Ideal.nD) → Buf (Elt Ideal) ((c.tc : Thread Cert.AdamW1Ideal.nD Cert.AdamW1Ideal.τ).loc Cert.AdamW1Ideal.main_v17_2)) (v3 : (c : Dev Cert.AdamW1Ideal.nD) → Buf (Elt Ideal) ((c.tc : Thread Cert.AdamW1Ideal.nD Cert.AdamW1Ideal.τ).loc Cert.AdamW1Ideal.main_v17_3)),
      θ_run (Cert.AdamW1Ideal.defs (F := Ideal)) (onTc (τ := Cert.AdamW1Ideal.τ) (Cert.AdamW1Ideal.main (F := Ideal))) ⟨m, fun _ => 0, g⟩ (fun r => ∀ c : Dev Cert.AdamW1Ideal.nD,
          r.2.mem ((c.tc : Thread Cert.AdamW1Ideal.nD Cert.AdamW1Ideal.τ).loc Cert.AdamW1Ideal.main_v17_0) = v0 c
          ∧ r.2.mem ((c.tc : Thread Cert.AdamW1Ideal.nD Cert.AdamW1Ideal.τ).loc Cert.AdamW1Ideal.main_v17_1) = v1 c
          ∧ r.2.mem ((c.tc : Thread Cert.AdamW1Ideal.nD Cert.AdamW1Ideal.τ).loc Cert.AdamW1Ideal.main_v17_2) = v2 c
          ∧ r.2.mem ((c.tc : Thread Cert.AdamW1Ideal.nD Cert.AdamW1Ideal.τ).loc Cert.AdamW1Ideal.main_v17_3) = v3 c
          ∧ r.2.mem ((c.tc : Thread Cert.AdamW1Ideal.nD Cert.AdamW1Ideal.τ).loc Cert.AdamW1Ideal.main_arg0) = m ((c.tc : Thread Cert.AdamW1Ideal.nD Cert.AdamW1Ideal.τ).loc Cert.AdamW1Ideal.main_arg0)
          ∧ r.2.mem ((c.tc : Thread Cert.AdamW1Ideal.nD Cert.AdamW1Ideal.τ).loc Cert.AdamW1Ideal.main_arg1) = m ((c.tc : Thread Cert.AdamW1Ideal.nD Cert.AdamW1Ideal.τ).loc Cert.AdamW1Ideal.main_arg1)
          ∧ r.2.mem ((c.tc : Thread Cert.AdamW1Ideal.nD Cert.AdamW1Ideal.τ).loc Cert.AdamW1Ideal.main_arg2) = m ((c.tc : Thread Cert.AdamW1Ideal.nD Cert.AdamW1Ideal.τ).loc Cert.AdamW1Ideal.main_arg2)
          ∧ r.2.mem ((c.tc : Thread Cert.AdamW1Ideal.nD Cert.AdamW1Ideal.τ).loc Cert.AdamW1Ideal.main_arg3) = m ((c.tc : Thread Cert.AdamW1Ideal.nD Cert.AdamW1Ideal.τ).loc Cert.AdamW1Ideal.main_arg3))
      ∧ θ_run (Cert.AdamW1RefIdeal.defs (F := Ideal)) (onTc (τ := Cert.AdamW1RefIdeal.τ) (Cert.AdamW1RefIdeal.main (F := Ideal))) ⟨m', fun _ => 0, g'⟩ (fun r => ∀ c : Dev Cert.AdamW1RefIdeal.nD,
          r.2.mem ((c.tc : Thread Cert.AdamW1RefIdeal.nD Cert.AdamW1RefIdeal.τ).loc Cert.AdamW1RefIdeal.main_arg3) = v0 c
          ∧ r.2.mem ((c.tc : Thread Cert.AdamW1RefIdeal.nD Cert.AdamW1RefIdeal.τ).loc Cert.AdamW1RefIdeal.main_v23) = v1 c
          ∧ r.2.mem ((c.tc : Thread Cert.AdamW1RefIdeal.nD Cert.AdamW1RefIdeal.τ).loc Cert.AdamW1RefIdeal.main_v4) = v2 c
          ∧ r.2.mem ((c.tc : Thread Cert.AdamW1RefIdeal.nD Cert.AdamW1RefIdeal.τ).loc Cert.AdamW1RefIdeal.main_v10) = v3 c
          ∧ r.2.mem ((c.tc : Thread Cert.AdamW1RefIdeal.nD Cert.AdamW1RefIdeal.τ).loc Cert.AdamW1RefIdeal.main_arg0) = m' ((c.tc : Thread Cert.AdamW1RefIdeal.nD Cert.AdamW1RefIdeal.τ).loc Cert.AdamW1RefIdeal.main_arg0)
          ∧ r.2.mem ((c.tc : Thread Cert.AdamW1RefIdeal.nD Cert.AdamW1RefIdeal.τ).loc Cert.AdamW1RefIdeal.main_arg1) = m' ((c.tc : Thread Cert.AdamW1RefIdeal.nD Cert.AdamW1RefIdeal.τ).loc Cert.AdamW1RefIdeal.main_arg1)
          ∧ r.2.mem ((c.tc : Thread Cert.AdamW1RefIdeal.nD Cert.AdamW1RefIdeal.τ).loc Cert.AdamW1RefIdeal.main_arg2) = m' ((c.tc : Thread Cert.AdamW1RefIdeal.nD Cert.AdamW1RefIdeal.τ).loc Cert.AdamW1RefIdeal.main_arg2)
          ∧ r.2.mem ((c.tc : Thread Cert.AdamW1RefIdeal.nD Cert.AdamW1RefIdeal.τ).loc Cert.AdamW1RefIdeal.main_arg3) = m' ((c.tc : Thread Cert.AdamW1RefIdeal.nD Cert.AdamW1RefIdeal.τ).loc Cert.AdamW1RefIdeal.main_arg3))

def preserves_AdamW2_AdamW2Ideal : Prop :=
  True

def algebraic_AdamW2Ideal_AdamW2RefIdeal [hAdamW2Ideal : Cert.AdamW2Ideal.Facts] [hAdamW2RefIdeal : Cert.AdamW2RefIdeal.Facts] : Prop :=
  ∀ (m : (ℓ : Loc Cert.AdamW2Ideal.nD Cert.AdamW2Ideal.τ Cert.AdamW2Ideal.sig) → Buf (Elt Ideal) ℓ) (g : Dev Cert.AdamW2Ideal.nD → PrngReg)
    (m' : (ℓ : Loc Cert.AdamW2RefIdeal.nD Cert.AdamW2RefIdeal.τ Cert.AdamW2RefIdeal.sig) → Buf (Elt Ideal) ℓ) (g' : Dev Cert.AdamW2RefIdeal.nD → PrngReg), Pre_AdamW2Ideal m →
    (∀ c : Dev Cert.AdamW2Ideal.nD,
      m' ((c.tc : Thread Cert.AdamW2RefIdeal.nD Cert.AdamW2RefIdeal.τ).loc Cert.AdamW2RefIdeal.main_arg0) = m ((c.tc : Thread Cert.AdamW2Ideal.nD Cert.AdamW2Ideal.τ).loc Cert.AdamW2Ideal.main_arg0)
      ∧ m' ((c.tc : Thread Cert.AdamW2RefIdeal.nD Cert.AdamW2RefIdeal.τ).loc Cert.AdamW2RefIdeal.main_arg1) = m ((c.tc : Thread Cert.AdamW2Ideal.nD Cert.AdamW2Ideal.τ).loc Cert.AdamW2Ideal.main_arg1)
      ∧ m' ((c.tc : Thread Cert.AdamW2RefIdeal.nD Cert.AdamW2RefIdeal.τ).loc Cert.AdamW2RefIdeal.main_arg2) = m ((c.tc : Thread Cert.AdamW2Ideal.nD Cert.AdamW2Ideal.τ).loc Cert.AdamW2Ideal.main_arg2)
      ∧ m' ((c.tc : Thread Cert.AdamW2RefIdeal.nD Cert.AdamW2RefIdeal.τ).loc Cert.AdamW2RefIdeal.main_arg3) = m ((c.tc : Thread Cert.AdamW2Ideal.nD Cert.AdamW2Ideal.τ).loc Cert.AdamW2Ideal.main_arg3)) →
    ∃ (v0 : (c : Dev Cert.AdamW2Ideal.nD) → Buf (Elt Ideal) ((c.tc : Thread Cert.AdamW2Ideal.nD Cert.AdamW2Ideal.τ).loc Cert.AdamW2Ideal.main_v17_0)) (v1 : (c : Dev Cert.AdamW2Ideal.nD) → Buf (Elt Ideal) ((c.tc : Thread Cert.AdamW2Ideal.nD Cert.AdamW2Ideal.τ).loc Cert.AdamW2Ideal.main_v17_1)) (v2 : (c : Dev Cert.AdamW2Ideal.nD) → Buf (Elt Ideal) ((c.tc : Thread Cert.AdamW2Ideal.nD Cert.AdamW2Ideal.τ).loc Cert.AdamW2Ideal.main_v17_2)) (v3 : (c : Dev Cert.AdamW2Ideal.nD) → Buf (Elt Ideal) ((c.tc : Thread Cert.AdamW2Ideal.nD Cert.AdamW2Ideal.τ).loc Cert.AdamW2Ideal.main_v17_3)),
      θ_run (Cert.AdamW2Ideal.defs (F := Ideal)) (onTc (τ := Cert.AdamW2Ideal.τ) (Cert.AdamW2Ideal.main (F := Ideal))) ⟨m, fun _ => 0, g⟩ (fun r => ∀ c : Dev Cert.AdamW2Ideal.nD,
          r.2.mem ((c.tc : Thread Cert.AdamW2Ideal.nD Cert.AdamW2Ideal.τ).loc Cert.AdamW2Ideal.main_v17_0) = v0 c
          ∧ r.2.mem ((c.tc : Thread Cert.AdamW2Ideal.nD Cert.AdamW2Ideal.τ).loc Cert.AdamW2Ideal.main_v17_1) = v1 c
          ∧ r.2.mem ((c.tc : Thread Cert.AdamW2Ideal.nD Cert.AdamW2Ideal.τ).loc Cert.AdamW2Ideal.main_v17_2) = v2 c
          ∧ r.2.mem ((c.tc : Thread Cert.AdamW2Ideal.nD Cert.AdamW2Ideal.τ).loc Cert.AdamW2Ideal.main_v17_3) = v3 c
          ∧ r.2.mem ((c.tc : Thread Cert.AdamW2Ideal.nD Cert.AdamW2Ideal.τ).loc Cert.AdamW2Ideal.main_arg0) = m ((c.tc : Thread Cert.AdamW2Ideal.nD Cert.AdamW2Ideal.τ).loc Cert.AdamW2Ideal.main_arg0)
          ∧ r.2.mem ((c.tc : Thread Cert.AdamW2Ideal.nD Cert.AdamW2Ideal.τ).loc Cert.AdamW2Ideal.main_arg1) = m ((c.tc : Thread Cert.AdamW2Ideal.nD Cert.AdamW2Ideal.τ).loc Cert.AdamW2Ideal.main_arg1)
          ∧ r.2.mem ((c.tc : Thread Cert.AdamW2Ideal.nD Cert.AdamW2Ideal.τ).loc Cert.AdamW2Ideal.main_arg2) = m ((c.tc : Thread Cert.AdamW2Ideal.nD Cert.AdamW2Ideal.τ).loc Cert.AdamW2Ideal.main_arg2)
          ∧ r.2.mem ((c.tc : Thread Cert.AdamW2Ideal.nD Cert.AdamW2Ideal.τ).loc Cert.AdamW2Ideal.main_arg3) = m ((c.tc : Thread Cert.AdamW2Ideal.nD Cert.AdamW2Ideal.τ).loc Cert.AdamW2Ideal.main_arg3))
      ∧ θ_run (Cert.AdamW2RefIdeal.defs (F := Ideal)) (onTc (τ := Cert.AdamW2RefIdeal.τ) (Cert.AdamW2RefIdeal.main (F := Ideal))) ⟨m', fun _ => 0, g'⟩ (fun r => ∀ c : Dev Cert.AdamW2RefIdeal.nD,
          r.2.mem ((c.tc : Thread Cert.AdamW2RefIdeal.nD Cert.AdamW2RefIdeal.τ).loc Cert.AdamW2RefIdeal.main_arg3) = v0 c
          ∧ r.2.mem ((c.tc : Thread Cert.AdamW2RefIdeal.nD Cert.AdamW2RefIdeal.τ).loc Cert.AdamW2RefIdeal.main_v23) = v1 c
          ∧ r.2.mem ((c.tc : Thread Cert.AdamW2RefIdeal.nD Cert.AdamW2RefIdeal.τ).loc Cert.AdamW2RefIdeal.main_v4) = v2 c
          ∧ r.2.mem ((c.tc : Thread Cert.AdamW2RefIdeal.nD Cert.AdamW2RefIdeal.τ).loc Cert.AdamW2RefIdeal.main_v10) = v3 c
          ∧ r.2.mem ((c.tc : Thread Cert.AdamW2RefIdeal.nD Cert.AdamW2RefIdeal.τ).loc Cert.AdamW2RefIdeal.main_arg0) = m' ((c.tc : Thread Cert.AdamW2RefIdeal.nD Cert.AdamW2RefIdeal.τ).loc Cert.AdamW2RefIdeal.main_arg0)
          ∧ r.2.mem ((c.tc : Thread Cert.AdamW2RefIdeal.nD Cert.AdamW2RefIdeal.τ).loc Cert.AdamW2RefIdeal.main_arg1) = m' ((c.tc : Thread Cert.AdamW2RefIdeal.nD Cert.AdamW2RefIdeal.τ).loc Cert.AdamW2RefIdeal.main_arg1)
          ∧ r.2.mem ((c.tc : Thread Cert.AdamW2RefIdeal.nD Cert.AdamW2RefIdeal.τ).loc Cert.AdamW2RefIdeal.main_arg2) = m' ((c.tc : Thread Cert.AdamW2RefIdeal.nD Cert.AdamW2RefIdeal.τ).loc Cert.AdamW2RefIdeal.main_arg2)
          ∧ r.2.mem ((c.tc : Thread Cert.AdamW2RefIdeal.nD Cert.AdamW2RefIdeal.τ).loc Cert.AdamW2RefIdeal.main_arg3) = m' ((c.tc : Thread Cert.AdamW2RefIdeal.nD Cert.AdamW2RefIdeal.τ).loc Cert.AdamW2RefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)) →
    ∃ (v0 : (c : Dev Cert.AdamSmallIdeal.nD) → Buf (Elt Ideal) ((c.tc : Thread Cert.AdamSmallIdeal.nD Cert.AdamSmallIdeal.τ).loc Cert.AdamSmallIdeal.main_v40_0)) (v1 : (c : Dev Cert.AdamSmallIdeal.nD) → Buf (Elt Ideal) ((c.tc : Thread Cert.AdamSmallIdeal.nD Cert.AdamSmallIdeal.τ).loc Cert.AdamSmallIdeal.main_v40_1)) (v2 : (c : Dev Cert.AdamSmallIdeal.nD) → Buf (Elt Ideal) ((c.tc : Thread Cert.AdamSmallIdeal.nD Cert.AdamSmallIdeal.τ).loc Cert.AdamSmallIdeal.main_v40_2)) (v3 : (c : Dev Cert.AdamSmallIdeal.nD) → Buf (Elt Ideal) ((c.tc : Thread Cert.AdamSmallIdeal.nD Cert.AdamSmallIdeal.τ).loc Cert.AdamSmallIdeal.main_v40_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v40_0) = v0 c
          ∧ r.2.mem ((c.tc : Thread Cert.AdamSmallIdeal.nD Cert.AdamSmallIdeal.τ).loc Cert.AdamSmallIdeal.main_v40_1) = v1 c
          ∧ r.2.mem ((c.tc : Thread Cert.AdamSmallIdeal.nD Cert.AdamSmallIdeal.τ).loc Cert.AdamSmallIdeal.main_v40_2) = v2 c
          ∧ r.2.mem ((c.tc : Thread Cert.AdamSmallIdeal.nD Cert.AdamSmallIdeal.τ).loc Cert.AdamSmallIdeal.main_v40_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v152) = v0 c
          ∧ r.2.mem ((c.tc : Thread Cert.AdamSmallRefIdeal.nD Cert.AdamSmallRefIdeal.τ).loc Cert.AdamSmallRefIdeal.main_v161) = v1 c
          ∧ r.2.mem ((c.tc : Thread Cert.AdamSmallRefIdeal.nD Cert.AdamSmallRefIdeal.τ).loc Cert.AdamSmallRefIdeal.main_v170) = v2 c
          ∧ r.2.mem ((c.tc : Thread Cert.AdamSmallRefIdeal.nD Cert.AdamSmallRefIdeal.τ).loc Cert.AdamSmallRefIdeal.main_v179) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v11_0)) (v1 : (c : Dev Cert.LossIdeal.nD) → Buf (Elt Ideal) ((c.tc : Thread Cert.LossIdeal.nD Cert.LossIdeal.τ).loc Cert.LossIdeal.main_v11_1)) (v2 : (c : Dev Cert.LossIdeal.nD) → Buf (Elt Ideal) ((c.tc : Thread Cert.LossIdeal.nD Cert.LossIdeal.τ).loc Cert.LossIdeal.main_v11_2)) (v3 : (c : Dev Cert.LossIdeal.nD) → Buf (Elt Ideal) ((c.tc : Thread Cert.LossIdeal.nD Cert.LossIdeal.τ).loc Cert.LossIdeal.main_v11_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v11_0) = v0 c
          ∧ r.2.mem ((c.tc : Thread Cert.LossIdeal.nD Cert.LossIdeal.τ).loc Cert.LossIdeal.main_v11_1) = v1 c
          ∧ r.2.mem ((c.tc : Thread Cert.LossIdeal.nD Cert.LossIdeal.τ).loc Cert.LossIdeal.main_v11_2) = v2 c
          ∧ r.2.mem ((c.tc : Thread Cert.LossIdeal.nD Cert.LossIdeal.τ).loc Cert.LossIdeal.main_v11_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v47) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v49) = v2 c
          ∧ r.2.mem ((c.tc : Thread Cert.LossRefIdeal.nD Cert.LossRefIdeal.τ).loc Cert.LossRefIdeal.main_v50) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m' ((c.tc : Thread Cert.ChipsRefIdeal.nD Cert.ChipsRefIdeal.τ).loc Cert.ChipsRefIdeal.main_arg0) = m ((c.tc : Thread Cert.ChipsIdeal.nD Cert.ChipsIdeal.τ).loc Cert.ChipsIdeal.main_arg0)) →
    ∃ (v0 : (c : Dev Cert.ChipsIdeal.nD) → Buf (Elt Ideal) ((c.tc : Thread Cert.ChipsIdeal.nD Cert.ChipsIdeal.τ).loc Cert.ChipsIdeal.main_v0)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v0) = v0 c
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r => ∀ c : Dev Cert.ChipsRefIdeal.nD,
          r.2.mem ((c.tc : Thread Cert.ChipsRefIdeal.nD Cert.ChipsRefIdeal.τ).loc Cert.ChipsRefIdeal.main_v1) = v0 c
          ∧ r.2.mem ((c.tc : Thread Cert.ChipsRefIdeal.nD Cert.ChipsRefIdeal.τ).loc Cert.ChipsRefIdeal.main_arg0) = m' ((c.tc : Thread Cert.ChipsRefIdeal.nD Cert.ChipsRefIdeal.τ).loc Cert.ChipsRefIdeal.main_arg0))

def Claim : Prop :=
  ∃ (hKernel : Cert.Kernel.Facts) (hKernelIdeal : Cert.KernelIdeal.Facts) (hReferenceIdeal : Cert.ReferenceIdeal.Facts) (hW1 : Cert.W1.Facts) (hW1Ideal : Cert.W1Ideal.Facts) (hW1RefIdeal : Cert.W1RefIdeal.Facts) (hW2 : Cert.W2.Facts) (hW2Ideal : Cert.W2Ideal.Facts) (hW2RefIdeal : Cert.W2RefIdeal.Facts) (hWin : Cert.Win.Facts) (hWinIdeal : Cert.WinIdeal.Facts) (hWinRefIdeal : Cert.WinRefIdeal.Facts) (hWout : Cert.Wout.Facts) (hWoutIdeal : Cert.WoutIdeal.Facts) (hWoutRefIdeal : Cert.WoutRefIdeal.Facts) (hFfn : Cert.Ffn.Facts) (hFfnIdeal : Cert.FfnIdeal.Facts) (hFfnRefIdeal : Cert.FfnRefIdeal.Facts) (hSum : Cert.Sum.Facts) (hSumIdeal : Cert.SumIdeal.Facts) (hSumRefIdeal : Cert.SumRefIdeal.Facts) (hWada : Cert.Wada.Facts) (hWadaIdeal : Cert.WadaIdeal.Facts) (hWadaRefIdeal : Cert.WadaRefIdeal.Facts) (hAdamWada : Cert.AdamWada.Facts) (hAdamWadaIdeal : Cert.AdamWadaIdeal.Facts) (hAdamWadaRefIdeal : Cert.AdamWadaRefIdeal.Facts) (hAdamWin : Cert.AdamWin.Facts) (hAdamWinIdeal : Cert.AdamWinIdeal.Facts) (hAdamWinRefIdeal : Cert.AdamWinRefIdeal.Facts) (hAdamWout : Cert.AdamWout.Facts) (hAdamWoutIdeal : Cert.AdamWoutIdeal.Facts) (hAdamWoutRefIdeal : Cert.AdamWoutRefIdeal.Facts) (hAdamW1 : Cert.AdamW1.Facts) (hAdamW1Ideal : Cert.AdamW1Ideal.Facts) (hAdamW1RefIdeal : Cert.AdamW1RefIdeal.Facts) (hAdamW2 : Cert.AdamW2.Facts) (hAdamW2Ideal : Cert.AdamW2Ideal.Facts) (hAdamW2RefIdeal : Cert.AdamW2RefIdeal.Facts) (hAdamSmall : Cert.AdamSmall.Facts) (hAdamSmallIdeal : Cert.AdamSmallIdeal.Facts) (hAdamSmallRefIdeal : Cert.AdamSmallRefIdeal.Facts) (hLoss : Cert.Loss.Facts) (hLossIdeal : Cert.LossIdeal.Facts) (hLossRefIdeal : Cert.LossRefIdeal.Facts) (hMod : Cert.Mod.Facts) (hModIdeal : Cert.ModIdeal.Facts) (hModRefIdeal : Cert.ModRefIdeal.Facts) (hChips : Cert.Chips.Facts) (hChipsIdeal : Cert.ChipsIdeal.Facts) (hChipsRefIdeal : Cert.ChipsRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_W1 (hW1 := hW1)
    ∧ quiescent_W1Ideal (hW1Ideal := hW1Ideal)
    ∧ quiescent_W1RefIdeal (hW1RefIdeal := hW1RefIdeal)
    ∧ quiescent_W2 (hW2 := hW2)
    ∧ quiescent_W2Ideal (hW2Ideal := hW2Ideal)
    ∧ quiescent_W2RefIdeal (hW2RefIdeal := hW2RefIdeal)
    ∧ quiescent_Win (hWin := hWin)
    ∧ quiescent_WinIdeal (hWinIdeal := hWinIdeal)
    ∧ quiescent_WinRefIdeal (hWinRefIdeal := hWinRefIdeal)
    ∧ quiescent_Wout (hWout := hWout)
    ∧ quiescent_WoutIdeal (hWoutIdeal := hWoutIdeal)
    ∧ quiescent_WoutRefIdeal (hWoutRefIdeal := hWoutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Sum (hSum := hSum)
    ∧ quiescent_SumIdeal (hSumIdeal := hSumIdeal)
    ∧ quiescent_SumRefIdeal (hSumRefIdeal := hSumRefIdeal)
    ∧ quiescent_Wada (hWada := hWada)
    ∧ quiescent_WadaIdeal (hWadaIdeal := hWadaIdeal)
    ∧ quiescent_WadaRefIdeal (hWadaRefIdeal := hWadaRefIdeal)
    ∧ quiescent_AdamWada (hAdamWada := hAdamWada)
    ∧ quiescent_AdamWadaIdeal (hAdamWadaIdeal := hAdamWadaIdeal)
    ∧ quiescent_AdamWadaRefIdeal (hAdamWadaRefIdeal := hAdamWadaRefIdeal)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamWout (hAdamWout := hAdamWout)
    ∧ quiescent_AdamWoutIdeal (hAdamWoutIdeal := hAdamWoutIdeal)
    ∧ quiescent_AdamWoutRefIdeal (hAdamWoutRefIdeal := hAdamWoutRefIdeal)
    ∧ quiescent_AdamW1 (hAdamW1 := hAdamW1)
    ∧ quiescent_AdamW1Ideal (hAdamW1Ideal := hAdamW1Ideal)
    ∧ quiescent_AdamW1RefIdeal (hAdamW1RefIdeal := hAdamW1RefIdeal)
    ∧ quiescent_AdamW2 (hAdamW2 := hAdamW2)
    ∧ quiescent_AdamW2Ideal (hAdamW2Ideal := hAdamW2Ideal)
    ∧ quiescent_AdamW2RefIdeal (hAdamW2RefIdeal := hAdamW2RefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Loss (hLoss := hLoss)
    ∧ quiescent_LossIdeal (hLossIdeal := hLossIdeal)
    ∧ quiescent_LossRefIdeal (hLossRefIdeal := hLossRefIdeal)
    ∧ quiescent_Mod (hMod := hMod)
    ∧ quiescent_ModIdeal (hModIdeal := hModIdeal)
    ∧ quiescent_ModRefIdeal (hModRefIdeal := hModRefIdeal)
    ∧ quiescent_Chips (hChips := hChips)
    ∧ quiescent_ChipsIdeal (hChipsIdeal := hChipsIdeal)
    ∧ quiescent_ChipsRefIdeal (hChipsRefIdeal := hChipsRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_W1_W1Ideal
    ∧ algebraic_W1Ideal_W1RefIdeal (hW1Ideal := hW1Ideal) (hW1RefIdeal := hW1RefIdeal)
    ∧ preserves_W2_W2Ideal
    ∧ algebraic_W2Ideal_W2RefIdeal (hW2Ideal := hW2Ideal) (hW2RefIdeal := hW2RefIdeal)
    ∧ preserves_Win_WinIdeal
    ∧ algebraic_WinIdeal_WinRefIdeal (hWinIdeal := hWinIdeal) (hWinRefIdeal := hWinRefIdeal)
    ∧ preserves_Wout_WoutIdeal
    ∧ algebraic_WoutIdeal_WoutRefIdeal (hWoutIdeal := hWoutIdeal) (hWoutRefIdeal := hWoutRefIdeal)
    ∧ preserves_Ffn_FfnIdeal
    ∧ algebraic_FfnIdeal_FfnRefIdeal (hFfnIdeal := hFfnIdeal) (hFfnRefIdeal := hFfnRefIdeal)
    ∧ preserves_Sum_SumIdeal
    ∧ algebraic_SumIdeal_SumRefIdeal (hSumIdeal := hSumIdeal) (hSumRefIdeal := hSumRefIdeal)
    ∧ preserves_Wada_WadaIdeal
    ∧ algebraic_WadaIdeal_WadaRefIdeal (hWadaIdeal := hWadaIdeal) (hWadaRefIdeal := hWadaRefIdeal)
    ∧ preserves_AdamWada_AdamWadaIdeal
    ∧ algebraic_AdamWadaIdeal_AdamWadaRefIdeal (hAdamWadaIdeal := hAdamWadaIdeal) (hAdamWadaRefIdeal := hAdamWadaRefIdeal)
    ∧ preserves_AdamWin_AdamWinIdeal
    ∧ algebraic_AdamWinIdeal_AdamWinRefIdeal (hAdamWinIdeal := hAdamWinIdeal) (hAdamWinRefIdeal := hAdamWinRefIdeal)
    ∧ preserves_AdamWout_AdamWoutIdeal
    ∧ algebraic_AdamWoutIdeal_AdamWoutRefIdeal (hAdamWoutIdeal := hAdamWoutIdeal) (hAdamWoutRefIdeal := hAdamWoutRefIdeal)
    ∧ preserves_AdamW1_AdamW1Ideal
    ∧ algebraic_AdamW1Ideal_AdamW1RefIdeal (hAdamW1Ideal := hAdamW1Ideal) (hAdamW1RefIdeal := hAdamW1RefIdeal)
    ∧ preserves_AdamW2_AdamW2Ideal
    ∧ algebraic_AdamW2Ideal_AdamW2RefIdeal (hAdamW2Ideal := hAdamW2Ideal) (hAdamW2RefIdeal := hAdamW2RefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Loss_LossIdeal
    ∧ algebraic_LossIdeal_LossRefIdeal (hLossIdeal := hLossIdeal) (hLossRefIdeal := hLossRefIdeal)
    ∧ preserves_Mod_ModIdeal
    ∧ algebraic_ModIdeal_ModRefIdeal (hModIdeal := hModIdeal) (hModRefIdeal := hModRefIdeal)
    ∧ preserves_Chips_ChipsIdeal
    ∧ algebraic_ChipsIdeal_ChipsRefIdeal (hChipsIdeal := hChipsIdeal) (hChipsRefIdeal := hChipsRefIdeal)
-- ==== Pre_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1024x5632 .f32) (main_arg7 : FVec F S2816x1024 .f32) (main_v2 : IVec S8192x1024 1) (main_v5 : IVec S8192x1024 1) (main_v8 : IVec S1024 1) (main_v11 : IVec S1024 1) (main_v14 : IVec S1024 1) (main_v17 : IVec S1024 1) : IVec S8192x1024 1 × IVec S8192x1024 1 × IVec S1024 1 × IVec S1024 1 × IVec S1024 1 × IVec S1024 1 × IVec S1024x5632 1 × IVec S2816x1024 1 :=
  let main_v18 : FVec F S1024x5632 .f32 := Host.absf main_arg6
  let main_cst_5 : FVec F S_ .f32 := constant S_ .f32 0x7F800000#32
  let main_v19 : FVec F S1024x5632 .f32 := broadcastInDim S1024x5632 ![] bcast_S_S1024x5632 main_cst_5
  let main_v20 : IVec S1024x5632 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S1024 .f32) (main_arg6 : FVec F S1024x5632 .f32) (main_arg7 : FVec F S2816x1024 .f32) : IVec S8192x1024 1 × IVec S8192x1024 1 × IVec S1024 1 × IVec S1024 1 × IVec S1024 1 × IVec S1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Kernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S4x1024 : Shape := ⟨2, ![4, 1024]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 67
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S1024x5632, .bf16⟩
  | .hbm, ⟨48, _⟩ => ⟨S1024x4x1408, .bf16⟩
  | .hbm, ⟨49, _⟩ => ⟨S4x1024x1408, .bf16⟩
  | .hbm, ⟨50, _⟩ => ⟨S8192x5632, .bf16⟩
  | .hbm, ⟨51, _⟩ => ⟨S8192x1024, .bf16⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S4x1024, .f32⟩
  | .hbm, ⟨57, _⟩ => ⟨S_, .f32⟩
  | .hbm, ⟨58, _⟩ => ⟨S4x1024, .f32⟩
  | .hbm, ⟨59, _⟩ => ⟨S8x1024, .f32⟩
  | .hbm, ⟨60, _⟩ => ⟨S2816x1024, .bf16⟩
  | .hbm, ⟨61, _⟩ => ⟨S8192x1024, .f32⟩
  | .hbm, ⟨62, _⟩ => ⟨S8192x1024, .bf16⟩
  | .hbm, ⟨63, _⟩ => ⟨S8192x1024, .bf16⟩
  | .hbm, ⟨64, _⟩ => ⟨S8192x2816, .bf16⟩
  | .hbm, ⟨65, _⟩ => ⟨S8192x5632, .bf16⟩
  | .hbm, ⟨66, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S256x1024, .bf16⟩
  | .local _ .vmem, ⟨7, _⟩ => ⟨S256x1024, .bf16⟩
  | .local _ .vmem, ⟨8, _⟩ => ⟨S8x1024, .f32⟩
  | .local _ .vmem, ⟨9, _⟩ => ⟨S4x1024x1408, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x5632, .bf16⟩
  | .local _ .vmem, ⟨20, _⟩ => ⟨S256x5632, .bf16⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40_0 : Ref sig .tc := ⟨.hbm, 61, rfl⟩
abbrev main_v40_1 : Ref sig .tc := ⟨.hbm, 62, rfl⟩
abbrev main_v40_2 : Ref sig .tc := ⟨.hbm, 63, rfl⟩
abbrev main_v40_3 : Ref sig .tc := ⟨.hbm, 64, rfl⟩
abbrev main_v40_4 : Ref sig .tc := ⟨.hbm, 65, rfl⟩
abbrev main_v40_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S1024x5632, .f32⟩
  | 7 => ⟨S2816x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x5632, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x1024, .f32⟩
  | 55 => ⟨S_, .f32⟩
  | 56 => ⟨S1024, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S_, .f32⟩
  | 72 => ⟨S1024, .f32⟩
  | 73 => ⟨S1024, .f32⟩
  | 74 => ⟨S8192x2816, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x5632, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .bf16⟩
  | 123 => ⟨S8192x1024, .bf16⟩
  | 124 => ⟨S8192x2816, .bf16⟩
  | 125 => ⟨S8192x5632, .bf16⟩
  | 126 => ⟨S1x1024, .f32⟩
  | 127 => ⟨S1x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S4x1024, .f32⟩
  | 3 => ⟨S_, .f32⟩
  | 4 => ⟨S4x1024, .f32⟩
  | 5 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_17 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]
-- ==== W1.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== W1RefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1x1024x1408, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== W2.lean ====
abbrev S8192x2816 : Shape := ⟨2, ![8192, 2816]⟩
abbrev S8192x1024 : Shape := ⟨2, ![8192, 1024]⟩
abbrev S2x1408x1024 : Shape := ⟨3, ![2, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2x1408x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== W2RefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1408x1024 : Shape := ⟨2, ![1408, 1024]⟩
abbrev S1x1408x1024 : Shape := ⟨3, ![1, 1408, 1024]⟩
abbrev S2x1408x1024 : Shape := ⟨3, ![2, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S1408x1024, .f32⟩
  | .hbm, ⟨8, _⟩ => ⟨S1408x1024, .f32⟩
  | .hbm, ⟨9, _⟩ => ⟨S1x1408x1024, .f32⟩
  | .hbm, ⟨10, _⟩ => ⟨S1x1408x1024, .f32⟩
  | .hbm, ⟨11, _⟩ => ⟨S2x1408x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Win.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x768 : Shape := ⟨2, ![1024, 768]⟩
abbrev S1x1024x768 : Shape := ⟨3, ![1, 1024, 768]⟩
abbrev S4x1024x768 : Shape := ⟨3, ![4, 1024, 768]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S4x1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Wout.lean ====
abbrev S8192x1024 : Shape := ⟨2, ![8192, 1024]⟩
abbrev S2x512x1024 : Shape := ⟨3, ![2, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S2x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WoutRefIdeal.lean ====
abbrev S8192x1024 : Shape := ⟨2, ![8192, 1024]⟩
abbrev S_ : Shape := ⟨0, ![]⟩
abbrev S1024x1024 : Shape := ⟨2, ![1024, 1024]⟩
abbrev S512x1024 : Shape := ⟨2, ![512, 1024]⟩
abbrev S1x512x1024 : Shape := ⟨3, ![1, 512, 1024]⟩
abbrev S2x512x1024 : Shape := ⟨3, ![2, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1x512x1024, .f32⟩
  | .hbm, ⟨10, _⟩ => ⟨S1x512x1024, .f32⟩
  | .hbm, ⟨11, _⟩ => ⟨S2x512x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 22
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S1024x4x1408, .bf16⟩
  | .hbm, ⟨9, _⟩ => ⟨S4x1024x1408, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S8x1024, .f32⟩
  | .hbm, ⟨18, _⟩ => ⟨S2816x1024, .bf16⟩
  | .hbm, ⟨19, _⟩ => ⟨S8192x1024, .f32⟩
  | .hbm, ⟨20, _⟩ => ⟨S8192x5632, .bf16⟩
  | .hbm, ⟨21, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x5632, .bf16⟩
  | .local _ .vmem, ⟨8, _⟩ => ⟨S512x5632, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x5632, .bf16⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Sum.lean ====
abbrev S8x29056 : Shape := ⟨2, ![8, 29056]⟩
abbrev S1x29056 : Shape := ⟨2, ![1, 29056]⟩

abbrev nBuf : Space → Nat
  | .hbm => 2
  | .vmem => 2
  | .smem => 0
  | _ => 0

abbrev bufTy : (tb : Table) → Fin (tcTables nBuf tb) → BufTy
  | .hbm, ⟨0, _⟩ => ⟨S8x29056, .f32⟩
  | .hbm, ⟨1, _⟩ => ⟨S8x29056, .f32⟩
  | .local _ .vmem, ⟨0, _⟩ => ⟨S8x29056, .f32⟩
  | .local _ .vmem, ⟨1, _⟩ => ⟨S8x29056, .f32⟩
  | _, _ => ⟨S8x29056, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x29056 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x29056 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x29056 : Shape := ⟨2, ![8, 29056]⟩
abbrev S_ : Shape := ⟨0, ![]⟩
abbrev S29056 : Shape := ⟨1, ![29056]⟩

abbrev nBuf : Space → Nat
  | .hbm => 4
  | .vmem => 0
  | .smem => 0
  | _ => 0

abbrev bufTy : (tb : Table) → Fin (tcTables nBuf tb) → BufTy
  | .hbm, ⟨0, _⟩ => ⟨S8x29056, .f32⟩
  | .hbm, ⟨1, _⟩ => ⟨S_, .f32⟩
  | .hbm, ⟨2, _⟩ => ⟨S29056, .f32⟩
  | .hbm, ⟨3, _⟩ => ⟨S8x29056, .f32⟩
  | _, _ => ⟨S8x29056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Wada.lean ====
abbrev S8x1024 : Shape := ⟨2, ![8, 1024]⟩
abbrev S2x8x2304 : Shape := ⟨3, ![2, 8, 2304]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S2x1024x2304 : Shape := ⟨3, ![2, 1024, 2304]⟩
abbrev S1x8x768 : Shape := ⟨3, ![1, 8, 768]⟩
abbrev S1x1024x768 : Shape := ⟨3, ![1, 1024, 768]⟩
abbrev S1024x1 : Shape := ⟨2, ![1024, 1]⟩
abbrev S1x1x768 : Shape := ⟨3, ![1, 1, 768]⟩
abbrev S1x768 : Shape := ⟨2, ![1, 768]⟩
abbrev S1024x768 : Shape := ⟨2, ![1024, 768]⟩

abbrev nBuf : Space → Nat
  | .hbm => 7
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x2304, .f32⟩
  | .hbm, ⟨2, _⟩ => ⟨S1024x8, .f32⟩
  | .hbm, ⟨3, _⟩ => ⟨S_, .f32⟩
  | .hbm, ⟨4, _⟩ => ⟨S1024x120, .f32⟩
  | .hbm, ⟨5, _⟩ => ⟨S1024x128, .f32⟩
  | .hbm, ⟨6, _⟩ => ⟨S2x1024x2304, .f32⟩
  | .local _ .vmem, ⟨0, _⟩ => ⟨S1024x128, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WadaRefIdeal.lean ====
abbrev S8x1024 : Shape := ⟨2, ![8, 1024]⟩
abbrev S2x8x2304 : Shape := ⟨3, ![2, 8, 2304]⟩
abbrev S_ : Shape := ⟨0, ![]⟩
abbrev S2x1024x2304 : Shape := ⟨3, ![2, 1024, 2304]⟩
abbrev S1x1024x2304 : Shape := ⟨3, ![1, 1024, 2304]⟩
abbrev S1024x2304 : Shape := ⟨2, ![1024, 2304]⟩
abbrev S8x2304 : Shape := ⟨2, ![8, 2304]⟩
abbrev S1x8x2304 : Shape := ⟨3, ![1, 8, 2304]⟩
abbrev S2304x1024 : Shape := ⟨2, ![2304, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x2304, .f32⟩
  | .hbm, ⟨2, _⟩ => ⟨S_, .f32⟩
  | .hbm, ⟨3, _⟩ => ⟨S2x1024x2304, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x2304, .f32⟩
  | .hbm, ⟨14, _⟩ => ⟨S1024x2304, .f32⟩
  | .hbm, ⟨15, _⟩ => ⟨S8x2304, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S1x1024x2304, .f32⟩
  | .hbm, ⟨26, _⟩ => ⟨S1024x2304, .f32⟩
  | .hbm, ⟨27, _⟩ => ⟨S8x2304, .f32⟩
  | .hbm, ⟨28, _⟩ => ⟨S1x8x2304, .f32⟩
  | .hbm, ⟨29, _⟩ => ⟨S1x8x2304, .f32⟩
  | .hbm, ⟨30, _⟩ => ⟨S2x8x2304, .f32⟩
  | .hbm, ⟨31, _⟩ => ⟨S1x8x2304, .f32⟩
  | .hbm, ⟨32, _⟩ => ⟨S8x2304, .f32⟩
  | .hbm, ⟨33, _⟩ => ⟨S1x8x2304, .f32⟩
  | .hbm, ⟨34, _⟩ => ⟨S8x2304, .f32⟩
  | .hbm, ⟨35, _⟩ => ⟨S2304x1024, .f32⟩
  | .hbm, ⟨36, _⟩ => ⟨S1024x2304, .f32⟩
  | .hbm, ⟨37, _⟩ => ⟨S1x1024x2304, .f32⟩
  | .hbm, ⟨38, _⟩ => ⟨S_, .f32⟩
  | .hbm, ⟨39, _⟩ => ⟨S2x1024x2304, .f32⟩
  | .hbm, ⟨40, _⟩ => ⟨S2304x1024, .f32⟩
  | .hbm, ⟨41, _⟩ => ⟨S1024x2304, .f32⟩
  | .hbm, ⟨42, _⟩ => ⟨S1x1024x2304, .f32⟩
  | .hbm, ⟨43, _⟩ => ⟨S_, .f32⟩
  | .hbm, ⟨44, _⟩ => ⟨S2x1024x2304, .f32⟩
  | .hbm, ⟨45, _⟩ => ⟨S2x1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== AdamWada.lean ====
abbrev S2x1024x2304 : Shape := ⟨3, ![2, 1024, 2304]⟩
abbrev S1x1024x2304 : Shape := ⟨3, ![1, 1024, 2304]⟩
abbrev S1024x2304 : Shape := ⟨2, ![1024, 2304]⟩
abbrev S_ : Shape := ⟨0, ![]⟩
abbrev S1 : Shape := ⟨1, ![1]⟩
abbrev S1x128x2304 : Shape := ⟨3, ![1, 128, 2304]⟩
abbrev S128x2304 : Shape := ⟨2, ![128, 2304]⟩

abbrev nBuf : Space → Nat
  | .hbm => 14
  | .vmem => 18
  | .smem => 1
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S1x1024x2304, .f32⟩
  | .hbm, ⟨5, _⟩ => ⟨S1024x2304, .f32⟩
  | .hbm, ⟨6, _⟩ => ⟨S1x1024x2304, .f32⟩
  | .hbm, ⟨7, _⟩ => ⟨S1024x2304, .f32⟩
  | .hbm, ⟨8, _⟩ => ⟨S_, .i32⟩
  | .hbm, ⟨9, _⟩ => ⟨S1, .i32⟩
  | .hbm, ⟨10, _⟩ => ⟨S2x1024x2304, .f32⟩
  | .hbm, ⟨11, _⟩ => ⟨S2x1024x2304, .f32⟩
  | .hbm, ⟨12, _⟩ => ⟨S2x1024x2304, .f32⟩
  | .hbm, ⟨13, _⟩ => ⟨S2x1024x2304, .f32⟩
  | .local _ .vmem, ⟨0, _⟩ => ⟨S1x128x2304, .f32⟩
  | .local _ .vmem, ⟨1, _⟩ => ⟨S1x128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | .local _ .vmem, ⟨14, _⟩ => ⟨S1x128x2304, .f32⟩
  | .local _ .vmem, ⟨15, _⟩ => ⟨S1x128x2304, .f32⟩
  | .local _ .vmem, ⟨16, _⟩ => ⟨S1x128x2304, .f32⟩
  | .local _ .vmem, ⟨17, _⟩ => ⟨S1x128x2304, .f32⟩
  | .local _ .smem, ⟨0, _⟩ => ⟨S1, .i32⟩
  | _, _ => ⟨S2x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2304 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdamWadaRefIdeal.lean ====
abbrev S2x1024x2304 : Shape := ⟨3, ![2, 1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S_, .f32⟩
  | .hbm, ⟨5, _⟩ => ⟨S2x1024x2304, .f32⟩
  | .hbm, ⟨6, _⟩ => ⟨S2x1024x2304, .f32⟩
  | .hbm, ⟨7, _⟩ => ⟨S_, .f32⟩
  | .hbm, ⟨8, _⟩ => ⟨S2x1024x2304, .f32⟩
  | .hbm, ⟨9, _⟩ => ⟨S2x1024x2304, .f32⟩
  | .hbm, ⟨10, _⟩ => ⟨S2x1024x2304, .f32⟩
  | .hbm, ⟨11, _⟩ => ⟨S_, .f32⟩
  | .hbm, ⟨12, _⟩ => ⟨S2x1024x2304, .f32⟩
  | .hbm, ⟨13, _⟩ => ⟨S2x1024x2304, .f32⟩
  | .hbm, ⟨14, _⟩ => ⟨S2x1024x2304, .f32⟩
  | .hbm, ⟨15, _⟩ => ⟨S_, .f32⟩
  | .hbm, ⟨16, _⟩ => ⟨S2x1024x2304, .f32⟩
  | .hbm, ⟨17, _⟩ => ⟨S2x1024x2304, .f32⟩
  | .hbm, ⟨18, _⟩ => ⟨S2x1024x2304, .f32⟩
  | .hbm, ⟨19, _⟩ => ⟨S_, .f32⟩
  | .hbm, ⟨20, _⟩ => ⟨S2x1024x2304, .f32⟩
  | .hbm, ⟨21, _⟩ => ⟨S2x1024x2304, .f32⟩
  | .hbm, ⟨22, _⟩ => ⟨S_, .f32⟩
  | .hbm, ⟨23, _⟩ => ⟨S2x1024x2304, .f32⟩
  | .hbm, ⟨24, _⟩ => ⟨S2x1024x2304, .f32⟩
  | .hbm, ⟨25, _⟩ => ⟨S2x1024x2304, .f32⟩
  | .hbm, ⟨26, _⟩ => ⟨S_, .f32⟩
  | .hbm, ⟨27, _⟩ => ⟨S2x1024x2304, .f32⟩
  | .hbm, ⟨28, _⟩ => ⟨S2x1024x2304, .f32⟩
  | .hbm, ⟨29, _⟩ => ⟨S2x1024x2304, .f32⟩
  | .hbm, ⟨30, _⟩ => ⟨S_, .f32⟩
  | .hbm, ⟨31, _⟩ => ⟨S2x1024x2304, .f32⟩
  | .hbm, ⟨32, _⟩ => ⟨S2x1024x2304, .f32⟩
  | .hbm, ⟨33, _⟩ => ⟨S2x1024x2304, .f32⟩
  | .hbm, ⟨34, _⟩ => ⟨S_, .f32⟩
  | .hbm, ⟨35, _⟩ => ⟨S2x1024x2304, .f32⟩
  | .hbm, ⟨36, _⟩ => ⟨S2x1024x2304, .f32⟩
  | _, _ => ⟨S2x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWin.lean ====
abbrev S2x1024x768 : Shape := ⟨3, ![2, 1024, 768]⟩
abbrev S1x1024x768 : Shape := ⟨3, ![1, 1024, 768]⟩
abbrev S1024x768 : Shape := ⟨2, ![1024, 768]⟩
abbrev S512x768 : Shape := ⟨2, ![512, 768]⟩
abbrev S_ : Shape := ⟨0, ![]⟩
abbrev S1 : Shape := ⟨1, ![1]⟩
abbrev S1x512x768 : Shape := ⟨3, ![1, 512, 768]⟩

abbrev nBuf : Space → Nat
  | .hbm => 18
  | .vmem => 18
  | .smem => 1
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S1x1024x768, .f32⟩
  | .hbm, ⟨5, _⟩ => ⟨S1024x768, .f32⟩
  | .hbm, ⟨6, _⟩ => ⟨S1x1024x768, .f32⟩
  | .hbm, ⟨7, _⟩ => ⟨S1024x768, .f32⟩
  | .hbm, ⟨8, _⟩ => ⟨S512x768, .f32⟩
  | .hbm, ⟨9, _⟩ => ⟨S512x768, .f32⟩
  | .hbm, ⟨10, _⟩ => ⟨S512x768, .f32⟩
  | .hbm, ⟨11, _⟩ => ⟨S512x768, .f32⟩
  | .hbm, ⟨12, _⟩ => ⟨S_, .i32⟩
  | .hbm, ⟨13, _⟩ => ⟨S1, .i32⟩
  | .hbm, ⟨14, _⟩ => ⟨S2x1024x768, .f32⟩
  | .hbm, ⟨15, _⟩ => ⟨S2x1024x768, .f32⟩
  | .hbm, ⟨16, _⟩ => ⟨S2x1024x768, .f32⟩
  | .hbm, ⟨17, _⟩ => ⟨S2x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | .local _ .smem, ⟨0, _⟩ => ⟨S1, .i32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamWinRefIdeal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWout.lean ====
abbrev S2x256x1024 : Shape := ⟨3, ![2, 256, 1024]⟩
abbrev S1x256x1024 : Shape := ⟨3, ![1, 256, 1024]⟩
abbrev S256x1024 : Shape := ⟨2, ![256, 1024]⟩
abbrev S128x1024 : Shape := ⟨2, ![128, 1024]⟩
abbrev S_ : Shape := ⟨0, ![]⟩
abbrev S1 : Shape := ⟨1, ![1]⟩
abbrev S1x128x1024 : Shape := ⟨3, ![1, 128, 1024]⟩

abbrev nBuf : Space → Nat
  | .hbm => 18
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S256x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .i32⟩
  | .hbm, ⟨13, _⟩ => ⟨S1, .i32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamWoutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamW1.lean ====
abbrev S4x1024x1408 : Shape := ⟨3, ![4, 1024, 1408]⟩
abbrev S1x1024x1408 : Shape := ⟨3, ![1, 1024, 1408]⟩
abbrev S1024x1408 : Shape := ⟨2, ![1024, 1408]⟩
abbrev S512x1408 : Shape := ⟨2, ![512, 1408]⟩
abbrev S_ : Shape := ⟨0, ![]⟩
abbrev S1 : Shape := ⟨1, ![1]⟩
abbrev S1x128x1408 : Shape := ⟨3, ![1, 128, 1408]⟩
abbrev S128x1408 : Shape := ⟨2, ![128, 1408]⟩

abbrev nBuf : Space → Nat
  | .hbm => 26
  | .vmem => 30
  | .smem => 1
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S512x1408, .f32⟩
  | .hbm, ⟨13, _⟩ => ⟨S512x1408, .f32⟩
  | .hbm, ⟨14, _⟩ => ⟨S512x1408, .f32⟩
  | .hbm, ⟨15, _⟩ => ⟨S512x1408, .f32⟩
  | .hbm, ⟨16, _⟩ => ⟨S512x1408, .f32⟩
  | .hbm, ⟨17, _⟩ => ⟨S512x1408, .f32⟩
  | .hbm, ⟨18, _⟩ => ⟨S512x1408, .f32⟩
  | .hbm, ⟨19, _⟩ => ⟨S512x1408, .f32⟩
  | .hbm, ⟨20, _⟩ => ⟨S_, .i32⟩
  | .hbm, ⟨21, _⟩ => ⟨S1, .i32⟩
  | .hbm, ⟨22, _⟩ => ⟨S4x1024x1408, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .vmem, ⟨18, _⟩ => ⟨S128x1408, .f32⟩
  | .local _ .vmem, ⟨19, _⟩ => ⟨S128x1408, .f32⟩
  | .local _ .vmem, ⟨20, _⟩ => ⟨S128x1408, .f32⟩
  | .local _ .vmem, ⟨21, _⟩ => ⟨S128x1408, .f32⟩
  | .local _ .vmem, ⟨22, _⟩ => ⟨S1x128x1408, .f32⟩
  | .local _ .vmem, ⟨23, _⟩ => ⟨S1x128x1408, .f32⟩
  | .local _ .vmem, ⟨24, _⟩ => ⟨S1x128x1408, .f32⟩
  | .local _ .vmem, ⟨25, _⟩ => ⟨S1x128x1408, .f32⟩
  | .local _ .vmem, ⟨26, _⟩ => ⟨S1x128x1408, .f32⟩
  | .local _ .vmem, ⟨27, _⟩ => ⟨S1x128x1408, .f32⟩
  | .local _ .vmem, ⟨28, _⟩ => ⟨S1x128x1408, .f32⟩
  | .local _ .vmem, ⟨29, _⟩ => ⟨S1x128x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let c0_i32_0 : BitVec 32 := 0#32
  let v1 : BitVec 1 := Scalar.cmpi .eq c4_i32 c0_i32_0
  let c1_i32 : BitVec 32 := 1#32
  let v2 : BitVec 32 := Scalar.select v1 c1_i32 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let c0_i32_0 : BitVec 32 := 0#32
  let v1 : BitVec 1 := Scalar.cmpi .eq c4_i32 c0_i32_0
  let c1_i32 : BitVec 32 := 1#32
  let v2 : BitVec 32 := Scalar.select v1 c1_i32 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== AdamW1RefIdeal.lean ====
abbrev S4x1024x1408 : Shape := ⟨3, ![4, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamW2.lean ====
abbrev S4x704x1024 : Shape := ⟨3, ![4, 704, 1024]⟩
abbrev S1x704x1024 : Shape := ⟨3, ![1, 704, 1024]⟩
abbrev S704x1024 : Shape := ⟨2, ![704, 1024]⟩
abbrev S352x1024 : Shape := ⟨2, ![352, 1024]⟩
abbrev S_ : Shape := ⟨0, ![]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 26
  | .vmem => 30
  | .smem => 1
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S1x704x1024, .f32⟩
  | .hbm, ⟨5, _⟩ => ⟨S704x1024, .f32⟩
  | .hbm, ⟨6, _⟩ => ⟨S1x704x1024, .f32⟩
  | .hbm, ⟨7, _⟩ => ⟨S704x1024, .f32⟩
  | .hbm, ⟨8, _⟩ => ⟨S1x704x1024, .f32⟩
  | .hbm, ⟨9, _⟩ => ⟨S704x1024, .f32⟩
  | .hbm, ⟨10, _⟩ => ⟨S1x704x1024, .f32⟩
  | .hbm, ⟨11, _⟩ => ⟨S704x1024, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .i32⟩
  | .hbm, ⟨21, _⟩ => ⟨S1, .i32⟩
  | .hbm, ⟨22, _⟩ => ⟨S4x704x1024, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let c0_i32 : BitVec 32 := 0#32
  let v1 : BitVec 1 := Scalar.cmpi .eq c2_i32_0 c0_i32
  let c1_i32 : BitVec 32 := 1#32
  let v2 : BitVec 32 := Scalar.select v1 c1_i32 c2_i32_0
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let c0_i32 : BitVec 32 := 0#32
  let v1 : BitVec 1 := Scalar.cmpi .eq c2_i32_0 c0_i32
  let c1_i32 : BitVec 32 := 1#32
  let v2 : BitVec 32 := Scalar.select v1 c1_i32 c2_i32_0
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 32 := Scalar.select v0 v10 c0_i32_4
  let c0_i32_5 : BitVec 32 := 0#32
  let c0_i32_6 : BitVec 32 := 0#32
  ![v11.toNat, c0_i32_5.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== AdamW2RefIdeal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2x9216 : Shape := ⟨2, ![2, 9216]⟩
abbrev S2x3x256 : Shape := ⟨3, ![2, 3, 256]⟩
abbrev S2x64 : Shape := ⟨2, ![2, 64]⟩
abbrev S2x3x128 : Shape := ⟨3, ![2, 3, 128]⟩
abbrev S2x512 : Shape := ⟨2, ![2, 512]⟩
abbrev S18432 : Shape := ⟨1, ![18432]⟩
abbrev S1536 : Shape := ⟨1, ![1536]⟩
abbrev S128 : Shape := ⟨1, ![128]⟩
abbrev S768 : Shape := ⟨1, ![768]⟩
abbrev S1024 : Shape := ⟨1, ![1024]⟩
abbrev S_ : Shape := ⟨0, ![]⟩
abbrev S512 : Shape := ⟨1, ![512]⟩
abbrev S22528 : Shape := ⟨1, ![22528]⟩
abbrev S176x128 : Shape := ⟨2, ![176, 128]⟩
abbrev S1x176x128 : Shape := ⟨3, ![1, 176, 128]⟩
abbrev S1 : Shape := ⟨1, ![1]⟩

abbrev nBuf : Space → Nat
  | .hbm => 73
  | .vmem => 8
  | .smem => 1
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x3x256, .f32⟩
  | .hbm, ⟨5, _⟩ => ⟨S2x3x256, .f32⟩
  | .hbm, ⟨6, _⟩ => ⟨S2x3x256, .f32⟩
  | .hbm, ⟨7, _⟩ => ⟨S2x3x256, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S2x64, .f32⟩
  | .hbm, ⟨16, _⟩ => ⟨S2x3x128, .f32⟩
  | .hbm, ⟨17, _⟩ => ⟨S2x3x128, .f32⟩
  | .hbm, ⟨18, _⟩ => ⟨S2x3x128, .f32⟩
  | .hbm, ⟨19, _⟩ => ⟨S2x3x128, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S18432, .f32⟩
  | .hbm, ⟨25, _⟩ => ⟨S1536, .f32⟩
  | .hbm, ⟨26, _⟩ => ⟨S128, .f32⟩
  | .hbm, ⟨27, _⟩ => ⟨S128, .f32⟩
  | .hbm, ⟨28, _⟩ => ⟨S768, .f32⟩
  | .hbm, ⟨29, _⟩ => ⟨S1024, .f32⟩
  | .hbm, ⟨30, _⟩ => ⟨S_, .f32⟩
  | .hbm, ⟨31, _⟩ => ⟨S512, .f32⟩
  | .hbm, ⟨32, _⟩ => ⟨S22528, .f32⟩
  | .hbm, ⟨33, _⟩ => ⟨S176x128, .f32⟩
  | .hbm, ⟨34, _⟩ => ⟨S1x176x128, .f32⟩
  | .hbm, ⟨35, _⟩ => ⟨S18432, .f32⟩
  | .hbm, ⟨36, _⟩ => ⟨S1536, .f32⟩
  | .hbm, ⟨37, _⟩ => ⟨S128, .f32⟩
  | .hbm, ⟨38, _⟩ => ⟨S128, .f32⟩
  | .hbm, ⟨39, _⟩ => ⟨S768, .f32⟩
  | .hbm, ⟨40, _⟩ => ⟨S1024, .f32⟩
  | .hbm, ⟨41, _⟩ => ⟨S_, .f32⟩
  | .hbm, ⟨42, _⟩ => ⟨S512, .f32⟩
  | .hbm, ⟨43, _⟩ => ⟨S22528, .f32⟩
  | .hbm, ⟨44, _⟩ => ⟨S176x128, .f32⟩
  | .hbm, ⟨45, _⟩ => ⟨S1x176x128, .f32⟩
  | .hbm, ⟨46, _⟩ => ⟨S18432, .f32⟩
  | .hbm, ⟨47, _⟩ => ⟨S1536, .f32⟩
  | .hbm, ⟨48, _⟩ => ⟨S128, .f32⟩
  | .hbm, ⟨49, _⟩ => ⟨S128, .f32⟩
  | .hbm, ⟨50, _⟩ => ⟨S768, .f32⟩
  | .hbm, ⟨51, _⟩ => ⟨S1024, .f32⟩
  | .hbm, ⟨52, _⟩ => ⟨S_, .f32⟩
  | .hbm, ⟨53, _⟩ => ⟨S512, .f32⟩
  | .hbm, ⟨54, _⟩ => ⟨S22528, .f32⟩
  | .hbm, ⟨55, _⟩ => ⟨S176x128, .f32⟩
  | .hbm, ⟨56, _⟩ => ⟨S1x176x128, .f32⟩
  | .hbm, ⟨57, _⟩ => ⟨S18432, .f32⟩
  | .hbm, ⟨58, _⟩ => ⟨S1536, .f32⟩
  | .hbm, ⟨59, _⟩ => ⟨S128, .f32⟩
  | .hbm, ⟨60, _⟩ => ⟨S128, .f32⟩
  | .hbm, ⟨61, _⟩ => ⟨S768, .f32⟩
  | .hbm, ⟨62, _⟩ => ⟨S1024, .f32⟩
  | .hbm, ⟨63, _⟩ => ⟨S_, .f32⟩
  | .hbm, ⟨64, _⟩ => ⟨S512, .f32⟩
  | .hbm, ⟨65, _⟩ => ⟨S22528, .f32⟩
  | .hbm, ⟨66, _⟩ => ⟨S176x128, .f32⟩
  | .hbm, ⟨67, _⟩ => ⟨S_, .i32⟩
  | .hbm, ⟨68, _⟩ => ⟨S1, .i32⟩
  | .hbm, ⟨69, _⟩ => ⟨S1x176x128, .f32⟩
  | .hbm, ⟨70, _⟩ => ⟨S1x176x128, .f32⟩
  | .hbm, ⟨71, _⟩ => ⟨S1x176x128, .f32⟩
  | .hbm, ⟨72, _⟩ => ⟨S1x176x128, .f32⟩
  | .local _ .vmem, ⟨0, _⟩ => ⟨S1x176x128, .f32⟩
  | .local _ .vmem, ⟨1, _⟩ => ⟨S1x176x128, .f32⟩
  | .local _ .vmem, ⟨2, _⟩ => ⟨S1x176x128, .f32⟩
  | .local _ .vmem, ⟨3, _⟩ => ⟨S176x128, .f32⟩
  | .local _ .vmem, ⟨4, _⟩ => ⟨S1x176x128, .f32⟩
  | .local _ .vmem, ⟨5, _⟩ => ⟨S1x176x128, .f32⟩
  | .local _ .vmem, ⟨6, _⟩ => ⟨S1x176x128, .f32⟩
  | .local _ .vmem, ⟨7, _⟩ => ⟨S1x176x128, .f32⟩
  | .local _ .smem, ⟨0, _⟩ => ⟨S1, .i32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_v40_2 : Ref sig .tc := ⟨.hbm, 71, rfl⟩
abbrev main_v40_3 : Ref sig .tc := ⟨.hbm, 72, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x176x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamSmallRefIdeal.lean ====
abbrev S2x9216 : Shape := ⟨2, ![2, 9216]⟩
abbrev S2x3x256 : Shape := ⟨3, ![2, 3, 256]⟩
abbrev S2x64 : Shape := ⟨2, ![2, 64]⟩
abbrev S2x3x128 : Shape := ⟨3, ![2, 3, 128]⟩
abbrev S2x512 : Shape := ⟨2, ![2, 512]⟩
abbrev S_ : Shape := ⟨0, ![]⟩
abbrev S18432 : Shape := ⟨1, ![18432]⟩
abbrev S1536 : Shape := ⟨1, ![1536]⟩
abbrev S128 : Shape := ⟨1, ![128]⟩
abbrev S768 : Shape := ⟨1, ![768]⟩
abbrev S1024 : Shape := ⟨1, ![1024]⟩
abbrev S512 : Shape := ⟨1, ![512]⟩
abbrev S22528 : Shape := ⟨1, ![22528]⟩
abbrev S1x176x128 : Shape := ⟨3, ![1, 176, 128]⟩

abbrev nBuf : Space → Nat
  | .hbm => 262
  | .vmem => 0
  | .smem => 0
  | _ => 0

abbrev hbmTy0_0 (i : Nat) : BufTy := match i % 128 with
  | 0 => ⟨S2x9216, .f32⟩
  | 1 => ⟨S2x9216, .f32⟩
  | 2 => ⟨S2x9216, .f32⟩
  | 3 => ⟨S2x9216, .f32⟩
  | 4 => ⟨S2x3x256, .f32⟩
  | 5 => ⟨S2x3x256, .f32⟩
  | 6 => ⟨S2x3x256, .f32⟩
  | 7 => ⟨S2x3x256, .f32⟩
  | 8 => ⟨S2x64, .f32⟩
  | 9 => ⟨S2x64, .f32⟩
  | 10 => ⟨S2x64, .f32⟩
  | 11 => ⟨S2x64, .f32⟩
  | 12 => ⟨S2x64, .f32⟩
  | 13 => ⟨S2x64, .f32⟩
  | 14 => ⟨S2x64, .f32⟩
  | 15 => ⟨S2x64, .f32⟩
  | 16 => ⟨S2x3x128, .f32⟩
  | 17 => ⟨S2x3x128, .f32⟩
  | 18 => ⟨S2x3x128, .f32⟩
  | 19 => ⟨S2x3x128, .f32⟩
  | 20 => ⟨S2x512, .f32⟩
  | 21 => ⟨S2x512, .f32⟩
  | 22 => ⟨S2x512, .f32⟩
  | 23 => ⟨S2x512, .f32⟩
  | 24 => ⟨S_, .f32⟩
  | 25 => ⟨S2x9216, .f32⟩
  | 26 => ⟨S2x9216, .f32⟩
  | 27 => ⟨S_, .f32⟩
  | 28 => ⟨S2x9216, .f32⟩
  | 29 => ⟨S2x9216, .f32⟩
  | 30 => ⟨S2x9216, .f32⟩
  | 31 => ⟨S_, .f32⟩
  | 32 => ⟨S2x9216, .f32⟩
  | 33 => ⟨S2x9216, .f32⟩
  | 34 => ⟨S2x9216, .f32⟩
  | 35 => ⟨S_, .f32⟩
  | 36 => ⟨S2x9216, .f32⟩
  | 37 => ⟨S2x9216, .f32⟩
  | 38 => ⟨S2x9216, .f32⟩
  | 39 => ⟨S_, .f32⟩
  | 40 => ⟨S2x9216, .f32⟩
  | 41 => ⟨S2x9216, .f32⟩
  | 42 => ⟨S_, .f32⟩
  | 43 => ⟨S2x9216, .f32⟩
  | 44 => ⟨S2x9216, .f32⟩
  | 45 => ⟨S2x9216, .f32⟩
  | 46 => ⟨S_, .f32⟩
  | 47 => ⟨S2x9216, .f32⟩
  | 48 => ⟨S2x9216, .f32⟩
  | 49 => ⟨S2x9216, .f32⟩
  | 50 => ⟨S_, .f32⟩
  | 51 => ⟨S2x9216, .f32⟩
  | 52 => ⟨S2x9216, .f32⟩
  | 53 => ⟨S2x9216, .f32⟩
  | 54 => ⟨S_, .f32⟩
  | 55 => ⟨S2x9216, .f32⟩
  | 56 => ⟨S2x9216, .f32⟩
  | 57 => ⟨S_, .f32⟩
  | 58 => ⟨S2x3x256, .f32⟩
  | 59 => ⟨S2x3x256, .f32⟩
  | 60 => ⟨S_, .f32⟩
  | 61 => ⟨S2x3x256, .f32⟩
  | 62 => ⟨S2x3x256, .f32⟩
  | 63 => ⟨S2x3x256, .f32⟩
  | 64 => ⟨S_, .f32⟩
  | 65 => ⟨S2x3x256, .f32⟩
  | 66 => ⟨S2x3x256, .f32⟩
  | 67 => ⟨S2x3x256, .f32⟩
  | 68 => ⟨S_, .f32⟩
  | 69 => ⟨S2x3x256, .f32⟩
  | 70 => ⟨S2x3x256, .f32⟩
  | 71 => ⟨S2x3x256, .f32⟩
  | 72 => ⟨S_, .f32⟩
  | 73 => ⟨S2x3x256, .f32⟩
  | 74 => ⟨S2x3x256, .f32⟩
  | 75 => ⟨S_, .f32⟩
  | 76 => ⟨S2x3x256, .f32⟩
  | 77 => ⟨S2x3x256, .f32⟩
  | 78 => ⟨S2x3x256, .f32⟩
  | 79 => ⟨S_, .f32⟩
  | 80 => ⟨S2x3x256, .f32⟩
  | 81 => ⟨S2x3x256, .f32⟩
  | 82 => ⟨S2x3x256, .f32⟩
  | 83 => ⟨S_, .f32⟩
  | 84 => ⟨S2x3x256, .f32⟩
  | 85 => ⟨S2x3x256, .f32⟩
  | 86 => ⟨S2x3x256, .f32⟩
  | 87 => ⟨S_, .f32⟩
  | 88 => ⟨S2x3x256, .f32⟩
  | 89 => ⟨S2x3x256, .f32⟩
  | 90 => ⟨S_, .f32⟩
  | 91 => ⟨S2x64, .f32⟩
  | 92 => ⟨S2x64, .f32⟩
  | 93 => ⟨S_, .f32⟩
  | 94 => ⟨S2x64, .f32⟩
  | 95 => ⟨S2x64, .f32⟩
  | 96 => ⟨S2x64, .f32⟩
  | 97 => ⟨S_, .f32⟩
  | 98 => ⟨S2x64, .f32⟩
  | 99 => ⟨S2x64, .f32⟩
  | 100 => ⟨S2x64, .f32⟩
  | 101 => ⟨S_, .f32⟩
  | 102 => ⟨S2x64, .f32⟩
  | 103 => ⟨S2x64, .f32⟩
  | 104 => ⟨S2x64, .f32⟩
  | 105 => ⟨S_, .f32⟩
  | 106 => ⟨S2x64, .f32⟩
  | 107 => ⟨S2x64, .f32⟩
  | 108 => ⟨S_, .f32⟩
  | 109 => ⟨S2x64, .f32⟩
  | 110 => ⟨S2x64, .f32⟩
  | 111 => ⟨S2x64, .f32⟩
  | 112 => ⟨S_, .f32⟩
  | 113 => ⟨S2x64, .f32⟩
  | 114 => ⟨S2x64, .f32⟩
  | 115 => ⟨S2x64, .f32⟩
  | 116 => ⟨S_, .f32⟩
  | 117 => ⟨S2x64, .f32⟩
  | 118 => ⟨S2x64, .f32⟩
  | 119 => ⟨S2x64, .f32⟩
  | 120 => ⟨S_, .f32⟩
  | 121 => ⟨S2x64, .f32⟩
  | 122 => ⟨S2x64, .f32⟩
  | 123 => ⟨S_, .f32⟩
  | 124 => ⟨S2x64, .f32⟩
  | 125 => ⟨S2x64, .f32⟩
  | 126 => ⟨S_, .f32⟩
  | 127 => ⟨S2x64, .f32⟩
  | _ => ⟨S2x9216, .f32⟩

abbrev hbmTy0_1 (i : Nat) : BufTy := match i % 128 with
  | 0 => ⟨S2x64, .f32⟩
  | 1 => ⟨S2x64, .f32⟩
  | 2 => ⟨S_, .f32⟩
  | 3 => ⟨S2x64, .f32⟩
  | 4 => ⟨S2x64, .f32⟩
  | 5 => ⟨S2x64, .f32⟩
  | 6 => ⟨S_, .f32⟩
  | 7 => ⟨S2x64, .f32⟩
  | 8 => ⟨S2x64, .f32⟩
  | 9 => ⟨S2x64, .f32⟩
  | 10 => ⟨S_, .f32⟩
  | 11 => ⟨S2x64, .f32⟩
  | 12 => ⟨S2x64, .f32⟩
  | 13 => ⟨S_, .f32⟩
  | 14 => ⟨S2x64, .f32⟩
  | 15 => ⟨S2x64, .f32⟩
  | 16 => ⟨S2x64, .f32⟩
  | 17 => ⟨S_, .f32⟩
  | 18 => ⟨S2x64, .f32⟩
  | 19 => ⟨S2x64, .f32⟩
  | 20 => ⟨S2x64, .f32⟩
  | 21 => ⟨S_, .f32⟩
  | 22 => ⟨S2x64, .f32⟩
  | 23 => ⟨S2x64, .f32⟩
  | 24 => ⟨S2x64, .f32⟩
  | 25 => ⟨S_, .f32⟩
  | 26 => ⟨S2x64, .f32⟩
  | 27 => ⟨S2x64, .f32⟩
  | 28 => ⟨S_, .f32⟩
  | 29 => ⟨S2x3x128, .f32⟩
  | 30 => ⟨S2x3x128, .f32⟩
  | 31 => ⟨S_, .f32⟩
  | 32 => ⟨S2x3x128, .f32⟩
  | 33 => ⟨S2x3x128, .f32⟩
  | 34 => ⟨S2x3x128, .f32⟩
  | 35 => ⟨S_, .f32⟩
  | 36 => ⟨S2x3x128, .f32⟩
  | 37 => ⟨S2x3x128, .f32⟩
  | 38 => ⟨S2x3x128, .f32⟩
  | 39 => ⟨S_, .f32⟩
  | 40 => ⟨S2x3x128, .f32⟩
  | 41 => ⟨S2x3x128, .f32⟩
  | 42 => ⟨S2x3x128, .f32⟩
  | 43 => ⟨S_, .f32⟩
  | 44 => ⟨S2x3x128, .f32⟩
  | 45 => ⟨S2x3x128, .f32⟩
  | 46 => ⟨S_, .f32⟩
  | 47 => ⟨S2x3x128, .f32⟩
  | 48 => ⟨S2x3x128, .f32⟩
  | 49 => ⟨S2x3x128, .f32⟩
  | 50 => ⟨S_, .f32⟩
  | 51 => ⟨S2x3x128, .f32⟩
  | 52 => ⟨S2x3x128, .f32⟩
  | 53 => ⟨S2x3x128, .f32⟩
  | 54 => ⟨S_, .f32⟩
  | 55 => ⟨S2x3x128, .f32⟩
  | 56 => ⟨S2x3x128, .f32⟩
  | 57 => ⟨S2x3x128, .f32⟩
  | 58 => ⟨S_, .f32⟩
  | 59 => ⟨S2x3x128, .f32⟩
  | 60 => ⟨S2x3x128, .f32⟩
  | 61 => ⟨S_, .f32⟩
  | 62 => ⟨S2x512, .f32⟩
  | 63 => ⟨S2x512, .f32⟩
  | 64 => ⟨S_, .f32⟩
  | 65 => ⟨S2x512, .f32⟩
  | 66 => ⟨S2x512, .f32⟩
  | 67 => ⟨S2x512, .f32⟩
  | 68 => ⟨S_, .f32⟩
  | 69 => ⟨S2x512, .f32⟩
  | 70 => ⟨S2x512, .f32⟩
  | 71 => ⟨S2x512, .f32⟩
  | 72 => ⟨S_, .f32⟩
  | 73 => ⟨S2x512, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S_, .f32⟩
  | 80 => ⟨S2x512, .f32⟩
  | 81 => ⟨S2x512, .f32⟩
  | 82 => ⟨S2x512, .f32⟩
  | 83 => ⟨S_, .f32⟩
  | 84 => ⟨S2x512, .f32⟩
  | 85 => ⟨S2x512, .f32⟩
  | 86 => ⟨S2x512, .f32⟩
  | 87 => ⟨S_, .f32⟩
  | 88 => ⟨S2x512, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S18432, .f32⟩
  | 95 => ⟨S1536, .f32⟩
  | 96 => ⟨S128, .f32⟩
  | 97 => ⟨S128, .f32⟩
  | 98 => ⟨S768, .f32⟩
  | 99 => ⟨S1024, .f32⟩
  | 100 => ⟨S_, .f32⟩
  | 101 => ⟨S512, .f32⟩
  | 102 => ⟨S22528, .f32⟩
  | 103 => ⟨S1x176x128, .f32⟩
  | 104 => ⟨S18432, .f32⟩
  | 105 => ⟨S1536, .f32⟩
  | 106 => ⟨S128, .f32⟩
  | 107 => ⟨S128, .f32⟩
  | 108 => ⟨S768, .f32⟩
  | 109 => ⟨S1024, .f32⟩
  | 110 => ⟨S_, .f32⟩
  | 111 => ⟨S512, .f32⟩
  | 112 => ⟨S22528, .f32⟩
  | 113 => ⟨S1x176x128, .f32⟩
  | 114 => ⟨S18432, .f32⟩
  | 115 => ⟨S1536, .f32⟩
  | 116 => ⟨S128, .f32⟩
  | 117 => ⟨S128, .f32⟩
  | 118 => ⟨S768, .f32⟩
  | 119 => ⟨S1024, .f32⟩
  | 120 => ⟨S_, .f32⟩
  | 121 => ⟨S512, .f32⟩
  | 122 => ⟨S22528, .f32⟩
  | 123 => ⟨S1x176x128, .f32⟩
  | 124 => ⟨S18432, .f32⟩
  | 125 => ⟨S1536, .f32⟩
  | 126 => ⟨S128, .f32⟩
  | 127 => ⟨S128, .f32⟩
  | _ => ⟨S2x9216, .f32⟩

abbrev hbmTy0_2 (i : Nat) : BufTy := match i % 128 with
  | 0 => ⟨S768, .f32⟩
  | 1 => ⟨S1024, .f32⟩
  | 2 => ⟨S_, .f32⟩
  | 3 => ⟨S512, .f32⟩
  | 4 => ⟨S22528, .f32⟩
  | 5 => ⟨S1x176x128, .f32⟩
  | _ => ⟨S2x9216, .f32⟩

abbrev hbmTy (i : Nat) : BufTy := match i / 128 with
  | 0 => hbmTy0_0 i
  | 1 => hbmTy0_1 i
  | 2 => hbmTy0_2 i
  | _ => ⟨S2x9216, .f32⟩

abbrev bufTy : (tb : Table) → Fin (tcTables nBuf tb) → BufTy
  | .hbm, ⟨i, _⟩ => hbmTy i
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_53 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_54 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_cst_55 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_cst_56 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S8192x5632 : Shape := ⟨2, ![8192, 5632]⟩
abbrev S8x128 : Shape := ⟨2, ![8, 128]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩
abbrev S1 : Shape := ⟨1, ![1]⟩
abbrev S1x1 : Shape := ⟨2, ![1, 1]⟩

abbrev nBuf : Space → Nat
  | .hbm => 24
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4x1024, .f32⟩
  | .hbm, ⟨16, _⟩ => ⟨S_, .f32⟩
  | .hbm, ⟨17, _⟩ => ⟨S4x1024, .f32⟩
  | .hbm, ⟨18, _⟩ => ⟨S8x1024, .f32⟩
  | .hbm, ⟨19, _⟩ => ⟨S2816x1024, .bf16⟩
  | .hbm, ⟨20, _⟩ => ⟨S8192x1024, .f32⟩
  | .hbm, ⟨21, _⟩ => ⟨S8192x5632, .bf16⟩
  | .hbm, ⟨22, _⟩ => ⟨S8192x1024, .bf16⟩
  | .hbm, ⟨23, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x5632, .bf16⟩
  | .local _ .vmem, ⟨10, _⟩ => ⟨S512x5632, .bf16⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x5632, .bf16⟩
  | .hbm, ⟨78, _⟩ => ⟨S8192x1024, .bf16⟩
  | .hbm, ⟨79, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_cst_9 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Mod.lean ====
abbrev S8x1024 : Shape := ⟨2, ![8, 1024]⟩
abbrev S2x1024x2304 : Shape := ⟨3, ![2, 1024, 2304]⟩
abbrev S2x2304 : Shape := ⟨2, ![2, 2304]⟩
abbrev S2x1x2304 : Shape := ⟨3, ![2, 1, 2304]⟩
abbrev S2x8x2304 : Shape := ⟨3, ![2, 8, 2304]⟩
abbrev S1x1024x2304 : Shape := ⟨3, ![1, 1024, 2304]⟩
abbrev S1x1x2304 : Shape := ⟨3, ![1, 1, 2304]⟩
abbrev S1x8x2304 : Shape := ⟨3, ![1, 8, 2304]⟩
abbrev S1024x2304 : Shape := ⟨2, ![1024, 2304]⟩
abbrev S8x2304 : Shape := ⟨2, ![8, 2304]⟩
abbrev S1x2304 : Shape := ⟨2, ![1, 2304]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x2304, .f32⟩
  | .hbm, ⟨2, _⟩ => ⟨S2x2304, .f32⟩
  | .hbm, ⟨3, _⟩ => ⟨S2x1x2304, .f32⟩
  | .hbm, ⟨4, _⟩ => ⟨S2x8x2304, .f32⟩
  | .local _ .vmem, ⟨0, _⟩ => ⟨S8x1024, .f32⟩
  | .local _ .vmem, ⟨1, _⟩ => ⟨S1x1024x2304, .f32⟩
  | .local _ .vmem, ⟨2, _⟩ => ⟨S1x1024x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x8x2304, .f32⟩
  | .local _ .vmem, ⟨6, _⟩ => ⟨S1x8x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S2x1024x2304 : Shape := ⟨3, ![2, 1024, 2304]⟩
abbrev S2x2304 : Shape := ⟨2, ![2, 2304]⟩
abbrev S_ : Shape := ⟨0, ![]⟩
abbrev S1x1024x2304 : Shape := ⟨3, ![1, 1024, 2304]⟩
abbrev S1024x2304 : Shape := ⟨2, ![1024, 2304]⟩
abbrev S8x2304 : Shape := ⟨2, ![8, 2304]⟩
abbrev S1x2304 : Shape := ⟨2, ![1, 2304]⟩
abbrev S2304 : Shape := ⟨1, ![2304]⟩
abbrev S1x8x2304 : Shape := ⟨3, ![1, 8, 2304]⟩
abbrev S2x8x2304 : Shape := ⟨3, ![2, 8, 2304]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x2304, .f32⟩
  | .hbm, ⟨2, _⟩ => ⟨S2x2304, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x2304, .f32⟩
  | .hbm, ⟨13, _⟩ => ⟨S1024x2304, .f32⟩
  | .hbm, ⟨14, _⟩ => ⟨S8x2304, .f32⟩
  | .hbm, ⟨15, _⟩ => ⟨S1x2304, .f32⟩
  | .hbm, ⟨16, _⟩ => ⟨S2304, .f32⟩
  | .hbm, ⟨17, _⟩ => ⟨S1x2304, .f32⟩
  | .hbm, ⟨18, _⟩ => ⟨S8x2304, .f32⟩
  | .hbm, ⟨19, _⟩ => ⟨S8x2304, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x2304, .f32⟩
  | .hbm, ⟨30, _⟩ => ⟨S1024x2304, .f32⟩
  | .hbm, ⟨31, _⟩ => ⟨S8x2304, .f32⟩
  | .hbm, ⟨32, _⟩ => ⟨S1x2304, .f32⟩
  | .hbm, ⟨33, _⟩ => ⟨S2304, .f32⟩
  | .hbm, ⟨34, _⟩ => ⟨S1x2304, .f32⟩
  | .hbm, ⟨35, _⟩ => ⟨S8x2304, .f32⟩
  | .hbm, ⟨36, _⟩ => ⟨S8x2304, .f32⟩
  | .hbm, ⟨37, _⟩ => ⟨S1x8x2304, .f32⟩
  | .hbm, ⟨38, _⟩ => ⟨S1x8x2304, .f32⟩
  | .hbm, ⟨39, _⟩ => ⟨S2x8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Chips.lean ====
abbrev S4x512x1408 : Shape := ⟨3, ![4, 512, 1408]⟩
abbrev S512x1408 : Shape := ⟨2, ![512, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1408, .bf16⟩
  | .hbm, ⟨1, _⟩ => ⟨S512x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsRefIdeal.lean ====
abbrev S4x512x1408 : Shape := ⟨3, ![4, 512, 1408]⟩
abbrev S_ : Shape := ⟨0, ![]⟩
abbrev S512x1408 : Shape := ⟨2, ![512, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1408, .bf16⟩
  | .hbm, ⟨1, _⟩ => ⟨S4x512x1408, .f32⟩
  | .hbm, ⟨2, _⟩ => ⟨S_, .f32⟩
  | .hbm, ⟨3, _⟩ => ⟨S512x1408, .f32⟩
  | _, _ => ⟨S4x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Spec.lean ====
/- What the gradient of one macaron half step is, over the real numbers, one row of the batch at a time, and the few
   facts about extended reals that carry both programs' operations to it. -/
module

public import Idealize.ShloMosaic.Lib.IdealHost
public import Idealize.ShloMosaic.Lib.Pointwise

@[expose] public section

set_option maxRecDepth 16384

noncomputable section

namespace Cert.Half

open Idealize.ShloMosaic
open scoped BigOperators

/-! ## Extended reals that are reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real {b : ℝ} (hb : b ≠ 0) (a : ℝ) : Ideal.div (a : EReal) (b : EReal) = ((a / b : ℝ) : EReal) := by
  rw [Ideal.div_coe hb, ← EReal.coe_mul]; congr 1; ring

theorem rsqrt_real {a : ℝ} (ha : 0 < a) : Ideal.rsqrt (a : EReal) = (((Real.sqrt a)⁻¹ : ℝ) : EReal) := by
  rw [Ideal.rsqrt_coe, if_neg (not_lt.mpr ha.le), if_neg ha.ne']

/-- An extended real whose absolute value is below infinity is a real. -/
theorem exists_real {x : EReal} (h : max x (-x) < ⊤) : ∃ r : ℝ, x = (r : EReal) := by
  induction x using EReal.rec with
  | bot => simp at h
  | coe r => exact ⟨r, rfl⟩
  | top => simp at h

/-- The f32 word of the norm's epsilon, as a real. -/
def eps : ℝ := 8796093 / 8796093022208

theorem eps_pos : 0 < eps := by unfold eps; norm_num

theorem ofBits_eps : Ideal.ofBits .f32 0x358637BD#32 = (eps : EReal) := by
  unfold eps; simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_width : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  rw [Ideal.ofBits_one_f32, EReal.coe_one]

/-! ## The half step, one row -/

/-- The parameters of a half step: the norm's gain, the conditioning's scale, shift and gate, and the two weights. -/
structure Par where
  ng : Fin 1024 → ℝ
  sc : Fin 1024 → ℝ
  sh : Fin 1024 → ℝ
  gt : Fin 1024 → ℝ
  w1 : Fin 1024 → Fin 5632 → ℝ
  w2 : Fin 2816 → Fin 1024 → ℝ

/-- Column `j` of the gate's half of a width-5632 row, and of the other half. -/
def lo (j : Fin 2816) : Fin 5632 := ⟨j.val, by omega⟩
def hi (j : Fin 2816) : Fin 5632 := ⟨2816 + j.val, by omega⟩

variable (P : Par) (x dy : Fin 1024 → ℝ)

def ms : ℝ := (∑ k, x k * x k) / 1024 + eps
def rinv : ℝ := (Real.sqrt (ms x))⁻¹
def xh (l : Fin 1024) : ℝ := x l * rinv x
def gain (l : Fin 1024) : ℝ := P.ng l * (1 + P.sc l)
def hid (l : Fin 1024) : ℝ := xh x l * gain P l + P.sh l
def pre (j : Fin 5632) : ℝ := ∑ k, hid P x k * P.w1 k j
def sig (a : ℝ) : ℝ := (1 + Real.exp (-a))⁻¹
def silu (a : ℝ) : ℝ := a * sig a
def act (j : Fin 2816) : ℝ := silu (pre P x (lo j)) * pre P x (hi j)
def out (l : Fin 1024) : ℝ := ∑ j, act P x j * P.w2 j l
def df (l : Fin 1024) : ℝ := 1 / 2 * P.gt l * dy l
def dact (j : Fin 2816) : ℝ := ∑ l, df P dy l * P.w2 j l
def dsilu (a : ℝ) : ℝ := sig a * (1 + a * (1 - sig a))
def dg (j : Fin 2816) : ℝ := dact P dy j * pre P x (hi j) * dsilu (pre P x (lo j))
def du (j : Fin 2816) : ℝ := dact P dy j * silu (pre P x (lo j))
def da (j : Fin 5632) : ℝ := if h : j.val < 2816 then dg P x dy ⟨j.val, h⟩ else du P x dy ⟨j.val - 2816, by omega⟩
def dh (k : Fin 1024) : ℝ := ∑ j, da P x dy j * P.w1 k j
def dxh (l : Fin 1024) : ℝ := dh P x dy l * gain P l
def dxi (l : Fin 1024) : ℝ := dy l + rinv x * (dxh P x dy l - xh x l * ((∑ k, dxh P x dy k * xh x k) / 1024))
/-- What a row adds to the four rows of sums: the gradients of shift, of scale, of the norm's gain and of the gate. -/
def part (s : Fin 4) (l : Fin 1024) : ℝ :=
  match s with
  | 0 => dh P x dy l
  | 1 => dh P x dy l * xh x l * P.ng l
  | 2 => dh P x dy l * xh x l * (1 + P.sc l)
  | 3 => 1 / 2 * (dy l * out P x l)

theorem ms_pos : 0 < ms x :=
  add_pos_of_nonneg_of_pos (div_nonneg (Finset.sum_nonneg fun k _ => mul_self_nonneg (x k)) (by norm_num)) eps_pos

theorem da_lo (j : Fin 2816) : da P x dy (lo j) = dg P x dy j := by
  unfold da lo; exact dif_pos j.isLt

theorem da_hi (j : Fin 2816) : da P x dy (hi j) = du P x dy j := by
  have h : ¬ (hi j).val < 2816 := by unfold hi; simp
  unfold da; rw [dif_neg h]; congr 1; exact Fin.ext (by unfold hi; simp)

/-- Column `j` of half `h` of a width-2816 row. -/
def ch (h : Fin 2) (j : Fin 1408) : Fin 2816 := ⟨1408 * h.val + j.val, by omega⟩

theorem sum_halves (f : Fin 2816 → ℝ) : ∑ j, f j = (∑ j, f (ch 0 j)) + ∑ j, f (ch 1 j) :=
  (Fin.sum_univ_add (a := 1408) (b := 1408) f).trans (congrArg₂ (· + ·)
    (Finset.sum_congr rfl fun j _ => congrArg f (Fin.ext (by show j.val = 1408 * 0 + j.val; omega)))
    (Finset.sum_congr rfl fun j _ => congrArg f (Fin.ext (by show 1408 + j.val = 1408 * 1 + j.val; omega))))

theorem sum_sides (f : Fin 5632 → ℝ) : ∑ j, f j = (∑ j, f (lo j)) + ∑ j, f (hi j) :=
  Fin.sum_univ_add (a := 2816) (b := 2816) f

theorem dh_eq (k : Fin 1024) :
    dh P x dy k = (((0 + ∑ j, dg P x dy (ch 0 j) * P.w1 k (lo (ch 0 j))) + ∑ j, du P x dy (ch 0 j) * P.w1 k (hi (ch 0 j)))
      + ∑ j, dg P x dy (ch 1 j) * P.w1 k (lo (ch 1 j))) + ∑ j, du P x dy (ch 1 j) * P.w1 k (hi (ch 1 j)) := by
  unfold dh
  rw [sum_sides, sum_halves, sum_halves]
  simp only [da_lo, da_hi]
  ring

theorem rinv_mul : rinv x * rinv x = 1 / ms x := by
  unfold rinv
  rw [← mul_inv, Real.mul_self_sqrt (ms_pos x).le, one_div]

/-- The norm's gradient as reverse-mode differentiation leaves it is the usual one. -/
theorem dxi_eq (l : Fin 1024) :
    dy l + (dxh P x dy l * rinv x + x l * ((∑ k, x k * dxh P x dy k) * (-(1 / 2) * (rinv x / ms x)) / 1024)
        + (∑ k, x k * dxh P x dy k) * (-(1 / 2) * (rinv x / ms x)) / 1024 * x l) = dxi P x dy l := by
  have h : ∑ k, dxh P x dy k * xh x k = (∑ k, x k * dxh P x dy k) * rinv x := by
    rw [Finset.sum_mul]; exact Finset.sum_congr rfl fun k _ => by unfold xh; ring
  have h2 : rinv x / ms x = rinv x * (rinv x * rinv x) := by rw [rinv_mul]; ring
  unfold dxi
  rw [h, h2]
  unfold xh
  ring

end Cert.Half

end

end
-- ==== Proof.RefValue.lean ====
/- The reference's operations read at an index, on arguments that hold real numbers: each is the row's real number of
   `Cert.Half`. -/
module

public import proofs.«01_k».proof.Proof.Spec
public import proofs.«01_k».proof.Proof.Gen.ReferenceIdeal.Read

@[expose] public section

set_option maxRecDepth 16384

noncomputable section

namespace Cert.ReferenceIdeal.Stage

open Idealize.ShloMosaic Idealize.ShloMosaic.TcCoe Cert.ReferenceIdeal Cert.ReferenceIdeal.Gen Cert.ReferenceIdeal.Read Cert.Half
open scoped BigOperators

variable (P : Par) (X DY : Fin 8192 → Fin 1024 → ℝ)
variable {x0 x1 : (⟨S8192x1024, .f32⟩ : BufTy).Contents (Elt Ideal)} {x2 x3 x4 x5 : (⟨S1024, .f32⟩ : BufTy).Contents (Elt Ideal)}
  {x6 : (⟨S1024x5632, .f32⟩ : BufTy).Contents (Elt Ideal)} {x7 : (⟨S2816x1024, .f32⟩ : BufTy).Contents (Elt Ideal)}

/-- The forward pass's arguments hold the numbers of `X` and `P`. -/
structure Fwd (x1 : (⟨S8192x1024, .f32⟩ : BufTy).Contents (Elt Ideal)) (x2 x3 x4 : (⟨S1024, .f32⟩ : BufTy).Contents (Elt Ideal))
    (x6 : (⟨S1024x5632, .f32⟩ : BufTy).Contents (Elt Ideal)) : Prop where
  h1 : ∀ r l, x1 (ix2 r l) = (X r l : EReal)
  h2 : ∀ l, x2 (ix1 l) = (P.ng l : EReal)
  h3 : ∀ l, x3 (ix1 l) = (P.sc l : EReal)
  h4 : ∀ l, x4 (ix1 l) = (P.sh l : EReal)
  h6 : ∀ k j, x6 (ix2 k j) = (P.w1 k j : EReal)

/-- So do those of the backward pass. -/
structure Bwd (x0 : (⟨S8192x1024, .f32⟩ : BufTy).Contents (Elt Ideal)) (x5 : (⟨S1024, .f32⟩ : BufTy).Contents (Elt Ideal))
    (x7 : (⟨S2816x1024, .f32⟩ : BufTy).Contents (Elt Ideal)) : Prop where
  h0 : ∀ r l, x0 (ix2 r l) = (DY r l : EReal)
  h5 : ∀ l, x5 (ix1 l) = (P.gt l : EReal)
  h7 : ∀ j l, x7 (ix2 j l) = (P.w2 j l : EReal)

section Forward

variable (f : Fwd P X x1 x2 x3 x4 x6)
include f

theorem v6_apply (r : Fin 8192) (u : Fin 1) : val_main_v6 (F := Ideal) x1 (ix2 r u) = (ms (X r) : EReal) := by
  pointwise [val_main_v6, val_main_v5, val_main_v4, val_main_v3, val_main_v2, val_main_v1, val_main_v0, val_main_cst, val_main_cst_0, val_main_cst_1]
  simp only [f.h1, ofBits_eps, ofBits_width, Ideal.ofBits_zero_f32, zero_add, ← EReal.coe_mul, coe_sum, ← EReal.coe_add,
    div_real (show (1024 : ℝ) ≠ 0 by norm_num)]
  rfl

theorem v7_apply (r : Fin 8192) (u : Fin 1) : val_main_v7 (F := Ideal) x1 (ix2 r u) = (rinv (X r) : EReal) := by
  pointwise [val_main_v7]
  rw [v6_apply P X f]
  exact rsqrt_real (ms_pos (X r))

theorem v10_apply (r : Fin 8192) (u : Fin 1) :
    val_main_v10 (F := Ideal) x1 (ix2 r u) = ((-(1 / 2) * (rinv (X r) / ms (X r)) : ℝ) : EReal) := by
  pointwise [val_main_v10, val_main_v9, val_main_v8, val_main_cst_2]
  simp only [v6_apply P X f, v7_apply P X f, ofBits_neg_half, div_real (ms_pos (X r)).ne', ← EReal.coe_mul]

theorem v12_apply (r : Fin 8192) (l : Fin 1024) : val_main_v12 (F := Ideal) x1 (ix2 r l) = (xh (X r) l : EReal) := by
  pointwise [val_main_v12, val_main_v11]
  simp only [v7_apply P X f, f.h1, ← EReal.coe_mul]
  rfl

theorem v15_apply (r : Fin 8192) (l : Fin 1024) : val_main_v15 (F := Ideal) x1 x2 (ix2 r l) = ((xh (X r) l * P.ng l : ℝ) : EReal) := by
  pointwise [val_main_v15, val_main_v14, val_main_v13]
  simp only [v12_apply P X f, f.h2, ← EReal.coe_mul]

theorem v18_apply (u : Fin 1) (l : Fin 1024) : val_main_v18 (F := Ideal) x3 (ix2 u l) = ((1 + P.sc l : ℝ) : EReal) := by
  pointwise [val_main_v18, val_main_v17, val_main_v16, val_main_cst_3]
  simp only [f.h3, ofBits_one, ← EReal.coe_one, ← EReal.coe_add]

theorem v23_apply (r : Fin 8192) (l : Fin 1024) : val_main_v23 (F := Ideal) x1 x2 x3 x4 (ix2 r l) = (hid P (X r) l : EReal) := by
  pointwise [val_main_v23, val_main_v22, val_main_v21, val_main_v20, val_main_v19]
  simp only [v15_apply P X f, v18_apply P X f, f.h4, ← EReal.coe_mul, ← EReal.coe_add]
  unfold hid gain
  congr 1; ring

theorem v24_apply (r : Fin 8192) (j : Fin 5632) : val_main_v24 (F := Ideal) x1 x2 x3 x4 x6 (ix2 r j) = (pre P (X r) j : EReal) := by
  pointwise [val_main_v24]
  simp only [v23_apply P X f, f.h6, ← EReal.coe_mul, coe_sum]
  rfl

theorem v25_apply (r : Fin 8192) (j : Fin 2816) : val_main_v25 (F := Ideal) x1 x2 x3 x4 x6 (ix2 r j) = (pre P (X r) (lo j) : EReal) := by
  rw [← v24_apply P X f]
  pointwise [val_main_v25]
  rfl

theorem v26_apply (r : Fin 8192) (j : Fin 2816) : val_main_v26 (F := Ideal) x1 x2 x3 x4 x6 (ix2 r j) = (pre P (X r) (hi j) : EReal) := by
  rw [← v24_apply P X f]
  pointwise [val_main_v26]
  rfl

theorem sig_apply (r : Fin 8192) (j : Fin 2816) :
    val_main_v27_2 (F := Ideal) x1 x2 x3 x4 x6 (ix2 r j) = (Half.sig (pre P (X r) (lo j)) : EReal) := by
  pointwise [val_main_v27_2, val_main_call0_v4, val_main_call0_cst_0, val_main_call0_v3, val_main_call0_v2, val_main_call0_cst,
    val_main_call0_v1, val_main_call0_v0]
  rw [v25_apply P X f]
  exact Ideal.logistic_coe _

theorem dsig_apply (r : Fin 8192) (j : Fin 2816) :
    val_main_v27_1 (F := Ideal) x1 x2 x3 x4 x6 (ix2 r j) = ((Half.sig (pre P (X r) (lo j)) * (1 - Half.sig (pre P (X r) (lo j))) : ℝ) : EReal) := by
  pointwise [val_main_v27_1, val_main_call0_v7, val_main_call0_v6, val_main_call0_cst_1]
  simp only [sig_apply P X f, ofBits_one, ← EReal.coe_one, ← EReal.coe_sub, ← EReal.coe_mul]

theorem silu_apply (r : Fin 8192) (j : Fin 2816) :
    val_main_v27_0 (F := Ideal) x1 x2 x3 x4 x6 (ix2 r j) = (silu (pre P (X r) (lo j)) : EReal) := by
  pointwise [val_main_v27_0]
  simp only [sig_apply P X f, v25_apply P X f, ← EReal.coe_mul]
  rfl

theorem v28_apply (r : Fin 8192) (j : Fin 2816) : val_main_v28 (F := Ideal) x1 x2 x3 x4 x6 (ix2 r j) = (act P (X r) j : EReal) := by
  pointwise [val_main_v28]
  simp only [silu_apply P X f, v26_apply P X f, ← EReal.coe_mul]
  rfl

variable (b : Bwd P DY x0 x5 x7)
include b

theorem v29_apply (r : Fin 8192) (l : Fin 1024) : val_main_v29 (F := Ideal) x1 x2 x3 x4 x6 x7 (ix2 r l) = (out P (X r) l : EReal) := by
  pointwise [val_main_v29]
  simp only [v28_apply P X f, b.h7, ← EReal.coe_mul, coe_sum]
  rfl

omit f in
theorem v38_apply (r : Fin 8192) (l : Fin 1024) : val_main_v38 (F := Ideal) x0 x5 (ix2 r l) = (df P (DY r) l : EReal) := by
  pointwise [val_main_v38, val_main_v37, val_main_v36, val_main_v32, val_main_v31, val_main_v30, val_main_cst_4]
  simp only [b.h0, b.h5, ofBits_half, ← EReal.coe_mul]
  rfl

theorem v44_apply (l : Fin 1024) :
    val_main_v44 (F := Ideal) x0 x1 x2 x3 x4 x6 x7 (ix1 l) = ((∑ r, part P (X r) (DY r) 3 l : ℝ) : EReal) := by
  pointwise [val_main_v44, val_main_v43, val_main_cst_7, val_main_v42, val_main_cst_6, val_main_v41, val_main_v40, val_main_cst_5,
    val_main_v39, val_main_v36]
  simp only [v29_apply P X DY f b, b.h0, ofBits_half, Ideal.ofBits_zero_f32, zero_add, ← EReal.coe_mul, coe_sum, part, Finset.mul_sum, Finset.univ_unique, Finset.sum_singleton]

omit f in
theorem v45_apply (r : Fin 8192) (j : Fin 2816) : val_main_v45 (F := Ideal) x0 x5 x7 (ix2 r j) = (dact P (DY r) j : EReal) := by
  pointwise [val_main_v45]
  simp only [v38_apply P DY b, b.h7, ← EReal.coe_mul, coe_sum]
  rfl

theorem v46_apply (r : Fin 8192) (j : Fin 2816) :
    val_main_v46 (F := Ideal) x0 x1 x2 x3 x4 x5 x6 x7 (ix2 r j) = (du P (X r) (DY r) j : EReal) := by
  pointwise [val_main_v46]
  simp only [silu_apply P X f, v45_apply P DY b, ← EReal.coe_mul]
  unfold du; congr 1; ring

theorem v48_apply (r : Fin 8192) (j : Fin 2816) :
    val_main_v48 (F := Ideal) x0 x1 x2 x3 x4 x5 x6 x7 (ix2 r j) = (dg P (X r) (DY r) j : EReal) := by
  pointwise [val_main_v48, val_main_call1_v2, val_main_call1_v1, val_main_call1_v0, val_main_v47]
  simp only [v45_apply P DY b, v26_apply P X f, v25_apply P X f, sig_apply P X f, dsig_apply P X f, ← EReal.coe_mul, ← EReal.coe_add]
  unfold dg dsilu; congr 1; ring

theorem v49_apply (r : Fin 8192) (j : Fin 5632) :
    val_main_v49 (F := Ideal) x0 x1 x2 x3 x4 x5 x6 x7 (ix2 r j) = (da P (X r) (DY r) j : EReal) := by
  pointwise [val_main_v49]
  by_cases h : j.val < 2816
  · refine (dif_pos h).trans ?_
    rw [v48_apply P X DY f b, ← da_lo]
    exact congrArg _ (congrArg _ (Fin.ext rfl))
  · refine (dif_neg h).trans ?_
    refine (v46_apply P X DY f b _ _).trans ?_
    rw [← da_hi]
    exact congrArg _ (congrArg _ (Fin.ext (by simp only [hi]; omega)))

theorem v50_apply (r : Fin 8192) (k : Fin 1024) :
    val_main_v50 (F := Ideal) x0 x1 x2 x3 x4 x5 x6 x7 (ix2 r k) = (dh P (X r) (DY r) k : EReal) := by
  pointwise [val_main_v50]
  simp only [v49_apply P X DY f b, f.h6, ← EReal.coe_mul, coe_sum]
  rfl

theorem v53_apply (l : Fin 1024) :
    val_main_v53 (F := Ideal) x0 x1 x2 x3 x4 x5 x6 x7 (ix1 l) = ((∑ r, part P (X r) (DY r) 0 l : ℝ) : EReal) := by
  pointwise [val_main_v53, val_main_cst_9, val_main_v52, val_main_v51, val_main_cst_8]
  simp only [v50_apply P X DY f b, Ideal.ofBits_zero_f32, zero_add, coe_sum, part, Finset.univ_unique, Finset.sum_singleton]

theorem v59_apply (l : Fin 1024) :
    val_main_v59 (F := Ideal) x0 x1 x2 x3 x4 x5 x6 x7 (ix1 l) = ((∑ r, part P (X r) (DY r) 1 l : ℝ) : EReal) := by
  pointwise [val_main_v59, val_main_cst_11, val_main_v56, val_main_v55, val_main_cst_10, val_main_v54]
  simp only [v50_apply P X DY f b, v15_apply P X f, Ideal.ofBits_zero_f32, zero_add, ← EReal.coe_mul, coe_sum, part, Finset.univ_unique, Finset.sum_singleton]
  exact congrArg _ (Finset.sum_congr rfl fun r _ => by ring)

theorem v58_apply (r : Fin 8192) (l : Fin 1024) :
    val_main_v58 (F := Ideal) x0 x1 x2 x3 x4 x5 x6 x7 (ix2 r l) = ((dh P (X r) (DY r) l * (1 + P.sc l) : ℝ) : EReal) := by
  pointwise [val_main_v58, val_main_v57]
  simp only [v50_apply P X DY f b, v18_apply P X f, ← EReal.coe_mul]

theorem v65_apply (l : Fin 1024) :
    val_main_v65 (F := Ideal) x0 x1 x2 x3 x4 x5 x6 x7 (ix1 l) = ((∑ r, part P (X r) (DY r) 2 l : ℝ) : EReal) := by
  pointwise [val_main_v65, val_main_cst_13, val_main_v62, val_main_v61, val_main_cst_12, val_main_v60]
  simp only [v58_apply P X DY f b, v12_apply P X f, Ideal.ofBits_zero_f32, zero_add, ← EReal.coe_mul, coe_sum, part, Finset.univ_unique, Finset.sum_singleton]
  exact congrArg _ (Finset.sum_congr rfl fun r _ => by ring)

theorem v64_apply (r : Fin 8192) (l : Fin 1024) :
    val_main_v64 (F := Ideal) x0 x1 x2 x3 x4 x5 x6 x7 (ix2 r l) = (dxh P (X r) (DY r) l : EReal) := by
  pointwise [val_main_v64, val_main_v63, val_main_v13]
  simp only [v58_apply P X DY f b, f.h2, ← EReal.coe_mul]
  unfold dxh gain; congr 1; ring

theorem v74_apply (r : Fin 8192) : val_main_v74 (F := Ideal) x0 x1 x2 x3 x4 x5 x6 x7 (ix1 r)
    = ((((∑ k, X r k * dxh P (X r) (DY r) k) * (-(1 / 2) * (rinv (X r) / ms (X r)))) / 1024 : ℝ) : EReal) := by
  pointwise [val_main_v74, val_main_cst_16, val_main_v73, val_main_v72, val_main_cst_15, val_main_v71, val_main_v68, val_main_v67,
    val_main_cst_14, val_main_v66]
  simp only [v64_apply P X DY f b, v10_apply P X f, f.h1, ofBits_width, Ideal.ofBits_zero_f32, zero_add, ← EReal.coe_mul, coe_sum,
    div_real (show (1024 : ℝ) ≠ 0 by norm_num), Finset.univ_unique, Finset.sum_singleton]

theorem v80_apply (r : Fin 8192) (l : Fin 1024) :
    val_main_v80 (F := Ideal) x0 x1 x2 x3 x4 x5 x6 x7 (ix2 r l) = (dxi P (X r) (DY r) l : EReal) := by
  pointwise [val_main_v80, val_main_v79, val_main_v78, val_main_v77, val_main_v76, val_main_v75, val_main_v70, val_main_v69]
  simp only [v64_apply P X DY f b, v74_apply P X DY f b, v7_apply P X f, f.h1, b.h0, ← EReal.coe_mul, ← EReal.coe_add]
  exact congrArg _ (dxi_eq P (X r) (DY r) l)

theorem v81_apply (r : Fin 8192) (l : Fin 1024) : val_main_v81 (F := Ideal) x1 x2 x3 x4 (ix2 r l) = (hid P (X r) l : EReal) := by
  pointwise [val_main_v81]
  exact v23_apply P X f r l

omit f in
theorem v82_apply (r : Fin 8192) (l : Fin 1024) : val_main_v82 (F := Ideal) x0 x5 (ix2 r l) = (df P (DY r) l : EReal) := by
  pointwise [val_main_v82]
  exact v38_apply P DY b r l

omit b in
theorem v83_apply (r : Fin 8192) (j : Fin 2816) : val_main_v83 (F := Ideal) x1 x2 x3 x4 x6 (ix2 r j) = (act P (X r) j : EReal) := by
  pointwise [val_main_v83]
  exact v28_apply P X f r j

theorem v84_apply (r : Fin 8192) (j : Fin 5632) :
    val_main_v84 (F := Ideal) x0 x1 x2 x3 x4 x5 x6 x7 (ix2 r j) = (da P (X r) (DY r) j : EReal) := by
  pointwise [val_main_v84]
  exact v49_apply P X DY f b r j

/-- Row `s` of the stacked sums. -/
theorem v91_apply (s : Fin 8) (l : Fin 1024) : val_main_v91 (F := Ideal) x0 x1 x2 x3 x4 x5 x6 x7 (ix2 s l)
    = ((if h : s.val < 4 then ∑ r, part P (X r) (DY r) ⟨s.val, h⟩ l else 0 : ℝ) : EReal) := by
  pointwise [val_main_v91, val_main_v90, val_main_cst_17, val_main_v89, val_main_v88, val_main_v87, val_main_v86, val_main_v85]
  fin_cases s
  · exact v53_apply P X DY f b l
  · exact v59_apply P X DY f b l
  · exact v65_apply P X DY f b l
  · exact v44_apply P X DY f b l
  all_goals exact EReal.coe_zero.symm

end Forward

end Cert.ReferenceIdeal.Stage

end

end
-- ==== Proof.Prefix.lean ====
/- What the region's inputs hold when it is entered: the host operations before it, read at an index. -/
module

public import proofs.«01_k».proof.Proof.RefValue
public import proofs.«01_k».proof.Proof.Gen.KernelIdeal.Value

@[expose] public section

set_option maxRecDepth 16384

noncomputable section

namespace Cert.KernelIdeal.Entry

open Idealize.ShloMosaic Idealize.ShloMosaic.TcCoe Idealize.ShloMosaic.Tactic Cert.KernelIdeal Cert.KernelIdeal.Gen Cert.Half
open Cert.ReferenceIdeal.Stage (Fwd Bwd)
open scoped BigOperators

variable (m : (ℓ : Loc nD τ sig) → Buf (Elt Ideal) ℓ) (c : Dev nD)

/-- An argument's contents. -/
abbrev A (b : Ref sig .tc) : Buf (Elt Ideal) ((c : Thread nD τ).loc b) := m ((c : Thread nD τ).loc b)

theorem V_pre : V m c main_v30 = (Cert.ReferenceIdeal.Read.val_main_v24 (F := Ideal) (A m c main_arg1) (A m c main_arg2) (A m c main_arg3)
    (A m c main_arg4) (A m c main_arg6) : S8192x5632.Idx → EReal) := by
  unfold V
  simp only [hostOps0, hostOps0_1, hostOps0_2, List.flatten_cons, List.flatten_nil, List.append_nil, List.cons_append, List.nil_append]
  after_results
  rfl

theorem V_out : V m c main_v31 = (Cert.ReferenceIdeal.Read.val_main_v29 (F := Ideal) (A m c main_arg1) (A m c main_arg2) (A m c main_arg3)
    (A m c main_arg4) (A m c main_arg6) (A m c main_arg7) : S8192x1024.Idx → EReal) := by
  unfold V
  simp only [hostOps0, hostOps0_1, hostOps0_2, List.flatten_cons, List.flatten_nil, List.append_nil, List.cons_append, List.nil_append]
  after_results
  rfl

theorem V_w2 : V m c main_v39 = (A m c main_arg7 : S2816x1024.Idx → EReal) := by
  unfold V
  simp only [hostOps0, hostOps0_1, hostOps0_2, List.flatten_cons, List.flatten_nil, List.append_nil, List.cons_append, List.nil_append]
  after_results
  rfl

/-- The first weight in four blocks of columns. -/
def blocks (w : Vec Ideal S1024x5632 .f32) : Vec Ideal S4x1024x1408 .bf16 :=
  transpose S4x1024x1408 [1, 0, 2] (shapeCast (s := S1024x5632) S1024x4x1408 (truncf (F := Ideal) (φ := .f32) .bf16 w bitsLt_bf16_f32 : Vec Ideal S1024x5632 .bf16) shapeCasts_S1024x5632_S1024x4x1408)
    transposes_S1024x4x1408_S4x1024x1408_1_0_2

/-- The four vectors as the first rows of eight. -/
def rows (g s h t : Vec Ideal S1024 .f32) : Vec Ideal S8x1024 .f32 :=
  concatenate S8x1024 0 [⟨S4x1024, concatenate S4x1024 0 [⟨S1x1024, broadcastInDim S1x1024 ![1] bcast_S1024_S1x1024_1 g⟩,
    ⟨S1x1024, broadcastInDim S1x1024 ![1] bcast_S1024_S1x1024_1 s⟩, ⟨S1x1024, broadcastInDim S1x1024 ![1] bcast_S1024_S1x1024_1 h⟩,
    ⟨S1x1024, broadcastInDim S1x1024 ![1] bcast_S1024_S1x1024_1 t⟩] concatenates_S1x1024_S1x1024_S1x1024_S1x1024_S4x1024_d0⟩,
    ⟨S4x1024, broadcastInDim S4x1024 ![] bcast_S_S4x1024 (constant (F := Ideal) S_ .f32 0x00000000#32)⟩] concatenates_S4x1024_S4x1024_S8x1024_d0

theorem V_w1 : V m c main_v29 = (blocks (A m c main_arg6) : S4x1024x1408.Idx → EReal) := by
  unfold V
  simp only [hostOps0, hostOps0_1, hostOps0_2, List.flatten_cons, List.flatten_nil, List.append_nil, List.cons_append, List.nil_append]
  after_results
  rfl

theorem V_vec : V m c main_v38 = (rows (A m c main_arg2) (A m c main_arg3) (A m c main_arg4) (A m c main_arg5) : S8x1024.Idx → EReal) := by
  unfold V
  simp only [hostOps0, hostOps0_1, hostOps0_2, List.flatten_cons, List.flatten_nil, List.append_nil, List.cons_append, List.nil_append]
  after_results
  rfl

theorem blocks_apply (w : Vec Ideal S1024x5632 .f32) (q : Fin 4) (k : Fin 1024) (j : Fin 1408) :
    blocks w (ix3 q k j) = w (ix2 k (⟨1408 * q.val + j.val, by omega⟩ : Fin 5632)) := by
  pointwise [blocks]
  show w _ = w _
  exact congrArg w (congrArg (ix2 k) (Fin.ext (by show q.val * 1408 + j.val = 1408 * q.val + j.val; omega)))

theorem rows_apply (g s h t : Vec Ideal S1024 .f32) (l : Fin 1024) : rows g s h t (ix2 0 l) = g (ix1 l) ∧ rows g s h t (ix2 1 l) = s (ix1 l)
    ∧ rows g s h t (ix2 2 l) = h (ix1 l) ∧ rows g s h t (ix2 3 l) = t (ix1 l) := by
  refine ⟨?_, ?_, ?_, ?_⟩
  all_goals
    pointwise [rows]

end Cert.KernelIdeal.Entry
-- ==== Proof.Tile.lean ====
/- The vectors the kernel's body computes for one tile of 256 rows, read at an index: each is the row's real number of
   `Cert.Half`, given that the blocks it loads hold real numbers. -/
module

public import proofs.«01_k».proof.Proof.Spec
public import proofs.«01_k».proof.Proof.Gen.KernelIdeal.Skeleton

@[expose] public section

set_option maxRecDepth 16384

noncomputable section

namespace Cert.KernelIdeal.Tile

open Idealize.ShloMosaic Cert.KernelIdeal Cert.KernelIdeal.Gen Cert.Half
open scoped BigOperators

variable (P : Par) (X DY : Fin 256 → Fin 1024 → ℝ)

theorem pay7_apply {v0 : Vec Ideal S256x1024 .f32} (h0 : ∀ r l, v0 (ix2 r l) = (X r l : EReal)) (r : Fin 256) (u : Fin 1) :
    k0_pay7 (F := Ideal) v0 (ix2 r u) = (rinv (X r) : EReal) := by
  pointwise [k0_pay7]
  simp only [h0, ofBits_eps, ofBits_width, ← EReal.coe_mul, coe_sum, ← EReal.coe_add, div_real (show (1024 : ℝ) ≠ 0 by norm_num)]
  exact rsqrt_real (ms_pos (X r))

theorem pay8_apply {v0 : Vec Ideal S256x1024 .f32} (h0 : ∀ r l, v0 (ix2 r l) = (X r l : EReal)) (r : Fin 256) (l : Fin 1024) :
    k0_pay8 (F := Ideal) v0 (ix2 r l) = (xh (X r) l : EReal) := by
  have h7 := fun r => pay7_apply X h0 r 0
  unfold xh
  generalize hv : k0_pay7 (F := Ideal) v0 = v at *
  unfold k0_pay8
  rw [hv]
  pointwise
  rw [h0, EReal.coe_mul, ← h7 r]

theorem pay9_apply {v2 v4 : Vec Ideal S1x1024 .f32} (h2 : ∀ u l, v2 (ix2 u l) = (P.ng l : EReal))
    (h4 : ∀ u l, v4 (ix2 u l) = (P.sc l : EReal)) (u : Fin 1) (l : Fin 1024) :
    k0_pay9 (F := Ideal) v2 v4 (ix2 u l) = (gain P l : EReal) := by
  pointwise [k0_pay9, k0_pay5, k0_pay4]
  simp only [h2, h4, ofBits_one, ← EReal.coe_mul, ← EReal.coe_add]
  rfl

theorem pay10_apply {v0 : Vec Ideal S256x1024 .f32} {v2 v4 v6 : Vec Ideal S1x1024 .f32} (h0 : ∀ r l, v0 (ix2 r l) = (X r l : EReal))
    (h2 : ∀ u l, v2 (ix2 u l) = (P.ng l : EReal)) (h4 : ∀ u l, v4 (ix2 u l) = (P.sc l : EReal))
    (h6 : ∀ u l, v6 (ix2 u l) = (P.sh l : EReal)) (r : Fin 256) (l : Fin 1024) :
    k0_pay10 (F := Ideal) v0 v2 v4 v6 (ix2 r l) = (hid P (X r) l : EReal) := by
  have h8 := pay8_apply X h0
  have h9 := pay9_apply P h2 h4
  unfold k0_pay10
  generalize k0_pay8 (F := Ideal) v0 = a at *
  generalize k0_pay9 (F := Ideal) v2 v4 = b at *
  pointwise
  simp only [h8, h9, h6, ← EReal.coe_mul, ← EReal.coe_add]
  rfl

/-- The tile's gradient of the gate: half the sum over its rows of `dy` times the half step's product. -/
theorem pay13_apply {v1 : Vec Ideal S256x1024 .f32} {v29 : Vec Ideal S256x1024 .bf16} (h1 : ∀ r l, v1 (ix2 r l) = (DY r l : EReal))
    (h29 : ∀ r l, v29 (ix2 r l) = (out P (X r) l : EReal)) (u : Fin 1) (l : Fin 1024) :
    k0_pay13 (F := Ideal) (k0_pay11 v1 v29) k0_pay12 (ix2 u l) = ((∑ r, part P (X r) (DY r) 3 l : ℝ) : EReal) := by
  pointwise [k0_pay13, k0_pay11, k0_pay12]
  simp only [h1, h29, ofBits_half, ← EReal.coe_mul, coe_sum, part, Finset.mul_sum]

theorem pay14_apply {v1 : Vec Ideal S256x1024 .f32} {v8 : Vec Ideal S1x1024 .f32} (h1 : ∀ r l, v1 (ix2 r l) = (DY r l : EReal))
    (h8 : ∀ u l, v8 (ix2 u l) = (P.gt l : EReal)) (r : Fin 256) (l : Fin 1024) :
    k0_pay14 (F := Ideal) v1 (k0_pay6 v8) (ix2 r l) = (df P (DY r) l : EReal) := by
  pointwise [k0_pay14, k0_pay6]
  simp only [h1, h8, ofBits_half, ← EReal.coe_mul]
  rfl

section Half

variable (h : Fin 2) {v41 : FVec Ideal S256x1024 .bf16} {v79 : Vec Ideal S1408x1024 .bf16} {v82 v85 : Vec Ideal S256x1408 .bf16}

theorem pay25_apply (h41 : ∀ r l, v41 (ix2 r l) = (df P (DY r) l : EReal)) (h79 : ∀ j l, v79 (ix2 j l) = (P.w2 (ch h j) l : EReal))
    (r : Fin 256) (j : Fin 1408) : k0_pay25 (F := Ideal) v41 v79 (ix2 r j) = (dact P (DY r) (ch h j) : EReal) := by
  pointwise [k0_pay25]
  simp only [h41, h79, ← EReal.coe_mul, coe_sum, Ideal.ofBits_zero_f32, zero_add]
  rfl

theorem pay29_apply (h82 : ∀ r j, v82 (ix2 r j) = (pre P (X r) (lo (ch h j)) : EReal)) (r : Fin 256) (j : Fin 1408) :
    k0_pay29 (F := Ideal) v82 (ix2 r j) = (silu (pre P (X r) (lo (ch h j))) : EReal) := by
  pointwise [k0_pay29, k0_pay28, k0_pay26]
  simp only [h82, Ideal.logistic_coe, ← EReal.coe_mul]
  rfl

theorem pay30_apply (h82 : ∀ r j, v82 (ix2 r j) = (pre P (X r) (lo (ch h j)) : EReal))
    (h85 : ∀ r j, v85 (ix2 r j) = (pre P (X r) (hi (ch h j)) : EReal)) (r : Fin 256) (j : Fin 1408) :
    k0_pay30 (F := Ideal) v82 v85 (ix2 r j) = (act P (X r) (ch h j) : EReal) := by
  pointwise [k0_pay30, k0_pay29, k0_pay28, k0_pay27, k0_pay26]
  simp only [h82, h85, Ideal.logistic_coe, ← EReal.coe_mul]
  rfl

theorem pay31_apply (h41 : ∀ r l, v41 (ix2 r l) = (df P (DY r) l : EReal)) (h79 : ∀ j l, v79 (ix2 j l) = (P.w2 (ch h j) l : EReal))
    (h82 : ∀ r j, v82 (ix2 r j) = (pre P (X r) (lo (ch h j)) : EReal))
    (h85 : ∀ r j, v85 (ix2 r j) = (pre P (X r) (hi (ch h j)) : EReal)) (r : Fin 256) (j : Fin 1408) :
    k0_pay31 (F := Ideal) v41 v79 v82 v85 (ix2 r j) = (dg P (X r) (DY r) (ch h j) : EReal) := by
  have h25 := pay25_apply P DY h h41 h79
  unfold k0_pay31
  generalize k0_pay25 (F := Ideal) v41 v79 = a at *
  pointwise [k0_pay28, k0_pay27, k0_pay26]
  simp only [h25, h82, h85, Ideal.logistic_coe, ofBits_one, ← EReal.coe_mul, ← EReal.coe_sub, ← EReal.coe_add]
  rfl

theorem pay32_apply (h41 : ∀ r l, v41 (ix2 r l) = (df P (DY r) l : EReal)) (h79 : ∀ j l, v79 (ix2 j l) = (P.w2 (ch h j) l : EReal))
    (h82 : ∀ r j, v82 (ix2 r j) = (pre P (X r) (lo (ch h j)) : EReal)) (r : Fin 256) (j : Fin 1408) :
    k0_pay32 (F := Ideal) v41 v79 v82 (ix2 r j) = (du P (X r) (DY r) (ch h j) : EReal) := by
  have h25 := pay25_apply P DY h h41 h79
  have h29 := pay29_apply P X h h82
  unfold k0_pay32
  generalize k0_pay25 (F := Ideal) v41 v79 = a at *
  generalize k0_pay29 (F := Ideal) v82 = b at *
  pointwise
  simp only [h25, h29, ← EReal.coe_mul]
  rfl

/-- One half's two products into the gradient of the first product's input, onto what is there. -/
theorem pay33_apply (D : Fin 256 → Fin 1024 → ℝ) {v78 : FVec Ideal S256x1024 .f32} {v101 v103 : FVec Ideal S256x1408 .bf16}
    {v106 v110 : Vec Ideal S1x1024x1408 .bf16} (h78 : ∀ r k, v78 (ix2 r k) = (D r k : EReal))
    (h101 : ∀ r j, v101 (ix2 r j) = (dg P (X r) (DY r) (ch h j) : EReal))
    (h103 : ∀ r j, v103 (ix2 r j) = (du P (X r) (DY r) (ch h j) : EReal))
    (h106 : ∀ u k j, v106 (ix3 u k j) = (P.w1 k (lo (ch h j)) : EReal))
    (h110 : ∀ u k j, v110 (ix3 u k j) = (P.w1 k (hi (ch h j)) : EReal)) (r : Fin 256) (k : Fin 1024) :
    k0_pay33 (F := Ideal) v78 v101 v103 v106 v110 (ix2 r k)
      = ((D r k + (∑ j, dg P (X r) (DY r) (ch h j) * P.w1 k (lo (ch h j))) + ∑ j, du P (X r) (DY r) (ch h j) * P.w1 k (hi (ch h j)) : ℝ) : EReal) := by
  pointwise [k0_pay33]
  simp only [h78, h101, h103, h106, h110, ← EReal.coe_mul, coe_sum, Ideal.ofBits_zero_f32, zero_add, ← EReal.coe_add]

end Half

section Last

variable {v1 v19 : FVec Ideal S256x1024 .f32} {v17 : FVec Ideal S256x1 .f32} {v3 v5 v22 v142 : FVec Ideal S1x1024 .f32}
  {v78 : FVec Ideal S256x1024 .f32} {v101 v103 : FVec Ideal S256x1408 .bf16} {v106 v110 : Vec Ideal S1x1024x1408 .bf16}
  (h33 : ∀ r k, k0_pay33 (F := Ideal) v78 v101 v103 v106 v110 (ix2 r k) = (dh P (X r) (DY r) k : EReal))
  (h19 : ∀ r l, v19 (ix2 r l) = (xh (X r) l : EReal))

include h33 in
theorem pay39_apply (u : Fin 1) (l : Fin 1024) :
    k0_pay39 (F := Ideal) v78 v101 v103 v106 v110 v142 (ix2 u l) = v142 (ix2 u l) + ((∑ r, part P (X r) (DY r) 0 l : ℝ) : EReal) := by
  unfold k0_pay39
  generalize k0_pay33 (F := Ideal) v78 v101 v103 v106 v110 = a at *
  pointwise
  simp only [h33, coe_sum]
  rfl

include h33 h19 in
theorem pay35_apply (h3 : ∀ u l, v3 (ix2 u l) = (P.ng l : EReal)) (u : Fin 1) (l : Fin 1024) :
    k0_pay35 (F := Ideal) v3 v19 v78 v101 v103 v106 v110 (ix2 u l) = ((∑ r, part P (X r) (DY r) 1 l : ℝ) : EReal) := by
  unfold k0_pay35 k0_pay34
  generalize k0_pay33 (F := Ideal) v78 v101 v103 v106 v110 = a at *
  pointwise
  simp only [h33, h19, h3, ← EReal.coe_mul, coe_sum, Finset.sum_mul]
  rfl

include h33 h19 in
theorem pay36_apply (h5 : ∀ u l, v5 (ix2 u l) = (P.sc l : EReal)) (u : Fin 1) (l : Fin 1024) :
    k0_pay36 (F := Ideal) v5 v19 v78 v101 v103 v106 v110 (ix2 u l) = ((∑ r, part P (X r) (DY r) 2 l : ℝ) : EReal) := by
  unfold k0_pay36 k0_pay34
  generalize k0_pay33 (F := Ideal) v78 v101 v103 v106 v110 = a at *
  pointwise
  simp only [h33, h19, h5, ← EReal.coe_one, ← EReal.coe_mul, ← EReal.coe_add, coe_sum, Finset.sum_mul]
  rfl

include h33 h19 in
theorem pay37_apply (h1 : ∀ r l, v1 (ix2 r l) = (DY r l : EReal)) (h17 : ∀ r u, v17 (ix2 r u) = (rinv (X r) : EReal))
    (h22 : ∀ u l, v22 (ix2 u l) = (gain P l : EReal)) (r : Fin 256) (l : Fin 1024) :
    k0_pay37 (F := Ideal) v1 v17 v19 v22 v78 v101 v103 v106 v110 (ix2 r l) = (dxi P (X r) (DY r) l : EReal) := by
  unfold k0_pay37
  generalize k0_pay33 (F := Ideal) v78 v101 v103 v106 v110 = a at *
  pointwise
  simp only [h33, h19, h1, h17, h22, ofBits_width, ← EReal.coe_mul, ← EReal.coe_add, ← EReal.coe_sub, coe_sum,
    div_real (show (1024 : ℝ) ≠ 0 by norm_num)]
  rfl

end Last

end Cert.KernelIdeal.Tile

end

end
-- ==== Proof.Loads.lean ====
/- What one grid point of the kernel leaves in each output's block, on blocks that hold the real numbers of `Cert.Half`: the rows'
   values, and for the sums the tile's sums (added to what was there, from the second point on). -/
module

public import proofs.«01_k».proof.Proof.Tile
public import proofs.«01_k».proof.Proof.Gen.KernelIdeal.Value

@[expose] public section

set_option maxRecDepth 16384

noncomputable section

namespace Cert.KernelIdeal.Block

open Idealize.ShloMosaic Idealize.ShloMosaic.TcCoe Idealize.ShloMosaic.Tactic Idealize.SL.Sem Cert.KernelIdeal Cert.KernelIdeal.Gen Cert.KernelIdeal.Tile Cert.Half
open scoped BigOperators

theorem hz : (![0, 0] : Fin 2 → Nat) = fun _ => 0 := funext fun a => by fin_cases a <;> rfl

variable (P : Par) (X DY : Fin 256 → Fin 1024 → ℝ)

/-- The point's input blocks hold the numbers of the tile's rows `X`, `DY` and of the parameters. -/
structure Blk (x0 x1 : Vec Ideal S256x1024 .f32) (x2 : Vec Ideal S256x5632 .bf16) (x3 : Vec Ideal S256x1024 .bf16)
    (x4 : Vec Ideal S8x1024 .f32) (x5 : Vec Ideal S4x1024x1408 .bf16) (x6 : Vec Ideal S2816x1024 .bf16) : Prop where
  dy : ∀ r l, x0 (ix2 r l) = (DY r l : EReal)
  x : ∀ r l, x1 (ix2 r l) = (X r l : EReal)
  a : ∀ r j, x2 (ix2 r j) = (pre P (X r) j : EReal)
  f : ∀ r l, x3 (ix2 r l) = (out P (X r) l : EReal)
  ng : ∀ l, x4 (ix2 0 l) = (P.ng l : EReal)
  sc : ∀ l, x4 (ix2 1 l) = (P.sc l : EReal)
  sh : ∀ l, x4 (ix2 2 l) = (P.sh l : EReal)
  gt : ∀ l, x4 (ix2 3 l) = (P.gt l : EReal)
  w1lo : ∀ (h : Fin 2) k j, x5 (ix3 (⟨h.val, by omega⟩ : Fin 4) k j) = (P.w1 k (lo (ch h j)) : EReal)
  w1hi : ∀ (h : Fin 2) k j, x5 (ix3 (⟨2 + h.val, by omega⟩ : Fin 4) k j) = (P.w1 k (hi (ch h j)) : EReal)
  w2 : ∀ j l, x6 (ix2 j l) = (P.w2 j l : EReal)

/-- What the body loads. -/
structure Loads (v0 v1 : Vec Ideal S256x1024 .f32) (v2 v4 v6 v8 : Vec Ideal S1x1024 .f32) (v29 : Vec Ideal S256x1024 .bf16)
    (v44 v79 : Vec Ideal S1408x1024 .bf16) (v47 v50 v82 v85 : Vec Ideal S256x1408 .bf16)
    (v71 v75 v106 v110 : Vec Ideal S1x1024x1408 .bf16) : Prop where
  h0 : ∀ r l, v0 (ix2 r l) = (X r l : EReal)
  h1 : ∀ r l, v1 (ix2 r l) = (DY r l : EReal)
  h2 : ∀ u l, v2 (ix2 u l) = (P.ng l : EReal)
  h4 : ∀ u l, v4 (ix2 u l) = (P.sc l : EReal)
  h6 : ∀ u l, v6 (ix2 u l) = (P.sh l : EReal)
  h8 : ∀ u l, v8 (ix2 u l) = (P.gt l : EReal)
  h29 : ∀ r l, v29 (ix2 r l) = (out P (X r) l : EReal)
  h44 : ∀ j l, v44 (ix2 j l) = (P.w2 (ch 0 j) l : EReal)
  h79 : ∀ j l, v79 (ix2 j l) = (P.w2 (ch 1 j) l : EReal)
  h47 : ∀ r j, v47 (ix2 r j) = (pre P (X r) (lo (ch 0 j)) : EReal)
  h50 : ∀ r j, v50 (ix2 r j) = (pre P (X r) (hi (ch 0 j)) : EReal)
  h82 : ∀ r j, v82 (ix2 r j) = (pre P (X r) (lo (ch 1 j)) : EReal)
  h85 : ∀ r j, v85 (ix2 r j) = (pre P (X r) (hi (ch 1 j)) : EReal)
  h71 : ∀ u k j, v71 (ix3 u k j) = (P.w1 k (lo (ch 0 j)) : EReal)
  h75 : ∀ u k j, v75 (ix3 u k j) = (P.w1 k (hi (ch 0 j)) : EReal)
  h106 : ∀ u k j, v106 (ix3 u k j) = (P.w1 k (lo (ch 1 j)) : EReal)
  h110 : ∀ u k j, v110 (ix3 u k j) = (P.w1 k (hi (ch 1 j)) : EReal)

section Values

variable {P X DY}
variable {v0 v1 : Vec Ideal S256x1024 .f32} {v2 v4 v6 v8 : Vec Ideal S1x1024 .f32} {v29 : Vec Ideal S256x1024 .bf16}
  {v44 v79 : Vec Ideal S1408x1024 .bf16} {v47 v50 v82 v85 : Vec Ideal S256x1408 .bf16} {v71 v75 v106 v110 : Vec Ideal S1x1024x1408 .bf16}
  (L : Loads P X DY v0 v1 v2 v4 v6 v8 v29 v44 v79 v47 v50 v82 v85 v71 v75 v106 v110)
include L

theorem Loads.df (r : Fin 256) (l : Fin 1024) : k0_pay14 (F := Ideal) v1 (k0_pay6 v8) (ix2 r l) = (df P (DY r) l : EReal) :=
  pay14_apply P DY L.h1 L.h8 r l

theorem Loads.dg0 (r : Fin 256) (j : Fin 1408) :
    k0_pay22 (F := Ideal) v1 (k0_pay6 v8) v44 v47 v50 (ix2 r j) = (dg P (X r) (DY r) (ch 0 j) : EReal) :=
  pay31_apply P X DY 0 L.df L.h44 L.h47 L.h50 r j

theorem Loads.du0 (r : Fin 256) (j : Fin 1408) :
    k0_pay23 (F := Ideal) v1 (k0_pay6 v8) v44 v47 (ix2 r j) = (du P (X r) (DY r) (ch 0 j) : EReal) :=
  pay32_apply P X DY 0 L.df L.h44 L.h47 r j

theorem Loads.dg1 (r : Fin 256) (j : Fin 1408) :
    k0_pay31 (F := Ideal) (k0_pay14 v1 (k0_pay6 v8)) v79 v82 v85 (ix2 r j) = (dg P (X r) (DY r) (ch 1 j) : EReal) :=
  pay31_apply P X DY 1 L.df L.h79 L.h82 L.h85 r j

theorem Loads.du1 (r : Fin 256) (j : Fin 1408) :
    k0_pay32 (F := Ideal) (k0_pay14 v1 (k0_pay6 v8)) v79 v82 (ix2 r j) = (du P (X r) (DY r) (ch 1 j) : EReal) :=
  pay32_apply P X DY 1 L.df L.h79 L.h82 r j

omit L in
theorem pay15_apply (r : Fin 256) (k : Fin 1024) : k0_pay15 (F := Ideal) (ix2 r k) = ((0 : ℝ) : EReal) := by
  pointwise [k0_pay15]
  rfl

theorem Loads.first (r : Fin 256) (k : Fin 1024) :
    k0_pay24 (F := Ideal) k0_pay15 (k0_pay22 v1 (k0_pay6 v8) v44 v47 v50) (k0_pay23 v1 (k0_pay6 v8) v44 v47) v71 v75 (ix2 r k)
      = ((0 + (∑ j, dg P (X r) (DY r) (ch 0 j) * P.w1 k (lo (ch 0 j))) + ∑ j, du P (X r) (DY r) (ch 0 j) * P.w1 k (hi (ch 0 j)) : ℝ) : EReal) :=
  pay33_apply P X DY 0 (fun _ _ => 0) pay15_apply L.dg0 L.du0 L.h71 L.h75 r k

theorem Loads.dh (r : Fin 256) (k : Fin 1024) :
    k0_pay33 (F := Ideal) (k0_pay24 k0_pay15 (k0_pay22 v1 (k0_pay6 v8) v44 v47 v50) (k0_pay23 v1 (k0_pay6 v8) v44 v47) v71 v75)
      (k0_pay31 (k0_pay14 v1 (k0_pay6 v8)) v79 v82 v85) (k0_pay32 (k0_pay14 v1 (k0_pay6 v8)) v79 v82) v106 v110 (ix2 r k)
      = (dh P (X r) (DY r) k : EReal) := by
  rw [dh_eq]
  exact pay33_apply P X DY 1 (fun r k => 0 + (∑ j, dg P (X r) (DY r) (ch 0 j) * P.w1 k (lo (ch 0 j)))
    + ∑ j, du P (X r) (DY r) (ch 0 j) * P.w1 k (hi (ch 0 j))) L.first L.dg1 L.du1 L.h106 L.h110 r k

theorem Loads.dxi (r : Fin 256) (l : Fin 1024) :
    k0_pay37 (F := Ideal) v1 (k0_pay7 v0) (k0_pay8 v0) (k0_pay9 v2 v4)
      (k0_pay24 k0_pay15 (k0_pay22 v1 (k0_pay6 v8) v44 v47 v50) (k0_pay23 v1 (k0_pay6 v8) v44 v47) v71 v75)
      (k0_pay31 (k0_pay14 v1 (k0_pay6 v8)) v79 v82 v85) (k0_pay32 (k0_pay14 v1 (k0_pay6 v8)) v79 v82) v106 v110 (ix2 r l)
      = (dxi P (X r) (DY r) l : EReal) :=
  pay37_apply P X DY L.dh (pay8_apply X L.h0) L.h1 (pay7_apply X L.h0) (pay9_apply P L.h2 L.h4) r l

theorem Loads.sum0 {v142 : Vec Ideal S1x1024 .f32} (u : Fin 1) (l : Fin 1024) :
    k0_pay39 (F := Ideal) (k0_pay24 k0_pay15 (k0_pay22 v1 (k0_pay6 v8) v44 v47 v50) (k0_pay23 v1 (k0_pay6 v8) v44 v47) v71 v75)
      (k0_pay31 (k0_pay14 v1 (k0_pay6 v8)) v79 v82 v85) (k0_pay32 (k0_pay14 v1 (k0_pay6 v8)) v79 v82) v106 v110 v142 (ix2 u l)
      = v142 (ix2 u l) + ((∑ r, part P (X r) (DY r) 0 l : ℝ) : EReal) :=
  pay39_apply P X DY L.dh u l

theorem Loads.sum1 {v146 : Vec Ideal S1x1024 .f32} (u : Fin 1) (l : Fin 1024) :
    k0_pay1 (F := Ideal) (k0_pay35 (k0_pay4 v2) (k0_pay8 v0)
      (k0_pay24 k0_pay15 (k0_pay22 v1 (k0_pay6 v8) v44 v47 v50) (k0_pay23 v1 (k0_pay6 v8) v44 v47) v71 v75)
      (k0_pay31 (k0_pay14 v1 (k0_pay6 v8)) v79 v82 v85) (k0_pay32 (k0_pay14 v1 (k0_pay6 v8)) v79 v82) v106 v110) v146 (ix2 u l)
      = v146 (ix2 u l) + ((∑ r, part P (X r) (DY r) 1 l : ℝ) : EReal) := by
  have h3 : ∀ u l, k0_pay4 (F := Ideal) v2 (ix2 u l) = (P.ng l : EReal) := fun u l => by
    pointwise [k0_pay4]; exact L.h2 _ l
  rw [← pay35_apply P X DY L.dh (pay8_apply X L.h0) h3 u l]
  generalize k0_pay35 (F := Ideal) _ _ _ _ _ _ _ = a
  pointwise [k0_pay1]

theorem Loads.sum2 {v150 : Vec Ideal S1x1024 .f32} (u : Fin 1) (l : Fin 1024) :
    k0_pay2 (F := Ideal) (k0_pay36 (k0_pay5 v4) (k0_pay8 v0)
      (k0_pay24 k0_pay15 (k0_pay22 v1 (k0_pay6 v8) v44 v47 v50) (k0_pay23 v1 (k0_pay6 v8) v44 v47) v71 v75)
      (k0_pay31 (k0_pay14 v1 (k0_pay6 v8)) v79 v82 v85) (k0_pay32 (k0_pay14 v1 (k0_pay6 v8)) v79 v82) v106 v110) v150 (ix2 u l)
      = v150 (ix2 u l) + ((∑ r, part P (X r) (DY r) 2 l : ℝ) : EReal) := by
  have h5 : ∀ u l, k0_pay5 (F := Ideal) v4 (ix2 u l) = (P.sc l : EReal) := fun u l => by
    pointwise [k0_pay5]; exact L.h4 _ l
  rw [← pay36_apply P X DY L.dh (pay8_apply X L.h0) h5 u l]
  generalize k0_pay36 (F := Ideal) _ _ _ _ _ _ _ = a
  pointwise [k0_pay2]

theorem Loads.sum3 {v154 : Vec Ideal S1x1024 .f32} (u : Fin 1) (l : Fin 1024) :
    k0_pay3 (F := Ideal) (k0_pay13 (k0_pay11 v1 v29) k0_pay12) v154 (ix2 u l)
      = v154 (ix2 u l) + ((∑ r, part P (X r) (DY r) 3 l : ℝ) : EReal) := by
  rw [← pay13_apply P X DY L.h1 L.h29 u l]
  generalize k0_pay13 (F := Ideal) _ _ = a
  pointwise [k0_pay3]

end Values

end Cert.KernelIdeal.Block
end
end
-- ==== Proof.Block.lean ====
/- What each case of the kernel's body leaves in each output's block: the stores of its run, read at an index. -/
module

public import proofs.«01_k».proof.Proof.Loads
public import proofs.«01_k».proof.Proof.Gen.KernelIdeal.Value
public import Idealize.ShloMosaic.Lib.Pipeline.ValueKit.Tiles
public import Idealize.ShloMosaic.Lib.WritesUnit

@[expose] public section

set_option maxRecDepth 16384

noncomputable section

namespace Cert.KernelIdeal.Block

open Idealize.ShloMosaic Idealize.ShloMosaic.TcCoe Idealize.ShloMosaic.Tactic Idealize.SL.Sem Cert.KernelIdeal Cert.KernelIdeal.Gen Cert.KernelIdeal.Tile Cert.Half
open scoped BigOperators

/-! ## Loads of a block -/

theorem ld2 {n m n' m' : Nat} {e : EltTy} (x : Vec Ideal ⟨2, ![n, m]⟩ e) (a b : Nat)
    (inb : ∀ k, (![a, b] : Fin 2 → Nat) k + (![n', m'] : Fin 2 → Nat) k ≤ (⟨2, ![n, m]⟩ : Shape).size k) (r : Fin n') (l : Fin m')
    (i : Fin n) (j : Fin m) (hi : i.val = a + r.val) (hj : j.val = b + l.val) :
    View.ld x (Rect.unit (s := ⟨2, ![n, m]⟩) ![a, b] ![n', m'] inb) (ix2 r l) = x (ix2 i j) :=
  View.ld_unit_apply_of x _ _ inb _ _ fun k => match k with
    | ⟨0, _⟩ => hi
    | ⟨1, _⟩ => hj

theorem ld3 {n m p n' m' p' : Nat} {e : EltTy} (x : Vec Ideal ⟨3, ![n, m, p]⟩ e) (a b c : Nat)
    (inb : ∀ k, (![a, b, c] : Fin 3 → Nat) k + (![n', m', p'] : Fin 3 → Nat) k ≤ (⟨3, ![n, m, p]⟩ : Shape).size k) (r : Fin n')
    (l : Fin m') (q : Fin p') (i : Fin n) (j : Fin m) (k : Fin p) (hi : i.val = a + r.val) (hj : j.val = b + l.val) (hk : k.val = c + q.val) :
    View.ld x (Rect.unit (s := ⟨3, ![n, m, p]⟩) ![a, b, c] ![n', m', p'] inb) (ix3 r l q) = x (ix3 i j k) :=
  View.ld_unit_apply_of x _ _ inb _ _ fun k => match k with
    | ⟨0, _⟩ => hi
    | ⟨1, _⟩ => hj
    | ⟨2, _⟩ => hk

/-! ## One row stored -/

theorem row_mem {a : Nat} (inb : ∀ k, (![a, 0] : Fin 2 → Nat) k + (![1, 1024] : Fin 2 → Nat) k ≤ S8x1024.size k)
    (w : (Rect.unit (s := S8x1024) ![a, 0] ![1, 1024] inb).shape.Idx → Elt Ideal .f32) (L : List (View.Piece (Elt Ideal) S8x1024 .f32))
    (s : Fin 8) (l : Fin 1024) (h : s.val = a) :
    View.canon ((⟨Rect.unit ![a, 0] ![1, 1024] inb, w⟩ : View.Piece (Elt Ideal) S8x1024 .f32) :: L) (ix2 s l) = w (ix2 (0 : Fin 1) l) := by
  have e : (Rect.unit (s := S8x1024) ![a, 0] ![1, 1024] inb).emb (ix2 (0 : Fin 1) l) = ix2 s l := funext fun k => Fin.ext (by
    match k with
    | ⟨0, _⟩ => show a + 1 * 0 = s.val; omega
    | ⟨1, _⟩ => show 0 + 1 * l.val = l.val; omega)
  rw [← e]
  exact View.canon_cons_emb _ w L _

theorem row_miss {a : Nat} (inb : ∀ k, (![a, 0] : Fin 2 → Nat) k + (![1, 1024] : Fin 2 → Nat) k ≤ S8x1024.size k)
    (w : (Rect.unit (s := S8x1024) ![a, 0] ![1, 1024] inb).shape.Idx → Elt Ideal .f32) (L : List (View.Piece (Elt Ideal) S8x1024 .f32))
    (s : Fin 8) (l : Fin 1024) (h : s.val ≠ a) :
    View.canon ((⟨Rect.unit ![a, 0] ![1, 1024] inb, w⟩ : View.Piece (Elt Ideal) S8x1024 .f32) :: L) (ix2 s l) = View.canon L (ix2 s l) := by
  refine View.canon_cons_of_not_mem _ L ?_
  rw [Rect.mem_set_unit]
  intro hall
  have h0 : a ≤ s.val ∧ s.val < a + 1 := hall 0
  omega

theorem rd_mem {sig' : RefSig} {κ : Kind} {sp : Space} (V : View sig' κ sp S8x1024 .f32) (g : V.ty.Contents (Elt Ideal)) {a : Nat}
    (inb : ∀ k, (![a, 0] : Fin 2 → Nat) k + (![1, 1024] : Fin 2 → Nat) k ≤ S8x1024.size k)
    (w : (Rect.unit (s := S8x1024) ![a, 0] ![1, 1024] inb).shape.Idx → Elt Ideal .f32) (L : List (View.Piece (Elt Ideal) S8x1024 .f32))
    (s : Fin 8) (l : Fin 1024) (h : s.val = a) :
    V.read (Elt Ideal) (V.writes (Elt Ideal) g ((⟨Rect.unit ![a, 0] ![1, 1024] inb, w⟩ : View.Piece (Elt Ideal) S8x1024 .f32) :: L)) (ix2 s l)
      = w (ix2 (0 : Fin 1) l) :=
  View.read_writes_cons_unit_of_mem V g inb w L (ix2 s l) (ix2 (0 : Fin 1) l) rfl fun k => match k with
    | ⟨0, _⟩ => (by show s.val = a + 0; omega)
    | ⟨1, _⟩ => (by show l.val = 0 + l.val; omega)

theorem rd_miss {sig' : RefSig} {κ : Kind} {sp : Space} (V : View sig' κ sp S8x1024 .f32) (g : V.ty.Contents (Elt Ideal)) {a : Nat}
    (inb : ∀ k, (![a, 0] : Fin 2 → Nat) k + (![1, 1024] : Fin 2 → Nat) k ≤ S8x1024.size k)
    (w : (Rect.unit (s := S8x1024) ![a, 0] ![1, 1024] inb).shape.Idx → Elt Ideal .f32) (L : List (View.Piece (Elt Ideal) S8x1024 .f32))
    (s : Fin 8) (l : Fin 1024) (h : s.val ≠ a) :
    V.read (Elt Ideal) (V.writes (Elt Ideal) g ((⟨Rect.unit ![a, 0] ![1, 1024] inb, w⟩ : View.Piece (Elt Ideal) S8x1024 .f32) :: L)) (ix2 s l)
      = V.read (Elt Ideal) (V.writes (Elt Ideal) g L) (ix2 s l) :=
  View.read_writes_cons_unit_of_not_mem V g inb w L (ix2 s l) rfl 0 (by
    show s.val < a ∨ a + 1 ≤ s.val; omega)

/-- A row read back through writes that end in another row. -/
theorem cov_miss {sig' : RefSig} {κ : Kind} {sp : Space} (V : View sig' κ sp S8x1024 .f32) {a b : Nat}
    (inb : ∀ k, (![a, 0] : Fin 2 → Nat) k + (![1, 1024] : Fin 2 → Nat) k ≤ S8x1024.size k)
    (inb' : ∀ k, (![b, 0] : Fin 2 → Nat) k + (![1, 1024] : Fin 2 → Nat) k ≤ S8x1024.size k)
    (w : (Rect.unit (s := S8x1024) ![a, 0] ![1, 1024] inb).shape.Idx → Elt Ideal .f32) (L : List (View.Piece (Elt Ideal) S8x1024 .f32))
    (h : b ≠ a) :
    V.readCov ((⟨Rect.unit ![a, 0] ![1, 1024] inb, w⟩ : View.Piece (Elt Ideal) S8x1024 .f32) :: L)
        (Rect.unit (s := S8x1024) ![b, 0] ![1, 1024] inb').toLoadRect
      = V.readCov L (Rect.unit (s := S8x1024) ![b, 0] ![1, 1024] inb').toLoadRect := by
  refine View.readCov_cons_of_disjoint V _ L _ (Finset.disjoint_left.mpr fun y hy hy' => ?_)
  have h1 : a ≤ (y 0).val ∧ (y 0).val < a + 1 := (Rect.mem_set_unit (inb := inb)).mp hy 0
  have h2 : b ≤ (y 0).val ∧ (y 0).val < b + 1 := (Rect.mem_set_unit (inb := inb')).mp hy' 0
  omega

/-- A row read back from the zeros that the first point stores. -/
theorem cov_zero {sig' : RefSig} {κ : Kind} {sp : Space} (V : View sig' κ sp S8x1024 .f32) {b : Nat}
    (inb : ∀ k, (![0, 0] : Fin 2 → Nat) k + S8x1024.size k ≤ S8x1024.size k)
    (inb' : ∀ k, (![b, 0] : Fin 2 → Nat) k + (![1, 1024] : Fin 2 → Nat) k ≤ S8x1024.size k) (u : Fin 1) (l : Fin 1024) :
    V.readCov [(⟨Rect.unit ![0, 0] S8x1024.size inb, k0_pay38 (F := Ideal)⟩ : View.Piece (Elt Ideal) S8x1024 .f32)]
        (Rect.unit (s := S8x1024) ![b, 0] ![1, 1024] inb').toLoadRect (ix2 u l) = (0 : EReal) := by
  rw [View.readCov_eq_canon', View.canon_unit_zero hz]
  unfold k0_pay38
  exact Ideal.ofBits_zero_f32

variable {c : Dev nD} {i : grid0.Coords} {arg1 : Memref sig .tc .vmem S256x1024 .f32} {harg1 : arg1.IsWhole} {arg2 : Memref sig .tc .vmem S256x1024 .f32} {harg2 : arg2.IsWhole} {arg3 : Memref sig .tc .vmem S256x5632 .bf16} {harg3 : arg3.IsWhole} {arg4 : Memref sig .tc .vmem S256x1024 .bf16} {harg4 : arg4.IsWhole} {arg5 : Memref sig .tc .vmem S8x1024 .f32} {harg5 : arg5.IsWhole} {arg6 : Memref sig .tc .vmem S4x1024x1408 .bf16} {harg6 : arg6.IsWhole} {arg7 : Memref sig .tc .vmem S2816x1024 .bf16} {harg7 : arg7.IsWhole} {arg8 : Memref sig .tc .vmem S256x1024 .f32} {harg8 : arg8.IsWhole} {arg9 : Memref sig .tc .vmem S256x1024 .bf16} {harg9 : arg9.IsWhole} {arg10 : Memref sig .tc .vmem S256x1024 .bf16} {harg10 : arg10.IsWhole} {arg11 : Memref sig .tc .vmem S256x2816 .bf16} {harg11 : arg11.IsWhole} {arg12 : Memref sig .tc .vmem S256x5632 .bf16} {harg12 : arg12.IsWhole} {arg13 : Memref sig .tc .vmem S8x1024 .f32} {harg13 : arg13.IsWhole}
  (hA : cond0_0 i) (hB : ¬cond0_0 i)
  {x0 x1 : Vec Ideal S256x1024 .f32} {x2 : Vec Ideal S256x5632 .bf16} {x3 : Vec Ideal S256x1024 .bf16} {x4 : Vec Ideal S8x1024 .f32}
  {x5 : Vec Ideal S4x1024x1408 .bf16} {x6 : Vec Ideal S2816x1024 .bf16} {xo : Vec Ideal S8x1024 .f32}

variable {P : Par} {X DY : Fin 256 → Fin 1024 → ℝ} (B : Blk P X DY x0 x1 x2 x3 x4 x5 x6)

include B in
/-- The loads of the body. -/
theorem loads : Loads P X DY
    (View.readAt (Elt Ideal) arg2.view (Rect.unit (s := S256x1024) ![0, 0] S256x1024.size inb_S256x1024_S256x1024_0_0).toLoadRect (harg2.unread x1))
    (View.readAt (Elt Ideal) arg1.view (Rect.unit (s := S256x1024) ![0, 0] S256x1024.size inb_S256x1024_S256x1024_0_0).toLoadRect (harg1.unread x0))
    (View.readAt (Elt Ideal) arg5.view (Rect.unit (s := S8x1024) ![0, 0] S1x1024.size inb_S8x1024_S1x1024_0_0).toLoadRect (harg5.unread x4))
    (View.readAt (Elt Ideal) arg5.view (Rect.unit (s := S8x1024) ![1, 0] S1x1024.size inb_S8x1024_S1x1024_1_0).toLoadRect (harg5.unread x4))
    (View.readAt (Elt Ideal) arg5.view (Rect.unit (s := S8x1024) ![2, 0] S1x1024.size inb_S8x1024_S1x1024_2_0).toLoadRect (harg5.unread x4))
    (View.readAt (Elt Ideal) arg5.view (Rect.unit (s := S8x1024) ![3, 0] S1x1024.size inb_S8x1024_S1x1024_3_0).toLoadRect (harg5.unread x4))
    (View.readAt (Elt Ideal) arg4.view (Rect.unit (s := S256x1024) ![0, 0] S256x1024.size inb_S256x1024_S256x1024_0_0).toLoadRect (harg4.unread x3))
    (View.readAt (Elt Ideal) arg7.view (Rect.unit (s := S2816x1024) ![0, 0] S1408x1024.size inb_S2816x1024_S1408x1024_0_0).toLoadRect (harg7.unread x6))
    (View.readAt (Elt Ideal) arg7.view (Rect.unit (s := S2816x1024) ![1408, 0] S1408x1024.size inb_S2816x1024_S1408x1024_1408_0).toLoadRect (harg7.unread x6))
    (View.readAt (Elt Ideal) arg3.view (Rect.unit (s := S256x5632) ![0, 0] S256x1408.size inb_S256x5632_S256x1408_0_0).toLoadRect (harg3.unread x2))
    (View.readAt (Elt Ideal) arg3.view (Rect.unit (s := S256x5632) ![0, 2816] S256x1408.size inb_S256x5632_S256x1408_0_2816).toLoadRect (harg3.unread x2))
    (View.readAt (Elt Ideal) arg3.view (Rect.unit (s := S256x5632) ![0, 1408] S256x1408.size inb_S256x5632_S256x1408_0_1408).toLoadRect (harg3.unread x2))
    (View.readAt (Elt Ideal) arg3.view (Rect.unit (s := S256x5632) ![0, 4224] S256x1408.size inb_S256x5632_S256x1408_0_4224).toLoadRect (harg3.unread x2))
    (View.readAt (Elt Ideal) arg6.view (Rect.unit (s := S4x1024x1408) ![0, 0, 0] S1x1024x1408.size inb_S4x1024x1408_S1x1024x1408_0_0_0).toLoadRect (harg6.unread x5))
    (View.readAt (Elt Ideal) arg6.view (Rect.unit (s := S4x1024x1408) ![2, 0, 0] S1x1024x1408.size inb_S4x1024x1408_S1x1024x1408_2_0_0).toLoadRect (harg6.unread x5))
    (View.readAt (Elt Ideal) arg6.view (Rect.unit (s := S4x1024x1408) ![1, 0, 0] S1x1024x1408.size inb_S4x1024x1408_S1x1024x1408_1_0_0).toLoadRect (harg6.unread x5))
    (View.readAt (Elt Ideal) arg6.view (Rect.unit (s := S4x1024x1408) ![3, 0, 0] S1x1024x1408.size inb_S4x1024x1408_S1x1024x1408_3_0_0).toLoadRect (harg6.unread x5)) := by
  simp only [View.readAt_eq_ld, harg1.read_unread, harg2.read_unread, harg3.read_unread, harg4.read_unread, harg5.read_unread,
    harg6.read_unread, harg7.read_unread]
  exact {
    h0 := fun r l => (ld2 x1 0 0 _ r l r l (Nat.zero_add _).symm (Nat.zero_add _).symm).trans (B.x r l)
    h1 := fun r l => (ld2 x0 0 0 _ r l r l (Nat.zero_add _).symm (Nat.zero_add _).symm).trans (B.dy r l)
    h2 := fun u l => (ld2 x4 0 0 _ u l 0 l (by omega) (Nat.zero_add _).symm).trans (B.ng l)
    h4 := fun u l => (ld2 x4 1 0 _ u l 1 l (by omega) (Nat.zero_add _).symm).trans (B.sc l)
    h6 := fun u l => (ld2 x4 2 0 _ u l 2 l (by omega) (Nat.zero_add _).symm).trans (B.sh l)
    h8 := fun u l => (ld2 x4 3 0 _ u l 3 l (by omega) (Nat.zero_add _).symm).trans (B.gt l)
    h29 := fun r l => (ld2 x3 0 0 _ r l r l (Nat.zero_add _).symm (Nat.zero_add _).symm).trans (B.f r l)
    h44 := fun j l => (ld2 x6 0 0 _ j l (ch 0 j) l (by simp [ch]) (Nat.zero_add _).symm).trans (B.w2 _ l)
    h79 := fun j l => (ld2 x6 1408 0 _ j l (ch 1 j) l (by simp [ch]) (Nat.zero_add _).symm).trans (B.w2 _ l)
    h47 := fun r j => (ld2 x2 0 0 _ r j r (lo (ch 0 j)) (Nat.zero_add _).symm (by simp [lo, ch])).trans (B.a r _)
    h50 := fun r j => (ld2 x2 0 2816 _ r j r (hi (ch 0 j)) (Nat.zero_add _).symm (by simp [hi, ch])).trans (B.a r _)
    h82 := fun r j => (ld2 x2 0 1408 _ r j r (lo (ch 1 j)) (Nat.zero_add _).symm (by simp [lo, ch])).trans (B.a r _)
    h85 := fun r j => (ld2 x2 0 4224 _ r j r (hi (ch 1 j)) (Nat.zero_add _).symm (by simp only [hi, ch, Fin.val_one]; omega)).trans (B.a r _)
    h71 := fun u k j => (ld3 x5 0 0 0 _ u k j ⟨0, by omega⟩ k j (by simp) (Nat.zero_add _).symm (Nat.zero_add _).symm).trans (B.w1lo 0 k j)
    h75 := fun u k j => (ld3 x5 2 0 0 _ u k j ⟨2, by omega⟩ k j (by simp) (Nat.zero_add _).symm (Nat.zero_add _).symm).trans (B.w1hi 0 k j)
    h106 := fun u k j => (ld3 x5 1 0 0 _ u k j ⟨1, by omega⟩ k j (by simp) (Nat.zero_add _).symm (Nat.zero_add _).symm).trans (B.w1lo 1 k j)
    h110 := fun u k j => (ld3 x5 3 0 0 _ u k j ⟨3, by omega⟩ k j (by simp) (Nat.zero_add _).symm (Nat.zero_add _).symm).trans (B.w1hi 1 k j) }

/-! ## The outputs -/

theorem tile2 {n m n' m' : Nat} {e : EltTy} {i : Fin n} {k : Fin m} {a b : Nat}
    {w : (⟨2, ![n', m']⟩ : Shape).Idx → Elt Ideal e} {v : Elt Ideal e}
    (h : ∀ (r : Fin n') (j : Fin m'), i.val = a + r.val → k.val = b + j.val → w (ix2 r j) = v) :
    View.TileAt (S := ⟨2, ![n, m]⟩) (ix2 i k) ![a, b] ![n', m'] w v := fun x hx => by
  have e : x = ix2 (x 0) (x 1) := funext fun k => match k with
    | ⟨0, _⟩ => rfl
    | ⟨1, _⟩ => rfl
  rw [e]
  exact h (x 0) (x 1) (hx 0) (hx 1)

include B in
theorem out7_A (r : Fin 256) (l : Fin 1024) : out0_A_7 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r l) = (dxi P (X r) (DY r) l : EReal) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6)]
  unfold kernelRun0_A
  dsimp only
  sl_unfold_words
  rw [View.canon_unit_zero hz]
  have L := (loads (harg1 := harg1) (harg2 := harg2) (harg3 := harg3) (harg4 := harg4) (harg5 := harg5) (harg6 := harg6) (harg7 := harg7) B)
  exact L.dxi r l

include B in
theorem out8_A (r : Fin 256) (l : Fin 1024) : out0_A_8 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r l) = (hid P (X r) l : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6)]
  unfold kernelRun0_A
  dsimp only
  sl_unfold_words
  rw [View.canon_unit_zero hz]
  have L := (loads (harg1 := harg1) (harg2 := harg2) (harg3 := harg3) (harg4 := harg4) (harg5 := harg5) (harg6 := harg6) (harg7 := harg7) B)
  exact pay10_apply P X L.h0 L.h2 L.h4 L.h6 r l

include B in
theorem out9_A (r : Fin 256) (l : Fin 1024) : out0_A_9 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r l) = (df P (DY r) l : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6)]
  unfold kernelRun0_A
  dsimp only
  sl_unfold_words
  rw [View.canon_unit_zero hz]
  have L := (loads (harg1 := harg1) (harg2 := harg2) (harg3 := harg3) (harg4 := harg4) (harg5 := harg5) (harg6 := harg6) (harg7 := harg7) B)
  exact L.df r l

include B in
theorem out10_A (r : Fin 256) (j : Fin 2816) : out0_A_10 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r j) = (act P (X r) j : EReal) := by
  have hcov := cover0_A_10 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r j)
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6)]
  unfold kernelRun0_A
  dsimp only
  sl_unfold_words
  unfold kernelRun0_A at hcov
  dsimp only at hcov
  have L := (loads (harg1 := harg1) (harg2 := harg2) (harg3 := harg3) (harg4 := harg4) (harg5 := harg5) (harg6 := harg6) (harg7 := harg7) B)
  refine View.canon_eq_of_allAt _ _ _ hcov ?_
  refine View.allAt_cons_unit _ _ _ _ _ (tile2 (fun r' j' e e' => ?_)) (View.allAt_cons_unit _ _ _ _ _ (tile2 (fun r' j' e e' => ?_)) (View.allAt_nil _ _))
  · obtain rfl : r' = r := Fin.ext (by omega)
    obtain rfl : j = ch 1 j' := Fin.ext (by simp only [ch, Fin.val_one]; omega)
    exact pay30_apply P X 1 L.h82 L.h85 r' j'
  · obtain rfl : r' = r := Fin.ext (by omega)
    obtain rfl : j = ch 0 j' := Fin.ext (by simp only [ch, Fin.val_zero]; omega)
    exact pay30_apply P X 0 L.h47 L.h50 r' j'

include B in
theorem out11_A (r : Fin 256) (j : Fin 5632) : out0_A_11 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r j) = (da P (X r) (DY r) j : EReal) := by
  have hcov := cover0_A_11 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 r j)
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6)]
  unfold kernelRun0_A
  dsimp only
  sl_unfold_words
  unfold kernelRun0_A at hcov
  dsimp only at hcov
  have L := (loads (harg1 := harg1) (harg2 := harg2) (harg3 := harg3) (harg4 := harg4) (harg5 := harg5) (harg6 := harg6) (harg7 := harg7) B)
  refine View.canon_eq_of_allAt _ _ _ hcov ?_
  refine View.allAt_cons_unit _ _ _ _ _ (tile2 (fun r' j' e e' => ?_)) (View.allAt_cons_unit _ _ _ _ _ (tile2 (fun r' j' e e' => ?_))
    (View.allAt_cons_unit _ _ _ _ _ (tile2 (fun r' j' e e' => ?_)) (View.allAt_cons_unit _ _ _ _ _ (tile2 (fun r' j' e e' => ?_)) (View.allAt_nil _ _))))
  · obtain rfl : r' = r := Fin.ext (by omega)
    obtain rfl : j = hi (ch 1 j') := Fin.ext (by simp only [hi, ch, Fin.val_one]; omega)
    rw [da_hi]
    exact L.du1 r' j'
  · obtain rfl : r' = r := Fin.ext (by omega)
    obtain rfl : j = lo (ch 1 j') := Fin.ext (by simp only [lo, ch, Fin.val_one]; omega)
    rw [da_lo]
    exact L.dg1 r' j'
  · obtain rfl : r' = r := Fin.ext (by omega)
    obtain rfl : j = hi (ch 0 j') := Fin.ext (by simp only [hi, ch, Fin.val_zero]; omega)
    rw [da_hi]
    exact L.du0 r' j'
  · obtain rfl : r' = r := Fin.ext (by omega)
    obtain rfl : j = lo (ch 0 j') := Fin.ext (by simp only [lo, ch, Fin.val_zero]; omega)
    rw [da_lo]
    exact L.dg0 r' j'

include B in
theorem out7_B (r : Fin 256) (l : Fin 1024) : out0_B_7 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r l) = (dxi P (X r) (DY r) l : EReal) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo)]
  unfold kernelRun0_B
  dsimp only
  sl_unfold_words
  rw [View.canon_unit_zero hz]
  have L := (loads (harg1 := harg1) (harg2 := harg2) (harg3 := harg3) (harg4 := harg4) (harg5 := harg5) (harg6 := harg6) (harg7 := harg7) B)
  exact L.dxi r l

include B in
theorem out8_B (r : Fin 256) (l : Fin 1024) : out0_B_8 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r l) = (hid P (X r) l : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo)]
  unfold kernelRun0_B
  dsimp only
  sl_unfold_words
  rw [View.canon_unit_zero hz]
  have L := (loads (harg1 := harg1) (harg2 := harg2) (harg3 := harg3) (harg4 := harg4) (harg5 := harg5) (harg6 := harg6) (harg7 := harg7) B)
  exact pay10_apply P X L.h0 L.h2 L.h4 L.h6 r l

include B in
theorem out9_B (r : Fin 256) (l : Fin 1024) : out0_B_9 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r l) = (df P (DY r) l : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo)]
  unfold kernelRun0_B
  dsimp only
  sl_unfold_words
  rw [View.canon_unit_zero hz]
  have L := (loads (harg1 := harg1) (harg2 := harg2) (harg3 := harg3) (harg4 := harg4) (harg5 := harg5) (harg6 := harg6) (harg7 := harg7) B)
  exact L.df r l

include B in
theorem out10_B (r : Fin 256) (j : Fin 2816) : out0_B_10 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r j) = (act P (X r) j : EReal) := by
  have hcov := cover0_B_10 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r j)
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo)]
  unfold kernelRun0_B
  dsimp only
  sl_unfold_words
  unfold kernelRun0_B at hcov
  dsimp only at hcov
  have L := (loads (harg1 := harg1) (harg2 := harg2) (harg3 := harg3) (harg4 := harg4) (harg5 := harg5) (harg6 := harg6) (harg7 := harg7) B)
  refine View.canon_eq_of_allAt _ _ _ hcov ?_
  refine View.allAt_cons_unit _ _ _ _ _ (tile2 (fun r' j' e e' => ?_)) (View.allAt_cons_unit _ _ _ _ _ (tile2 (fun r' j' e e' => ?_)) (View.allAt_nil _ _))
  · obtain rfl : r' = r := Fin.ext (by omega)
    obtain rfl : j = ch 1 j' := Fin.ext (by simp only [ch, Fin.val_one]; omega)
    exact pay30_apply P X 1 L.h82 L.h85 r' j'
  · obtain rfl : r' = r := Fin.ext (by omega)
    obtain rfl : j = ch 0 j' := Fin.ext (by simp only [ch, Fin.val_zero]; omega)
    exact pay30_apply P X 0 L.h47 L.h50 r' j'

include B in
theorem out11_B (r : Fin 256) (j : Fin 5632) : out0_B_11 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r j) = (da P (X r) (DY r) j : EReal) := by
  have hcov := cover0_B_11 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 r j)
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo)]
  unfold kernelRun0_B
  dsimp only
  sl_unfold_words
  unfold kernelRun0_B at hcov
  dsimp only at hcov
  have L := (loads (harg1 := harg1) (harg2 := harg2) (harg3 := harg3) (harg4 := harg4) (harg5 := harg5) (harg6 := harg6) (harg7 := harg7) B)
  refine View.canon_eq_of_allAt _ _ _ hcov ?_
  refine View.allAt_cons_unit _ _ _ _ _ (tile2 (fun r' j' e e' => ?_)) (View.allAt_cons_unit _ _ _ _ _ (tile2 (fun r' j' e e' => ?_))
    (View.allAt_cons_unit _ _ _ _ _ (tile2 (fun r' j' e e' => ?_)) (View.allAt_cons_unit _ _ _ _ _ (tile2 (fun r' j' e e' => ?_)) (View.allAt_nil _ _))))
  · obtain rfl : r' = r := Fin.ext (by omega)
    obtain rfl : j = hi (ch 1 j') := Fin.ext (by simp only [hi, ch, Fin.val_one]; omega)
    rw [da_hi]
    exact L.du1 r' j'
  · obtain rfl : r' = r := Fin.ext (by omega)
    obtain rfl : j = lo (ch 1 j') := Fin.ext (by simp only [lo, ch, Fin.val_one]; omega)
    rw [da_lo]
    exact L.dg1 r' j'
  · obtain rfl : r' = r := Fin.ext (by omega)
    obtain rfl : j = hi (ch 0 j') := Fin.ext (by simp only [hi, ch, Fin.val_zero]; omega)
    rw [da_hi]
    exact L.du0 r' j'
  · obtain rfl : r' = r := Fin.ext (by omega)
    obtain rfl : j = lo (ch 0 j') := Fin.ext (by simp only [lo, ch, Fin.val_zero]; omega)
    rw [da_lo]
    exact L.dg0 r' j'

/-- The sum of row `s` over the tile's rows: the first four rows hold one each. -/
def tileSum (P : Par) (X DY : Fin 256 → Fin 1024 → ℝ) (s : Fin 8) (l : Fin 1024) : ℝ :=
  if h : s.val < 4 then ∑ r, part P (X r) (DY r) ⟨s.val, h⟩ l else 0

theorem tileSum_of (P : Par) (X DY : Fin 256 → Fin 1024 → ℝ) (s : Fin 8) (k : Fin 4) (h : s.val = k.val) (l : Fin 1024) :
    tileSum P X DY s l = ∑ r, part P (X r) (DY r) k l := by
  have e : ∀ h', (⟨s.val, h'⟩ : Fin 4) = k := fun _ => Fin.ext h
  unfold tileSum
  rw [dif_pos (h ▸ k.isLt), e]

theorem tileSum_rest (P : Par) (X DY : Fin 256 → Fin 1024 → ℝ) (s : Fin 8) (h : ¬s.val < 4) (l : Fin 1024) : tileSum P X DY s l = 0 :=
  dif_neg h

include B in
theorem out12_A (s : Fin 8) (l : Fin 1024) : out0_A_12 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6 (ix2 s l) = (tileSum P X DY s l : EReal) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hA x0 x1 x2 x3 x4 x5 x6)]
  unfold kernelRun0_A
  dsimp only
  sl_unfold_words
  have L := (loads (harg1 := harg1) (harg2 := harg2) (harg3 := harg3) (harg4 := harg4) (harg5 := harg5) (harg6 := harg6) (harg7 := harg7) B)
  by_cases h3 : s.val = 3
  · rw [row_mem _ _ _ s l h3, L.sum3 0 l, cov_miss _ _ _ _ _ (by omega), cov_miss _ _ _ _ _ (by omega), cov_miss _ _ _ _ _ (by omega),
      cov_zero, zero_add, tileSum_of P X DY s 3 h3 l]
  rw [row_miss _ _ _ s l h3]
  by_cases h2 : s.val = 2
  · rw [row_mem _ _ _ s l h2, L.sum2 0 l, cov_miss _ _ _ _ _ (by omega), cov_miss _ _ _ _ _ (by omega), cov_zero, zero_add, tileSum_of P X DY s 2 h2 l]
  rw [row_miss _ _ _ s l h2]
  by_cases h1 : s.val = 1
  · rw [row_mem _ _ _ s l h1, L.sum1 0 l, cov_miss _ _ _ _ _ (by omega), cov_zero, zero_add, tileSum_of P X DY s 1 h1 l]
  rw [row_miss _ _ _ s l h1]
  by_cases h0 : s.val = 0
  · rw [row_mem _ _ _ s l h0, L.sum0 0 l, cov_zero, zero_add, tileSum_of P X DY s 0 h0 l]
  rw [row_miss _ _ _ s l h0, View.canon_unit_zero hz, tileSum_rest P X DY s (by omega) l]
  unfold k0_pay38
  exact Ideal.ofBits_zero_f32

include B in
theorem out12_B (s : Fin 8) (l : Fin 1024) : out0_B_12 c i arg1 harg1 arg2 harg2 arg3 harg3 arg4 harg4 arg5 harg5 arg6 harg6 arg7 harg7 arg8 harg8 arg9 harg9 arg10 harg10 arg11 harg11 arg12 harg12 arg13 harg13 hB x0 x1 x2 x3 x4 x5 x6 xo (ix2 s l) = xo (ix2 s l) + (tileSum P X DY s l : EReal) := by
  unfold out0_B_12
  unfold kernelRun0_B
  dsimp only
  sl_unfold_words
  have L := (loads (harg1 := harg1) (harg2 := harg2) (harg3 := harg3) (harg4 := harg4) (harg5 := harg5) (harg6 := harg6) (harg7 := harg7) B)
  have hld : ∀ (a : Nat) inb (ha : s.val = a), View.readAt (Elt Ideal) arg13.view
      (Rect.unit (s := S8x1024) ![a, 0] ![1, 1024] inb).toLoadRect (harg13.unread xo) (ix2 (0 : Fin 1) l) = xo (ix2 s l) := fun a inb ha => by
    rw [View.readAt_eq_ld, harg13.read_unread]
    exact ld2 xo a 0 inb 0 l s l (by simpa using ha) (Nat.zero_add _).symm
  by_cases h3 : s.val = 3
  · rw [rd_mem _ _ _ _ _ s l h3, L.sum3 0 l, hld 3 _ h3, tileSum_of P X DY s 3 h3 l]
  rw [rd_miss _ _ _ _ _ s l h3]
  by_cases h2 : s.val = 2
  · rw [rd_mem _ _ _ _ _ s l h2, L.sum2 0 l, hld 2 _ h2, tileSum_of P X DY s 2 h2 l]
  rw [rd_miss _ _ _ _ _ s l h2]
  by_cases h1 : s.val = 1
  · rw [rd_mem _ _ _ _ _ s l h1, L.sum1 0 l, hld 1 _ h1, tileSum_of P X DY s 1 h1 l]
  rw [rd_miss _ _ _ _ _ s l h1]
  by_cases h0 : s.val = 0
  · rw [rd_mem _ _ _ _ _ s l h0, L.sum0 0 l, hld 0 _ h0, tileSum_of P X DY s 0 h0 l]
  rw [rd_miss _ _ _ _ _ s l h0, tileSum_rest P X DY s (by omega) l]
  show View.read (Elt Ideal) arg13.view (harg13.unread xo) (ix2 s l) = _
  rw [harg13.read_unread, EReal.coe_zero, add_zero]

end Cert.KernelIdeal.Block
end
end
-- ==== Proof.Inputs.lean ====
/- The block of each input at a grid point: 256 rows of the four big arrays, and the whole of the other three. -/
module

public import proofs.«01_k».proof.Proof.Prefix
public import proofs.«01_k».proof.Proof.Block

@[expose] public section

set_option maxRecDepth 16384

noncomputable section

namespace Cert.KernelIdeal.Entry

open Idealize.ShloMosaic Idealize.ShloMosaic.TcCoe Idealize.ShloMosaic.Tactic Cert.KernelIdeal Cert.KernelIdeal.Gen Cert.Half
open Cert.KernelIdeal.Block
open Cert.ReferenceIdeal.Stage (Fwd Bwd)
open scoped BigOperators

variable (m : (ℓ : Loc nD τ sig) → Buf (Elt Ideal) ℓ) (c : Dev nD)

/-- Row `r` of point `t`'s block is this row of the array. -/
def rowOf (t : Fin cfg0.N) (r : Fin 256) : Fin 8192 :=
  ⟨256 * t.val + r.val, by have := t.isLt; have hN : cfg0.N = 32 := N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem iblk0 (t : Fin cfg0.N) (r : Fin 256) (l : Fin 1024) :
    (iblk m c 0 t : Vec Ideal S256x1024 .f32) (ix2 r l) = (A m c main_arg0 : S8192x1024.Idx → EReal) (ix2 (rowOf t r) l) := by
  unfold iblk
  rw [View.read_apply]
  show V m c main_arg0 _ = _
  rw [V_main_arg0]
  refine congrArg (A m c main_arg0) (funext fun a => Fin.ext ?_)
  match a with
  | ⟨0, _⟩ => show win0_0.index t 0 * 256 + 1 * r.val = 256 * t.val + r.val; rw [(idx0 t).1]; omega
  | ⟨1, _⟩ => show win0_0.index t 1 * 1024 + 1 * l.val = l.val; rw [(idx0 t).2]; omega

theorem iblk1 (t : Fin cfg0.N) (r : Fin 256) (l : Fin 1024) :
    (iblk m c 1 t : Vec Ideal S256x1024 .f32) (ix2 r l) = (A m c main_arg1 : S8192x1024.Idx → EReal) (ix2 (rowOf t r) l) := by
  unfold iblk
  rw [View.read_apply]
  show V m c main_arg1 _ = _
  rw [V_main_arg1]
  refine congrArg (A m c main_arg1) (funext fun a => Fin.ext ?_)
  match a with
  | ⟨0, _⟩ => show win0_1.index t 0 * 256 + 1 * r.val = 256 * t.val + r.val; rw [(idx1 t).1]; omega
  | ⟨1, _⟩ => show win0_1.index t 1 * 1024 + 1 * l.val = l.val; rw [(idx1 t).2]; omega

theorem iblk2 (t : Fin cfg0.N) (r : Fin 256) (j : Fin 5632) :
    (iblk m c 2 t : Vec Ideal S256x5632 .bf16) (ix2 r j) = Cert.ReferenceIdeal.Read.val_main_v24 (F := Ideal) (A m c main_arg1)
      (A m c main_arg2) (A m c main_arg3) (A m c main_arg4) (A m c main_arg6) (ix2 (rowOf t r) j) := by
  unfold iblk
  rw [View.read_apply]
  show V m c main_v30 _ = _
  rw [V_pre]
  refine congrArg (Cert.ReferenceIdeal.Read.val_main_v24 (F := Ideal) _ _ _ _ _) (funext fun a => Fin.ext ?_)
  match a with
  | ⟨0, _⟩ => show win0_2.index t 0 * 256 + 1 * r.val = 256 * t.val + r.val; rw [(idx2 t).1]; omega
  | ⟨1, _⟩ => show win0_2.index t 1 * 5632 + 1 * j.val = j.val; rw [(idx2 t).2]; omega

theorem iblk3 (t : Fin cfg0.N) (r : Fin 256) (l : Fin 1024) :
    (iblk m c 3 t : Vec Ideal S256x1024 .bf16) (ix2 r l) = Cert.ReferenceIdeal.Read.val_main_v29 (F := Ideal) (A m c main_arg1)
      (A m c main_arg2) (A m c main_arg3) (A m c main_arg4) (A m c main_arg6) (A m c main_arg7) (ix2 (rowOf t r) l) := by
  unfold iblk
  rw [View.read_apply]
  show V m c main_v31 _ = _
  rw [V_out]
  refine congrArg (Cert.ReferenceIdeal.Read.val_main_v29 (F := Ideal) _ _ _ _ _ _) (funext fun a => Fin.ext ?_)
  match a with
  | ⟨0, _⟩ => show win0_3.index t 0 * 256 + 1 * r.val = 256 * t.val + r.val; rw [(idx3 t).1]; omega
  | ⟨1, _⟩ => show win0_3.index t 1 * 1024 + 1 * l.val = l.val; rw [(idx3 t).2]; omega

theorem iblk4 (t : Fin cfg0.N) (s : Fin 8) (l : Fin 1024) :
    (iblk m c 4 t : Vec Ideal S8x1024 .f32) (ix2 s l)
      = rows (A m c main_arg2) (A m c main_arg3) (A m c main_arg4) (A m c main_arg5) (ix2 s l) := by
  unfold iblk
  rw [View.read_apply]
  show V m c main_v38 _ = _
  rw [V_vec]
  refine congrArg (rows _ _ _ _) (funext fun a => Fin.ext ?_)
  match a with
  | ⟨0, _⟩ => show win0_4.index t 0 * 8 + 1 * s.val = s.val; rw [(idx4 t).1]; omega
  | ⟨1, _⟩ => show win0_4.index t 1 * 1024 + 1 * l.val = l.val; rw [(idx4 t).2]; omega

theorem iblk5 (t : Fin cfg0.N) (q : Fin 4) (k : Fin 1024) (j : Fin 1408) :
    (iblk m c 5 t : Vec Ideal S4x1024x1408 .bf16) (ix3 q k j) = blocks (A m c main_arg6) (ix3 q k j) := by
  unfold iblk
  rw [View.read_apply]
  show V m c main_v29 _ = _
  rw [V_w1]
  refine congrArg (blocks _) (funext fun a => Fin.ext ?_)
  match a with
  | ⟨0, _⟩ => show win0_5.index t 0 * 4 + 1 * q.val = q.val; rw [(idx5 t).1]; omega
  | ⟨1, _⟩ => show win0_5.index t 1 * 1024 + 1 * k.val = k.val; rw [(idx5 t).2.1]; omega
  | ⟨2, _⟩ => show win0_5.index t 2 * 1408 + 1 * j.val = j.val; rw [(idx5 t).2.2]; omega

theorem iblk6 (t : Fin cfg0.N) (j : Fin 2816) (l : Fin 1024) :
    (iblk m c 6 t : Vec Ideal S2816x1024 .bf16) (ix2 j l) = (A m c main_arg7 : S2816x1024.Idx → EReal) (ix2 j l) := by
  unfold iblk
  rw [View.read_apply]
  show V m c main_v39 _ = _
  rw [V_w2]
  refine congrArg (A m c main_arg7) (funext fun a => Fin.ext ?_)
  match a with
  | ⟨0, _⟩ => show win0_6.index t 0 * 2816 + 1 * j.val = j.val; rw [(idx6 t).1]; omega
  | ⟨1, _⟩ => show win0_6.index t 1 * 1024 + 1 * l.val = l.val; rw [(idx6 t).2]; omega

variable {P : Par} {X DY : Fin 8192 → Fin 1024 → ℝ}

/-- The arguments on device `c` hold the numbers of `X`, `DY` and `P`. -/
structure Real (P : Par) (X DY : Fin 8192 → Fin 1024 → ℝ) : Prop where
  fwd : Fwd P X (A m c main_arg1) (A m c main_arg2) (A m c main_arg3) (A m c main_arg4) (A m c main_arg6)
  bwd : Bwd P DY (A m c main_arg0) (A m c main_arg5) (A m c main_arg7)

theorem blk (H : Real m c P X DY) (t : Fin cfg0.N) : Blk P (fun r => X (rowOf t r)) (fun r => DY (rowOf t r)) (iblk m c 0 t) (iblk m c 1 t)
    (iblk m c 2 t) (iblk m c 3 t) (iblk m c 4 t) (iblk m c 5 t) (iblk m c 6 t) where
  dy r l := (iblk0 m c t r l).trans (H.bwd.h0 _ _)
  x r l := (iblk1 m c t r l).trans (H.fwd.h1 _ _)
  a r j := (iblk2 m c t r j).trans (Cert.ReferenceIdeal.Stage.v24_apply P X H.fwd _ _)
  f r l := (iblk3 m c t r l).trans (Cert.ReferenceIdeal.Stage.v29_apply P X DY H.fwd H.bwd _ _)
  ng l := (iblk4 m c t 0 l).trans ((rows_apply _ _ _ _ l).1.trans (H.fwd.h2 l))
  sc l := (iblk4 m c t 1 l).trans ((rows_apply _ _ _ _ l).2.1.trans (H.fwd.h3 l))
  sh l := (iblk4 m c t 2 l).trans ((rows_apply _ _ _ _ l).2.2.1.trans (H.fwd.h4 l))
  gt l := (iblk4 m c t 3 l).trans ((rows_apply _ _ _ _ l).2.2.2.trans (H.bwd.h5 l))
  w1lo h k j := (iblk5 m c t _ k j).trans ((blocks_apply _ _ k j).trans (H.fwd.h6 k _))
  w1hi h k j := (iblk5 m c t _ k j).trans ((blocks_apply _ _ k j).trans ((H.fwd.h6 k _).trans
    (congrArg (fun i => (P.w1 k i : EReal)) (Fin.ext (by show 1408 * (2 + h.val) + j.val = 2816 + (1408 * h.val + j.val); omega)))))
  w2 j l := (iblk6 m c t j l).trans (H.bwd.h7 j l)

end Cert.KernelIdeal.Entry

end
-- ==== Proof.Result.lean ====
/- The result arrays after the run: each element is the row's real number, and the sums run over all 8192 rows. -/
module

public import proofs.«01_k».proof.Proof.Inputs

@[expose] public section

set_option maxRecDepth 16384

noncomputable section

namespace Cert.KernelIdeal.Entry

open Idealize.ShloMosaic Idealize.ShloMosaic.TcCoe Idealize.ShloMosaic.Tactic Cert.KernelIdeal Cert.KernelIdeal.Gen Cert.Half
open Cert.KernelIdeal.Block Cert.KernelIdeal.Value
open scoped BigOperators

variable (m : (ℓ : Loc nD τ sig) → Buf (Elt Ideal) ℓ) (c : Dev nD)
variable {P : Par} {X DY : Fin 8192 → Fin 1024 → ℝ} (H : Real m c P X DY)

/-- The point whose block has row `r`, and the row's place in it. -/
def ptOf (r : Fin 8192) : Fin cfg0.N := ⟨r.val / 256, by have := r.isLt; have hN : cfg0.N = 32 := N_0; omega⟩
def inOf (r : Fin 8192) : Fin 256 := ⟨r.val % 256, by omega⟩

theorem rowOf_ptOf (r : Fin 8192) : rowOf (ptOf r) (inOf r) = r :=
  Fin.ext (by show 256 * (r.val / 256) + r.val % 256 = r.val; omega)

theorem idx7 : ∀ t : Fin cfg0.N, win0_7.index t 0 = t.val ∧ win0_7.index t 1 = 0 :=
  (by decide +kernel : ∀ t : Fin grid0.N, win0_7.index t 0 = t.val ∧ win0_7.index t 1 = 0)

include H in
theorem block7 (t : Fin cfg0.N) (r : Fin 256) (l : Fin 1024) : ((dats m 0 c).flushed 7 t : Vec Ideal S256x1024 .f32) (ix2 r l)
    = (dxi P (X (rowOf t r)) (DY (rowOf t r)) l : EReal) := by
  by_cases h : t.val % 32 = 0
  · rw [flushed7_A m c t h]
    exact out7_A _ (blk m c H t) r l
  · rw [flushed7_B m c t h]
    exact out7_B _ (blk m c H t) r l

include H in
theorem arr7 (r : Fin 8192) (l : Fin 1024) : ((dats m 0 c).arrAt 7 cfg0.N : S8192x1024.Idx → EReal) (ix2 r l) = (dxi P (X r) (DY r) l : EReal) := by
  have h := congrFun (blocks7 m c (ptOf r) (flush0_7 _)) (ix2 (inOf r) l)
  rw [View.read_apply] at h
  have e := h.trans (block7 m c H (ptOf r) (inOf r) l)
  rw [rowOf_ptOf] at e
  rw [← e]
  refine congrArg ((dats m 0 c).arrAt 7 cfg0.N) (funext fun a => Fin.ext ?_)
  match a with
  | ⟨0, _⟩ => show r.val = win0_7.index (ptOf r) 0 * 256 + 1 * (r.val % 256); rw [(idx7 _).1]; show _ = r.val / 256 * 256 + _; omega
  | ⟨1, _⟩ => show l.val = win0_7.index (ptOf r) 1 * 1024 + 1 * l.val; rw [(idx7 _).2]; omega

theorem idx8 : ∀ t : Fin cfg0.N, win0_8.index t 0 = t.val ∧ win0_8.index t 1 = 0 :=
  (by decide +kernel : ∀ t : Fin grid0.N, win0_8.index t 0 = t.val ∧ win0_8.index t 1 = 0)

include H in
theorem block8 (t : Fin cfg0.N) (r : Fin 256) (l : Fin 1024) : ((dats m 0 c).flushed 8 t : Vec Ideal S256x1024 .bf16) (ix2 r l)
    = (hid P (X (rowOf t r)) l : EReal) := by
  by_cases h : t.val % 32 = 0
  · rw [flushed8_A m c t h]
    exact out8_A _ (blk m c H t) r l
  · rw [flushed8_B m c t h]
    exact out8_B _ (blk m c H t) r l

include H in
theorem arr8 (r : Fin 8192) (l : Fin 1024) : ((dats m 0 c).arrAt 8 cfg0.N : S8192x1024.Idx → EReal) (ix2 r l) = (hid P (X r) l : EReal) := by
  have h := congrFun (blocks8 m c (ptOf r) (flush0_8 _)) (ix2 (inOf r) l)
  rw [View.read_apply] at h
  have e := h.trans (block8 m c H (ptOf r) (inOf r) l)
  rw [rowOf_ptOf] at e
  rw [← e]
  refine congrArg ((dats m 0 c).arrAt 8 cfg0.N) (funext fun a => Fin.ext ?_)
  match a with
  | ⟨0, _⟩ => show r.val = win0_8.index (ptOf r) 0 * 256 + 1 * (r.val % 256); rw [(idx8 _).1]; show _ = r.val / 256 * 256 + _; omega
  | ⟨1, _⟩ => show l.val = win0_8.index (ptOf r) 1 * 1024 + 1 * l.val; rw [(idx8 _).2]; omega

theorem idx9 : ∀ t : Fin cfg0.N, win0_9.index t 0 = t.val ∧ win0_9.index t 1 = 0 :=
  (by decide +kernel : ∀ t : Fin grid0.N, win0_9.index t 0 = t.val ∧ win0_9.index t 1 = 0)

include H in
theorem block9 (t : Fin cfg0.N) (r : Fin 256) (l : Fin 1024) : ((dats m 0 c).flushed 9 t : Vec Ideal S256x1024 .bf16) (ix2 r l)
    = (df P (DY (rowOf t r)) l : EReal) := by
  by_cases h : t.val % 32 = 0
  · rw [flushed9_A m c t h]
    exact out9_A _ (blk m c H t) r l
  · rw [flushed9_B m c t h]
    exact out9_B _ (blk m c H t) r l

include H in
theorem arr9 (r : Fin 8192) (l : Fin 1024) : ((dats m 0 c).arrAt 9 cfg0.N : S8192x1024.Idx → EReal) (ix2 r l) = (df P (DY r) l : EReal) := by
  have h := congrFun (blocks9 m c (ptOf r) (flush0_9 _)) (ix2 (inOf r) l)
  rw [View.read_apply] at h
  have e := h.trans (block9 m c H (ptOf r) (inOf r) l)
  rw [rowOf_ptOf] at e
  rw [← e]
  refine congrArg ((dats m 0 c).arrAt 9 cfg0.N) (funext fun a => Fin.ext ?_)
  match a with
  | ⟨0, _⟩ => show r.val = win0_9.index (ptOf r) 0 * 256 + 1 * (r.val % 256); rw [(idx9 _).1]; show _ = r.val / 256 * 256 + _; omega
  | ⟨1, _⟩ => show l.val = win0_9.index (ptOf r) 1 * 1024 + 1 * l.val; rw [(idx9 _).2]; omega

theorem idx10 : ∀ t : Fin cfg0.N, win0_10.index t 0 = t.val ∧ win0_10.index t 1 = 0 :=
  (by decide +kernel : ∀ t : Fin grid0.N, win0_10.index t 0 = t.val ∧ win0_10.index t 1 = 0)

include H in
theorem block10 (t : Fin cfg0.N) (r : Fin 256) (j : Fin 2816) : ((dats m 0 c).flushed 10 t : Vec Ideal S256x2816 .bf16) (ix2 r j)
    = (act P (X (rowOf t r)) j : EReal) := by
  by_cases h : t.val % 32 = 0
  · rw [flushed10_A m c t h]
    exact out10_A _ (blk m c H t) r j
  · rw [flushed10_B m c t h]
    exact out10_B _ (blk m c H t) r j

include H in
theorem arr10 (r : Fin 8192) (j : Fin 2816) : ((dats m 0 c).arrAt 10 cfg0.N : S8192x2816.Idx → EReal) (ix2 r j) = (act P (X r) j : EReal) := by
  have h := congrFun (blocks10 m c (ptOf r) (flush0_10 _)) (ix2 (inOf r) j)
  rw [View.read_apply] at h
  have e := h.trans (block10 m c H (ptOf r) (inOf r) j)
  rw [rowOf_ptOf] at e
  rw [← e]
  refine congrArg ((dats m 0 c).arrAt 10 cfg0.N) (funext fun a => Fin.ext ?_)
  match a with
  | ⟨0, _⟩ => show r.val = win0_10.index (ptOf r) 0 * 256 + 1 * (r.val % 256); rw [(idx10 _).1]; show _ = r.val / 256 * 256 + _; omega
  | ⟨1, _⟩ => show j.val = win0_10.index (ptOf r) 1 * 2816 + 1 * j.val; rw [(idx10 _).2]; omega

theorem idx11 : ∀ t : Fin cfg0.N, win0_11.index t 0 = t.val ∧ win0_11.index t 1 = 0 :=
  (by decide +kernel : ∀ t : Fin grid0.N, win0_11.index t 0 = t.val ∧ win0_11.index t 1 = 0)

include H in
theorem block11 (t : Fin cfg0.N) (r : Fin 256) (j : Fin 5632) : ((dats m 0 c).flushed 11 t : Vec Ideal S256x5632 .bf16) (ix2 r j)
    = (da P (X (rowOf t r)) (DY (rowOf t r)) j : EReal) := by
  by_cases h : t.val % 32 = 0
  · rw [flushed11_A m c t h]
    exact out11_A _ (blk m c H t) r j
  · rw [flushed11_B m c t h]
    exact out11_B _ (blk m c H t) r j

include H in
theorem arr11 (r : Fin 8192) (j : Fin 5632) : ((dats m 0 c).arrAt 11 cfg0.N : S8192x5632.Idx → EReal) (ix2 r j) = (da P (X r) (DY r) j : EReal) := by
  have h := congrFun (blocks11 m c (ptOf r) (flush0_11 _)) (ix2 (inOf r) j)
  rw [View.read_apply] at h
  have e := h.trans (block11 m c H (ptOf r) (inOf r) j)
  rw [rowOf_ptOf] at e
  rw [← e]
  refine congrArg ((dats m 0 c).arrAt 11 cfg0.N) (funext fun a => Fin.ext ?_)
  match a with
  | ⟨0, _⟩ => show r.val = win0_11.index (ptOf r) 0 * 256 + 1 * (r.val % 256); rw [(idx11 _).1]; show _ = r.val / 256 * 256 + _; omega
  | ⟨1, _⟩ => show j.val = win0_11.index (ptOf r) 1 * 5632 + 1 * j.val; rw [(idx11 _).2]; omega

/-! ## The sums -/

/-- The sum over the rows of the first `n + 1` points. -/
def run (P : Par) (X DY : Fin 8192 → Fin 1024 → ℝ) (s : Fin 8) (l : Fin 1024) : (n : Nat) → n < cfg0.N → ℝ
  | 0, h => tileSum P (fun r => X (rowOf ⟨0, h⟩ r)) (fun r => DY (rowOf ⟨0, h⟩ r)) s l
  | n + 1, h => run P X DY s l n (Nat.lt_of_succ_lt h) + tileSum P (fun r => X (rowOf ⟨n + 1, h⟩ r)) (fun r => DY (rowOf ⟨n + 1, h⟩ r)) s l

include H in
theorem sums_A (t : Fin cfg0.N) (h : t.val % 32 = 0) (s : Fin 8) (l : Fin 1024) : (outsAt0 m c t.val t.isLt).2.2.2.2.2 (ix2 s l)
    = (tileSum P (fun r => X (rowOf t r)) (fun r => DY (rowOf t r)) s l : EReal) := by
  simp only [outsAt0_A m c t h]
  exact out12_A ((hcond0_0 t).mpr h) (blk m c H t) s l

include H in
theorem sums_B (t : Fin cfg0.N) (h : ¬t.val % 32 = 0) (s : Fin 8) (l : Fin 1024) : (outsAt0 m c t.val t.isLt).2.2.2.2.2 (ix2 s l)
    = (outsAt0 m c (t.val - 1) (lt_of_le_of_lt (Nat.sub_le _ _) t.isLt)).2.2.2.2.2 (ix2 s l)
      + (tileSum P (fun r => X (rowOf t r)) (fun r => DY (rowOf t r)) s l : EReal) := by
  rw [outsAt0_B m c t h]
  exact out12_B _ (blk m c H t) s l

include H in
theorem outs12 (s : Fin 8) (l : Fin 1024) : ∀ (n : Nat) (h : n < cfg0.N), (outsAt0 m c n h).2.2.2.2.2 (ix2 s l) = (run P X DY s l n h : EReal)
  | 0, h => sums_A m c H ⟨0, h⟩ rfl s l
  | n + 1, h => by
    have hN : cfg0.N = 32 := N_0
    have hB : ¬(⟨n + 1, h⟩ : Fin cfg0.N).val % 32 = 0 := by dsimp only; omega
    refine (sums_B m c H ⟨n + 1, h⟩ hB s l).trans ?_
    exact (congrArg (· + _) (outs12 s l n (Nat.lt_of_succ_lt h))).trans (EReal.coe_add _ _).symm

theorem run_eq (s : Fin 8) (l : Fin 1024) : ∀ (n : Nat) (h : n < cfg0.N), run P X DY s l n h
    = ∑ t : Fin (n + 1), tileSum P (fun r => X (rowOf ⟨t.val, by omega⟩ r)) (fun r => DY (rowOf ⟨t.val, by omega⟩ r)) s l
  | 0, h => by rw [Fin.sum_univ_one]; rfl
  | n + 1, h => by
    rw [Fin.sum_univ_castSucc]
    exact congrArg (· + _) (run_eq s l n (Nat.lt_of_succ_lt h))

/-- All 32 points together: every row once. -/
theorem run_all (s : Fin 8) (l : Fin 1024) (h : 31 < cfg0.N) :
    run P X DY s l 31 h = if h : s.val < 4 then ∑ r, part P (X r) (DY r) ⟨s.val, h⟩ l else 0 := by
  rw [run_eq]
  by_cases hs : s.val < 4
  · rw [dif_pos hs]
    simp only [tileSum, dif_pos hs]
    rw [← Fintype.sum_prod_type']
    refine Fintype.sum_equiv (finProdFinEquiv (m := 32) (n := 256)) _ _ fun x => ?_
    have e : rowOf (⟨x.1.val, by have := x.1.isLt; omega⟩ : Fin cfg0.N) x.2 = finProdFinEquiv (m := 32) (n := 256) x :=
      Fin.ext (by show 256 * x.1.val + x.2.val = x.2.val + 256 * x.1.val; omega)
    rw [e]
  · rw [dif_neg hs]
    simp only [tileSum, dif_neg hs, Finset.sum_const_zero]

theorem idx12 : ∀ t : Fin cfg0.N, win0_12.index t 0 = 0 ∧ win0_12.index t 1 = 0 :=
  (by decide +kernel : ∀ t : Fin grid0.N, win0_12.index t 0 = 0 ∧ win0_12.index t 1 = 0)

theorem block12 (t : Fin cfg0.N) (hf : (cfg0.win 12).flush t = true) :
    ((cfg0.win 12).blk t).view.read (Elt Ideal) ((dats m 0 c).arrAt 12 cfg0.N) = (dats m 0 c).flushed 12 t :=
  (dats m 0 c).read_blk_arrAt_eq_flushed 12 (fun t t' hf hf' ne => absurd (Fin.ext (by
    have hN : cfg0.N = 32 := N_0
    have := (flush0_12 t).mp hf; have := (flush0_12 t').mp hf'; have := t.isLt; have := t'.isLt; omega)) ne) cfg0.N t t.isLt hf

include H in
theorem arr12_at (t : Fin cfg0.N) (ht : t.val % 32 = 31) (s : Fin 8) (l : Fin 1024) :
    ((dats m 0 c).arrAt 12 cfg0.N : S8x1024.Idx → EReal) (ix2 s l) = (run P X DY s l t.val t.isLt : EReal) := by
  have h := congrFun (block12 m c t ((flush0_12 t).mpr ht)) (ix2 s l)
  rw [View.read_apply, flushed12] at h
  refine Eq.trans ?_ (h.trans (outs12 m c H s l t.val t.isLt))
  refine congrArg ((dats m 0 c).arrAt 12 cfg0.N) (funext fun a => Fin.ext ?_)
  match a with
  | ⟨0, _⟩ => show s.val = win0_12.index t 0 * 8 + 1 * s.val; rw [(idx12 t).1]; omega
  | ⟨1, _⟩ => show l.val = win0_12.index t 1 * 1024 + 1 * l.val; rw [(idx12 t).2]; omega

include H in
theorem arr12 (s : Fin 8) (l : Fin 1024) : ((dats m 0 c).arrAt 12 cfg0.N : S8x1024.Idx → EReal) (ix2 s l)
    = ((if h : s.val < 4 then ∑ r, part P (X r) (DY r) ⟨s.val, h⟩ l else 0 : ℝ) : EReal) := by
  have last : 31 < cfg0.N := by have hN : cfg0.N = 32 := N_0; omega
  exact (arr12_at m c H ⟨31, last⟩ rfl s l).trans (congrArg _ (run_all s l last))

end Cert.KernelIdeal.Entry

end
-- ==== Proof.Equal.lean ====
/- The gradient's value: on finite arguments both programs leave the row's real numbers in every result. -/
module

public import proofs.«01_k».proof.Defs
public import proofs.«01_k».proof.Proof.Result
public import proofs.«01_k».proof.Proof.Gen.ReferenceIdeal.Run
public import proofs.«01_k».proof.Proof.Gen.Pre_finite
public import Idealize.ShloMosaic.Lib.Quiescent

@[expose] public section

set_option maxRecDepth 16384

noncomputable section

namespace Cert.Half

open Idealize.ShloMosaic Idealize.ShloMosaic.TcCoe Idealize.SL.Sem
open Cert.ReferenceIdeal.Stage (Fwd Bwd)
open Cert.KernelIdeal.Entry (A Real)
open scoped BigOperators

/-- An array whose elements' magnitudes all compare below infinity holds real numbers. -/
theorem exists_reals {s : Shape} {d : Fin 0 → Fin s.rank} (x : FVec Ideal s .f32) (hb : (⟨0, ![]⟩ : Shape).BroadcastsInDim s d)
    (h : cmpf .olt (Host.absf x) (broadcastInDim s d hb (constant (F := Ideal) ⟨0, ![]⟩ .f32 0x7F800000#32)) = fun _ => 1#1) :
    ∃ f : s.Idx → ℝ, ∀ i, x i = (f i : EReal) := by
  suffices each : ∀ i, ∃ r : ℝ, x i = (r : EReal) from ⟨fun i => (each i).choose, fun i => (each i).choose_spec⟩
  intro i
  have e := congrFun h i
  refine exists_real ?_
  by_contra hn
  refine absurd e ?_
  pointwise []
  have t : Ideal.ofBits .f32 0x7F800000#32 = ⊤ := by simp [Ideal.ofBits, Ideal.ieee]
  rw [t]
  show ¬BitVec.ofBool (decide (max (x i) (-x i) < ⊤)) = 1#1
  rw [decide_eq_false hn]
  decide

/-- So finite arguments hold the numbers of some rows and parameters. -/
theorem real_of_finite (m : (ℓ : Loc KernelIdeal.nD KernelIdeal.τ KernelIdeal.sig) → Buf (Elt Ideal) ℓ) (h : Pre_KernelIdeal_finite m) (c : Dev KernelIdeal.nD) :
    ∃ P X DY, Real m c P X DY := by
  obtain ⟨h0, h1, h2, h3, h4, h5, h6, h7⟩ := h c
  obtain ⟨f0, e0⟩ := exists_reals _ _ h0
  obtain ⟨f1, e1⟩ := exists_reals _ _ h1
  obtain ⟨f2, e2⟩ := exists_reals _ _ h2
  obtain ⟨f3, e3⟩ := exists_reals _ _ h3
  obtain ⟨f4, e4⟩ := exists_reals _ _ h4
  obtain ⟨f5, e5⟩ := exists_reals _ _ h5
  obtain ⟨f6, e6⟩ := exists_reals _ _ h6
  obtain ⟨f7, e7⟩ := exists_reals _ _ h7
  exact ⟨⟨fun l => f2 (ix1 l), fun l => f3 (ix1 l), fun l => f4 (ix1 l), fun l => f5 (ix1 l), fun k j => f6 (ix2 k j), fun j l => f7 (ix2 j l)⟩,
    fun r l => f1 (ix2 r l), fun r l => f0 (ix2 r l),
    ⟨fun r l => e1 _, fun l => e2 _, fun l => e3 _, fun l => e4 _, fun k j => e6 _⟩, ⟨fun r l => e0 _, fun l => e5 _, fun j l => e7 _⟩⟩

/-- A host program that declares no semaphore ends with every counter at zero. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7))
      ∧ r.2.sem = fun _ => 0) :=
  (θ_run ReferenceIdeal.defs _ _).mono (fun r h => ⟨fun c => (h c).2.2.2.2.2.2, sem_eq_zero_of_no_sems (by decide) _⟩) (ReferenceIdeal.Value.run m g)

/-- Two arrays that hold the same real at every row and column are equal. -/
theorem same2 {n k : Nat} {x y : (⟨2, ![n, k]⟩ : Shape).Idx → EReal} {f : Fin n → Fin k → ℝ} (hx : ∀ r l, x (ix2 r l) = (f r l : EReal))
    (hy : ∀ r l, y (ix2 r l) = (f r l : EReal)) : x = y :=
  funext fun i => (congrArg x (eq_ix2 i)).trans ((hx _ _).trans ((hy _ _).symm.trans (congrArg y (eq_ix2 i).symm)))

theorem algebraic : algebraic_KernelIdeal_ReferenceIdeal_pre_finite := by
  intro m g m' g' hp hag
  refine ⟨_, _, _, _, _, _, KernelIdeal.Value.run_blocks m g, (θ_run ReferenceIdeal.defs _ _).mono (fun r h c => ?_) (ReferenceIdeal.Value.run m' g')⟩
  obtain ⟨P, X, DY, H⟩ := real_of_finite m hp c
  obtain ⟨a0, a1, a2, a3, a4, a5, a6, a7⟩ := hag c
  have f : Fwd P X (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg4))
      (m' ((c.tc : Thread ReferenceIdeal.nD ReferenceIdeal.τ).loc ReferenceIdeal.main_arg6)) := by
    rw [a1, a2, a3, a4, a6]
    exact H.fwd
  have b : Bwd P DY (m' ((c.tc : Thread ReferenceIdeal.nD ReferenceIdeal.τ).loc ReferenceIdeal.main_arg0))
      (m' ((c.tc : Thread ReferenceIdeal.nD ReferenceIdeal.τ).loc ReferenceIdeal.main_arg5))
      (m' ((c.tc : Thread ReferenceIdeal.nD ReferenceIdeal.τ).loc ReferenceIdeal.main_arg7)) := by
    rw [a0, a5, a7]
    exact H.bwd
  obtain ⟨h0, h1, h2, h3, h4, h5, hargs⟩ := h c
  exact ⟨h0.trans ((ReferenceIdeal.Read.val_main_v80_eq m' c).trans (same2 (ReferenceIdeal.Stage.v80_apply P X DY f b) (KernelIdeal.Entry.arr7 m c H))),
    h1.trans ((ReferenceIdeal.Read.val_main_v81_eq _ _ _ _).trans (same2 (ReferenceIdeal.Stage.v81_apply P X DY f b) (KernelIdeal.Entry.arr8 m c H))),
    h2.trans ((ReferenceIdeal.Read.val_main_v82_eq _ _).trans (same2 (ReferenceIdeal.Stage.v82_apply P DY b) (KernelIdeal.Entry.arr9 m c H))),
    h3.trans ((ReferenceIdeal.Read.val_main_v83_eq m' c).trans (same2 (ReferenceIdeal.Stage.v83_apply P X f) (KernelIdeal.Entry.arr10 m c H))),
    h4.trans ((ReferenceIdeal.Read.val_main_v84_eq m' c).trans (same2 (ReferenceIdeal.Stage.v84_apply P X DY f b) (KernelIdeal.Entry.arr11 m c H))),
    h5.trans ((ReferenceIdeal.Read.val_main_v91_eq m' c).trans (same2 (f := fun s l => if h : s.val < 4 then ∑ r, part P (X r) (DY r) ⟨s.val, h⟩ l else 0)
      (ReferenceIdeal.Stage.v91_apply P X DY f b) (KernelIdeal.Entry.arr12 m c H))), hargs⟩

end Cert.Half

end
-- ==== Proof.Tiles.lean ====
/- Sums over the rows of an array, taken tile by tile. -/
module

public import Idealize.ShloMosaic.Lib.Pipeline.Value
public import Idealize.ShloMosaic.Lib.Pointwise

@[expose] public section

noncomputable section

namespace Cert.Tiles

open scoped BigOperators

/-- Row `r` of the tile of 2048 rows that a grid point takes; a run of four points takes the four tiles in order. -/
abbrev rowAt (n : Nat) (r : Fin 2048) : Fin 8192 := ⟨2048 * (n % 4) + r.val, by have := Nat.mod_lt n (show 0 < 4 by decide); have := r.isLt; omega⟩

/-- The four tiles of a run hold every row once. -/
theorem sum_run (p : Nat) (f : Fin 8192 → EReal) : ∑ s ∈ Finset.range 4, ∑ r : Fin 2048, f (rowAt (4 * p + s) r) = ∑ r, f r := by
  rw [Finset.sum_range]
  rw [← Fintype.sum_prod_type' (f := fun (s : Fin 4) (r : Fin 2048) => f (rowAt (4 * p + s.val) r))]
  refine Fintype.sum_equiv (finProdFinEquiv (m := 4) (n := 2048)) _ _ fun x => congrArg f (Fin.ext ?_)
  show 2048 * ((4 * p + x.1.val) % 4) + x.2.val = x.2.val + 2048 * x.1.val
  have := x.1.isLt
  omega

/-- An accumulator over a run of four points, each point adding the sum over its tile, ends at the sum over all rows. -/
theorem run_total {ι : Type} {N : Nat} (reset : (n : Nat) → n < N → ι → EReal) (step : (n : Nat) → n < N → (ι → EReal) → ι → EReal)
    (add : Nat → ι → EReal) (f : Fin 8192 → EReal) (p b : Nat) (i : ι) (e : b = 4 * p)
    (h0 : ∀ (n : Nat) (h : n < N) (i : ι), reset n h i = 0 + add n i)
    (hs : ∀ (n : Nat) (h : n < N) (acc : ι → EReal) (i : ι), step n h acc i = acc i + add n i)
    (ha : ∀ s, s < 4 → add (4 * p + s) i = ∑ r : Fin 2048, f (rowAt (4 * p + s) r)) (h : b + 3 < N) :
    Idealize.ShloMosaic.Pipeline.accAt reset step b 3 h i = ∑ r, f r := by
  subst e
  refine (Idealize.ShloMosaic.Pipeline.accAt_add_apply (β := EReal) reset step (fun _ => 0) add _ 3 (fun h i => h0 _ h i)
    (fun n h acc i _ _ => hs n h acc i) 3 le_rfl h i).trans ((zero_add _).trans ?_)
  exact (Finset.sum_congr rfl fun s hs => ha s (Finset.mem_range.mp hs)).trans (sum_run p f)

end Cert.Tiles

end
-- ==== Proof.W1.lean ====
/- The gradient of a half step's first weight: the transposed input times the cotangent, over four tiles of rows for each block of columns. -/
module

public import proofs.«01_k».proof.Proof.Tiles
public import proofs.«01_k».proof.Proof.Gen.W1Ideal.Value
public import proofs.«01_k».proof.Proof.Gen.W1RefIdeal.Run
public import proofs.«01_k».proof.Proof.Gen.W1RefIdeal.Read
public import proofs.«01_k».proof.Defs
public import Idealize.ShloMosaic.Lib.Quiescent
public import Idealize.ShloMosaic.Lib.Pointwise

@[expose] public section

set_option maxRecDepth 16384

noncomputable section

namespace Cert.W1Ideal.Entry

open Idealize.ShloMosaic Idealize.ShloMosaic.TcCoe Idealize.ShloMosaic.Tactic Idealize.SL.Sem Cert.W1Ideal Cert.W1Ideal.Gen Cert.W1Ideal.Value Cert.Tiles
open scoped BigOperators

variable (m : (ℓ : Loc nD τ sig) → Buf (Elt Ideal) ℓ) (c : Dev nD)

abbrev X : S8192x1024.Idx → EReal := m ((c : Thread nD τ).loc main_arg0)
abbrev Y : S8192x5632.Idx → EReal := m ((c : Thread nD τ).loc main_arg1)

theorem V_x : V m c main_v0 = X m c := by
  unfold V
  simp only [hostOps0]
  after_results
  rfl

theorem V_y : V m c main_v1 = Y m c := by
  unfold V
  simp only [hostOps0]
  after_results
  rfl

/-- The column of the cotangent that a point's block holds. -/
abbrev colAt (n : Nat) (j : Fin 1408) : Fin 5632 := ⟨1408 * (n / 4 % 4) + j.val, by have := Nat.mod_lt (n / 4) (show 0 < 4 by decide); have := j.isLt; omega⟩

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem idx1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

theorem iblk0 (t : Fin cfg0.N) (r : Fin 2048) (k : Fin 1024) : (iblk m c 0 t : S2048x1024.Idx → EReal) (ix2 r k) = X m c (ix2 (rowAt t.val r) k) := by
  unfold iblk
  rw [View.read_apply]
  show V m c main_v0 _ = _
  rw [V_x]
  refine congrArg (X m c) (funext fun a => Fin.ext ?_)
  match a with
  | ⟨0, _⟩ => show win0_0.index t 0 * 2048 + 1 * r.val = 2048 * (t.val % 4) + r.val; rw [(idx0 t).1]; omega
  | ⟨1, _⟩ => show win0_0.index t 1 * 1024 + 1 * k.val = k.val; rw [(idx0 t).2]; omega

theorem iblk1 (t : Fin cfg0.N) (r : Fin 2048) (j : Fin 1408) : (iblk m c 1 t : S2048x1408.Idx → EReal) (ix2 r j) = Y m c (ix2 (rowAt t.val r) (colAt t.val j)) := by
  unfold iblk
  rw [View.read_apply]
  show V m c main_v1 _ = _
  rw [V_y]
  refine congrArg (Y m c) (funext fun a => Fin.ext ?_)
  match a with
  | ⟨0, _⟩ => show win0_1.index t 0 * 2048 + 1 * r.val = 2048 * (t.val % 4) + r.val; rw [(idx1 t).1]; omega
  | ⟨1, _⟩ => show win0_1.index t 1 * 1408 + 1 * j.val = 1408 * (t.val / 4 % 4) + j.val; rw [(idx1 t).2]; omega

/-- What a point adds to its block. -/
abbrev add (n : Nat) (i : S1x1024x1408.Idx) : EReal := ∑ r : Fin 2048, X m c (ix2 (rowAt n r) (i 1)) * Y m c (ix2 (rowAt n r) (colAt n (i 2)))

theorem step (acc : Vec Ideal S1x1024x1408 .f32) (x : Vec Ideal S2048x1024 .bf16) (y : Vec Ideal S2048x1408 .bf16) (k : Fin 1024) (j : Fin 1408) :
    k0_pay2 acc x y (ix3 0 k j) = acc (ix3 0 k j) + ∑ r : Fin 2048, x (ix2 r k) * y (ix2 r j) := by
  pointwise [k0_pay2]

theorem step_add (n : Nat) (h : n < cfg0.N) (acc : Vec Ideal S1x1024x1408 .f32) (i : S1x1024x1408.Idx) :
    k0_pay2 acc (iblk m c 0 ⟨n, h⟩) (iblk m c 1 ⟨n, h⟩) i = acc i + add m c n i := by
  obtain ⟨a, k, j, rfl⟩ : ∃ (a : Fin 1) (k : Fin 1024) (j : Fin 1408), i = ix3 a k j := ⟨_, _, _, eq_ix3 i⟩
  obtain rfl : a = 0 := Subsingleton.elim _ _
  exact (step acc _ _ k j).trans (congrArg (acc (ix3 0 k j) + ·) (Finset.sum_congr rfl fun r _ => congrArg₂ (· * ·) (iblk0 m c ⟨n, h⟩ r k) (iblk1 m c ⟨n, h⟩ r j)))

theorem result (p : Fin 4) (k : Fin 1024) (j : Fin 1408) : (G2 m c : S4x1024x1408.Idx → EReal) (ix3 p k j)
    = ∑ r, X m c (ix2 r k) * Y m c (ix2 r (colAt (4 * p.val) j)) := by
  have hN : cfg0.N = 16 := N_0
  have hp := p.isLt
  have e : run2Of (ix3 p k j) = p.val := by
    show 1 * (p.val / 1 - 0) + 1 * (k.val / 1024 - 0) + 1 * (j.val / 1408 - 0) = p.val
    have := k.isLt; have := j.isLt; omega
  have el : loc2Of (ix3 p k j) = ix3 0 k j := funext fun a => Fin.ext (match a with
    | ⟨0, _⟩ => Nat.mod_one _
    | ⟨1, _⟩ => Nat.mod_eq_of_lt k.isLt
    | ⟨2, _⟩ => Nat.mod_eq_of_lt j.isLt)
  show G2 m c (ix3 p k j) = _
  unfold G2
  rw [dif_pos (by rw [e]; omega), el]
  refine run_total (reset2 m c) (step2 m c) (add m c) (fun r => X m c (ix2 r k) * Y m c (ix2 r (colAt (4 * p.val) j))) p.val _ _ (congrArg (4 * ·) e)
    (fun n h i => (step_add m c n h _ i).trans (congrArg (· + _) (by show k0_pay1 (F := Ideal) i = 0; pointwise [k0_pay1])))
    (fun n h acc i => step_add m c n h acc i) (fun s hs => Finset.sum_congr rfl fun r _ => ?_) _
  refine congrArg (_ * ·) (congrArg (Y m c) (congrArg (ix2 _) (Fin.ext ?_)))
  show 1408 * ((4 * p.val + s) / 4 % 4) + j.val = 1408 * (4 * p.val / 4 % 4) + j.val
  omega

end Cert.W1Ideal.Entry

namespace Cert.W1

open Idealize.ShloMosaic Idealize.ShloMosaic.TcCoe Idealize.ShloMosaic.Tactic Idealize.SL.Sem Cert.W1RefIdeal.Read
open scoped BigOperators

theorem plain (x : Vec Ideal W1RefIdeal.S8192x1024 .f32) (y : Vec Ideal W1RefIdeal.S8192x5632 .f32) (k : Fin 1024) (l : Fin 5632) :
    val_main_v3 (F := Ideal) x y (ix2 k l) = ∑ r : Fin 8192, x (ix2 r k) * y (ix2 r l) := by
  pointwise [val_main_v3, val_main_v2]
  exact Finset.sum_congr rfl fun r _ => mul_comm _ _

theorem stacked (x : Vec Ideal W1RefIdeal.S8192x1024 .f32) (y : Vec Ideal W1RefIdeal.S8192x5632 .f32) (p : Fin 4) (k : Fin 1024) (j : Fin 1408) :
    val_main_v12 (F := Ideal) x y (ix3 p k j) = ∑ r : Fin 8192, x (ix2 r k) * y (ix2 r (W1Ideal.Entry.colAt (4 * p.val) j)) := by
  refine Eq.trans ?_ (plain x y k _)
  pointwise [val_main_v12, val_main_v11, val_main_v10, val_main_v9, val_main_v8, val_main_v7, val_main_v6, val_main_v5, val_main_v4]
  fin_cases p
  all_goals exact congrArg (fun l => val_main_v3 (F := Ideal) x y (ix2 k l)) (Fin.ext (by dsimp only <;> omega))

theorem algebraic : algebraic_W1Ideal_W1RefIdeal := by
  intro m g m' g' _ hag
  refine ⟨_, W1Ideal.Value.run m g, (θ_run W1RefIdeal.defs _ _).mono (fun r h c => ?_) (W1RefIdeal.Value.run m' g')⟩
  obtain ⟨a0, a1⟩ := hag c
  obtain ⟨h0, hargs⟩ := h c
  refine ⟨h0.trans ((val_main_v12_eq _ _).trans (funext fun i => ?_)), hargs⟩
  rw [a0, a1]
  exact (congrArg _ (eq_ix3 i)).trans ((stacked _ _ _ _ _).trans ((W1Ideal.Entry.result m c _ _ _).symm.trans (congrArg (W1Ideal.Value.G2 m c) (eq_ix3 i).symm)))

end Cert.W1

end
-- ==== Proof.W2.lean ====
/- The gradient of a half step's second weight: the transposed input times the cotangent, over four tiles of rows for each block of rows of the result. -/
module

public import proofs.«01_k».proof.Proof.Tiles
public import proofs.«01_k».proof.Proof.Gen.W2Ideal.Value
public import proofs.«01_k».proof.Proof.Gen.W2RefIdeal.Run
public import proofs.«01_k».proof.Proof.Gen.W2RefIdeal.Read
public import proofs.«01_k».proof.Defs
public import Idealize.ShloMosaic.Lib.Quiescent
public import Idealize.ShloMosaic.Lib.Pointwise

@[expose] public section

set_option maxRecDepth 16384

noncomputable section

namespace Cert.W2Ideal.Entry

open Idealize.ShloMosaic Idealize.ShloMosaic.TcCoe Idealize.ShloMosaic.Tactic Idealize.SL.Sem Cert.W2Ideal Cert.W2Ideal.Gen Cert.W2Ideal.Value Cert.Tiles
open scoped BigOperators

variable (m : (ℓ : Loc nD τ sig) → Buf (Elt Ideal) ℓ) (c : Dev nD)

abbrev X : S8192x2816.Idx → EReal := m ((c : Thread nD τ).loc main_arg0)
abbrev Y : S8192x1024.Idx → EReal := m ((c : Thread nD τ).loc main_arg1)

theorem V_x : V m c main_v0 = X m c := by
  unfold V
  simp only [hostOps0]
  after_results
  rfl

theorem V_y : V m c main_v1 = Y m c := by
  unfold V
  simp only [hostOps0]
  after_results
  rfl

/-- The column of the input that a point's block holds. -/
abbrev colAt (n : Nat) (k : Fin 1408) : Fin 2816 := ⟨1408 * (n / 4 % 2) + k.val, by have := Nat.mod_lt (n / 4) (show 0 < 2 by decide); have := k.isLt; omega⟩

theorem idx0 : ∀ t : Fin cfg0.N, win0_0.index t 0 = t.val % 4 ∧ win0_0.index t 1 = t.val / 4 % 2 :=
  (by decide +kernel : ∀ t : Fin grid0.N, win0_0.index t 0 = t.val % 4 ∧ win0_0.index t 1 = t.val / 4 % 2)

theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem iblk0 (t : Fin cfg0.N) (r : Fin 2048) (k : Fin 1408) : (iblk m c 0 t : S2048x1408.Idx → EReal) (ix2 r k) = X m c (ix2 (rowAt t.val r) (colAt t.val k)) := by
  unfold iblk
  rw [View.read_apply]
  show V m c main_v0 _ = _
  rw [V_x]
  refine congrArg (X m c) (funext fun a => Fin.ext ?_)
  match a with
  | ⟨0, _⟩ => show win0_0.index t 0 * 2048 + 1 * r.val = 2048 * (t.val % 4) + r.val; rw [(idx0 t).1]; omega
  | ⟨1, _⟩ => show win0_0.index t 1 * 1408 + 1 * k.val = 1408 * (t.val / 4 % 2) + k.val; rw [(idx0 t).2]; omega

theorem iblk1 (t : Fin cfg0.N) (r : Fin 2048) (j : Fin 1024) : (iblk m c 1 t : S2048x1024.Idx → EReal) (ix2 r j) = Y m c (ix2 (rowAt t.val r) j) := by
  unfold iblk
  rw [View.read_apply]
  show V m c main_v1 _ = _
  rw [V_y]
  refine congrArg (Y m c) (funext fun a => Fin.ext ?_)
  match a with
  | ⟨0, _⟩ => show win0_1.index t 0 * 2048 + 1 * r.val = 2048 * (t.val % 4) + r.val; rw [(idx1 t).1]; omega
  | ⟨1, _⟩ => show win0_1.index t 1 * 1024 + 1 * j.val = j.val; rw [(idx1 t).2]; omega

/-- What a point adds to its block. -/
abbrev add (n : Nat) (i : S1x1408x1024.Idx) : EReal := ∑ r : Fin 2048, X m c (ix2 (rowAt n r) (colAt n (i 1))) * Y m c (ix2 (rowAt n r) (i 2))

theorem step (acc : Vec Ideal S1x1408x1024 .f32) (x : Vec Ideal S2048x1408 .bf16) (y : Vec Ideal S2048x1024 .bf16) (k : Fin 1408) (j : Fin 1024) :
    k0_pay2 acc x y (ix3 0 k j) = acc (ix3 0 k j) + ∑ r : Fin 2048, x (ix2 r k) * y (ix2 r j) := by
  pointwise [k0_pay2]

theorem step_add (n : Nat) (h : n < cfg0.N) (acc : Vec Ideal S1x1408x1024 .f32) (i : S1x1408x1024.Idx) :
    k0_pay2 acc (iblk m c 0 ⟨n, h⟩) (iblk m c 1 ⟨n, h⟩) i = acc i + add m c n i := by
  obtain ⟨a, k, j, rfl⟩ : ∃ (a : Fin 1) (k : Fin 1408) (j : Fin 1024), i = ix3 a k j := ⟨_, _, _, eq_ix3 i⟩
  obtain rfl : a = 0 := Subsingleton.elim _ _
  exact (step acc _ _ k j).trans (congrArg (acc (ix3 0 k j) + ·) (Finset.sum_congr rfl fun r _ => congrArg₂ (· * ·) (iblk0 m c ⟨n, h⟩ r k) (iblk1 m c ⟨n, h⟩ r j)))

theorem result (p : Fin 2) (k : Fin 1408) (j : Fin 1024) : (G2 m c : S2x1408x1024.Idx → EReal) (ix3 p k j)
    = ∑ r, X m c (ix2 r (colAt (4 * p.val) k)) * Y m c (ix2 r j) := by
  have hN : cfg0.N = 8 := N_0
  have hp := p.isLt
  have e : run2Of (ix3 p k j) = p.val := by
    show 1 * (p.val / 1 - 0) + 1 * (k.val / 1408 - 0) + 1 * (j.val / 1024 - 0) = p.val
    have := k.isLt; have := j.isLt; omega
  have el : loc2Of (ix3 p k j) = ix3 0 k j := funext fun a => Fin.ext (match a with
    | ⟨0, _⟩ => Nat.mod_one _
    | ⟨1, _⟩ => Nat.mod_eq_of_lt k.isLt
    | ⟨2, _⟩ => Nat.mod_eq_of_lt j.isLt)
  show G2 m c (ix3 p k j) = _
  unfold G2
  rw [dif_pos (by rw [e]; omega), el]
  refine run_total (reset2 m c) (step2 m c) (add m c) (fun r => X m c (ix2 r (colAt (4 * p.val) k)) * Y m c (ix2 r j)) p.val _ _ (congrArg (4 * ·) e)
    (fun n h i => (step_add m c n h _ i).trans (congrArg (· + _) (by show k0_pay1 (F := Ideal) i = 0; pointwise [k0_pay1])))
    (fun n h acc i => step_add m c n h acc i) (fun s hs => Finset.sum_congr rfl fun r _ => ?_) _
  refine congrArg (· * _) (congrArg (X m c) (congrArg (ix2 _) (Fin.ext ?_)))
  show 1408 * ((4 * p.val + s) / 4 % 2) + k.val = 1408 * (4 * p.val / 4 % 2) + k.val
  omega

end Cert.W2Ideal.Entry

namespace Cert.W2

open Idealize.ShloMosaic Idealize.ShloMosaic.TcCoe Idealize.ShloMosaic.Tactic Idealize.SL.Sem Cert.W2RefIdeal.Read
open scoped BigOperators

theorem plain (x : Vec Ideal W2RefIdeal.S8192x2816 .f32) (y : Vec Ideal W2RefIdeal.S8192x1024 .f32) (k : Fin 2816) (l : Fin 1024) :
    val_main_v3 (F := Ideal) x y (ix2 k l) = ∑ r : Fin 8192, x (ix2 r k) * y (ix2 r l) := by
  pointwise [val_main_v3, val_main_v2]
  exact Finset.sum_congr rfl fun r _ => mul_comm _ _

theorem stacked (x : Vec Ideal W2RefIdeal.S8192x2816 .f32) (y : Vec Ideal W2RefIdeal.S8192x1024 .f32) (p : Fin 2) (k : Fin 1408) (j : Fin 1024) :
    val_main_v8 (F := Ideal) x y (ix3 p k j) = ∑ r : Fin 8192, x (ix2 r (W2Ideal.Entry.colAt (4 * p.val) k)) * y (ix2 r j) := by
  refine Eq.trans ?_ (plain x y _ j)
  pointwise [val_main_v8, val_main_v7, val_main_v6, val_main_v5, val_main_v4]
  fin_cases p
  all_goals exact congrArg (fun l => val_main_v3 (F := Ideal) x y (ix2 l j)) (Fin.ext (by dsimp only <;> omega))

theorem algebraic : algebraic_W2Ideal_W2RefIdeal := by
  intro m g m' g' _ hag
  refine ⟨_, W2Ideal.Value.run m g, (θ_run W2RefIdeal.defs _ _).mono (fun r h c => ?_) (W2RefIdeal.Value.run m' g')⟩
  obtain ⟨a0, a1⟩ := hag c
  obtain ⟨h0, hargs⟩ := h c
  refine ⟨h0.trans ((val_main_v8_eq _ _).trans (funext fun i => ?_)), hargs⟩
  rw [a0, a1]
  exact (congrArg _ (eq_ix3 i)).trans ((stacked _ _ _ _ _).trans ((W2Ideal.Entry.result m c _ _ _).symm.trans (congrArg (W2Ideal.Value.G2 m c) (eq_ix3 i).symm)))

end Cert.W2

end
-- ==== Proof.Win.lean ====
/- The gradient of the mixer's input weight: the transposed input times the cotangent, over four tiles of rows for each block of columns. -/
module

public import proofs.«01_k».proof.Proof.Tiles
public import proofs.«01_k».proof.Proof.Gen.WinIdeal.Value
public import proofs.«01_k».proof.Proof.Gen.WinRefIdeal.Run
public import proofs.«01_k».proof.Proof.Gen.WinRefIdeal.Read
public import proofs.«01_k».proof.Defs
public import Idealize.ShloMosaic.Lib.Quiescent
public import Idealize.ShloMosaic.Lib.Pointwise

@[expose] public section

set_option maxRecDepth 16384

noncomputable section

namespace Cert.WinIdeal.Entry

open Idealize.ShloMosaic Idealize.ShloMosaic.TcCoe Idealize.ShloMosaic.Tactic Idealize.SL.Sem Cert.WinIdeal Cert.WinIdeal.Gen Cert.WinIdeal.Value Cert.Tiles
open scoped BigOperators

variable (m : (ℓ : Loc nD τ sig) → Buf (Elt Ideal) ℓ) (c : Dev nD)

abbrev X : S8192x1024.Idx → EReal := m ((c : Thread nD τ).loc main_arg0)
abbrev Y : S8192x3072.Idx → EReal := m ((c : Thread nD τ).loc main_arg1)

theorem V_x : V m c main_v0 = X m c := by
  unfold V
  simp only [hostOps0]
  after_results
  rfl

theorem V_y : V m c main_v1 = Y m c := by
  unfold V
  simp only [hostOps0]
  after_results
  rfl

/-- The column of the cotangent that a point's block holds. -/
abbrev colAt (n : Nat) (j : Fin 768) : Fin 3072 := ⟨768 * (n / 4 % 4) + j.val, by have := Nat.mod_lt (n / 4) (show 0 < 4 by decide); have := j.isLt; omega⟩

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem idx1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

theorem iblk0 (t : Fin cfg0.N) (r : Fin 2048) (k : Fin 1024) : (iblk m c 0 t : S2048x1024.Idx → EReal) (ix2 r k) = X m c (ix2 (rowAt t.val r) k) := by
  unfold iblk
  rw [View.read_apply]
  show V m c main_v0 _ = _
  rw [V_x]
  refine congrArg (X m c) (funext fun a => Fin.ext ?_)
  match a with
  | ⟨0, _⟩ => show win0_0.index t 0 * 2048 + 1 * r.val = 2048 * (t.val % 4) + r.val; rw [(idx0 t).1]; omega
  | ⟨1, _⟩ => show win0_0.index t 1 * 1024 + 1 * k.val = k.val; rw [(idx0 t).2]; omega

theorem iblk1 (t : Fin cfg0.N) (r : Fin 2048) (j : Fin 768) : (iblk m c 1 t : S2048x768.Idx → EReal) (ix2 r j) = Y m c (ix2 (rowAt t.val r) (colAt t.val j)) := by
  unfold iblk
  rw [View.read_apply]
  show V m c main_v1 _ = _
  rw [V_y]
  refine congrArg (Y m c) (funext fun a => Fin.ext ?_)
  match a with
  | ⟨0, _⟩ => show win0_1.index t 0 * 2048 + 1 * r.val = 2048 * (t.val % 4) + r.val; rw [(idx1 t).1]; omega
  | ⟨1, _⟩ => show win0_1.index t 1 * 768 + 1 * j.val = 768 * (t.val / 4 % 4) + j.val; rw [(idx1 t).2]; omega

/-- What a point adds to its block. -/
abbrev add (n : Nat) (i : S1x1024x768.Idx) : EReal := ∑ r : Fin 2048, X m c (ix2 (rowAt n r) (i 1)) * Y m c (ix2 (rowAt n r) (colAt n (i 2)))

theorem step (acc : Vec Ideal S1x1024x768 .f32) (x : Vec Ideal S2048x1024 .bf16) (y : Vec Ideal S2048x768 .bf16) (k : Fin 1024) (j : Fin 768) :
    k0_pay2 acc x y (ix3 0 k j) = acc (ix3 0 k j) + ∑ r : Fin 2048, x (ix2 r k) * y (ix2 r j) := by
  pointwise [k0_pay2]

theorem step_add (n : Nat) (h : n < cfg0.N) (acc : Vec Ideal S1x1024x768 .f32) (i : S1x1024x768.Idx) :
    k0_pay2 acc (iblk m c 0 ⟨n, h⟩) (iblk m c 1 ⟨n, h⟩) i = acc i + add m c n i := by
  obtain ⟨a, k, j, rfl⟩ : ∃ (a : Fin 1) (k : Fin 1024) (j : Fin 768), i = ix3 a k j := ⟨_, _, _, eq_ix3 i⟩
  obtain rfl : a = 0 := Subsingleton.elim _ _
  exact (step acc _ _ k j).trans (congrArg (acc (ix3 0 k j) + ·) (Finset.sum_congr rfl fun r _ => congrArg₂ (· * ·) (iblk0 m c ⟨n, h⟩ r k) (iblk1 m c ⟨n, h⟩ r j)))

theorem result (p : Fin 4) (k : Fin 1024) (j : Fin 768) : (G2 m c : S4x1024x768.Idx → EReal) (ix3 p k j)
    = ∑ r, X m c (ix2 r k) * Y m c (ix2 r (colAt (4 * p.val) j)) := by
  have hN : cfg0.N = 16 := N_0
  have hp := p.isLt
  have e : run2Of (ix3 p k j) = p.val := by
    show 1 * (p.val / 1 - 0) + 1 * (k.val / 1024 - 0) + 1 * (j.val / 768 - 0) = p.val
    have := k.isLt; have := j.isLt; omega
  have el : loc2Of (ix3 p k j) = ix3 0 k j := funext fun a => Fin.ext (match a with
    | ⟨0, _⟩ => Nat.mod_one _
    | ⟨1, _⟩ => Nat.mod_eq_of_lt k.isLt
    | ⟨2, _⟩ => Nat.mod_eq_of_lt j.isLt)
  show G2 m c (ix3 p k j) = _
  unfold G2
  rw [dif_pos (by rw [e]; omega), el]
  refine run_total (reset2 m c) (step2 m c) (add m c) (fun r => X m c (ix2 r k) * Y m c (ix2 r (colAt (4 * p.val) j))) p.val _ _ (congrArg (4 * ·) e)
    (fun n h i => (step_add m c n h _ i).trans (congrArg (· + _) (by show k0_pay1 (F := Ideal) i = 0; pointwise [k0_pay1])))
    (fun n h acc i => step_add m c n h acc i) (fun s hs => Finset.sum_congr rfl fun r _ => ?_) _
  refine congrArg (_ * ·) (congrArg (Y m c) (congrArg (ix2 _) (Fin.ext ?_)))
  show 768 * ((4 * p.val + s) / 4 % 4) + j.val = 768 * (4 * p.val / 4 % 4) + j.val
  omega

end Cert.WinIdeal.Entry

namespace Cert.Win

open Idealize.ShloMosaic Idealize.ShloMosaic.TcCoe Idealize.ShloMosaic.Tactic Idealize.SL.Sem Cert.WinRefIdeal.Read
open scoped BigOperators

theorem plain (x : Vec Ideal WinRefIdeal.S8192x1024 .f32) (y : Vec Ideal WinRefIdeal.S8192x3072 .f32) (k : Fin 1024) (l : Fin 3072) :
    val_main_v3 (F := Ideal) x y (ix2 k l) = ∑ r : Fin 8192, x (ix2 r k) * y (ix2 r l) := by
  pointwise [val_main_v3, val_main_v2]
  exact Finset.sum_congr rfl fun r _ => mul_comm _ _

theorem stacked (x : Vec Ideal WinRefIdeal.S8192x1024 .f32) (y : Vec Ideal WinRefIdeal.S8192x3072 .f32) (p : Fin 4) (k : Fin 1024) (j : Fin 768) :
    val_main_v12 (F := Ideal) x y (ix3 p k j) = ∑ r : Fin 8192, x (ix2 r k) * y (ix2 r (WinIdeal.Entry.colAt (4 * p.val) j)) := by
  refine Eq.trans ?_ (plain x y k _)
  pointwise [val_main_v12, val_main_v11, val_main_v10, val_main_v9, val_main_v8, val_main_v7, val_main_v6, val_main_v5, val_main_v4]
  fin_cases p
  all_goals exact congrArg (fun l => val_main_v3 (F := Ideal) x y (ix2 k l)) (Fin.ext (by dsimp only <;> omega))

theorem algebraic : algebraic_WinIdeal_WinRefIdeal := by
  intro m g m' g' _ hag
  refine ⟨_, WinIdeal.Value.run m g, (θ_run WinRefIdeal.defs _ _).mono (fun r h c => ?_) (WinRefIdeal.Value.run m' g')⟩
  obtain ⟨a0, a1⟩ := hag c
  obtain ⟨h0, hargs⟩ := h c
  refine ⟨h0.trans ((val_main_v12_eq _ _).trans (funext fun i => ?_)), hargs⟩
  rw [a0, a1]
  exact (congrArg _ (eq_ix3 i)).trans ((stacked _ _ _ _ _).trans ((WinIdeal.Entry.result m c _ _ _).symm.trans (congrArg (WinIdeal.Value.G2 m c) (eq_ix3 i).symm)))

end Cert.Win

end
-- ==== Proof.Wout.lean ====
/- The gradient of the mixer's output weight: the transposed input times the cotangent, over four tiles of rows for each block of rows of the result. -/
module

public import proofs.«01_k».proof.Proof.Tiles
public import proofs.«01_k».proof.Proof.Gen.WoutIdeal.Value
public import proofs.«01_k».proof.Proof.Gen.WoutRefIdeal.Run
public import proofs.«01_k».proof.Proof.Gen.WoutRefIdeal.Read
public import proofs.«01_k».proof.Defs
public import Idealize.ShloMosaic.Lib.Quiescent
public import Idealize.ShloMosaic.Lib.Pointwise

@[expose] public section

set_option maxRecDepth 16384

noncomputable section

namespace Cert.WoutIdeal.Entry

open Idealize.ShloMosaic Idealize.ShloMosaic.TcCoe Idealize.ShloMosaic.Tactic Idealize.SL.Sem Cert.WoutIdeal Cert.WoutIdeal.Gen Cert.WoutIdeal.Value Cert.Tiles
open scoped BigOperators

variable (m : (ℓ : Loc nD τ sig) → Buf (Elt Ideal) ℓ) (c : Dev nD)

abbrev X : S8192x1024.Idx → EReal := m ((c : Thread nD τ).loc main_arg0)
abbrev Y : S8192x1024.Idx → EReal := m ((c : Thread nD τ).loc main_arg1)

theorem V_x : V m c main_v0 = X m c := by
  unfold V
  simp only [hostOps0]
  after_results
  rfl

theorem V_y : V m c main_v1 = Y m c := by
  unfold V
  simp only [hostOps0]
  after_results
  rfl

/-- The column of the input that a point's block holds. -/
abbrev colAt (n : Nat) (k : Fin 512) : Fin 1024 := ⟨512 * (n / 4 % 2) + k.val, by have := Nat.mod_lt (n / 4) (show 0 < 2 by decide); have := k.isLt; omega⟩

theorem idx0 : ∀ t : Fin cfg0.N, win0_0.index t 0 = t.val % 4 ∧ win0_0.index t 1 = t.val / 4 % 2 :=
  (by decide +kernel : ∀ t : Fin grid0.N, win0_0.index t 0 = t.val % 4 ∧ win0_0.index t 1 = t.val / 4 % 2)

theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem iblk0 (t : Fin cfg0.N) (r : Fin 2048) (k : Fin 512) : (iblk m c 0 t : S2048x512.Idx → EReal) (ix2 r k) = X m c (ix2 (rowAt t.val r) (colAt t.val k)) := by
  unfold iblk
  rw [View.read_apply]
  show V m c main_v0 _ = _
  rw [V_x]
  refine congrArg (X m c) (funext fun a => Fin.ext ?_)
  match a with
  | ⟨0, _⟩ => show win0_0.index t 0 * 2048 + 1 * r.val = 2048 * (t.val % 4) + r.val; rw [(idx0 t).1]; omega
  | ⟨1, _⟩ => show win0_0.index t 1 * 512 + 1 * k.val = 512 * (t.val / 4 % 2) + k.val; rw [(idx0 t).2]; omega

theorem iblk1 (t : Fin cfg0.N) (r : Fin 2048) (j : Fin 1024) : (iblk m c 1 t : S2048x1024.Idx → EReal) (ix2 r j) = Y m c (ix2 (rowAt t.val r) j) := by
  unfold iblk
  rw [View.read_apply]
  show V m c main_v1 _ = _
  rw [V_y]
  refine congrArg (Y m c) (funext fun a => Fin.ext ?_)
  match a with
  | ⟨0, _⟩ => show win0_1.index t 0 * 2048 + 1 * r.val = 2048 * (t.val % 4) + r.val; rw [(idx1 t).1]; omega
  | ⟨1, _⟩ => show win0_1.index t 1 * 1024 + 1 * j.val = j.val; rw [(idx1 t).2]; omega

/-- What a point adds to its block. -/
abbrev add (n : Nat) (i : S1x512x1024.Idx) : EReal := ∑ r : Fin 2048, X m c (ix2 (rowAt n r) (colAt n (i 1))) * Y m c (ix2 (rowAt n r) (i 2))

theorem step (acc : Vec Ideal S1x512x1024 .f32) (x : Vec Ideal S2048x512 .bf16) (y : Vec Ideal S2048x1024 .bf16) (k : Fin 512) (j : Fin 1024) :
    k0_pay2 acc x y (ix3 0 k j) = acc (ix3 0 k j) + ∑ r : Fin 2048, x (ix2 r k) * y (ix2 r j) := by
  pointwise [k0_pay2]

theorem step_add (n : Nat) (h : n < cfg0.N) (acc : Vec Ideal S1x512x1024 .f32) (i : S1x512x1024.Idx) :
    k0_pay2 acc (iblk m c 0 ⟨n, h⟩) (iblk m c 1 ⟨n, h⟩) i = acc i + add m c n i := by
  obtain ⟨a, k, j, rfl⟩ : ∃ (a : Fin 1) (k : Fin 512) (j : Fin 1024), i = ix3 a k j := ⟨_, _, _, eq_ix3 i⟩
  obtain rfl : a = 0 := Subsingleton.elim _ _
  exact (step acc _ _ k j).trans (congrArg (acc (ix3 0 k j) + ·) (Finset.sum_congr rfl fun r _ => congrArg₂ (· * ·) (iblk0 m c ⟨n, h⟩ r k) (iblk1 m c ⟨n, h⟩ r j)))

theorem result (p : Fin 2) (k : Fin 512) (j : Fin 1024) : (G2 m c : S2x512x1024.Idx → EReal) (ix3 p k j)
    = ∑ r, X m c (ix2 r (colAt (4 * p.val) k)) * Y m c (ix2 r j) := by
  have hN : cfg0.N = 8 := N_0
  have hp := p.isLt
  have e : run2Of (ix3 p k j) = p.val := by
    show 1 * (p.val / 1 - 0) + 1 * (k.val / 512 - 0) + 1 * (j.val / 1024 - 0) = p.val
    have := k.isLt; have := j.isLt; omega
  have el : loc2Of (ix3 p k j) = ix3 0 k j := funext fun a => Fin.ext (match a with
    | ⟨0, _⟩ => Nat.mod_one _
    | ⟨1, _⟩ => Nat.mod_eq_of_lt k.isLt
    | ⟨2, _⟩ => Nat.mod_eq_of_lt j.isLt)
  show G2 m c (ix3 p k j) = _
  unfold G2
  rw [dif_pos (by rw [e]; omega), el]
  refine run_total (reset2 m c) (step2 m c) (add m c) (fun r => X m c (ix2 r (colAt (4 * p.val) k)) * Y m c (ix2 r j)) p.val _ _ (congrArg (4 * ·) e)
    (fun n h i => (step_add m c n h _ i).trans (congrArg (· + _) (by show k0_pay1 (F := Ideal) i = 0; pointwise [k0_pay1])))
    (fun n h acc i => step_add m c n h acc i) (fun s hs => Finset.sum_congr rfl fun r _ => ?_) _
  refine congrArg (· * _) (congrArg (X m c) (congrArg (ix2 _) (Fin.ext ?_)))
  show 512 * ((4 * p.val + s) / 4 % 2) + k.val = 512 * (4 * p.val / 4 % 2) + k.val
  omega

end Cert.WoutIdeal.Entry

namespace Cert.Wout

open Idealize.ShloMosaic Idealize.ShloMosaic.TcCoe Idealize.ShloMosaic.Tactic Idealize.SL.Sem Cert.WoutRefIdeal.Read
open scoped BigOperators

theorem plain (x : Vec Ideal WoutRefIdeal.S8192x1024 .f32) (y : Vec Ideal WoutRefIdeal.S8192x1024 .f32) (k : Fin 1024) (l : Fin 1024) :
    val_main_v3 (F := Ideal) x y (ix2 k l) = ∑ r : Fin 8192, x (ix2 r k) * y (ix2 r l) := by
  pointwise [val_main_v3, val_main_v2]
  exact Finset.sum_congr rfl fun r _ => mul_comm _ _

theorem stacked (x : Vec Ideal WoutRefIdeal.S8192x1024 .f32) (y : Vec Ideal WoutRefIdeal.S8192x1024 .f32) (p : Fin 2) (k : Fin 512) (j : Fin 1024) :
    val_main_v8 (F := Ideal) x y (ix3 p k j) = ∑ r : Fin 8192, x (ix2 r (WoutIdeal.Entry.colAt (4 * p.val) k)) * y (ix2 r j) := by
  refine Eq.trans ?_ (plain x y _ j)
  pointwise [val_main_v8, val_main_v7, val_main_v6, val_main_v5, val_main_v4]
  fin_cases p
  all_goals exact congrArg (fun l => val_main_v3 (F := Ideal) x y (ix2 l j)) (Fin.ext (by dsimp only <;> omega))

theorem algebraic : algebraic_WoutIdeal_WoutRefIdeal := by
  intro m g m' g' _ hag
  refine ⟨_, WoutIdeal.Value.run m g, (θ_run WoutRefIdeal.defs _ _).mono (fun r h c => ?_) (WoutRefIdeal.Value.run m' g')⟩
  obtain ⟨a0, a1⟩ := hag c
  obtain ⟨h0, hargs⟩ := h c
  refine ⟨h0.trans ((val_main_v8_eq _ _).trans (funext fun i => ?_)), hargs⟩
  rw [a0, a1]
  exact (congrArg _ (eq_ix3 i)).trans ((stacked _ _ _ _ _).trans ((WoutIdeal.Entry.result m c _ _ _).symm.trans (congrArg (WoutIdeal.Value.G2 m c) (eq_ix3 i).symm)))

end Cert.Wout

end
-- ==== Proof.Ffn.lean ====
/- The forward half step: each tile of rows holds the same step of its rows, with the two halves of the hidden columns added one after the other. -/
module

public import proofs.«01_k».proof.Proof.Tiles
public import proofs.«01_k».proof.Proof.Gen.FfnIdeal.Value
public import proofs.«01_k».proof.Proof.Gen.FfnRefIdeal.Run
public import proofs.«01_k».proof.Proof.Gen.FfnRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.Step

open Idealize.ShloMosaic
open scoped BigOperators

/-- The step's parameters. -/
structure Par where
  ng : Fin 1024 → EReal
  sc : Fin 1024 → EReal
  sh : Fin 1024 → EReal
  gt : Fin 1024 → EReal
  w1 : Fin 1024 → Fin 5632 → EReal
  w2 : Fin 2816 → Fin 1024 → EReal

variable (P : Par) (x : Fin 1024 → EReal)

def rms : EReal := Ideal.rsqrt (Ideal.div (∑ k, x k * x k) (Ideal.ofBits .f32 0x44800000#32) + Ideal.ofBits .f32 0x358637BD#32)

def hid (l : Fin 1024) : EReal := x l * rms x * P.ng l * (1 + P.sc l) + P.sh l

def pre (j : Fin 5632) : EReal := ∑ k, hid P x k * P.w1 k j

def act (j : Fin 2816) : EReal :=
  pre P x ⟨j.val, by omega⟩ * Ideal.logistic (pre P x ⟨j.val, by omega⟩) * pre P x ⟨2816 + j.val, by omega⟩

def out (l : Fin 1024) : EReal := ∑ j, act P x j * P.w2 j l

def next (l : Fin 1024) : EReal := x l + Ideal.ofBits .f32 0x3F000000#32 * P.gt l * out P x l

/-- The sum over the hidden columns in two halves. -/
theorem out_halves (l : Fin 1024) : out P x l = (∑ j : Fin 1408, act P x ⟨j.val, by omega⟩ * P.w2 ⟨j.val, by omega⟩ l)
    + ∑ j : Fin 1408, act P x ⟨1408 + j.val, by omega⟩ * P.w2 ⟨1408 + j.val, by omega⟩ l := by
  unfold out
  exact Fin.sum_univ_add (a := 1408) (b := 1408) (fun j => act P x j * P.w2 j l)

/-- The arrays as parameters. -/
def params (ng sc sh gt : Vec Ideal ⟨1, ![1024]⟩ .f32) (w1 : Vec Ideal ⟨2, ![1024, 5632]⟩ .f32) (w2 : Vec Ideal ⟨2, ![2816, 1024]⟩ .f32) : Par :=
  ⟨fun l => ng (ix1 l), fun l => sc (ix1 l), fun l => sh (ix1 l), fun l => gt (ix1 l), fun k j => w1 (ix2 k j), fun j l => w2 (ix2 j l)⟩

/-- A row of an array. -/
abbrev row (x : Vec Ideal ⟨2, ![8192, 1024]⟩ .f32) (r : Fin 8192) : Fin 1024 → EReal := fun l => x (ix2 r l)

end Cert.Step

namespace Cert.FfnIdeal.Entry

open Idealize.ShloMosaic Idealize.ShloMosaic.TcCoe Idealize.ShloMosaic.Tactic Idealize.SL.Sem Cert.FfnIdeal Cert.FfnIdeal.Gen Cert.FfnIdeal.Value Cert.Step
open scoped BigOperators

/-- The blocks that a point reads hold some rows and the parameters. -/
structure Blk (P : Par) (X : Fin 512 → Fin 1024 → EReal) (x0 : Vec Ideal S512x1024 .f32) (x1 : Vec Ideal S8x1024 .f32)
    (x2 : Vec Ideal S4x1024x1408 .bf16) (x3 : Vec Ideal S2816x1024 .bf16) : Prop where
  x : ∀ r l, x0 (ix2 r l) = X r l
  ng : ∀ l, x1 (ix2 0 l) = P.ng l
  sc : ∀ l, x1 (ix2 1 l) = P.sc l
  sh : ∀ l, x1 (ix2 2 l) = P.sh l
  gt : ∀ l, x1 (ix2 3 l) = P.gt l
  w1 : ∀ (q : Fin 4) (k : Fin 1024) (j : Fin 1408), x2 (ix3 q k j) = P.w1 k ⟨1408 * q.val + j.val, by omega⟩
  w2 : ∀ (j : Fin 2816) (l : Fin 1024), x3 (ix2 j l) = P.w2 j l

variable {P : Par} {X : Fin 512 → Fin 1024 → EReal} {x0 : Vec Ideal S512x1024 .f32} {x1 : Vec Ideal S8x1024 .f32}
  {x2 : Vec Ideal S4x1024x1408 .bf16} {x3 : Vec Ideal S2816x1024 .bf16}

theorem hid_eq (v0 : Vec Ideal S512x1024 .f32) (v1 v3 v5 : Vec Ideal S1x1024 .f32) (h0 : ∀ r l, v0 (ix2 r l) = X r l)
    (h1 : ∀ l, v1 (ix2 0 l) = P.ng l) (h3 : ∀ l, v3 (ix2 0 l) = P.sc l) (h5 : ∀ l, v5 (ix2 0 l) = P.sh l) (r : Fin 512) (l : Fin 1024) :
    k0_pay3 v0 v1 v3 v5 (ix2 r l) = hid P (X r) l := by
  pointwise [k0_pay3]
  simp only [h0, h1, h3, h5]
  unfold hid rms
  rw [mul_assoc (X r l * _)]

theorem mat (h : FVec Ideal S512x1024 .bf16) (w : Vec Ideal S1x1024x1408 .bf16) (r : Fin 512) (j : Fin 1408) :
    k0_pay9 h w (ix2 r j) = ∑ k : Fin 1024, h (ix2 r k) * w (ix3 0 k j) := by
  pointwise [k0_pay9]

theorem out_eq (h : FVec Ideal S512x1024 .bf16) (g u : FVec Ideal S512x1408 .f32) (w2a w2b : Vec Ideal S1408x1024 .bf16)
    (wg wu : Vec Ideal S1x1024x1408 .bf16) (r : Fin 512) (l : Fin 1024) : k0_pay13 h (k0_pay4 (F := Ideal)) g u w2a wg wu w2b (ix2 r l)
    = (∑ j : Fin 1408, g (ix2 r j) * Ideal.logistic (g (ix2 r j)) * u (ix2 r j) * w2a (ix2 j l))
      + ∑ j : Fin 1408, k0_pay9 h wg (ix2 r j) * Ideal.logistic (k0_pay9 h wg (ix2 r j)) * k0_pay10 h wu (ix2 r j) * w2b (ix2 j l) := by
  pointwise [k0_pay13, k0_pay4]

theorem next_eq (v0 : Vec Ideal S512x1024 .f32) (t : Vec Ideal S1x1024 .f32) (f : FVec Ideal S512x1024 .f32) (r : Fin 512) (l : Fin 1024) :
    k0_pay1 v0 (k0_pay2 t) f (Scalar.ofBits .f32 0x3F000000#32) (ix2 r l) = v0 (ix2 r l) + Ideal.ofBits .f32 0x3F000000#32 * t (ix2 0 l) * f (ix2 r l) := by
  pointwise [k0_pay1, k0_pay2]

/-! ## A point's blocks -/

theorem ld2 {n m n' m' : Nat} {e : EltTy} (x : Vec Ideal ⟨2, ![n, m]⟩ e) (a b : Nat)
    (inb : ∀ k, (![a, b] : Fin 2 → Nat) k + (![n', m'] : Fin 2 → Nat) k ≤ (⟨2, ![n, m]⟩ : Shape).size k) (r : Fin n') (l : Fin m')
    (i : Fin n) (j : Fin m) (hi : i.val = a + r.val) (hj : j.val = b + l.val) :
    View.ld x (Rect.unit (s := ⟨2, ![n, m]⟩) ![a, b] ![n', m'] inb) (ix2 r l) = x (ix2 i j) :=
  View.ld_unit_apply_of x _ _ inb _ _ fun k => match k with
    | ⟨0, _⟩ => hi
    | ⟨1, _⟩ => hj

theorem ld_plane (x : Vec Ideal S4x1024x1408 .bf16) (a : Nat) (inb : ∀ k, (![a, 0, 0] : Fin 3 → Nat) k + S1x1024x1408.size k ≤ S4x1024x1408.size k)
    (q : Fin 4) (h : q.val = a) (k : Fin 1024) (j : Fin 1408) :
    View.ld x (Rect.unit (s := S4x1024x1408) ![a, 0, 0] S1x1024x1408.size inb) (ix3 0 k j) = x (ix3 q k j) :=
  View.ld_unit_apply_of x _ _ inb _ _ fun a => match a with
    | ⟨0, _⟩ => h.trans (Nat.add_zero _).symm
    | ⟨1, _⟩ => (Nat.zero_add _).symm
    | ⟨2, _⟩ => (Nat.zero_add _).symm

variable (B : Blk P X x0 x1 x2 x3)

theorem ld_x (r : Fin 512) (l : Fin 1024) : View.ld x0 r0_0 (ix2 r l) = x0 (ix2 r l) :=
  ld2 x0 0 0 _ r l r l (Nat.zero_add _).symm (Nat.zero_add _).symm

include B in
theorem hidB (r : Fin 512) (l : Fin 1024) : k0_pay15 x0 x1 x2 x3 (ix2 r l) = hid P (X r) l :=
  hid_eq _ _ _ _ (fun r l => (ld_x r l).trans (B.x r l)) (fun l => (ld2 x1 0 0 _ 0 l 0 l rfl (Nat.zero_add _).symm).trans (B.ng l))
    (fun l => (ld2 x1 1 0 _ 0 l 1 l rfl (Nat.zero_add _).symm).trans (B.sc l)) (fun l => (ld2 x1 2 0 _ 0 l 2 l rfl (Nat.zero_add _).symm).trans (B.sh l)) r l

include B in
/-- The product with one block of columns of the first weight. -/
theorem preB (a : Nat) (inb : ∀ k, (![a, 0, 0] : Fin 3 → Nat) k + S1x1024x1408.size k ≤ S4x1024x1408.size k) (q : Fin 4) (h : q.val = a)
    (r : Fin 512) (j : Fin 1408) : k0_pay9 (k0_pay15 x0 x1 x2 x3) (View.ld x2 (Rect.unit (s := S4x1024x1408) ![a, 0, 0] S1x1024x1408.size inb)) (ix2 r j)
      = pre P (X r) ⟨1408 * q.val + j.val, by omega⟩ :=
  (mat _ _ r j).trans (Finset.sum_congr rfl fun k _ => congrArg₂ (· * ·) (hidB B r k) ((ld_plane x2 a inb q h k j).trans (B.w1 q k j)))

include B in
theorem outB (r : Fin 512) (l : Fin 1024) : k0_pay13 (k0_pay15 x0 x1 x2 x3) (k0_pay16 x0 x1 x2 x3) (k0_pay17 x0 x1 x2 x3) (k0_pay18 x0 x1 x2 x3)
      (View.ld x3 r0_9) (View.ld x2 r0_10) (View.ld x2 r0_11) (View.ld x3 r0_14) (ix2 r l) = out P (X r) l := by
  refine (out_eq _ _ _ _ _ _ _ r l).trans ((congrArg₂ (· + ·) (Finset.sum_congr rfl fun j _ => ?_) (Finset.sum_congr rfl fun j _ => ?_)).trans (out_halves P (X r) l).symm)
  · have g : k0_pay17 x0 x1 x2 x3 (ix2 r j) = pre P (X r) ⟨j.val, by omega⟩ :=
      (preB B 0 _ 0 rfl r j).trans (congrArg (pre P (X r)) (Fin.ext (by show 1408 * 0 + j.val = j.val; omega)))
    have u : k0_pay18 x0 x1 x2 x3 (ix2 r j) = pre P (X r) ⟨2816 + j.val, by omega⟩ := preB B 2 _ 2 rfl r j
    have w := (ld2 x3 0 0 inb_S2816x1024_S1408x1024_0_0 j l ⟨j.val, by omega⟩ l (Nat.zero_add _).symm (Nat.zero_add _).symm).trans (B.w2 ⟨j.val, by omega⟩ l)
    rw [g, u, w]
    rfl
  · have g : k0_pay9 (k0_pay15 x0 x1 x2 x3) (View.ld x2 r0_10) (ix2 r j) = pre P (X r) ⟨1408 + j.val, by omega⟩ := preB B 1 _ 1 rfl r j
    have u : k0_pay10 (k0_pay15 x0 x1 x2 x3) (View.ld x2 r0_11) (ix2 r j) = pre P (X r) ⟨2816 + (1408 + j.val), by omega⟩ :=
      (preB B 3 _ 3 rfl r j).trans (congrArg (pre P (X r)) (Fin.ext (by show 1408 * 3 + j.val = 2816 + (1408 + j.val); omega)))
    have w := (ld2 x3 1408 0 inb_S2816x1024_S1408x1024_1408_0 j l ⟨1408 + j.val, by omega⟩ l rfl (Nat.zero_add _).symm).trans (B.w2 ⟨1408 + j.val, by omega⟩ l)
    rw [g, u, w]
    rfl

theorem hz : (![0, 0] : Fin 2 → Nat) = fun _ => 0 := funext fun a => by fin_cases a <;> rfl

include B in
theorem block6 (r : Fin 512) (l : Fin 1024) : out0_6 x0 x1 x2 x3 (ix2 r l) = out P (X r) l := by
  unfold out0_6
  rw [View.canon_unit_zero hz]
  exact outB B r l

include B in
theorem block4 (r : Fin 512) (l : Fin 1024) : out0_4 x0 x1 x2 x3 (ix2 r l) = next P (X r) l := by
  unfold out0_4
  rw [View.canon_unit_zero hz]
  refine (next_eq _ _ _ r l).trans ?_
  rw [outB B r l, ld_x r l, B.x r l, ld2 x1 3 0 _ 0 l 3 l rfl (Nat.zero_add _).symm, B.gt l]
  rfl

/-- Columns of a block stored in one piece. -/
theorem col_mem {a : Nat} (inb : ∀ k, (![0, a] : Fin 2 → Nat) k + S512x1408.size k ≤ S512x5632.size k) (w : (Rect.unit (s := S512x5632) ![0, a] S512x1408.size inb).shape.Idx → Elt Ideal .bf16)
    (L : List (View.Piece (Elt Ideal) S512x5632 .bf16)) (r : Fin 512) (k : Fin 5632) (j : Fin 1408) (h : k.val = a + j.val) :
    View.canon ((⟨Rect.unit ![0, a] S512x1408.size inb, w⟩ : View.Piece (Elt Ideal) S512x5632 .bf16) :: L) (ix2 r k) = w (ix2 r j) := by
  have e : (Rect.unit (s := S512x5632) ![0, a] S512x1408.size inb).emb (ix2 r j) = ix2 r k := funext fun b => Fin.ext (by
    match b with
    | ⟨0, _⟩ => show 0 + 1 * r.val = r.val; omega
    | ⟨1, _⟩ => show a + 1 * j.val = k.val; omega)
  rw [← e]
  exact View.canon_cons_emb _ w L _

theorem col_miss {a : Nat} (inb : ∀ k, (![0, a] : Fin 2 → Nat) k + S512x1408.size k ≤ S512x5632.size k) (w : (Rect.unit (s := S512x5632) ![0, a] S512x1408.size inb).shape.Idx → Elt Ideal .bf16)
    (L : List (View.Piece (Elt Ideal) S512x5632 .bf16)) (r : Fin 512) (k : Fin 5632) (h : k.val < a ∨ a + 1408 ≤ k.val) :
    View.canon ((⟨Rect.unit ![0, a] S512x1408.size inb, w⟩ : View.Piece (Elt Ideal) S512x5632 .bf16) :: L) (ix2 r k) = View.canon L (ix2 r k) := by
  refine View.canon_cons_of_not_mem _ L ?_
  rw [Rect.mem_set_unit]
  intro hall
  have h0 : a ≤ k.val ∧ k.val < a + 1408 := hall 1
  omega

include B in
theorem block5 (r : Fin 512) (k : Fin 5632) : out0_5 x0 x1 x2 x3 (ix2 r k) = pre P (X r) k := by
  obtain ⟨q, j, hk⟩ : ∃ (q : Fin 4) (j : Fin 1408), k = ⟨1408 * q.val + j.val, by omega⟩ :=
    ⟨⟨k.val / 1408, by omega⟩, ⟨k.val % 1408, by omega⟩, Fin.ext (by dsimp only <;> omega)⟩
  have hv : k.val = 1408 * q.val + j.val := congrArg Fin.val hk
  rw [hk]
  unfold out0_5
  have hj := j.isLt
  match q with
  | ⟨0, _⟩ =>
    refine (col_miss _ _ _ r _ (.inl (by dsimp only <;> omega))).trans ((col_miss _ _ _ r _ (.inl (by dsimp only <;> omega))).trans ((col_miss _ _ _ r _ (.inl (by dsimp only <;> omega))).trans
      ((col_mem _ _ _ r _ j (by dsimp only <;> omega)).trans (preB B 0 _ 0 rfl r j))))
  | ⟨1, _⟩ =>
    refine (col_miss _ _ _ r _ (.inl (by dsimp only <;> omega))).trans ((col_mem _ _ _ r _ j (by dsimp only <;> omega)).trans (preB B 1 _ 1 rfl r j))
  | ⟨2, _⟩ =>
    refine (col_miss _ _ _ r _ (.inl (by dsimp only <;> omega))).trans ((col_miss _ _ _ r _ (.inr (by dsimp only <;> omega))).trans
      ((col_mem _ _ _ r _ j (by dsimp only <;> omega)).trans (preB B 2 _ 2 rfl r j)))
  | ⟨3, _⟩ => exact (col_mem _ _ _ r _ j (by dsimp only <;> omega)).trans (preB B 3 _ 3 rfl r j)

/-! ## The arrays that the call starts from -/

variable (m : (ℓ : Loc nD τ sig) → Buf (Elt Ideal) ℓ) (c : Dev nD)

abbrev A (b : Ref sig .tc) : Buf (Elt Ideal) ((c : Thread nD τ).loc b) := m ((c : Thread nD τ).loc b)

/-- The first weight in four blocks of columns. -/
def blocks (w : Vec Ideal S1024x5632 .f32) : Vec Ideal S4x1024x1408 .bf16 :=
  transpose S4x1024x1408 [1, 0, 2] (shapeCast (s := S1024x5632) S1024x4x1408 (truncf (F := Ideal) (φ := .f32) .bf16 w bitsLt_bf16_f32 : Vec Ideal S1024x5632 .bf16) shapeCasts_S1024x5632_S1024x4x1408)
    transposes_S1024x4x1408_S4x1024x1408_1_0_2

/-- The four vectors as the first rows of eight. -/
def rows (g s h t : Vec Ideal S1024 .f32) : Vec Ideal S8x1024 .f32 :=
  concatenate S8x1024 0 [⟨S4x1024, concatenate S4x1024 0 [⟨S1x1024, broadcastInDim S1x1024 ![1] bcast_S1024_S1x1024_1 g⟩,
    ⟨S1x1024, broadcastInDim S1x1024 ![1] bcast_S1024_S1x1024_1 s⟩, ⟨S1x1024, broadcastInDim S1x1024 ![1] bcast_S1024_S1x1024_1 h⟩,
    ⟨S1x1024, broadcastInDim S1x1024 ![1] bcast_S1024_S1x1024_1 t⟩] concatenates_S1x1024_S1x1024_S1x1024_S1x1024_S4x1024_d0⟩,
    ⟨S4x1024, broadcastInDim S4x1024 ![] bcast_S_S4x1024 (constant (F := Ideal) S_ .f32 0x00000000#32)⟩] concatenates_S4x1024_S4x1024_S8x1024_d0

theorem V_w1 : V m c main_v2 = (blocks (A m c main_arg5) : S4x1024x1408.Idx → EReal) := by
  unfold V
  simp only [hostOps0]
  after_results
  rfl

theorem V_vec : V m c main_v9 = (rows (A m c main_arg1) (A m c main_arg2) (A m c main_arg3) (A m c main_arg4) : S8x1024.Idx → EReal) := by
  unfold V
  simp only [hostOps0]
  after_results
  rfl

theorem V_w2 : V m c main_v10 = (A m c main_arg6 : S2816x1024.Idx → EReal) := by
  unfold V
  simp only [hostOps0]
  after_results
  rfl

theorem blocks_apply (w : Vec Ideal S1024x5632 .f32) (q : Fin 4) (k : Fin 1024) (j : Fin 1408) :
    blocks w (ix3 q k j) = w (ix2 k (⟨1408 * q.val + j.val, by omega⟩ : Fin 5632)) := by
  pointwise [blocks]
  show w _ = w _
  exact congrArg w (congrArg (ix2 k) (Fin.ext (by show q.val * 1408 + j.val = 1408 * q.val + j.val; omega)))

theorem rows_apply (g s h t : Vec Ideal S1024 .f32) (l : Fin 1024) : rows g s h t (ix2 0 l) = g (ix1 l) ∧ rows g s h t (ix2 1 l) = s (ix1 l)
    ∧ rows g s h t (ix2 2 l) = h (ix1 l) ∧ rows g s h t (ix2 3 l) = t (ix1 l) := by
  refine ⟨?_, ?_, ?_, ?_⟩
  all_goals
    pointwise [rows]

/-- Row `r` of point `t`'s block is this row of the array. -/
def rowOf (t : Fin cfg0.N) (r : Fin 512) : Fin 8192 :=
  ⟨512 * t.val + r.val, by have := t.isLt; have hN : cfg0.N = 16 := N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem iblk0 (t : Fin cfg0.N) (r : Fin 512) (l : Fin 1024) :
    (iblk m c 0 t : Vec Ideal S512x1024 .f32) (ix2 r l) = (A m c main_arg0 : S8192x1024.Idx → EReal) (ix2 (rowOf t r) l) := by
  unfold iblk
  rw [View.read_apply]
  show V m c main_arg0 _ = _
  rw [V_main_arg0]
  refine congrArg (A m c main_arg0) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * l.val = l.val; rw [(idx0 t).2]; omega

theorem iblk1 (t : Fin cfg0.N) (s : Fin 8) (l : Fin 1024) :
    (iblk m c 1 t : Vec Ideal S8x1024 .f32) (ix2 s l)
      = rows (A m c main_arg1) (A m c main_arg2) (A m c main_arg3) (A m c main_arg4) (ix2 s l) := by
  unfold iblk
  rw [View.read_apply]
  show V m c main_v9 _ = _
  rw [V_vec]
  refine congrArg (rows _ _ _ _) (funext fun a => Fin.ext ?_)
  match a with
  | ⟨0, _⟩ => show win0_1.index t 0 * 8 + 1 * s.val = s.val; rw [(idx1 t).1]; omega
  | ⟨1, _⟩ => show win0_1.index t 1 * 1024 + 1 * l.val = l.val; rw [(idx1 t).2]; omega

theorem iblk2 (t : Fin cfg0.N) (q : Fin 4) (k : Fin 1024) (j : Fin 1408) :
    (iblk m c 2 t : Vec Ideal S4x1024x1408 .bf16) (ix3 q k j) = blocks (A m c main_arg5) (ix3 q k j) := by
  unfold iblk
  rw [View.read_apply]
  show V m c main_v2 _ = _
  rw [V_w1]
  refine congrArg (blocks _) (funext fun a => Fin.ext ?_)
  match a with
  | ⟨0, _⟩ => show win0_2.index t 0 * 4 + 1 * q.val = q.val; rw [(idx2 t).1]; omega
  | ⟨1, _⟩ => show win0_2.index t 1 * 1024 + 1 * k.val = k.val; rw [(idx2 t).2.1]; omega
  | ⟨2, _⟩ => show win0_2.index t 2 * 1408 + 1 * j.val = j.val; rw [(idx2 t).2.2]; omega

theorem iblk3 (t : Fin cfg0.N) (j : Fin 2816) (l : Fin 1024) :
    (iblk m c 3 t : Vec Ideal S2816x1024 .bf16) (ix2 j l) = (A m c main_arg6 : S2816x1024.Idx → EReal) (ix2 j l) := by
  unfold iblk
  rw [View.read_apply]
  show V m c main_v10 _ = _
  rw [V_w2]
  refine congrArg (A m c main_arg6) (funext fun a => Fin.ext ?_)
  match a with
  | ⟨0, _⟩ => show win0_3.index t 0 * 2816 + 1 * j.val = j.val; rw [(idx3 t).1]; omega
  | ⟨1, _⟩ => show win0_3.index t 1 * 1024 + 1 * l.val = l.val; rw [(idx3 t).2]; omega

/-- The parameters on device `c`. -/
abbrev par : Par := params (A m c main_arg1) (A m c main_arg2) (A m c main_arg3) (A m c main_arg4) (A m c main_arg5) (A m c main_arg6)

/-- A row of the input on device `c`. -/
abbrev inp (r : Fin 8192) : Fin 1024 → EReal := row (A m c main_arg0) r

theorem blk (t : Fin cfg0.N) : Blk (par m c) (fun r => inp m c (rowOf t r)) (iblk m c 0 t) (iblk m c 1 t) (iblk m c 2 t) (iblk m c 3 t) where
  x r l := iblk0 m c t r l
  ng l := (iblk1 m c t 0 l).trans (rows_apply _ _ _ _ l).1
  sc l := (iblk1 m c t 1 l).trans (rows_apply _ _ _ _ l).2.1
  sh l := (iblk1 m c t 2 l).trans (rows_apply _ _ _ _ l).2.2.1
  gt l := (iblk1 m c t 3 l).trans (rows_apply _ _ _ _ l).2.2.2
  w1 q k j := (iblk2 m c t q k j).trans (blocks_apply _ q k j)
  w2 j l := iblk3 m c t j l

/-! ## The results -/

/-- The point that holds a row, and the row's place in its block. -/
def ptOf (r : Fin 8192) : Fin cfg0.N := ⟨r.val / 512, by have hN : cfg0.N = 16 := N_0; omega⟩
def inOf (r : Fin 8192) : Fin 512 := ⟨r.val % 512, by omega⟩
theorem rowOf_ptOf (r : Fin 8192) : rowOf (ptOf r) (inOf r) = r := Fin.ext (by show 512 * (r.val / 512) + r.val % 512 = r.val; omega)

theorem arr4 (r : Fin 8192) (l : Fin 1024) : ((dats m 0 c).arrAt 4 cfg0.N : S8192x1024.Idx → EReal) (ix2 r l) = next (par m c) (inp m c r) l := by
  have h := congrFun (blocks4 m c (ptOf r) (flush0_4 _)) (ix2 (inOf r) l)
  rw [View.read_apply, flushed4] at h
  have e := h.trans (block4 (blk m c (ptOf r)) (inOf r) l)
  rw [rowOf_ptOf] at e
  rw [← e]
  refine congrArg ((dats m 0 c).arrAt 4 cfg0.N) (funext fun a => Fin.ext ?_)
  match a with
  | ⟨0, _⟩ => show r.val = win0_4.index (ptOf r) 0 * 512 + 1 * (r.val % 512); rw [(idx4 _).1]; show _ = r.val / 512 * 512 + _; omega
  | ⟨1, _⟩ => show l.val = win0_4.index (ptOf r) 1 * 1024 + 1 * l.val; rw [(idx4 _).2]; omega

theorem arr5 (r : Fin 8192) (k : Fin 5632) : ((dats m 0 c).arrAt 5 cfg0.N : S8192x5632.Idx → EReal) (ix2 r k) = pre (par m c) (inp m c r) k := by
  have h := congrFun (blocks5 m c (ptOf r) (flush0_5 _)) (ix2 (inOf r) k)
  rw [View.read_apply, flushed5] at h
  have e := h.trans (block5 (blk m c (ptOf r)) (inOf r) k)
  rw [rowOf_ptOf] at e
  rw [← e]
  refine congrArg ((dats m 0 c).arrAt 5 cfg0.N) (funext fun a => Fin.ext ?_)
  match a with
  | ⟨0, _⟩ => show r.val = win0_5.index (ptOf r) 0 * 512 + 1 * (r.val % 512); rw [(idx5 _).1]; show _ = r.val / 512 * 512 + _; omega
  | ⟨1, _⟩ => show k.val = win0_5.index (ptOf r) 1 * 5632 + 1 * k.val; rw [(idx5 _).2]; omega

theorem arr6 (r : Fin 8192) (l : Fin 1024) : ((dats m 0 c).arrAt 6 cfg0.N : S8192x1024.Idx → EReal) (ix2 r l) = out (par m c) (inp m c r) l := by
  have h := congrFun (blocks6 m c (ptOf r) (flush0_6 _)) (ix2 (inOf r) l)
  rw [View.read_apply, flushed6] at h
  have e := h.trans (block6 (blk m c (ptOf r)) (inOf r) l)
  rw [rowOf_ptOf] at e
  rw [← e]
  refine congrArg ((dats m 0 c).arrAt 6 cfg0.N) (funext fun a => Fin.ext ?_)
  match a with
  | ⟨0, _⟩ => show r.val = win0_6.index (ptOf r) 0 * 512 + 1 * (r.val % 512); rw [(idx6 _).1]; show _ = r.val / 512 * 512 + _; omega
  | ⟨1, _⟩ => show l.val = win0_6.index (ptOf r) 1 * 1024 + 1 * l.val; rw [(idx6 _).2]; omega

end Cert.FfnIdeal.Entry

namespace Cert.Ffn

open Idealize.ShloMosaic Idealize.ShloMosaic.TcCoe Idealize.ShloMosaic.Tactic Idealize.SL.Sem Cert.FfnRefIdeal Cert.FfnRefIdeal.Read Cert.Step
open scoped BigOperators

variable (x : Vec Ideal S8192x1024 .f32) (ng sc sh gt : Vec Ideal S1024 .f32) (w1 : Vec Ideal S1024x5632 .f32) (w2 : Vec Ideal S2816x1024 .f32)

theorem v20 (r : Fin 8192) (l : Fin 1024) : val_main_v20 (F := Ideal) x ng sc sh (ix2 r l) = hid (params ng sc sh gt w1 w2) (row x r) l := by
  pointwise [val_main_v20, val_main_v17, val_main_v12, val_main_v9, val_main_v8, val_main_v7, val_main_v6, val_main_v4, val_main_v2, val_main_v1, val_main_v0, val_main_cst, val_main_v3, val_main_cst_0, val_main_v5, val_main_cst_1, val_main_v11, val_main_v10, val_main_v16, val_main_v15, val_main_v14, val_main_v13, val_main_cst_2, val_main_v19, val_main_v18]
  rfl

theorem v21 (r : Fin 8192) (j : Fin 5632) : val_main_v21 (F := Ideal) x ng sc sh w1 (ix2 r j) = pre (params ng sc sh gt w1 w2) (row x r) j := by
  pointwise [val_main_v21]
  simp only [v20 x ng sc sh gt w1 w2]
  rfl

theorem v25 (r : Fin 8192) (j : Fin 2816) : val_main_v25 (F := Ideal) x ng sc sh w1 (ix2 r j) = act (params ng sc sh gt w1 w2) (row x r) j := by
  pointwise [val_main_v25, val_main_v24, val_main_v23, val_main_v22, val_main_call0_v5, val_main_call0_v4, val_main_call0_v3, val_main_call0_v2, val_main_call0_v1, val_main_call0_v0, val_main_call0_cst, val_main_call0_cst_0]
  simp only [v21 x ng sc sh gt w1 w2]
  rfl

theorem v26 (r : Fin 8192) (l : Fin 1024) : val_main_v26 (F := Ideal) x ng sc sh w1 w2 (ix2 r l) = out (params ng sc sh gt w1 w2) (row x r) l := by
  pointwise [val_main_v26]
  simp only [v25 x ng sc sh gt w1 w2]
  rfl

theorem v32 (r : Fin 8192) (l : Fin 1024) : val_main_v32 (F := Ideal) x ng sc sh gt w1 w2 (ix2 r l) = next (params ng sc sh gt w1 w2) (row x r) l := by
  pointwise [val_main_v32, val_main_v31, val_main_v30, val_main_v29, val_main_v28, val_main_v27, val_main_cst_3]
  rw [v26 x ng sc sh gt w1 w2]
  rfl

theorem algebraic : algebraic_FfnIdeal_FfnRefIdeal := by
  intro m g m' g' _ hag
  refine ⟨_, _, _, FfnIdeal.Value.run_blocks m g, (θ_run FfnRefIdeal.defs _ _).mono (fun r h c => ?_) (FfnRefIdeal.Value.run m' g')⟩
  obtain ⟨a0, a1, a2, a3, a4, a5, a6⟩ := hag c
  obtain ⟨h0, h1, h2, hargs⟩ := h c
  refine ⟨h0.trans ((val_main_v32_eq _ _).trans (funext fun i => ?_)), h1.trans ((val_main_v33_eq _ _ _ _ _).trans (funext fun i => ?_)),
    h2.trans ((val_main_v34_eq _ _).trans (funext fun i => ?_)), hargs⟩
  · rw [a0, a1, a2, a3, a4, a5, a6, eq_ix2 i]
    exact (v32 _ _ _ _ _ _ _ _ _).trans (FfnIdeal.Entry.arr4 m c _ _).symm
  · rw [a0, a1, a2, a3, a5, eq_ix2 i]
    exact (v21 _ _ _ _ (FfnIdeal.Entry.A m c FfnIdeal.main_arg4) _ (FfnIdeal.Entry.A m c FfnIdeal.main_arg6) _ _).trans (FfnIdeal.Entry.arr5 m c _ _).symm
  · rw [a0, a1, a2, a3, a5, a6, eq_ix2 i]
    exact (v26 _ _ _ _ (FfnIdeal.Entry.A m c FfnIdeal.main_arg4) _ _ _ _).trans (FfnIdeal.Entry.arr6 m c _ _).symm

end Cert.Ffn

end
-- ==== Proof.Adam.lean ====
/- One weight's AdamW step, element by element. -/
module

public import Idealize.ShloMosaic.Lib.Pipeline.Value
public import Idealize.ShloMosaic.Lib.Pointwise

@[expose] public section

noncomputable section

namespace Cert.Adam

open Idealize.ShloMosaic

/-- The first moment after the step. -/
def mom (m g : EReal) : EReal := Ideal.ofBits .f32 0x3F666666#32 * m + Ideal.ofBits .f32 0x3DCCCCCD#32 * g

/-- The second moment after the step. -/
def var (v g : EReal) : EReal := Ideal.ofBits .f32 0x3F7FBE77#32 * v + Ideal.ofBits .f32 0x3A83126F#32 * (g * g)

/-- The weight's change. -/
def delta (w m v g : EReal) : EReal := Ideal.ofBits .f32 0xBA83126F#32
  * (Ideal.div (Ideal.div (mom m g) (Ideal.ofBits .f32 0x3F26BD02#32))
      (Ideal.sqrt (Ideal.div (var v g) (Ideal.ofBits .f32 0x3C231ACC#32)) + Ideal.ofBits .f32 0x322BCC77#32)
    + Ideal.ofBits .f32 0x3C23D70A#32 * w)

theorem mom_zero : mom 0 0 = 0 := by simp [mom]
theorem var_zero : var 0 0 = 0 := by simp [var]

theorem div_zero_num {y : EReal} (h : y ≠ 0) : Ideal.div 0 y = 0 := by simp [Ideal.div, h]

/-- A weight, its moments and its gradient all zero: no change. -/
theorem delta_zero : delta 0 0 0 0 = 0 := by
  have h1 : Ideal.ofBits .f32 0x3F26BD02#32 ≠ 0 := by simp [Ideal.ofBits, Ideal.ieee]
  have h2 : Ideal.ofBits .f32 0x3C231ACC#32 ≠ 0 := by simp [Ideal.ofBits, Ideal.ieee]
  have h3 : Ideal.ofBits .f32 0x322BCC77#32 ≠ 0 := by simp [Ideal.ofBits, Ideal.ieee]
  have h4 : Ideal.sqrt 0 = 0 := by
    rw [← EReal.coe_zero, Ideal.sqrt_coe, if_neg (lt_irrefl _), Real.sqrt_zero]
  rw [delta, mom_zero, var_zero, div_zero_num h1, div_zero_num h2, h4, zero_add, div_zero_num h3]
  simp

theorem hz2 : (![0, 0] : Fin 2 → Nat) = fun _ => 0 := funext fun a => by fin_cases a <;> rfl
theorem hz3 : (![0, 0, 0] : Fin 3 → Nat) = fun _ => 0 := funext fun a => by fin_cases a <;> rfl

/-- A whole block loaded. -/
theorem ld2 {n k : Nat} (X : Vec Ideal ⟨2, ![n, k]⟩ .f32) (inb : ∀ a, (![0, 0] : Fin 2 → Nat) a + (![n, k] : Fin 2 → Nat) a ≤ (⟨2, ![n, k]⟩ : Shape).size a) :
    View.ld X (Rect.unit (s := ⟨2, ![n, k]⟩) ![0, 0] ![n, k] inb) = X := View.ld_unit_zero hz2 inb X
theorem ld3 {n k j : Nat} (X : Vec Ideal ⟨3, ![n, k, j]⟩ .f32) (inb : ∀ a, (![0, 0, 0] : Fin 3 → Nat) a + (![n, k, j] : Fin 3 → Nat) a ≤ (⟨3, ![n, k, j]⟩ : Shape).size a) :
    View.ld X (Rect.unit (s := ⟨3, ![n, k, j]⟩) ![0, 0, 0] ![n, k, j] inb) = X := View.ld_unit_zero hz3 inb X

/-! ## Pieces end to end -/

/-- A function of every element commutes with putting pieces end to end. -/
theorem concatenateAt_comp {α β : Type} (f : α → β) (t : Shape) (a : Fin t.rank) (j : t.Idx) :
    ∀ (xs : List ((s : Shape) × (s.Idx → α))) (hs) (hs') (c : Nat) (hc) (hc'),
      concatenateAt t a j (xs.map fun p => (⟨p.1, fun i => f (p.2 i)⟩ : (s : Shape) × (s.Idx → β))) hs' c hc' = f (concatenateAt t a j xs hs c hc)
  | [], _, _, _, hc, _ => absurd hc (Nat.not_lt_zero _)
  | [p], hs, hs', c, hc, hc' => by
    simp only [List.map_cons, List.map_nil, concatenateAt]
  | p :: q :: xs, hs, hs', c, hc, hc' => by
    simp only [List.map_cons]
    rw [concatenateAt, concatenateAt]
    split
    · rfl
    · exact concatenateAt_comp f t a j (q :: xs) _ _ _ _ _

theorem concatenate_comp {α β : Type} (f : α → β) (t : Shape) (a : Fin t.rank) (xs : List ((s : Shape) × (s.Idx → α))) (h) (h') (j : t.Idx) :
    concatenate t a (xs.map fun p => (⟨p.1, fun i => f (p.2 i)⟩ : (s : Shape) × (s.Idx → β))) h' j = f (concatenate t a xs h j) := by
  rw [concatenate_apply, concatenate_apply]
  exact concatenateAt_comp f t a j xs _ _ _ _ _

/-! ## Blocks of rows

A grid of `n` points a plane walks each plane in blocks of `b` rows: point `n * p + r / b` holds row `r` of plane `p` at its
row `r % b`. -/

variable {n b p r : Nat}

theorem point_div (hb : 0 < b) (h : r < n * b) : (n * p + r / b) / n = p := by
  have hr : r / b < n := Nat.div_lt_of_lt_mul (by rwa [Nat.mul_comm])
  rw [Nat.mul_add_div (Nat.lt_of_le_of_lt (Nat.zero_le _) hr), Nat.div_eq_of_lt hr, Nat.add_zero]

theorem point_mod (hb : 0 < b) (h : r < n * b) : (n * p + r / b) % n = r / b := by
  have hr : r / b < n := Nat.div_lt_of_lt_mul (by rwa [Nat.mul_comm])
  rw [Nat.mul_add_mod, Nat.mod_eq_of_lt hr]

/-- An index of three axes, by its coordinates. -/
theorem at3 {P R L : Nat} (p : Fin P) (r : Fin R) (l : Fin L) (i : (⟨3, ![P, R, L]⟩ : Shape).Idx)
    (h0 : (i 0).val = p.val) (h1 : (i 1).val = r.val) (h2 : (i 2).val = l.val) : i = ix3 p r l :=
  funext fun a => Fin.ext (match a with
    | ⟨0, _⟩ => h0
    | ⟨1, _⟩ => h1
    | ⟨2, _⟩ => h2)

/-- An index of two axes, by its coordinates. -/
theorem at2 {R L : Nat} (r : Fin R) (l : Fin L) (i : (⟨2, ![R, L]⟩ : Shape).Idx)
    (h0 : (i 0).val = r.val) (h1 : (i 1).val = l.val) : i = ix2 r l :=
  funext fun a => Fin.ext (match a with
    | ⟨0, _⟩ => h0
    | ⟨1, _⟩ => h1)

/-- Where a block of rows puts its element, given the block's index. -/
theorem spot3 {t n b r L x y z : Nat} (l : Fin L) (h : x = t / n ∧ y = t % n ∧ z = 0) :
    x * 1 + 1 * 0 = t / n ∧ y * b + 1 * r = b * (t % n) + r ∧ z * L + 1 * l.val = l.val := by
  obtain ⟨rfl, rfl, rfl⟩ := h
  refine ⟨by omega, ?_, by omega⟩
  rw [Nat.mul_comm, Nat.one_mul]

end Cert.Adam

end
-- ==== Proof.Sum.lean ====
/- The sum of the devices' shares of the small gradients. -/
module

public import proofs.«01_k».proof.Proof.Adam
public import proofs.«01_k».proof.Proof.Gen.SumIdeal.Value
public import proofs.«01_k».proof.Proof.Gen.SumRefIdeal.Run
public import proofs.«01_k».proof.Proof.Gen.SumRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.SumIdeal.Entry

open Idealize.ShloMosaic Idealize.ShloMosaic.TcCoe Idealize.ShloMosaic.Tactic Idealize.SL.Sem Cert.SumIdeal Cert.SumIdeal.Gen Cert.SumIdeal.Value Cert.Adam
open scoped BigOperators

variable (x : Vec Ideal S8x29056 .f32) (k : Fin 8) (l : Fin 29056)

theorem total : G1 x (ix2 k l) = ∑ o : Fin 8, x (ix2 o l) := by
  unfold G1
  pointwise [k0_pay1]
  rw [Fin.sum_univ_eight]

end Cert.SumIdeal.Entry

namespace Cert.Sum
open Idealize.ShloMosaic Idealize.ShloMosaic.TcCoe Idealize.ShloMosaic.Tactic Idealize.SL.Sem Cert.SumRefIdeal Cert.SumRefIdeal.Read

open scoped BigOperators
theorem total (x : Vec Ideal S8x29056 .f32) (k : Fin 8) (l : Fin 29056) : val_main_v1 (F := Ideal) x (ix2 k l) = ∑ o : Fin 8, x (ix2 o l) := by
  pointwise [val_main_v1, val_main_v0, val_main_cst]

theorem algebraic : algebraic_SumIdeal_SumRefIdeal := by
  intro m g m' g' _ hag
  refine ⟨_, SumIdeal.Value.run m g, (θ_run SumRefIdeal.defs _ _).mono (fun r h c => ?_) (SumRefIdeal.Value.run m' g')⟩
  obtain ⟨h0, h1⟩ := h c
  refine ⟨h0.trans ((val_main_v1_eq _).trans (funext fun i => ?_)), h1⟩
  rw [← hag c, eq_ix2 i]
  exact (total _ _ _).trans (SumIdeal.Entry.total _ _ _).symm

end Cert.Sum

end
-- ==== Proof.Wada.lean ====
/- The gradient of the conditioning projection from the conditioning and the cotangent of its output. -/
module

public import proofs.«01_k».proof.Proof.Adam
public import proofs.«01_k».proof.Proof.Gen.WadaIdeal.Value
public import proofs.«01_k».proof.Proof.Gen.WadaRefIdeal.Run
public import proofs.«01_k».proof.Proof.Gen.WadaRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

/-! ## What is computed -/

namespace Cert.Wada
open Idealize.ShloMosaic Idealize.ShloMosaic.TcCoe

/-- `x` times its logistic. -/
def silu (x : EReal) : EReal := x * Ideal.logistic x

end Cert.Wada

namespace Cert.WadaIdeal.Entry

open Idealize.ShloMosaic Idealize.ShloMosaic.TcCoe Idealize.ShloMosaic.Tactic Idealize.SL.Sem Cert.WadaIdeal Cert.WadaIdeal.Gen Cert.WadaIdeal.Value Cert.Adam Cert.Wada
open scoped BigOperators

theorem row (x : Vec Ideal S1x8x768 .f32) (o : Nat) (inb) (b : Fin 8) (h : b.val = o) (l : Fin 768) :
    View.ld x (Rect.unit (s := S1x8x768) ![0, o, 0] S1x1x768.size inb) (ix3 0 0 l) = x (ix3 0 b l) := by
  refine congrArg x (at3 0 b l _ rfl ?_ ?_)
  · show o + 1 * 0 = b.val; omega
  · show 0 + 1 * l.val = l.val; omega

theorem block (x0 : Vec Ideal S1024x128 .f32) (x1 : Vec Ideal S1x8x768 .f32) (r : Fin 1024) (l : Fin 768) :
    out0_2 x0 x1 (ix3 0 r l) = ∑ b : Fin 8, silu (x0 (ix2 r ⟨b.val, by omega⟩)) * x1 (ix3 0 b l) := by
  unfold out0_2
  rw [View.canon_unit_zero hz3]
  simp only [Fin.sum_univ_eight]
  rw [ld2]
  pointwise [k0_pay1, k0_pay2, k0_pay3, k0_pay4]
  rfl

variable (m : (ℓ : Loc nD τ sig) → Buf (Elt Ideal) ℓ) (c : Dev nD)

/-- An argument on device `c`. -/
abbrev A (b : Ref sig .tc) : Buf (Elt Ideal) ((c : Thread nD τ).loc b) := m ((c : Thread nD τ).loc b)

/-- The conditioning with the samples along the columns, filled up with zeros. -/
def cond (x : Vec Ideal S8x1024 .f32) : Vec Ideal S1024x128 .f32 :=
  concatenate S1024x128 1 [⟨S1024x8, transpose S1024x8 [1, 0] x transposes_S8x1024_S1024x8_1_0⟩,
    ⟨S1024x120, broadcastInDim S1024x120 ![] bcast_S_S1024x120 (constant (F := Ideal) S_ .f32 0x00000000#32)⟩] concatenates_S1024x8_S1024x120_S1024x128_d1

theorem cond_apply (x : Vec Ideal S8x1024 .f32) (r : Fin 1024) (b : Fin 8) : cond x (ix2 r ⟨b.val, by omega⟩) = x (ix2 b r) := by
  pointwise [cond]

theorem V_c : V m c main_v2 = (cond (A m c main_arg0) : S1024x128.Idx → EReal) := by
  unfold V
  simp only [hostOps0]
  after_results
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val / 3 ∧ win0_1.index t 1 = 0 ∧ win0_1.index t 2 = t.val % 3 :=
  (by decide +kernel : ∀ t : Fin grid0.N, win0_1.index t 0 = t.val / 3 ∧ win0_1.index t 1 = 0 ∧ win0_1.index t 2 = t.val % 3)
theorem idx2 : ∀ t : Fin cfg0.N, win0_2.index t 0 = t.val / 3 ∧ win0_2.index t 1 = 0 ∧ win0_2.index t 2 = t.val % 3 :=
  (by decide +kernel : ∀ t : Fin grid0.N, win0_2.index t 0 = t.val / 3 ∧ win0_2.index t 1 = 0 ∧ win0_2.index t 2 = t.val % 3)

theorem iblk0 (t : Fin cfg0.N) (r : Fin 1024) (l : Fin 128) : (iblk m c 0 t : Vec Ideal S1024x128 .f32) (ix2 r l) = cond (A m c main_arg0) (ix2 r l) := by
  unfold iblk
  rw [View.read_apply]
  show V m c main_v2 _ = _
  rw [V_c]
  refine congrArg (cond _) (at2 r l _ ?_ ?_)
  · show win0_0.index t 0 * 1024 + 1 * r.val = r.val; rw [(idx0 t).1]; omega
  · show win0_0.index t 1 * 128 + 1 * l.val = l.val; rw [(idx0 t).2]; omega

/-- The point that holds a layer and a column, and the column's place in its block. -/
def ptOf (p : Fin 2) (l : Fin 2304) : Fin cfg0.N := ⟨3 * p.val + l.val / 768, by have hN : cfg0.N = 6 := N_0; omega⟩
def inOf (l : Fin 2304) : Fin 768 := ⟨l.val % 768, by omega⟩

theorem iblk1 (p : Fin 2) (b : Fin 8) (l : Fin 2304) :
    (iblk m c 1 (ptOf p l) : Vec Ideal S1x8x768 .f32) (ix3 0 b (inOf l)) = (A m c main_arg1 : S2x8x2304.Idx → EReal) (ix3 p b l) := by
  unfold iblk
  rw [View.read_apply]
  show V m c main_arg1 _ = _
  rw [V_main_arg1]
  refine congrArg (A m c main_arg1) (at3 p b l _ ?_ ?_ ?_)
  · show win0_1.index (ptOf p l) 0 * 1 + 1 * 0 = p.val; rw [(idx1 _).1]; show (3 * p.val + l.val / 768) / 3 * 1 + 1 * 0 = _; omega
  · show win0_1.index (ptOf p l) 1 * 8 + 1 * b.val = b.val; rw [(idx1 _).2.1]; omega
  · show win0_1.index (ptOf p l) 2 * 768 + 1 * (l.val % 768) = l.val; rw [(idx1 _).2.2]; show (3 * p.val + l.val / 768) % 3 * 768 + _ = _; omega

theorem arr (p : Fin 2) (r : Fin 1024) (l : Fin 2304) : ((dats m 0 c).arrAt 2 cfg0.N : S2x1024x2304.Idx → EReal) (ix3 p r l)
    = ∑ b : Fin 8, silu ((A m c main_arg0 : S8x1024.Idx → EReal) (ix2 b r)) * (A m c main_arg1 : S2x8x2304.Idx → EReal) (ix3 p b l) := by
  have h := congrFun (blocks2 m c (ptOf p l) (flush0_2 _)) (ix3 0 r (inOf l))
  rw [View.read_apply, flushed2] at h
  have e := h.trans (block _ _ r (inOf l))
  simp only [iblk0, cond_apply, iblk1] at e
  rw [← e]
  refine congrArg ((dats m 0 c).arrAt 2 cfg0.N) (at3 p r l _ ?_ ?_ ?_).symm
  · show win0_2.index (ptOf p l) 0 * 1 + 1 * 0 = p.val; rw [(idx2 _).1]; show (3 * p.val + l.val / 768) / 3 * 1 + 1 * 0 = _; omega
  · show win0_2.index (ptOf p l) 1 * 1024 + 1 * r.val = r.val; rw [(idx2 _).2.1]; omega
  · show win0_2.index (ptOf p l) 2 * 768 + 1 * (l.val % 768) = l.val; rw [(idx2 _).2.2]; show (3 * p.val + l.val / 768) % 3 * 768 + _ = _; omega

end Cert.WadaIdeal.Entry

namespace Cert.Wada
open Idealize.ShloMosaic Idealize.ShloMosaic.TcCoe Idealize.ShloMosaic.Tactic Idealize.SL.Sem Cert.WadaRefIdeal Cert.WadaRefIdeal.Read

open scoped BigOperators
theorem refAt (x0 : Vec Ideal S8x1024 .f32) (x1 : Vec Ideal S2x8x2304 .f32) (p : Fin 2) (r : Fin 1024) (l : Fin 2304) : val_main_v24 (F := Ideal) x0 x1 (ix3 p r l) = ∑ b : Fin 8, silu (x0 (ix2 b r)) * x1 (ix3 p b l) := by
  rw [← val_main_v24_eq]
  match p with
  | ⟨0, _⟩ =>
    pointwise []
    exact Finset.sum_congr rfl fun b _ => mul_comm _ _
  | ⟨1, _⟩ =>
    pointwise []
    exact Finset.sum_congr rfl fun b _ => mul_comm _ _

theorem algebraic : algebraic_WadaIdeal_WadaRefIdeal := by
  intro m g m' g' _ hag
  refine ⟨_, WadaIdeal.Value.run_blocks m g, (θ_run WadaRefIdeal.defs _ _).mono (fun r h c => ?_) (WadaRefIdeal.Value.run m' g')⟩
  obtain ⟨a0, a1⟩ := hag c
  obtain ⟨h0, h1⟩ := h c
  refine ⟨h0.trans ((val_main_v24_eq _ _).trans (funext fun i => ?_)), h1⟩
  rw [a0, a1, eq_ix3 i]
  exact (refAt _ _ _ _ _).trans (WadaIdeal.Entry.arr m c _ _ _).symm

end Cert.Wada

end
-- ==== Proof.AdamWada.lean ====
/- AdamW of the modulation's weight: both layers' planes, in blocks of 128 rows. -/
module

public import proofs.«01_k».proof.Proof.Adam
public import proofs.«01_k».proof.Proof.Gen.AdamWadaIdeal.Value
public import proofs.«01_k».proof.Proof.Gen.AdamWadaRefIdeal.Run
public import proofs.«01_k».proof.Proof.Gen.AdamWadaRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AdamWadaIdeal.Entry

open Idealize.ShloMosaic Idealize.ShloMosaic.TcCoe Idealize.ShloMosaic.Tactic Idealize.SL.Sem Cert.AdamWadaIdeal Cert.AdamWadaIdeal.Gen Cert.AdamWadaIdeal.Value Cert.Adam
open scoped BigOperators

/-! ## The body's values -/

variable (i : grid0.Coords) (s0 s1 : Vec Ideal S128x2304 .f32) (w mo vo : Vec Ideal S1x128x2304 .f32) (r : Fin 128) (l : Fin 2304)

theorem plane0 (h : (i 0).val = 0) : k0_pay2 i s0 s1 (ix2 r l) = s0 (ix2 r l) := by
  pointwise [k0_pay2]
  rw [h]
  rfl

theorem plane1 (h : (i 0).val = 1) : k0_pay2 i s0 s1 (ix2 r l) = s1 (ix2 r l) := by
  pointwise [k0_pay2]
  rw [h]
  rfl

theorem pay_g : k0_pay3 i s0 s1 (ix3 0 r l) = k0_pay2 i s0 s1 (ix2 r l) := by
  pointwise [k0_pay3]

theorem pay_m : k0_pay6 i s0 s1 mo (ix3 0 r l) = mom (mo (ix3 0 r l)) (k0_pay2 i s0 s1 (ix2 r l)) := by
  pointwise [k0_pay6, k0_pay4]
  rfl

theorem pay_v : k0_pay7 i s0 s1 vo (ix3 0 r l) = var (vo (ix3 0 r l)) (k0_pay2 i s0 s1 (ix2 r l)) := by
  pointwise [k0_pay7, k0_pay5]
  rfl

theorem pay_d : k0_pay1 (k0_pay4 i s0 s1 mo) (k0_pay5 i s0 s1 vo) (Scalar.ofBits .f32 0x3F26BD02#32) w (ix3 0 r l)
    = delta (w (ix3 0 r l)) (mo (ix3 0 r l)) (vo (ix3 0 r l)) (k0_pay2 i s0 s1 (ix2 r l)) := by
  pointwise [k0_pay1, k0_pay4, k0_pay5]
  rfl

end Cert.AdamWadaIdeal.Entry

namespace Cert.AdamWadaIdeal.Entry

open Idealize.ShloMosaic Idealize.ShloMosaic.TcCoe Idealize.ShloMosaic.Tactic Idealize.SL.Sem Cert.AdamWadaIdeal Cert.AdamWadaIdeal.Gen Cert.AdamWadaIdeal.Value Cert.Adam

/-! ## The blocks that a point reads -/

variable (m : (ℓ : Loc nD τ sig) → Buf (Elt Ideal) ℓ) (c : Dev nD)

abbrev A (b : Ref sig .tc) : Buf (Elt Ideal) ((c : Thread nD τ).loc b) := m ((c : Thread nD τ).loc b)

/-- A plane of the gradient. -/
def plane0Of (g : Vec Ideal S2x1024x2304 .f32) : Vec Ideal S1024x2304 .f32 :=
  shapeCast S1024x2304 (extractStridedSlice S1x1024x2304 ![0, 0, 0] g slices_S2x1024x2304_S1x1024x2304_0_0_0) shapeCasts_S1x1024x2304_S1024x2304
def plane1Of (g : Vec Ideal S2x1024x2304 .f32) : Vec Ideal S1024x2304 .f32 :=
  shapeCast S1024x2304 (extractStridedSlice S1x1024x2304 ![1, 0, 0] g slices_S2x1024x2304_S1x1024x2304_1_0_0) shapeCasts_S1x1024x2304_S1024x2304

theorem plane0Of_apply (g : Vec Ideal S2x1024x2304 .f32) (r : Fin 1024) (l : Fin 2304) : plane0Of g (ix2 r l) = g (ix3 0 r l) := by
  pointwise [plane0Of]
theorem plane1Of_apply (g : Vec Ideal S2x1024x2304 .f32) (r : Fin 1024) (l : Fin 2304) : plane1Of g (ix2 r l) = g (ix3 1 r l) := by
  pointwise [plane1Of]

theorem V_s0 : V m c main_v1 = (plane0Of (A m c main_arg3) : S1024x2304.Idx → EReal) := by
  unfold V
  simp only [hostOps0]
  after_results
  rfl

theorem V_s1 : V m c main_v3 = (plane1Of (A m c main_arg3) : S1024x2304.Idx → EReal) := by
  unfold V
  simp only [hostOps0]
  after_results
  rfl

theorem coord : ∀ t : Fin cfg0.N, (grid0.coords t 0).val = t.val / 8 :=
  (by decide +kernel : ∀ t : Fin grid0.N, (grid0.coords t 0).val = t.val / 8)
theorem idx1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem idx2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem idx3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem idx4 : ∀ t : Fin cfg0.N, (t.val / 8 = 0 → win0_4.index t 0 = t.val % 8) ∧ win0_4.index t 1 = 0 :=
  (by decide +kernel : ∀ t : Fin grid0.N, (t.val / 8 = 0 → win0_4.index t 0 = t.val % 8) ∧ win0_4.index t 1 = 0)
theorem idx5 : ∀ t : Fin cfg0.N, (t.val / 8 = 1 → win0_5.index t 0 = t.val % 8) ∧ win0_5.index t 1 = 0 :=
  (by decide +kernel : ∀ t : Fin grid0.N, (t.val / 8 = 1 → win0_5.index t 0 = t.val % 8) ∧ win0_5.index t 1 = 0)

/-- The element of an array that a point's block holds at a row and a column. -/
abbrev place (t : Fin cfg0.N) (r : Fin 128) (l : Fin 2304) : S2x1024x2304.Idx :=
  ix3 (⟨t.val / 8, by have := t.isLt; have hN : cfg0.N = 16 := N_0; omega⟩ : Fin 2) (⟨128 * (t.val % 8) + r.val, by omega⟩ : Fin 1024) l

theorem iblk1 (t : Fin cfg0.N) (r : Fin 128) (l : Fin 2304) : (iblk m c 1 t : Vec Ideal S1x128x2304 .f32) (ix3 0 r l) = (A m c main_arg0 : S2x1024x2304.Idx → EReal) (place t r l) := by
  unfold iblk
  rw [View.read_apply]
  show V m c main_arg0 _ = _
  rw [V_main_arg0]
  refine congrArg (A m c main_arg0) (funext fun a => Fin.ext ?_)
  match a with
  | ⟨0, _⟩ => show win0_1.index t 0 * 1 + 1 * 0 = t.val / 8; rw [(idx1 t).1]; omega
  | ⟨1, _⟩ => show win0_1.index t 1 * 128 + 1 * r.val = 128 * (t.val % 8) + r.val; rw [(idx1 t).2.1]; omega
  | ⟨2, _⟩ => show win0_1.index t 2 * 2304 + 1 * l.val = l.val; rw [(idx1 t).2.2]; omega

theorem iblk2 (t : Fin cfg0.N) (r : Fin 128) (l : Fin 2304) : (iblk m c 2 t : Vec Ideal S1x128x2304 .f32) (ix3 0 r l) = (A m c main_arg1 : S2x1024x2304.Idx → EReal) (place t r l) := by
  unfold iblk
  rw [View.read_apply]
  show V m c main_arg1 _ = _
  rw [V_main_arg1]
  refine congrArg (A m c main_arg1) (funext fun a => Fin.ext ?_)
  match a with
  | ⟨0, _⟩ => show win0_2.index t 0 * 1 + 1 * 0 = t.val / 8; rw [(idx2 t).1]; omega
  | ⟨1, _⟩ => show win0_2.index t 1 * 128 + 1 * r.val = 128 * (t.val % 8) + r.val; rw [(idx2 t).2.1]; omega
  | ⟨2, _⟩ => show win0_2.index t 2 * 2304 + 1 * l.val = l.val; rw [(idx2 t).2.2]; omega

theorem iblk3 (t : Fin cfg0.N) (r : Fin 128) (l : Fin 2304) : (iblk m c 3 t : Vec Ideal S1x128x2304 .f32) (ix3 0 r l) = (A m c main_arg2 : S2x1024x2304.Idx → EReal) (place t r l) := by
  unfold iblk
  rw [View.read_apply]
  show V m c main_arg2 _ = _
  rw [V_main_arg2]
  refine congrArg (A m c main_arg2) (funext fun a => Fin.ext ?_)
  match a with
  | ⟨0, _⟩ => show win0_3.index t 0 * 1 + 1 * 0 = t.val / 8; rw [(idx3 t).1]; omega
  | ⟨1, _⟩ => show win0_3.index t 1 * 128 + 1 * r.val = 128 * (t.val % 8) + r.val; rw [(idx3 t).2.1]; omega
  | ⟨2, _⟩ => show win0_3.index t 2 * 2304 + 1 * l.val = l.val; rw [(idx3 t).2.2]; omega

theorem iblk4 (t : Fin cfg0.N) (h : t.val / 8 = 0) (r : Fin 128) (l : Fin 2304) : (iblk m c 4 t : Vec Ideal S128x2304 .f32) (ix2 r l)
    = plane0Of (A m c main_arg3) (ix2 (⟨128 * (t.val % 8) + r.val, by omega⟩ : Fin 1024) l) := by
  unfold iblk
  rw [View.read_apply]
  show V m c main_v1 _ = _
  rw [V_s0]
  refine congrArg (plane0Of (A m c main_arg3)) (funext fun a => Fin.ext ?_)
  match a with
  | ⟨0, _⟩ => show win0_4.index t 0 * 128 + 1 * r.val = 128 * (t.val % 8) + r.val; rw [(idx4 t).1 h]; omega
  | ⟨1, _⟩ => show win0_4.index t 1 * 2304 + 1 * l.val = l.val; rw [(idx4 t).2]; omega

theorem iblk5 (t : Fin cfg0.N) (h : t.val / 8 = 1) (r : Fin 128) (l : Fin 2304) : (iblk m c 5 t : Vec Ideal S128x2304 .f32) (ix2 r l)
    = plane1Of (A m c main_arg3) (ix2 (⟨128 * (t.val % 8) + r.val, by omega⟩ : Fin 1024) l) := by
  unfold iblk
  rw [View.read_apply]
  show V m c main_v3 _ = _
  rw [V_s1]
  refine congrArg (plane1Of (A m c main_arg3)) (funext fun a => Fin.ext ?_)
  match a with
  | ⟨0, _⟩ => show win0_5.index t 0 * 128 + 1 * r.val = 128 * (t.val % 8) + r.val; rw [(idx5 t).1 h]; omega
  | ⟨1, _⟩ => show win0_5.index t 1 * 2304 + 1 * l.val = l.val; rw [(idx5 t).2]; omega

/-- The gradient's block: the plane of the point, in the tile of the point. -/
theorem grad (t : Fin cfg0.N) (r : Fin 128) (l : Fin 2304) :
    k0_pay2 (grid0.coords t) (iblk m c 4 t) (iblk m c 5 t) (ix2 r l) = (A m c main_arg3 : S2x1024x2304.Idx → EReal) (place t r l) := by
  have ht := t.isLt
  have hN : cfg0.N = 16 := N_0
  rcases (show t.val / 8 = 0 ∨ t.val / 8 = 1 by omega) with h | h
  · refine (plane0 _ _ _ r l ((coord t).trans h)).trans ((iblk4 m c t h r l).trans ((plane0Of_apply _ _ _).trans (congrArg (A m c main_arg3) ?_)))
    exact congrArg (fun a => ix3 a _ _) (Fin.ext h.symm)
  · refine (plane1 _ _ _ r l ((coord t).trans h)).trans ((iblk5 m c t h r l).trans ((plane1Of_apply _ _ _).trans (congrArg (A m c main_arg3) ?_)))
    exact congrArg (fun a => ix3 a _ _) (Fin.ext h.symm)

/-! ## The blocks that it leaves -/

theorem cut_eq (t : Fin cfg0.N) (x : Vec Ideal S1x128x2304 .f32) (r : Fin 128) (l : Fin 2304) :
    ((cfg0.win 6).cut (grid0.coords t) x : Vec Ideal S1x128x2304 .f32) (ix3 0 r l) = x (ix3 0 r l) := rfl

theorem block6 (t : Fin cfg0.N) (r : Fin 128) (l : Fin 2304) :
    ((dats m 0 c).flushed 6 t : Vec Ideal S1x128x2304 .f32) (ix3 0 r l) = (A m c main_arg3 : S2x1024x2304.Idx → EReal) (place t r l) := by
  rw [flushed6_A]
  refine (cut_eq t _ r l).trans ?_
  unfold out0_A_6
  rw [View.read_writes_eq_canon _ _ _ (fun y => cover0_A_6 _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  exact (pay_g _ _ _ r l).trans (grad m c t r l)

theorem block7 (t : Fin cfg0.N) (r : Fin 128) (l : Fin 2304) :
    ((dats m 0 c).flushed 7 t : Vec Ideal S1x128x2304 .f32) (ix3 0 r l) = delta ((A m c main_arg0 : S2x1024x2304.Idx → EReal) (place t r l)) ((A m c main_arg1 : S2x1024x2304.Idx → EReal) (place t r l)) ((A m c main_arg2 : S2x1024x2304.Idx → EReal) (place t r l)) ((A m c main_arg3 : S2x1024x2304.Idx → EReal) (place t r l)) := by
  rw [flushed7_A]
  refine (cut_eq t _ r l).trans ?_
  unfold out0_A_7
  rw [View.read_writes_eq_canon _ _ _ (fun y => cover0_A_7 _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_d _ _ _ _ _ _ r l).trans ?_
  rw [grad, iblk1, iblk2, iblk3]

theorem block8 (t : Fin cfg0.N) (r : Fin 128) (l : Fin 2304) :
    ((dats m 0 c).flushed 8 t : Vec Ideal S1x128x2304 .f32) (ix3 0 r l) = mom ((A m c main_arg1 : S2x1024x2304.Idx → EReal) (place t r l)) ((A m c main_arg3 : S2x1024x2304.Idx → EReal) (place t r l)) := by
  rw [flushed8_A]
  refine (cut_eq t _ r l).trans ?_
  unfold out0_A_8
  rw [View.read_writes_eq_canon _ _ _ (fun y => cover0_A_8 _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_m _ _ _ _ r l).trans ?_
  rw [grad, iblk2]

theorem block9 (t : Fin cfg0.N) (r : Fin 128) (l : Fin 2304) :
    ((dats m 0 c).flushed 9 t : Vec Ideal S1x128x2304 .f32) (ix3 0 r l) = var ((A m c main_arg2 : S2x1024x2304.Idx → EReal) (place t r l)) ((A m c main_arg3 : S2x1024x2304.Idx → EReal) (place t r l)) := by
  rw [flushed9_A]
  refine (cut_eq t _ r l).trans ?_
  unfold out0_A_9
  rw [View.read_writes_eq_canon _ _ _ (fun y => cover0_A_9 _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_v _ _ _ _ r l).trans ?_
  rw [grad, iblk3]

/-! ## The arrays -/

theorem idx6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)
theorem idx7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)
theorem idx8 : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)
theorem idx9 : ∀ t : Fin cfg0.N, win0_9.index t 0 = t.val / 8 ∧ win0_9.index t 1 = t.val % 8 ∧ win0_9.index t 2 = 0 :=
  (by decide +kernel : ∀ t : Fin grid0.N, win0_9.index t 0 = t.val / 8 ∧ win0_9.index t 1 = t.val % 8 ∧ win0_9.index t 2 = 0)

/-- The point that holds an element, and the element's row in its block. -/
def ptOf (p : Fin 2) (r : Fin 1024) : Fin cfg0.N := ⟨8 * p.val + r.val / 128, by have hN : cfg0.N = 16 := N_0; omega⟩
def inOf (r : Fin 1024) : Fin 128 := ⟨r.val % 128, by omega⟩
theorem pt_div (p : Fin 2) (r : Fin 1024) : (ptOf p r).val / 8 = p.val := by show (8 * p.val + r.val / 128) / 8 = p.val; omega
theorem pt_mod (p : Fin 2) (r : Fin 1024) : (ptOf p r).val % 8 = r.val / 128 := by show (8 * p.val + r.val / 128) % 8 = r.val / 128; omega
theorem place_ptOf (p : Fin 2) (r : Fin 1024) (l : Fin 2304) : place (ptOf p r) (inOf r) l = ix3 p r l := by
  refine congrArg₂ (fun a b => ix3 a b l) (Fin.ext (pt_div p r)) (Fin.ext ?_)
  show 128 * ((ptOf p r).val % 8) + r.val % 128 = r.val
  rw [pt_mod]
  omega

/-- Where a point's block puts an element. -/
theorem spot (p : Fin 2) (r : Fin 1024) (l : Fin 2304) (x y z : Nat) (h : x = (ptOf p r).val / 8 ∧ y = (ptOf p r).val % 8 ∧ z = 0) :
    p.val = x * 1 + 1 * 0 ∧ r.val = y * 128 + 1 * (r.val % 128) ∧ l.val = z * 2304 + 1 * l.val := by
  rw [pt_div, pt_mod] at h
  omega

theorem arr6 (p : Fin 2) (r : Fin 1024) (l : Fin 2304) : ((dats m 0 c).arrAt 6 cfg0.N : S2x1024x2304.Idx → EReal) (ix3 p r l) = (A m c main_arg3 : S2x1024x2304.Idx → EReal) (ix3 p r l) := by
  have h := congrFun (blocks6 m c (ptOf p r) (flush0_6 _)) (ix3 0 (inOf r) l)
  rw [View.read_apply] at h
  have e := h.trans (block6 m c (ptOf p r) (inOf r) l)
  rw [place_ptOf] at e
  rw [← e]
  refine congrArg ((dats m 0 c).arrAt 6 cfg0.N) (funext fun a => Fin.ext ?_)
  obtain ⟨e0, e1, e2⟩ := spot p r l _ _ _ (idx6 (ptOf p r))
  match a with
  | ⟨0, _⟩ => exact e0
  | ⟨1, _⟩ => exact e1
  | ⟨2, _⟩ => exact e2

theorem arr7 (p : Fin 2) (r : Fin 1024) (l : Fin 2304) : ((dats m 0 c).arrAt 7 cfg0.N : S2x1024x2304.Idx → EReal) (ix3 p r l) = delta ((A m c main_arg0 : S2x1024x2304.Idx → EReal) (ix3 p r l)) ((A m c main_arg1 : S2x1024x2304.Idx → EReal) (ix3 p r l)) ((A m c main_arg2 : S2x1024x2304.Idx → EReal) (ix3 p r l)) ((A m c main_arg3 : S2x1024x2304.Idx → EReal) (ix3 p r l)) := by
  have h := congrFun (blocks7 m c (ptOf p r) (flush0_7 _)) (ix3 0 (inOf r) l)
  rw [View.read_apply] at h
  have e := h.trans (block7 m c (ptOf p r) (inOf r) l)
  rw [place_ptOf] at e
  rw [← e]
  refine congrArg ((dats m 0 c).arrAt 7 cfg0.N) (funext fun a => Fin.ext ?_)
  obtain ⟨e0, e1, e2⟩ := spot p r l _ _ _ (idx7 (ptOf p r))
  match a with
  | ⟨0, _⟩ => exact e0
  | ⟨1, _⟩ => exact e1
  | ⟨2, _⟩ => exact e2

theorem arr8 (p : Fin 2) (r : Fin 1024) (l : Fin 2304) : ((dats m 0 c).arrAt 8 cfg0.N : S2x1024x2304.Idx → EReal) (ix3 p r l) = mom ((A m c main_arg1 : S2x1024x2304.Idx → EReal) (ix3 p r l)) ((A m c main_arg3 : S2x1024x2304.Idx → EReal) (ix3 p r l)) := by
  have h := congrFun (blocks8 m c (ptOf p r) (flush0_8 _)) (ix3 0 (inOf r) l)
  rw [View.read_apply] at h
  have e := h.trans (block8 m c (ptOf p r) (inOf r) l)
  rw [place_ptOf] at e
  rw [← e]
  refine congrArg ((dats m 0 c).arrAt 8 cfg0.N) (funext fun a => Fin.ext ?_)
  obtain ⟨e0, e1, e2⟩ := spot p r l _ _ _ (idx8 (ptOf p r))
  match a with
  | ⟨0, _⟩ => exact e0
  | ⟨1, _⟩ => exact e1
  | ⟨2, _⟩ => exact e2

theorem arr9 (p : Fin 2) (r : Fin 1024) (l : Fin 2304) : ((dats m 0 c).arrAt 9 cfg0.N : S2x1024x2304.Idx → EReal) (ix3 p r l) = var ((A m c main_arg2 : S2x1024x2304.Idx → EReal) (ix3 p r l)) ((A m c main_arg3 : S2x1024x2304.Idx → EReal) (ix3 p r l)) := by
  have h := congrFun (blocks9 m c (ptOf p r) (flush0_9 _)) (ix3 0 (inOf r) l)
  rw [View.read_apply] at h
  have e := h.trans (block9 m c (ptOf p r) (inOf r) l)
  rw [place_ptOf] at e
  rw [← e]
  refine congrArg ((dats m 0 c).arrAt 9 cfg0.N) (funext fun a => Fin.ext ?_)
  obtain ⟨e0, e1, e2⟩ := spot p r l _ _ _ (idx9 (ptOf p r))
  match a with
  | ⟨0, _⟩ => exact e0
  | ⟨1, _⟩ => exact e1
  | ⟨2, _⟩ => exact e2

end Cert.AdamWadaIdeal.Entry

namespace Cert.AdamWada

open Idealize.ShloMosaic Idealize.ShloMosaic.TcCoe Idealize.ShloMosaic.Tactic Idealize.SL.Sem Cert.AdamWadaRefIdeal Cert.AdamWadaRefIdeal.Read Cert.Adam

variable (w mo vo g : Vec Ideal S2x1024x2304 .f32) (p : Fin 2) (r : Fin 1024) (l : Fin 2304)

theorem mom_eq : val_main_v4 (F := Ideal) mo g (ix3 p r l) = mom (mo (ix3 p r l)) (g (ix3 p r l)) := by
  pointwise [val_main_v4, val_main_v3, val_main_v2, val_main_v1, val_main_v0, val_main_cst, val_main_cst_0]
  rfl

theorem var_eq : val_main_v10 (F := Ideal) vo g (ix3 p r l) = var (vo (ix3 p r l)) (g (ix3 p r l)) := by
  pointwise [val_main_v10, val_main_v9, val_main_v8, val_main_v7, val_main_v6, val_main_v5, val_main_cst_1, val_main_cst_2]
  rfl

theorem delta_eq : val_main_v23 (F := Ideal) w mo vo g (ix3 p r l) = delta (w (ix3 p r l)) (mo (ix3 p r l)) (vo (ix3 p r l)) (g (ix3 p r l)) := by
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [mom_eq, var_eq]
  rfl

theorem algebraic : algebraic_AdamWadaIdeal_AdamWadaRefIdeal := by
  intro m g m' g' _ hag
  refine ⟨_, _, _, _, AdamWadaIdeal.Value.run_blocks m g, (θ_run AdamWadaRefIdeal.defs _ _).mono (fun r h c => ?_) (AdamWadaRefIdeal.Value.run m' g')⟩
  obtain ⟨a0, a1, a2, a3⟩ := hag c
  obtain ⟨h0, h1, h2, h3, hargs⟩ := h c
  refine ⟨h0.trans (a3.trans (funext fun i => ?_)), h1.trans ((val_main_v23_eq _ _ _ _).trans (funext fun i => ?_)), h2.trans ((val_main_v4_eq _ _).trans (funext fun i => ?_)),
    h3.trans ((val_main_v10_eq _ _).trans (funext fun i => ?_)), hargs⟩
  · rw [eq_ix3 i]
    exact (AdamWadaIdeal.Entry.arr6 m c _ _ _).symm
  · rw [a0, a1, a2, a3, eq_ix3 i]
    exact (delta_eq _ _ _ _ _ _ _).trans (AdamWadaIdeal.Entry.arr7 m c _ _ _).symm
  · rw [a1, a3, eq_ix3 i]
    exact (mom_eq _ _ _ _ _).trans (AdamWadaIdeal.Entry.arr8 m c _ _ _).symm
  · rw [a2, a3, eq_ix3 i]
    exact (var_eq _ _ _ _ _).trans (AdamWadaIdeal.Entry.arr9 m c _ _ _).symm

end Cert.AdamWada

end
-- ==== Proof.AdamWin.lean ====
/- AdamW of the input projection: both layers' planes, in halves of 512 rows. -/
module

public import proofs.«01_k».proof.Proof.Adam
public import proofs.«01_k».proof.Proof.Gen.AdamWinIdeal.Value
public import proofs.«01_k».proof.Proof.Gen.AdamWinRefIdeal.Run
public import proofs.«01_k».proof.Proof.Gen.AdamWinRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AdamWinIdeal.Entry

open Idealize.ShloMosaic Idealize.ShloMosaic.TcCoe Idealize.ShloMosaic.Tactic Idealize.SL.Sem Cert.AdamWinIdeal Cert.AdamWinIdeal.Gen Cert.AdamWinIdeal.Value Cert.Adam
open scoped BigOperators

/-! ## The body's values -/

variable (i : grid0.Coords) (s0 s1 s2 s3 : Vec Ideal S512x768 .f32) (w mo vo : Vec Ideal S1x512x768 .f32) (r : Fin 512) (l : Fin 768)

theorem half0 (h : (i 0).val = 0) (h' : (i 1).val = 0) : k0_pay5 i (0#32 : Elt Ideal .i32) s0 s1 s2 s3 (ix2 r l) = s0 (ix2 r l) := by
  pointwise [k0_pay5]
  rw [h, h']
  rfl
theorem half1 (h : (i 0).val = 0) (h' : (i 1).val = 1) : k0_pay5 i (0#32 : Elt Ideal .i32) s0 s1 s2 s3 (ix2 r l) = s1 (ix2 r l) := by
  pointwise [k0_pay5]
  rw [h, h']
  rfl
theorem half2 (h : (i 0).val = 1) (h' : (i 1).val = 0) : k0_pay5 i (0#32 : Elt Ideal .i32) s0 s1 s2 s3 (ix2 r l) = s2 (ix2 r l) := by
  pointwise [k0_pay5]
  rw [h, h']
  rfl
theorem half3 (h : (i 0).val = 1) (h' : (i 1).val = 1) : k0_pay5 i (0#32 : Elt Ideal .i32) s0 s1 s2 s3 (ix2 r l) = s3 (ix2 r l) := by
  pointwise [k0_pay5]
  rw [h, h']
  rfl

variable (f : Elt Ideal .i32)

theorem pay_g : k0_pay6 i f s0 s1 s2 s3 (ix3 0 r l) = k0_pay5 i f s0 s1 s2 s3 (ix2 r l) := by
  pointwise [k0_pay6]

theorem pay_m : k0_pay2 (k0_pay7 i f s0 s1 s2 s3 mo) (ix3 0 r l) = mom (mo (ix3 0 r l)) (k0_pay5 i f s0 s1 s2 s3 (ix2 r l)) := by
  pointwise [k0_pay2, k0_pay7]
  rfl

theorem pay_v : k0_pay3 (k0_pay8 vo) (k0_pay9 i f s0 s1 s2 s3) (ix3 0 r l) = var (vo (ix3 0 r l)) (k0_pay5 i f s0 s1 s2 s3 (ix2 r l)) := by
  pointwise [k0_pay3, k0_pay1, k0_pay8, k0_pay9]
  rfl

theorem pay_d : k0_pay4 (k0_pay7 i f s0 s1 s2 s3 mo) (k0_pay8 vo) (k0_pay9 i f s0 s1 s2 s3) w (ix3 0 r l)
    = delta (w (ix3 0 r l)) (mo (ix3 0 r l)) (vo (ix3 0 r l)) (k0_pay5 i f s0 s1 s2 s3 (ix2 r l)) := by
  pointwise [k0_pay4, k0_pay1, k0_pay7, k0_pay8, k0_pay9]
  rfl

end Cert.AdamWinIdeal.Entry

namespace Cert.AdamWinIdeal.Entry

open Idealize.ShloMosaic Idealize.ShloMosaic.TcCoe Idealize.ShloMosaic.Tactic Idealize.SL.Sem Cert.AdamWinIdeal Cert.AdamWinIdeal.Gen Cert.AdamWinIdeal.Value Cert.Adam

/-! ## The blocks that a point reads -/

variable (m : (ℓ : Loc nD τ sig) → Buf (Elt Ideal) ℓ) (c : Dev nD)

abbrev A (b : Ref sig .tc) : Buf (Elt Ideal) ((c : Thread nD τ).loc b) := m ((c : Thread nD τ).loc b)

/-- A plane of the gradient. -/
def plane0Of (g : Vec Ideal S2x1024x768 .f32) : Vec Ideal S1024x768 .f32 :=
  shapeCast S1024x768 (extractStridedSlice S1x1024x768 ![0, 0, 0] g slices_S2x1024x768_S1x1024x768_0_0_0) shapeCasts_S1x1024x768_S1024x768
def plane1Of (g : Vec Ideal S2x1024x768 .f32) : Vec Ideal S1024x768 .f32 :=
  shapeCast S1024x768 (extractStridedSlice S1x1024x768 ![1, 0, 0] g slices_S2x1024x768_S1x1024x768_1_0_0) shapeCasts_S1x1024x768_S1024x768
/-- A plane's halves. -/
def upper (x : Vec Ideal S1024x768 .f32) : Vec Ideal S512x768 .f32 := extractStridedSlice S512x768 ![0, 0] x slices_S1024x768_S512x768_0_0
def lower (x : Vec Ideal S1024x768 .f32) : Vec Ideal S512x768 .f32 := extractStridedSlice S512x768 ![512, 0] x slices_S1024x768_S512x768_512_0

variable (g : Vec Ideal S2x1024x768 .f32) (r : Fin 512) (l : Fin 768)

theorem piece0 : upper (plane0Of g) (ix2 r l) = g (ix3 0 (⟨r.val, by omega⟩ : Fin 1024) l) := by
  pointwise [upper, plane0Of]
theorem piece1 : lower (plane0Of g) (ix2 r l) = g (ix3 0 (⟨512 + r.val, by omega⟩ : Fin 1024) l) := by
  pointwise [lower, plane0Of]
theorem piece2 : upper (plane1Of g) (ix2 r l) = g (ix3 1 (⟨r.val, by omega⟩ : Fin 1024) l) := by
  pointwise [upper, plane1Of]
theorem piece3 : lower (plane1Of g) (ix2 r l) = g (ix3 1 (⟨512 + r.val, by omega⟩ : Fin 1024) l) := by
  pointwise [lower, plane1Of]

theorem V_s0 : V m c main_v4 = (upper (plane0Of (A m c main_arg3)) : S512x768.Idx → EReal) := by
  unfold V
  simp only [hostOps0]
  after_results
  rfl
theorem V_s1 : V m c main_v5 = (lower (plane0Of (A m c main_arg3)) : S512x768.Idx → EReal) := by
  unfold V
  simp only [hostOps0]
  after_results
  rfl
theorem V_s2 : V m c main_v6 = (upper (plane1Of (A m c main_arg3)) : S512x768.Idx → EReal) := by
  unfold V
  simp only [hostOps0]
  after_results
  rfl
theorem V_s3 : V m c main_v7 = (lower (plane1Of (A m c main_arg3)) : S512x768.Idx → EReal) := by
  unfold V
  simp only [hostOps0]
  after_results
  rfl
theorem V_flag : V m c main_v8 = ((fun _ => 0#32) : S1.Idx → BitVec 32) := by
  unfold V
  simp only [hostOps0]
  after_results
  rfl

theorem coords_eq : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)
theorem idx1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)
theorem idx2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem idx3 : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

/-- The element of an array that a point's block holds at a row and a column. -/
abbrev place (t : Fin cfg0.N) : S2x1024x768.Idx :=
  ix3 (⟨t.val / 2, by have := t.isLt; have hN : cfg0.N = 4 := N_0; omega⟩ : Fin 2) (⟨512 * (t.val % 2) + r.val, by omega⟩ : Fin 1024) l

theorem iblk0 (t : Fin cfg0.N) (x : S1.Idx) : (iblk m c 0 t : S1.Idx → BitVec 32) x = 0#32 := by
  unfold iblk
  rw [View.read_apply]
  show V m c main_v8 _ = _
  rw [V_flag]

theorem iblk1 (t : Fin cfg0.N) : (iblk m c 1 t : Vec Ideal S1x512x768 .f32) (ix3 0 r l) = (A m c main_arg0 : S2x1024x768.Idx → EReal) (place r l t) := by
  unfold iblk
  rw [View.read_apply]
  show V m c main_arg0 _ = _
  rw [V_main_arg0]
  obtain ⟨h0, h1, h2⟩ := spot3 (r := r.val) (b := 512) l (idx1 t)
  exact congrArg (A m c main_arg0) (at3 _ _ l _ h0 h1 h2)

theorem iblk2 (t : Fin cfg0.N) : (iblk m c 2 t : Vec Ideal S1x512x768 .f32) (ix3 0 r l) = (A m c main_arg1 : S2x1024x768.Idx → EReal) (place r l t) := by
  unfold iblk
  rw [View.read_apply]
  show V m c main_arg1 _ = _
  rw [V_main_arg1]
  obtain ⟨h0, h1, h2⟩ := spot3 (r := r.val) (b := 512) l (idx2 t)
  exact congrArg (A m c main_arg1) (at3 _ _ l _ h0 h1 h2)

theorem iblk3 (t : Fin cfg0.N) : (iblk m c 3 t : Vec Ideal S1x512x768 .f32) (ix3 0 r l) = (A m c main_arg2 : S2x1024x768.Idx → EReal) (place r l t) := by
  unfold iblk
  rw [View.read_apply]
  show V m c main_arg2 _ = _
  rw [V_main_arg2]
  obtain ⟨h0, h1, h2⟩ := spot3 (r := r.val) (b := 512) l (idx3 t)
  exact congrArg (A m c main_arg2) (at3 _ _ l _ h0 h1 h2)

theorem iblk4 (t : Fin cfg0.N) (h : t.val = 0) : (iblk m c 4 t : Vec Ideal S512x768 .f32) (ix2 r l) = (A m c main_arg3 : S2x1024x768.Idx → EReal) (place r l t) := by
  unfold iblk
  rw [View.read_apply]
  show V m c main_v4 _ = _
  rw [V_s0]
  refine (congrArg (upper (plane0Of (A m c main_arg3))) (at2 r l _ ?_ ?_)).trans ((piece0 _ r l).trans (congrArg (A m c main_arg3) (congrArg₂ (fun a b => ix3 a b l) (Fin.ext ?_) (Fin.ext ?_))))
  · show win0_4.index t 0 * 512 + 1 * r.val = r.val; rw [(idx4 t).1]; omega
  · show win0_4.index t 1 * 768 + 1 * l.val = l.val; rw [(idx4 t).2]; omega
  · show 0 = t.val / 2; omega
  · show r.val = 512 * (t.val % 2) + r.val; omega

theorem iblk5 (t : Fin cfg0.N) (h : t.val = 1) : (iblk m c 5 t : Vec Ideal S512x768 .f32) (ix2 r l) = (A m c main_arg3 : S2x1024x768.Idx → EReal) (place r l t) := by
  unfold iblk
  rw [View.read_apply]
  show V m c main_v5 _ = _
  rw [V_s1]
  refine (congrArg (lower (plane0Of (A m c main_arg3))) (at2 r l _ ?_ ?_)).trans ((piece1 _ r l).trans (congrArg (A m c main_arg3) (congrArg₂ (fun a b => ix3 a b l) (Fin.ext ?_) (Fin.ext ?_))))
  · show win0_5.index t 0 * 512 + 1 * r.val = r.val; rw [(idx5 t).1]; omega
  · show win0_5.index t 1 * 768 + 1 * l.val = l.val; rw [(idx5 t).2]; omega
  · show 0 = t.val / 2; omega
  · show 512 + r.val = 512 * (t.val % 2) + r.val; omega

theorem iblk6 (t : Fin cfg0.N) (h : t.val = 2) : (iblk m c 6 t : Vec Ideal S512x768 .f32) (ix2 r l) = (A m c main_arg3 : S2x1024x768.Idx → EReal) (place r l t) := by
  unfold iblk
  rw [View.read_apply]
  show V m c main_v6 _ = _
  rw [V_s2]
  refine (congrArg (upper (plane1Of (A m c main_arg3))) (at2 r l _ ?_ ?_)).trans ((piece2 _ r l).trans (congrArg (A m c main_arg3) (congrArg₂ (fun a b => ix3 a b l) (Fin.ext ?_) (Fin.ext ?_))))
  · show win0_6.index t 0 * 512 + 1 * r.val = r.val; rw [(idx6 t).1]; omega
  · show win0_6.index t 1 * 768 + 1 * l.val = l.val; rw [(idx6 t).2]; omega
  · show 1 = t.val / 2; omega
  · show r.val = 512 * (t.val % 2) + r.val; omega

theorem iblk7 (t : Fin cfg0.N) (h : t.val = 3) : (iblk m c 7 t : Vec Ideal S512x768 .f32) (ix2 r l) = (A m c main_arg3 : S2x1024x768.Idx → EReal) (place r l t) := by
  unfold iblk
  rw [View.read_apply]
  show V m c main_v7 _ = _
  rw [V_s3]
  refine (congrArg (lower (plane1Of (A m c main_arg3))) (at2 r l _ ?_ ?_)).trans ((piece3 _ r l).trans (congrArg (A m c main_arg3) (congrArg₂ (fun a b => ix3 a b l) (Fin.ext ?_) (Fin.ext ?_))))
  · show win0_7.index t 0 * 512 + 1 * r.val = r.val; rw [(idx7 t).1]; omega
  · show win0_7.index t 1 * 768 + 1 * l.val = l.val; rw [(idx7 t).2]; omega
  · show 1 = t.val / 2; omega
  · show 512 + r.val = 512 * (t.val % 2) + r.val; omega

/-- The gradient's block: the half of the point. -/
theorem grad (t : Fin cfg0.N) (f : Elt Ideal .i32) (hf : f = (0#32 : BitVec 32)) :
    k0_pay5 (grid0.coords t) f (iblk m c 4 t) (iblk m c 5 t) (iblk m c 6 t) (iblk m c 7 t) (ix2 r l) = (A m c main_arg3 : S2x1024x768.Idx → EReal) (place r l t) := by
  obtain rfl := hf
  have ht := t.isLt
  have hN : cfg0.N = 4 := N_0
  obtain ⟨h0, h1⟩ := coords_eq t
  rcases (show t.val = 0 ∨ t.val = 1 ∨ t.val = 2 ∨ t.val = 3 by omega) with h | h | h | h
  · exact (half0 _ _ _ _ _ r l (h0.trans (by omega)) (h1.trans (by omega))).trans (iblk4 m c r l t h)
  · exact (half1 _ _ _ _ _ r l (h0.trans (by omega)) (h1.trans (by omega))).trans (iblk5 m c r l t h)
  · exact (half2 _ _ _ _ _ r l (h0.trans (by omega)) (h1.trans (by omega))).trans (iblk6 m c r l t h)
  · exact (half3 _ _ _ _ _ r l (h0.trans (by omega)) (h1.trans (by omega))).trans (iblk7 m c r l t h)

/-! ## The blocks that it leaves -/

theorem cut_eq (t : Fin cfg0.N) (x : Vec Ideal S1x512x768 .f32) : ((cfg0.win 8).cut (grid0.coords t) x : S1x512x768.Idx → EReal) (ix3 0 r l) = x (ix3 0 r l) := rfl

theorem block8 (t : Fin cfg0.N) : ((dats m 0 c).flushed 8 t : S1x512x768.Idx → EReal) (ix3 0 r l)
    = ((A m c main_arg3 : S2x1024x768.Idx → EReal) (place r l t)) := by
  rw [flushed8_A]
  refine (cut_eq r l t _).trans ?_
  unfold out0_A_8
  rw [View.read_writes_eq_canon _ _ _ (fun y => cover0_A_8 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  exact (pay_g _ _ _ _ _ r l _).trans (grad m c r l t _ (iblk0 m c t _))

theorem block9 (t : Fin cfg0.N) : ((dats m 0 c).flushed 9 t : S1x512x768.Idx → EReal) (ix3 0 r l)
    = delta ((A m c main_arg0 : S2x1024x768.Idx → EReal) (place r l t)) ((A m c main_arg1 : S2x1024x768.Idx → EReal) (place r l t)) ((A m c main_arg2 : S2x1024x768.Idx → EReal) (place r l t)) ((A m c main_arg3 : S2x1024x768.Idx → EReal) (place r l t)) := by
  rw [flushed9_A]
  refine (cut_eq r l t _).trans ?_
  unfold out0_A_9
  rw [View.read_writes_eq_canon _ _ _ (fun y => cover0_A_9 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_d _ _ _ _ _ _ _ _ r l _).trans ?_
  rw [grad m c r l t _ (iblk0 m c t _), iblk1, iblk2, iblk3]

theorem block10 (t : Fin cfg0.N) : ((dats m 0 c).flushed 10 t : S1x512x768.Idx → EReal) (ix3 0 r l)
    = mom ((A m c main_arg1 : S2x1024x768.Idx → EReal) (place r l t)) ((A m c main_arg3 : S2x1024x768.Idx → EReal) (place r l t)) := by
  rw [flushed10_A]
  refine (cut_eq r l t _).trans ?_
  unfold out0_A_10
  rw [View.read_writes_eq_canon _ _ _ (fun y => cover0_A_10 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_m _ _ _ _ _ _ r l _).trans ?_
  rw [grad m c r l t _ (iblk0 m c t _), iblk2]

theorem block11 (t : Fin cfg0.N) : ((dats m 0 c).flushed 11 t : S1x512x768.Idx → EReal) (ix3 0 r l)
    = var ((A m c main_arg2 : S2x1024x768.Idx → EReal) (place r l t)) ((A m c main_arg3 : S2x1024x768.Idx → EReal) (place r l t)) := by
  rw [flushed11_A]
  refine (cut_eq r l t _).trans ?_
  unfold out0_A_11
  rw [View.read_writes_eq_canon _ _ _ (fun y => cover0_A_11 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_v _ _ _ _ _ _ r l _).trans ?_
  rw [grad m c r l t _ (iblk0 m c t _), iblk3]

/-! ## The arrays -/

theorem idx8 : ∀ t : Fin cfg0.N, win0_8.index t 0 = t.val / 2 ∧ win0_8.index t 1 = t.val % 2 ∧ win0_8.index t 2 = 0 :=
  (by decide +kernel : ∀ t : Fin grid0.N, win0_8.index t 0 = t.val / 2 ∧ win0_8.index t 1 = t.val % 2 ∧ win0_8.index t 2 = 0)
theorem idx9 : ∀ t : Fin cfg0.N, win0_9.index t 0 = t.val / 2 ∧ win0_9.index t 1 = t.val % 2 ∧ win0_9.index t 2 = 0 :=
  (by decide +kernel : ∀ t : Fin grid0.N, win0_9.index t 0 = t.val / 2 ∧ win0_9.index t 1 = t.val % 2 ∧ win0_9.index t 2 = 0)
theorem idx10 : ∀ t : Fin cfg0.N, win0_10.index t 0 = t.val / 2 ∧ win0_10.index t 1 = t.val % 2 ∧ win0_10.index t 2 = 0 :=
  (by decide +kernel : ∀ t : Fin grid0.N, win0_10.index t 0 = t.val / 2 ∧ win0_10.index t 1 = t.val % 2 ∧ win0_10.index t 2 = 0)
theorem idx11 : ∀ t : Fin cfg0.N, win0_11.index t 0 = t.val / 2 ∧ win0_11.index t 1 = t.val % 2 ∧ win0_11.index t 2 = 0 :=
  (by decide +kernel : ∀ t : Fin grid0.N, win0_11.index t 0 = t.val / 2 ∧ win0_11.index t 1 = t.val % 2 ∧ win0_11.index t 2 = 0)

/-- The point that holds an element, and the element's row in its block. -/
def ptOf (p : Fin 2) (r : Fin 1024) : Fin cfg0.N := ⟨2 * p.val + r.val / 512, by have hN : cfg0.N = 4 := N_0; omega⟩
def inOf (r : Fin 1024) : Fin 512 := ⟨r.val % 512, by omega⟩

/-- A block's element back in its array. -/
theorem spot (p : Fin 2) (r : Fin 1024) (l : Fin 768) (x y z : Nat) (h : x = (ptOf p r).val / 2 ∧ y = (ptOf p r).val % 2 ∧ z = 0) :
    x * 1 + 1 * 0 = p.val ∧ y * 512 + 1 * (inOf r).val = r.val ∧ z * 768 + 1 * l.val = l.val := by
  have hd : (ptOf p r).val / 2 = p.val := point_div (by omega) r.isLt
  have hm : (ptOf p r).val % 2 = r.val / 512 := point_mod (by omega) r.isLt
  have hi : (inOf r).val = r.val % 512 := rfl
  omega
theorem place_ptOf (p : Fin 2) (r : Fin 1024) (l : Fin 768) : place (inOf r) l (ptOf p r) = ix3 p r l := by
  obtain ⟨h0, h1, _⟩ := spot p r l _ _ _ ⟨rfl, rfl, rfl⟩
  exact congrArg₂ (fun a b => ix3 a b l) (Fin.ext (by dsimp only; omega)) (Fin.ext (by dsimp only; omega))

theorem arr8 (p : Fin 2) (r : Fin 1024) (l : Fin 768) : ((dats m 0 c).arrAt 8 cfg0.N : S2x1024x768.Idx → EReal) (ix3 p r l)
    = ((A m c main_arg3 : S2x1024x768.Idx → EReal) (ix3 p r l)) := by
  have h := congrFun (blocks8 m c (ptOf p r) (flush0_8 _)) (ix3 0 (inOf r) l)
  rw [View.read_apply] at h
  obtain ⟨e0, e1, e2⟩ := spot p r l _ _ _ (idx8 (ptOf p r))
  have e := (congrArg ((dats m 0 c).arrAt 8 cfg0.N) (at3 p r l _ e0 e1 e2)).symm.trans (h.trans (block8 m c (inOf r) l (ptOf p r)))
  rwa [place_ptOf] at e

theorem arr9 (p : Fin 2) (r : Fin 1024) (l : Fin 768) : ((dats m 0 c).arrAt 9 cfg0.N : S2x1024x768.Idx → EReal) (ix3 p r l)
    = delta ((A m c main_arg0 : S2x1024x768.Idx → EReal) (ix3 p r l)) ((A m c main_arg1 : S2x1024x768.Idx → EReal) (ix3 p r l)) ((A m c main_arg2 : S2x1024x768.Idx → EReal) (ix3 p r l)) ((A m c main_arg3 : S2x1024x768.Idx → EReal) (ix3 p r l)) := by
  have h := congrFun (blocks9 m c (ptOf p r) (flush0_9 _)) (ix3 0 (inOf r) l)
  rw [View.read_apply] at h
  obtain ⟨e0, e1, e2⟩ := spot p r l _ _ _ (idx9 (ptOf p r))
  have e := (congrArg ((dats m 0 c).arrAt 9 cfg0.N) (at3 p r l _ e0 e1 e2)).symm.trans (h.trans (block9 m c (inOf r) l (ptOf p r)))
  rwa [place_ptOf] at e

theorem arr10 (p : Fin 2) (r : Fin 1024) (l : Fin 768) : ((dats m 0 c).arrAt 10 cfg0.N : S2x1024x768.Idx → EReal) (ix3 p r l)
    = mom ((A m c main_arg1 : S2x1024x768.Idx → EReal) (ix3 p r l)) ((A m c main_arg3 : S2x1024x768.Idx → EReal) (ix3 p r l)) := by
  have h := congrFun (blocks10 m c (ptOf p r) (flush0_10 _)) (ix3 0 (inOf r) l)
  rw [View.read_apply] at h
  obtain ⟨e0, e1, e2⟩ := spot p r l _ _ _ (idx10 (ptOf p r))
  have e := (congrArg ((dats m 0 c).arrAt 10 cfg0.N) (at3 p r l _ e0 e1 e2)).symm.trans (h.trans (block10 m c (inOf r) l (ptOf p r)))
  rwa [place_ptOf] at e

theorem arr11 (p : Fin 2) (r : Fin 1024) (l : Fin 768) : ((dats m 0 c).arrAt 11 cfg0.N : S2x1024x768.Idx → EReal) (ix3 p r l)
    = var ((A m c main_arg2 : S2x1024x768.Idx → EReal) (ix3 p r l)) ((A m c main_arg3 : S2x1024x768.Idx → EReal) (ix3 p r l)) := by
  have h := congrFun (blocks11 m c (ptOf p r) (flush0_11 _)) (ix3 0 (inOf r) l)
  rw [View.read_apply] at h
  obtain ⟨e0, e1, e2⟩ := spot p r l _ _ _ (idx11 (ptOf p r))
  have e := (congrArg ((dats m 0 c).arrAt 11 cfg0.N) (at3 p r l _ e0 e1 e2)).symm.trans (h.trans (block11 m c (inOf r) l (ptOf p r)))
  rwa [place_ptOf] at e

end Cert.AdamWinIdeal.Entry

namespace Cert.AdamWin

open Idealize.ShloMosaic Idealize.ShloMosaic.TcCoe Idealize.ShloMosaic.Tactic Idealize.SL.Sem Cert.AdamWinRefIdeal Cert.AdamWinRefIdeal.Read Cert.Adam

variable (w mo vo g : Vec Ideal S2x1024x768 .f32) (p : Fin 2) (r : Fin 1024) (l : Fin 768)

theorem mom_eq : val_main_v4 (F := Ideal) mo g (ix3 p r l) = mom (mo (ix3 p r l)) (g (ix3 p r l)) := by
  pointwise [val_main_v4, val_main_v3, val_main_v2, val_main_v1, val_main_v0, val_main_cst, val_main_cst_0]
  rfl

theorem var_eq : val_main_v10 (F := Ideal) vo g (ix3 p r l) = var (vo (ix3 p r l)) (g (ix3 p r l)) := by
  pointwise [val_main_v10, val_main_v9, val_main_v8, val_main_v7, val_main_v6, val_main_v5, val_main_cst_1, val_main_cst_2]
  rfl

theorem delta_eq : val_main_v23 (F := Ideal) w mo vo g (ix3 p r l) = delta (w (ix3 p r l)) (mo (ix3 p r l)) (vo (ix3 p r l)) (g (ix3 p r l)) := by
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [mom_eq, var_eq]
  rfl

theorem algebraic : algebraic_AdamWinIdeal_AdamWinRefIdeal := by
  intro m g m' g' _ hag
  refine ⟨_, _, _, _, AdamWinIdeal.Value.run_blocks m g, (θ_run AdamWinRefIdeal.defs _ _).mono (fun r h c => ?_) (AdamWinRefIdeal.Value.run m' g')⟩
  obtain ⟨a0, a1, a2, a3⟩ := hag c
  obtain ⟨h0, h1, h2, h3, hargs⟩ := h c
  refine ⟨h0.trans (a3.trans (funext fun i => ?_)), h1.trans ((val_main_v23_eq _ _ _ _).trans (funext fun i => ?_)), h2.trans ((val_main_v4_eq _ _).trans (funext fun i => ?_)),
    h3.trans ((val_main_v10_eq _ _).trans (funext fun i => ?_)), hargs⟩
  · rw [eq_ix3 i]
    exact (AdamWinIdeal.Entry.arr8 m c _ _ _).symm
  · rw [a0, a1, a2, a3, eq_ix3 i]
    exact (delta_eq _ _ _ _ _ _ _).trans (AdamWinIdeal.Entry.arr9 m c _ _ _).symm
  · rw [a1, a3, eq_ix3 i]
    exact (mom_eq _ _ _ _ _).trans (AdamWinIdeal.Entry.arr10 m c _ _ _).symm
  · rw [a2, a3, eq_ix3 i]
    exact (var_eq _ _ _ _ _).trans (AdamWinIdeal.Entry.arr11 m c _ _ _).symm

end Cert.AdamWin

end
-- ==== Proof.AdamWout.lean ====
/- AdamW of the output projection: both layers' planes, in halves of 128 rows. -/
module

public import proofs.«01_k».proof.Proof.Adam
public import proofs.«01_k».proof.Proof.Gen.AdamWoutIdeal.Value
public import proofs.«01_k».proof.Proof.Gen.AdamWoutRefIdeal.Run
public import proofs.«01_k».proof.Proof.Gen.AdamWoutRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AdamWoutIdeal.Entry

open Idealize.ShloMosaic Idealize.ShloMosaic.TcCoe Idealize.ShloMosaic.Tactic Idealize.SL.Sem Cert.AdamWoutIdeal Cert.AdamWoutIdeal.Gen Cert.AdamWoutIdeal.Value Cert.Adam
open scoped BigOperators

/-! ## The body's values -/

variable (i : grid0.Coords) (s0 s1 s2 s3 : Vec Ideal S128x1024 .f32) (w mo vo : Vec Ideal S1x128x1024 .f32) (r : Fin 128) (l : Fin 1024)

theorem half0 (h : (i 0).val = 0) (h' : (i 1).val = 0) : k0_pay5 i (0#32 : Elt Ideal .i32) s0 s1 s2 s3 (ix2 r l) = s0 (ix2 r l) := by
  pointwise [k0_pay5]
  rw [h, h']
  rfl
theorem half1 (h : (i 0).val = 0) (h' : (i 1).val = 1) : k0_pay5 i (0#32 : Elt Ideal .i32) s0 s1 s2 s3 (ix2 r l) = s1 (ix2 r l) := by
  pointwise [k0_pay5]
  rw [h, h']
  rfl
theorem half2 (h : (i 0).val = 1) (h' : (i 1).val = 0) : k0_pay5 i (0#32 : Elt Ideal .i32) s0 s1 s2 s3 (ix2 r l) = s2 (ix2 r l) := by
  pointwise [k0_pay5]
  rw [h, h']
  rfl
theorem half3 (h : (i 0).val = 1) (h' : (i 1).val = 1) : k0_pay5 i (0#32 : Elt Ideal .i32) s0 s1 s2 s3 (ix2 r l) = s3 (ix2 r l) := by
  pointwise [k0_pay5]
  rw [h, h']
  rfl

variable (f : Elt Ideal .i32)

theorem pay_g : k0_pay6 i f s0 s1 s2 s3 (ix3 0 r l) = k0_pay5 i f s0 s1 s2 s3 (ix2 r l) := by
  pointwise [k0_pay6]

theorem pay_m : k0_pay2 (k0_pay7 i f s0 s1 s2 s3 mo) (ix3 0 r l) = mom (mo (ix3 0 r l)) (k0_pay5 i f s0 s1 s2 s3 (ix2 r l)) := by
  pointwise [k0_pay2, k0_pay7]
  rfl

theorem pay_v : k0_pay3 (k0_pay8 vo) (k0_pay9 i f s0 s1 s2 s3) (ix3 0 r l) = var (vo (ix3 0 r l)) (k0_pay5 i f s0 s1 s2 s3 (ix2 r l)) := by
  pointwise [k0_pay3, k0_pay1, k0_pay8, k0_pay9]
  rfl

theorem pay_d : k0_pay4 (k0_pay7 i f s0 s1 s2 s3 mo) (k0_pay8 vo) (k0_pay9 i f s0 s1 s2 s3) w (ix3 0 r l)
    = delta (w (ix3 0 r l)) (mo (ix3 0 r l)) (vo (ix3 0 r l)) (k0_pay5 i f s0 s1 s2 s3 (ix2 r l)) := by
  pointwise [k0_pay4, k0_pay1, k0_pay7, k0_pay8, k0_pay9]
  rfl

end Cert.AdamWoutIdeal.Entry

namespace Cert.AdamWoutIdeal.Entry

open Idealize.ShloMosaic Idealize.ShloMosaic.TcCoe Idealize.ShloMosaic.Tactic Idealize.SL.Sem Cert.AdamWoutIdeal Cert.AdamWoutIdeal.Gen Cert.AdamWoutIdeal.Value Cert.Adam

/-! ## The blocks that a point reads -/

variable (m : (ℓ : Loc nD τ sig) → Buf (Elt Ideal) ℓ) (c : Dev nD)

abbrev A (b : Ref sig .tc) : Buf (Elt Ideal) ((c : Thread nD τ).loc b) := m ((c : Thread nD τ).loc b)

/-- A plane of the gradient. -/
def plane0Of (g : Vec Ideal S2x256x1024 .f32) : Vec Ideal S256x1024 .f32 :=
  shapeCast S256x1024 (extractStridedSlice S1x256x1024 ![0, 0, 0] g slices_S2x256x1024_S1x256x1024_0_0_0) shapeCasts_S1x256x1024_S256x1024
def plane1Of (g : Vec Ideal S2x256x1024 .f32) : Vec Ideal S256x1024 .f32 :=
  shapeCast S256x1024 (extractStridedSlice S1x256x1024 ![1, 0, 0] g slices_S2x256x1024_S1x256x1024_1_0_0) shapeCasts_S1x256x1024_S256x1024
/-- A plane's halves. -/
def upper (x : Vec Ideal S256x1024 .f32) : Vec Ideal S128x1024 .f32 := extractStridedSlice S128x1024 ![0, 0] x slices_S256x1024_S128x1024_0_0
def lower (x : Vec Ideal S256x1024 .f32) : Vec Ideal S128x1024 .f32 := extractStridedSlice S128x1024 ![128, 0] x slices_S256x1024_S128x1024_128_0

variable (g : Vec Ideal S2x256x1024 .f32) (r : Fin 128) (l : Fin 1024)

theorem piece0 : upper (plane0Of g) (ix2 r l) = g (ix3 0 (⟨r.val, by omega⟩ : Fin 256) l) := by
  pointwise [upper, plane0Of]
theorem piece1 : lower (plane0Of g) (ix2 r l) = g (ix3 0 (⟨128 + r.val, by omega⟩ : Fin 256) l) := by
  pointwise [lower, plane0Of]
theorem piece2 : upper (plane1Of g) (ix2 r l) = g (ix3 1 (⟨r.val, by omega⟩ : Fin 256) l) := by
  pointwise [upper, plane1Of]
theorem piece3 : lower (plane1Of g) (ix2 r l) = g (ix3 1 (⟨128 + r.val, by omega⟩ : Fin 256) l) := by
  pointwise [lower, plane1Of]

theorem V_s0 : V m c main_v4 = (upper (plane0Of (A m c main_arg3)) : S128x1024.Idx → EReal) := by
  unfold V
  simp only [hostOps0]
  after_results
  rfl
theorem V_s1 : V m c main_v5 = (lower (plane0Of (A m c main_arg3)) : S128x1024.Idx → EReal) := by
  unfold V
  simp only [hostOps0]
  after_results
  rfl
theorem V_s2 : V m c main_v6 = (upper (plane1Of (A m c main_arg3)) : S128x1024.Idx → EReal) := by
  unfold V
  simp only [hostOps0]
  after_results
  rfl
theorem V_s3 : V m c main_v7 = (lower (plane1Of (A m c main_arg3)) : S128x1024.Idx → EReal) := by
  unfold V
  simp only [hostOps0]
  after_results
  rfl
theorem V_flag : V m c main_v8 = ((fun _ => 0#32) : S1.Idx → BitVec 32) := by
  unfold V
  simp only [hostOps0]
  after_results
  rfl

theorem coords_eq : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)
theorem idx1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)
theorem idx2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem idx3 : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

/-- The element of an array that a point's block holds at a row and a column. -/
abbrev place (t : Fin cfg0.N) : S2x256x1024.Idx :=
  ix3 (⟨t.val / 2, by have := t.isLt; have hN : cfg0.N = 4 := N_0; omega⟩ : Fin 2) (⟨128 * (t.val % 2) + r.val, by omega⟩ : Fin 256) l

theorem iblk0 (t : Fin cfg0.N) (x : S1.Idx) : (iblk m c 0 t : S1.Idx → BitVec 32) x = 0#32 := by
  unfold iblk
  rw [View.read_apply]
  show V m c main_v8 _ = _
  rw [V_flag]

theorem iblk1 (t : Fin cfg0.N) : (iblk m c 1 t : Vec Ideal S1x128x1024 .f32) (ix3 0 r l) = (A m c main_arg0 : S2x256x1024.Idx → EReal) (place r l t) := by
  unfold iblk
  rw [View.read_apply]
  show V m c main_arg0 _ = _
  rw [V_main_arg0]
  obtain ⟨h0, h1, h2⟩ := spot3 (r := r.val) (b := 128) l (idx1 t)
  exact congrArg (A m c main_arg0) (at3 _ _ l _ h0 h1 h2)

theorem iblk2 (t : Fin cfg0.N) : (iblk m c 2 t : Vec Ideal S1x128x1024 .f32) (ix3 0 r l) = (A m c main_arg1 : S2x256x1024.Idx → EReal) (place r l t) := by
  unfold iblk
  rw [View.read_apply]
  show V m c main_arg1 _ = _
  rw [V_main_arg1]
  obtain ⟨h0, h1, h2⟩ := spot3 (r := r.val) (b := 128) l (idx2 t)
  exact congrArg (A m c main_arg1) (at3 _ _ l _ h0 h1 h2)

theorem iblk3 (t : Fin cfg0.N) : (iblk m c 3 t : Vec Ideal S1x128x1024 .f32) (ix3 0 r l) = (A m c main_arg2 : S2x256x1024.Idx → EReal) (place r l t) := by
  unfold iblk
  rw [View.read_apply]
  show V m c main_arg2 _ = _
  rw [V_main_arg2]
  obtain ⟨h0, h1, h2⟩ := spot3 (r := r.val) (b := 128) l (idx3 t)
  exact congrArg (A m c main_arg2) (at3 _ _ l _ h0 h1 h2)

theorem iblk4 (t : Fin cfg0.N) (h : t.val = 0) : (iblk m c 4 t : Vec Ideal S128x1024 .f32) (ix2 r l) = (A m c main_arg3 : S2x256x1024.Idx → EReal) (place r l t) := by
  unfold iblk
  rw [View.read_apply]
  show V m c main_v4 _ = _
  rw [V_s0]
  refine (congrArg (upper (plane0Of (A m c main_arg3))) (at2 r l _ ?_ ?_)).trans ((piece0 _ r l).trans (congrArg (A m c main_arg3) (congrArg₂ (fun a b => ix3 a b l) (Fin.ext ?_) (Fin.ext ?_))))
  · show win0_4.index t 0 * 128 + 1 * r.val = r.val; rw [(idx4 t).1]; omega
  · show win0_4.index t 1 * 1024 + 1 * l.val = l.val; rw [(idx4 t).2]; omega
  · show 0 = t.val / 2; omega
  · show r.val = 128 * (t.val % 2) + r.val; omega

theorem iblk5 (t : Fin cfg0.N) (h : t.val = 1) : (iblk m c 5 t : Vec Ideal S128x1024 .f32) (ix2 r l) = (A m c main_arg3 : S2x256x1024.Idx → EReal) (place r l t) := by
  unfold iblk
  rw [View.read_apply]
  show V m c main_v5 _ = _
  rw [V_s1]
  refine (congrArg (lower (plane0Of (A m c main_arg3))) (at2 r l _ ?_ ?_)).trans ((piece1 _ r l).trans (congrArg (A m c main_arg3) (congrArg₂ (fun a b => ix3 a b l) (Fin.ext ?_) (Fin.ext ?_))))
  · show win0_5.index t 0 * 128 + 1 * r.val = r.val; rw [(idx5 t).1]; omega
  · show win0_5.index t 1 * 1024 + 1 * l.val = l.val; rw [(idx5 t).2]; omega
  · show 0 = t.val / 2; omega
  · show 128 + r.val = 128 * (t.val % 2) + r.val; omega

theorem iblk6 (t : Fin cfg0.N) (h : t.val = 2) : (iblk m c 6 t : Vec Ideal S128x1024 .f32) (ix2 r l) = (A m c main_arg3 : S2x256x1024.Idx → EReal) (place r l t) := by
  unfold iblk
  rw [View.read_apply]
  show V m c main_v6 _ = _
  rw [V_s2]
  refine (congrArg (upper (plane1Of (A m c main_arg3))) (at2 r l _ ?_ ?_)).trans ((piece2 _ r l).trans (congrArg (A m c main_arg3) (congrArg₂ (fun a b => ix3 a b l) (Fin.ext ?_) (Fin.ext ?_))))
  · show win0_6.index t 0 * 128 + 1 * r.val = r.val; rw [(idx6 t).1]; omega
  · show win0_6.index t 1 * 1024 + 1 * l.val = l.val; rw [(idx6 t).2]; omega
  · show 1 = t.val / 2; omega
  · show r.val = 128 * (t.val % 2) + r.val; omega

theorem iblk7 (t : Fin cfg0.N) (h : t.val = 3) : (iblk m c 7 t : Vec Ideal S128x1024 .f32) (ix2 r l) = (A m c main_arg3 : S2x256x1024.Idx → EReal) (place r l t) := by
  unfold iblk
  rw [View.read_apply]
  show V m c main_v7 _ = _
  rw [V_s3]
  refine (congrArg (lower (plane1Of (A m c main_arg3))) (at2 r l _ ?_ ?_)).trans ((piece3 _ r l).trans (congrArg (A m c main_arg3) (congrArg₂ (fun a b => ix3 a b l) (Fin.ext ?_) (Fin.ext ?_))))
  · show win0_7.index t 0 * 128 + 1 * r.val = r.val; rw [(idx7 t).1]; omega
  · show win0_7.index t 1 * 1024 + 1 * l.val = l.val; rw [(idx7 t).2]; omega
  · show 1 = t.val / 2; omega
  · show 128 + r.val = 128 * (t.val % 2) + r.val; omega

/-- The gradient's block: the half of the point. -/
theorem grad (t : Fin cfg0.N) (f : Elt Ideal .i32) (hf : f = (0#32 : BitVec 32)) :
    k0_pay5 (grid0.coords t) f (iblk m c 4 t) (iblk m c 5 t) (iblk m c 6 t) (iblk m c 7 t) (ix2 r l) = (A m c main_arg3 : S2x256x1024.Idx → EReal) (place r l t) := by
  obtain rfl := hf
  have ht := t.isLt
  have hN : cfg0.N = 4 := N_0
  obtain ⟨h0, h1⟩ := coords_eq t
  rcases (show t.val = 0 ∨ t.val = 1 ∨ t.val = 2 ∨ t.val = 3 by omega) with h | h | h | h
  · exact (half0 _ _ _ _ _ r l (h0.trans (by omega)) (h1.trans (by omega))).trans (iblk4 m c r l t h)
  · exact (half1 _ _ _ _ _ r l (h0.trans (by omega)) (h1.trans (by omega))).trans (iblk5 m c r l t h)
  · exact (half2 _ _ _ _ _ r l (h0.trans (by omega)) (h1.trans (by omega))).trans (iblk6 m c r l t h)
  · exact (half3 _ _ _ _ _ r l (h0.trans (by omega)) (h1.trans (by omega))).trans (iblk7 m c r l t h)

/-! ## The blocks that it leaves -/

theorem cut_eq (t : Fin cfg0.N) (x : Vec Ideal S1x128x1024 .f32) : ((cfg0.win 8).cut (grid0.coords t) x : S1x128x1024.Idx → EReal) (ix3 0 r l) = x (ix3 0 r l) := rfl

theorem block8 (t : Fin cfg0.N) : ((dats m 0 c).flushed 8 t : S1x128x1024.Idx → EReal) (ix3 0 r l)
    = ((A m c main_arg3 : S2x256x1024.Idx → EReal) (place r l t)) := by
  rw [flushed8_A]
  refine (cut_eq r l t _).trans ?_
  unfold out0_A_8
  rw [View.read_writes_eq_canon _ _ _ (fun y => cover0_A_8 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  exact (pay_g _ _ _ _ _ r l _).trans (grad m c r l t _ (iblk0 m c t _))

theorem block9 (t : Fin cfg0.N) : ((dats m 0 c).flushed 9 t : S1x128x1024.Idx → EReal) (ix3 0 r l)
    = delta ((A m c main_arg0 : S2x256x1024.Idx → EReal) (place r l t)) ((A m c main_arg1 : S2x256x1024.Idx → EReal) (place r l t)) ((A m c main_arg2 : S2x256x1024.Idx → EReal) (place r l t)) ((A m c main_arg3 : S2x256x1024.Idx → EReal) (place r l t)) := by
  rw [flushed9_A]
  refine (cut_eq r l t _).trans ?_
  unfold out0_A_9
  rw [View.read_writes_eq_canon _ _ _ (fun y => cover0_A_9 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_d _ _ _ _ _ _ _ _ r l _).trans ?_
  rw [grad m c r l t _ (iblk0 m c t _), iblk1, iblk2, iblk3]

theorem block10 (t : Fin cfg0.N) : ((dats m 0 c).flushed 10 t : S1x128x1024.Idx → EReal) (ix3 0 r l)
    = mom ((A m c main_arg1 : S2x256x1024.Idx → EReal) (place r l t)) ((A m c main_arg3 : S2x256x1024.Idx → EReal) (place r l t)) := by
  rw [flushed10_A]
  refine (cut_eq r l t _).trans ?_
  unfold out0_A_10
  rw [View.read_writes_eq_canon _ _ _ (fun y => cover0_A_10 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_m _ _ _ _ _ _ r l _).trans ?_
  rw [grad m c r l t _ (iblk0 m c t _), iblk2]

theorem block11 (t : Fin cfg0.N) : ((dats m 0 c).flushed 11 t : S1x128x1024.Idx → EReal) (ix3 0 r l)
    = var ((A m c main_arg2 : S2x256x1024.Idx → EReal) (place r l t)) ((A m c main_arg3 : S2x256x1024.Idx → EReal) (place r l t)) := by
  rw [flushed11_A]
  refine (cut_eq r l t _).trans ?_
  unfold out0_A_11
  rw [View.read_writes_eq_canon _ _ _ (fun y => cover0_A_11 _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_v _ _ _ _ _ _ r l _).trans ?_
  rw [grad m c r l t _ (iblk0 m c t _), iblk3]

/-! ## The arrays -/

theorem idx8 : ∀ t : Fin cfg0.N, win0_8.index t 0 = t.val / 2 ∧ win0_8.index t 1 = t.val % 2 ∧ win0_8.index t 2 = 0 :=
  (by decide +kernel : ∀ t : Fin grid0.N, win0_8.index t 0 = t.val / 2 ∧ win0_8.index t 1 = t.val % 2 ∧ win0_8.index t 2 = 0)
theorem idx9 : ∀ t : Fin cfg0.N, win0_9.index t 0 = t.val / 2 ∧ win0_9.index t 1 = t.val % 2 ∧ win0_9.index t 2 = 0 :=
  (by decide +kernel : ∀ t : Fin grid0.N, win0_9.index t 0 = t.val / 2 ∧ win0_9.index t 1 = t.val % 2 ∧ win0_9.index t 2 = 0)
theorem idx10 : ∀ t : Fin cfg0.N, win0_10.index t 0 = t.val / 2 ∧ win0_10.index t 1 = t.val % 2 ∧ win0_10.index t 2 = 0 :=
  (by decide +kernel : ∀ t : Fin grid0.N, win0_10.index t 0 = t.val / 2 ∧ win0_10.index t 1 = t.val % 2 ∧ win0_10.index t 2 = 0)
theorem idx11 : ∀ t : Fin cfg0.N, win0_11.index t 0 = t.val / 2 ∧ win0_11.index t 1 = t.val % 2 ∧ win0_11.index t 2 = 0 :=
  (by decide +kernel : ∀ t : Fin grid0.N, win0_11.index t 0 = t.val / 2 ∧ win0_11.index t 1 = t.val % 2 ∧ win0_11.index t 2 = 0)

/-- The point that holds an element, and the element's row in its block. -/
def ptOf (p : Fin 2) (r : Fin 256) : Fin cfg0.N := ⟨2 * p.val + r.val / 128, by have hN : cfg0.N = 4 := N_0; omega⟩
def inOf (r : Fin 256) : Fin 128 := ⟨r.val % 128, by omega⟩

/-- A block's element back in its array. -/
theorem spot (p : Fin 2) (r : Fin 256) (l : Fin 1024) (x y z : Nat) (h : x = (ptOf p r).val / 2 ∧ y = (ptOf p r).val % 2 ∧ z = 0) :
    x * 1 + 1 * 0 = p.val ∧ y * 128 + 1 * (inOf r).val = r.val ∧ z * 1024 + 1 * l.val = l.val := by
  have hd : (ptOf p r).val / 2 = p.val := point_div (by omega) r.isLt
  have hm : (ptOf p r).val % 2 = r.val / 128 := point_mod (by omega) r.isLt
  have hi : (inOf r).val = r.val % 128 := rfl
  omega
theorem place_ptOf (p : Fin 2) (r : Fin 256) (l : Fin 1024) : place (inOf r) l (ptOf p r) = ix3 p r l := by
  obtain ⟨h0, h1, _⟩ := spot p r l _ _ _ ⟨rfl, rfl, rfl⟩
  exact congrArg₂ (fun a b => ix3 a b l) (Fin.ext (by dsimp only; omega)) (Fin.ext (by dsimp only; omega))

theorem arr8 (p : Fin 2) (r : Fin 256) (l : Fin 1024) : ((dats m 0 c).arrAt 8 cfg0.N : S2x256x1024.Idx → EReal) (ix3 p r l)
    = ((A m c main_arg3 : S2x256x1024.Idx → EReal) (ix3 p r l)) := by
  have h := congrFun (blocks8 m c (ptOf p r) (flush0_8 _)) (ix3 0 (inOf r) l)
  rw [View.read_apply] at h
  obtain ⟨e0, e1, e2⟩ := spot p r l _ _ _ (idx8 (ptOf p r))
  have e := (congrArg ((dats m 0 c).arrAt 8 cfg0.N) (at3 p r l _ e0 e1 e2)).symm.trans (h.trans (block8 m c (inOf r) l (ptOf p r)))
  rwa [place_ptOf] at e

theorem arr9 (p : Fin 2) (r : Fin 256) (l : Fin 1024) : ((dats m 0 c).arrAt 9 cfg0.N : S2x256x1024.Idx → EReal) (ix3 p r l)
    = delta ((A m c main_arg0 : S2x256x1024.Idx → EReal) (ix3 p r l)) ((A m c main_arg1 : S2x256x1024.Idx → EReal) (ix3 p r l)) ((A m c main_arg2 : S2x256x1024.Idx → EReal) (ix3 p r l)) ((A m c main_arg3 : S2x256x1024.Idx → EReal) (ix3 p r l)) := by
  have h := congrFun (blocks9 m c (ptOf p r) (flush0_9 _)) (ix3 0 (inOf r) l)
  rw [View.read_apply] at h
  obtain ⟨e0, e1, e2⟩ := spot p r l _ _ _ (idx9 (ptOf p r))
  have e := (congrArg ((dats m 0 c).arrAt 9 cfg0.N) (at3 p r l _ e0 e1 e2)).symm.trans (h.trans (block9 m c (inOf r) l (ptOf p r)))
  rwa [place_ptOf] at e

theorem arr10 (p : Fin 2) (r : Fin 256) (l : Fin 1024) : ((dats m 0 c).arrAt 10 cfg0.N : S2x256x1024.Idx → EReal) (ix3 p r l)
    = mom ((A m c main_arg1 : S2x256x1024.Idx → EReal) (ix3 p r l)) ((A m c main_arg3 : S2x256x1024.Idx → EReal) (ix3 p r l)) := by
  have h := congrFun (blocks10 m c (ptOf p r) (flush0_10 _)) (ix3 0 (inOf r) l)
  rw [View.read_apply] at h
  obtain ⟨e0, e1, e2⟩ := spot p r l _ _ _ (idx10 (ptOf p r))
  have e := (congrArg ((dats m 0 c).arrAt 10 cfg0.N) (at3 p r l _ e0 e1 e2)).symm.trans (h.trans (block10 m c (inOf r) l (ptOf p r)))
  rwa [place_ptOf] at e

theorem arr11 (p : Fin 2) (r : Fin 256) (l : Fin 1024) : ((dats m 0 c).arrAt 11 cfg0.N : S2x256x1024.Idx → EReal) (ix3 p r l)
    = var ((A m c main_arg2 : S2x256x1024.Idx → EReal) (ix3 p r l)) ((A m c main_arg3 : S2x256x1024.Idx → EReal) (ix3 p r l)) := by
  have h := congrFun (blocks11 m c (ptOf p r) (flush0_11 _)) (ix3 0 (inOf r) l)
  rw [View.read_apply] at h
  obtain ⟨e0, e1, e2⟩ := spot p r l _ _ _ (idx11 (ptOf p r))
  have e := (congrArg ((dats m 0 c).arrAt 11 cfg0.N) (at3 p r l _ e0 e1 e2)).symm.trans (h.trans (block11 m c (inOf r) l (ptOf p r)))
  rwa [place_ptOf] at e

end Cert.AdamWoutIdeal.Entry

namespace Cert.AdamWout

open Idealize.ShloMosaic Idealize.ShloMosaic.TcCoe Idealize.ShloMosaic.Tactic Idealize.SL.Sem Cert.AdamWoutRefIdeal Cert.AdamWoutRefIdeal.Read Cert.Adam

variable (w mo vo g : Vec Ideal S2x256x1024 .f32) (p : Fin 2) (r : Fin 256) (l : Fin 1024)

theorem mom_eq : val_main_v4 (F := Ideal) mo g (ix3 p r l) = mom (mo (ix3 p r l)) (g (ix3 p r l)) := by
  pointwise [val_main_v4, val_main_v3, val_main_v2, val_main_v1, val_main_v0, val_main_cst, val_main_cst_0]
  rfl

theorem var_eq : val_main_v10 (F := Ideal) vo g (ix3 p r l) = var (vo (ix3 p r l)) (g (ix3 p r l)) := by
  pointwise [val_main_v10, val_main_v9, val_main_v8, val_main_v7, val_main_v6, val_main_v5, val_main_cst_1, val_main_cst_2]
  rfl

theorem delta_eq : val_main_v23 (F := Ideal) w mo vo g (ix3 p r l) = delta (w (ix3 p r l)) (mo (ix3 p r l)) (vo (ix3 p r l)) (g (ix3 p r l)) := by
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [mom_eq, var_eq]
  rfl

theorem algebraic : algebraic_AdamWoutIdeal_AdamWoutRefIdeal := by
  intro m g m' g' _ hag
  refine ⟨_, _, _, _, AdamWoutIdeal.Value.run_blocks m g, (θ_run AdamWoutRefIdeal.defs _ _).mono (fun r h c => ?_) (AdamWoutRefIdeal.Value.run m' g')⟩
  obtain ⟨a0, a1, a2, a3⟩ := hag c
  obtain ⟨h0, h1, h2, h3, hargs⟩ := h c
  refine ⟨h0.trans (a3.trans (funext fun i => ?_)), h1.trans ((val_main_v23_eq _ _ _ _).trans (funext fun i => ?_)), h2.trans ((val_main_v4_eq _ _).trans (funext fun i => ?_)),
    h3.trans ((val_main_v10_eq _ _).trans (funext fun i => ?_)), hargs⟩
  · rw [eq_ix3 i]
    exact (AdamWoutIdeal.Entry.arr8 m c _ _ _).symm
  · rw [a0, a1, a2, a3, eq_ix3 i]
    exact (delta_eq _ _ _ _ _ _ _).trans (AdamWoutIdeal.Entry.arr9 m c _ _ _).symm
  · rw [a1, a3, eq_ix3 i]
    exact (mom_eq _ _ _ _ _).trans (AdamWoutIdeal.Entry.arr10 m c _ _ _).symm
  · rw [a2, a3, eq_ix3 i]
    exact (var_eq _ _ _ _ _).trans (AdamWoutIdeal.Entry.arr11 m c _ _ _).symm

end Cert.AdamWout

end
-- ==== Proof.AdamW1.lean ====
/- AdamW of the first feed-forward weight: four planes, in blocks of 128 rows. -/
module

public import proofs.«01_k».proof.Proof.Adam
public import proofs.«01_k».proof.Proof.Gen.AdamW1Ideal.Value
public import proofs.«01_k».proof.Proof.Gen.AdamW1RefIdeal.Run
public import proofs.«01_k».proof.Proof.Gen.AdamW1RefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AdamW1Ideal.Entry

open Idealize.ShloMosaic Idealize.ShloMosaic.TcCoe Idealize.ShloMosaic.Tactic Idealize.SL.Sem Cert.AdamW1Ideal Cert.AdamW1Ideal.Gen Cert.AdamW1Ideal.Value Cert.Adam
open scoped BigOperators

/-! ## The body's values -/

variable (i : grid0.Coords) (s0 s1 s2 s3 s4 s5 s6 s7 : Vec Ideal S128x1408 .f32) (w mo vo : Vec Ideal S1x128x1408 .f32) (r : Fin 128) (l : Fin 1408)

/-- The halves' bit: the points of a plane's first half read the even block, the rest the odd one. -/
theorem bit_upper (x : Nat) (h : x / 4 = 0) : Scalar.xori (Scalar.xori (Scalar.cmpi .sge (BitVec.ofNat 32 x) 4#32) (Scalar.cmpi .eq 0#32 1#32)) 1#1 = 1#1 := by
  have hx : x < 4 := by omega
  clear h
  decide +revert
theorem bit_lower (x : Nat) (hx : x < 8) (h : x / 4 = 1) : Scalar.xori (Scalar.xori (Scalar.cmpi .sge (BitVec.ofNat 32 x) 4#32) (Scalar.cmpi .eq 0#32 1#32)) 1#1 = 0#1 := by
  decide +revert

theorem pick0 (h : (i 0).val = 0) (h' : (i 1).val / 4 = 0) : k0_pay2 i (0#32 : Elt Ideal .i32) s0 s1 s2 s3 s4 s5 s6 s7 (ix2 r l) = s0 (ix2 r l) := by
  pointwise [k0_pay2]
  rw [h, bit_upper _ h']
  rfl
theorem pick1 (h : (i 0).val = 0) (h' : (i 1).val / 4 = 1) : k0_pay2 i (0#32 : Elt Ideal .i32) s0 s1 s2 s3 s4 s5 s6 s7 (ix2 r l) = s1 (ix2 r l) := by
  pointwise [k0_pay2]
  rw [h, bit_lower _ (i 1).isLt h']
  rfl
theorem pick2 (h : (i 0).val = 1) (h' : (i 1).val / 4 = 0) : k0_pay2 i (0#32 : Elt Ideal .i32) s0 s1 s2 s3 s4 s5 s6 s7 (ix2 r l) = s2 (ix2 r l) := by
  pointwise [k0_pay2]
  rw [h, bit_upper _ h']
  rfl
theorem pick3 (h : (i 0).val = 1) (h' : (i 1).val / 4 = 1) : k0_pay2 i (0#32 : Elt Ideal .i32) s0 s1 s2 s3 s4 s5 s6 s7 (ix2 r l) = s3 (ix2 r l) := by
  pointwise [k0_pay2]
  rw [h, bit_lower _ (i 1).isLt h']
  rfl
theorem pick4 (h : (i 0).val = 2) (h' : (i 1).val / 4 = 0) : k0_pay2 i (0#32 : Elt Ideal .i32) s0 s1 s2 s3 s4 s5 s6 s7 (ix2 r l) = s4 (ix2 r l) := by
  pointwise [k0_pay2]
  rw [h, bit_upper _ h']
  rfl
theorem pick5 (h : (i 0).val = 2) (h' : (i 1).val / 4 = 1) : k0_pay2 i (0#32 : Elt Ideal .i32) s0 s1 s2 s3 s4 s5 s6 s7 (ix2 r l) = s5 (ix2 r l) := by
  pointwise [k0_pay2]
  rw [h, bit_lower _ (i 1).isLt h']
  rfl
theorem pick6 (h : (i 0).val = 3) (h' : (i 1).val / 4 = 0) : k0_pay2 i (0#32 : Elt Ideal .i32) s0 s1 s2 s3 s4 s5 s6 s7 (ix2 r l) = s6 (ix2 r l) := by
  pointwise [k0_pay2]
  rw [h, bit_upper _ h']
  rfl
theorem pick7 (h : (i 0).val = 3) (h' : (i 1).val / 4 = 1) : k0_pay2 i (0#32 : Elt Ideal .i32) s0 s1 s2 s3 s4 s5 s6 s7 (ix2 r l) = s7 (ix2 r l) := by
  pointwise [k0_pay2]
  rw [h, bit_lower _ (i 1).isLt h']
  rfl

variable (g : FVec Ideal S128x1408 .f32)

theorem pay_g : k0_pay3 g (ix3 0 r l) = g (ix2 r l) := by
  pointwise [k0_pay3]

theorem pay_m : k0_pay6 g mo (ix3 0 r l) = mom (mo (ix3 0 r l)) (g (ix2 r l)) := by
  pointwise [k0_pay6, k0_pay4]
  rfl

theorem pay_v : k0_pay7 g vo (ix3 0 r l) = var (vo (ix3 0 r l)) (g (ix2 r l)) := by
  pointwise [k0_pay7, k0_pay5]
  rfl

theorem pay_d : k0_pay1 (k0_pay8 g mo vo) (k0_pay9 w) k0_pay10 (ix3 0 r l)
    = delta (w (ix3 0 r l)) (mo (ix3 0 r l)) (vo (ix3 0 r l)) (g (ix2 r l)) := by
  pointwise [k0_pay1, k0_pay4, k0_pay5, k0_pay8, k0_pay9, k0_pay10]
  rfl

end Cert.AdamW1Ideal.Entry

namespace Cert.AdamW1Ideal.Entry

open Idealize.ShloMosaic Idealize.ShloMosaic.TcCoe Idealize.ShloMosaic.Tactic Idealize.SL.Sem Cert.AdamW1Ideal Cert.AdamW1Ideal.Gen Cert.AdamW1Ideal.Value Cert.Adam

/-! ## The blocks that a point reads -/

variable (m : (ℓ : Loc nD τ sig) → Buf (Elt Ideal) ℓ) (c : Dev nD)

abbrev A (b : Ref sig .tc) : Buf (Elt Ideal) ((c : Thread nD τ).loc b) := m ((c : Thread nD τ).loc b)

/-- Half a plane of the gradient: 512 rows of plane `k` from row `o`. -/
def piece (k o : Nat) (hk : Shape.Slices S4x1024x1408 ![k, 0, 0] S1x1024x1408) (ho : Shape.Slices S1024x1408 ![o, 0] S512x1408) (g : Vec Ideal S4x1024x1408 .f32) : Vec Ideal S512x1408 .f32 :=
  extractStridedSlice S512x1408 ![o, 0] (shapeCast S1024x1408 (extractStridedSlice S1x1024x1408 ![k, 0, 0] g hk) shapeCasts_S1x1024x1408_S1024x1408) ho

variable (r : Fin 128) (l : Fin 1408)

theorem piece_apply (k : Fin 4) (o : Nat) (hk : Shape.Slices S4x1024x1408 ![k.val, 0, 0] S1x1024x1408) (ho : Shape.Slices S1024x1408 ![o, 0] S512x1408) (g : Vec Ideal S4x1024x1408 .f32) (r : Fin 512) (r' : Fin 1024)
    (hr : o + r.val = r'.val) : piece k.val o hk ho g (ix2 r l) = g (ix3 k r' l) := by
  pointwise [piece]
  exact congrArg (fun a => g (ix3 k a l)) (Fin.ext hr)

theorem V_s0 : V m c main_v8 = (piece 0 0 slices_S4x1024x1408_S1x1024x1408_0_0_0 slices_S1024x1408_S512x1408_0_0 (A m c main_arg3) : S512x1408.Idx → EReal) := by
  unfold V
  simp only [hostOps0]
  after_results
  rfl
theorem V_s1 : V m c main_v9 = (piece 0 512 slices_S4x1024x1408_S1x1024x1408_0_0_0 slices_S1024x1408_S512x1408_512_0 (A m c main_arg3) : S512x1408.Idx → EReal) := by
  unfold V
  simp only [hostOps0]
  after_results
  rfl
theorem V_s2 : V m c main_v10 = (piece 1 0 slices_S4x1024x1408_S1x1024x1408_1_0_0 slices_S1024x1408_S512x1408_0_0 (A m c main_arg3) : S512x1408.Idx → EReal) := by
  unfold V
  simp only [hostOps0]
  after_results
  rfl
theorem V_s3 : V m c main_v11 = (piece 1 512 slices_S4x1024x1408_S1x1024x1408_1_0_0 slices_S1024x1408_S512x1408_512_0 (A m c main_arg3) : S512x1408.Idx → EReal) := by
  unfold V
  simp only [hostOps0]
  after_results
  rfl
theorem V_s4 : V m c main_v12 = (piece 2 0 slices_S4x1024x1408_S1x1024x1408_2_0_0 slices_S1024x1408_S512x1408_0_0 (A m c main_arg3) : S512x1408.Idx → EReal) := by
  unfold V
  simp only [hostOps0]
  after_results
  rfl
theorem V_s5 : V m c main_v13 = (piece 2 512 slices_S4x1024x1408_S1x1024x1408_2_0_0 slices_S1024x1408_S512x1408_512_0 (A m c main_arg3) : S512x1408.Idx → EReal) := by
  unfold V
  simp only [hostOps0]
  after_results
  rfl
theorem V_s6 : V m c main_v14 = (piece 3 0 slices_S4x1024x1408_S1x1024x1408_3_0_0 slices_S1024x1408_S512x1408_0_0 (A m c main_arg3) : S512x1408.Idx → EReal) := by
  unfold V
  simp only [hostOps0]
  after_results
  rfl
theorem V_s7 : V m c main_v15 = (piece 3 512 slices_S4x1024x1408_S1x1024x1408_3_0_0 slices_S1024x1408_S512x1408_512_0 (A m c main_arg3) : S512x1408.Idx → EReal) := by
  unfold V
  simp only [hostOps0]
  after_results
  rfl
theorem V_flag : V m c main_v16 = ((fun _ => 0#32) : S1.Idx → BitVec 32) := by
  unfold V
  simp only [hostOps0]
  after_results
  rfl

theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)
theorem idx1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem idx2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem idx3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem idx4 : ∀ t : Fin cfg0.N, (t.val / 4 = 0 → win0_4.index t 0 = t.val % 4) ∧ win0_4.index t 1 = 0 :=
  (by decide +kernel : ∀ t : Fin grid0.N, (t.val / 4 = 0 → win0_4.index t 0 = t.val % 4) ∧ win0_4.index t 1 = 0)
theorem idx5 : ∀ t : Fin cfg0.N, (t.val / 4 = 1 → win0_5.index t 0 = t.val % 4) ∧ win0_5.index t 1 = 0 :=
  (by decide +kernel : ∀ t : Fin grid0.N, (t.val / 4 = 1 → win0_5.index t 0 = t.val % 4) ∧ win0_5.index t 1 = 0)
theorem idx6 : ∀ t : Fin cfg0.N, (t.val / 4 = 2 → win0_6.index t 0 = t.val % 4) ∧ win0_6.index t 1 = 0 :=
  (by decide +kernel : ∀ t : Fin grid0.N, (t.val / 4 = 2 → win0_6.index t 0 = t.val % 4) ∧ win0_6.index t 1 = 0)
theorem idx7 : ∀ t : Fin cfg0.N, (t.val / 4 = 3 → win0_7.index t 0 = t.val % 4) ∧ win0_7.index t 1 = 0 :=
  (by decide +kernel : ∀ t : Fin grid0.N, (t.val / 4 = 3 → win0_7.index t 0 = t.val % 4) ∧ win0_7.index t 1 = 0)
theorem idx8 : ∀ t : Fin cfg0.N, (t.val / 4 = 4 → win0_8.index t 0 = t.val % 4) ∧ win0_8.index t 1 = 0 :=
  (by decide +kernel : ∀ t : Fin grid0.N, (t.val / 4 = 4 → win0_8.index t 0 = t.val % 4) ∧ win0_8.index t 1 = 0)
theorem idx9 : ∀ t : Fin cfg0.N, (t.val / 4 = 5 → win0_9.index t 0 = t.val % 4) ∧ win0_9.index t 1 = 0 :=
  (by decide +kernel : ∀ t : Fin grid0.N, (t.val / 4 = 5 → win0_9.index t 0 = t.val % 4) ∧ win0_9.index t 1 = 0)
theorem idx10 : ∀ t : Fin cfg0.N, (t.val / 4 = 6 → win0_10.index t 0 = t.val % 4) ∧ win0_10.index t 1 = 0 :=
  (by decide +kernel : ∀ t : Fin grid0.N, (t.val / 4 = 6 → win0_10.index t 0 = t.val % 4) ∧ win0_10.index t 1 = 0)
theorem idx11 : ∀ t : Fin cfg0.N, (t.val / 4 = 7 → win0_11.index t 0 = t.val % 4) ∧ win0_11.index t 1 = 0 :=
  (by decide +kernel : ∀ t : Fin grid0.N, (t.val / 4 = 7 → win0_11.index t 0 = t.val % 4) ∧ win0_11.index t 1 = 0)

/-- The element of an array that a point's block holds at a row and a column. -/
abbrev place (t : Fin cfg0.N) : S4x1024x1408.Idx :=
  ix3 (⟨t.val / 8, by have := t.isLt; have hN : cfg0.N = 32 := N_0; omega⟩ : Fin 4) (⟨128 * (t.val % 8) + r.val, by omega⟩ : Fin 1024) l

theorem iblk0 (t : Fin cfg0.N) (x : S1.Idx) : (iblk m c 0 t : S1.Idx → BitVec 32) x = 0#32 := by
  unfold iblk
  rw [View.read_apply]
  show V m c main_v16 _ = _
  rw [V_flag]

theorem iblk1 (t : Fin cfg0.N) : (iblk m c 1 t : Vec Ideal S1x128x1408 .f32) (ix3 0 r l) = (A m c main_arg0 : S4x1024x1408.Idx → EReal) (place r l t) := by
  unfold iblk
  rw [View.read_apply]
  show V m c main_arg0 _ = _
  rw [V_main_arg0]
  obtain ⟨h0, h1, h2⟩ := spot3 (r := r.val) (b := 128) l (idx1 t)
  exact congrArg (A m c main_arg0) (at3 _ _ l _ h0 h1 h2)

theorem iblk2 (t : Fin cfg0.N) : (iblk m c 2 t : Vec Ideal S1x128x1408 .f32) (ix3 0 r l) = (A m c main_arg1 : S4x1024x1408.Idx → EReal) (place r l t) := by
  unfold iblk
  rw [View.read_apply]
  show V m c main_arg1 _ = _
  rw [V_main_arg1]
  obtain ⟨h0, h1, h2⟩ := spot3 (r := r.val) (b := 128) l (idx2 t)
  exact congrArg (A m c main_arg1) (at3 _ _ l _ h0 h1 h2)

theorem iblk3 (t : Fin cfg0.N) : (iblk m c 3 t : Vec Ideal S1x128x1408 .f32) (ix3 0 r l) = (A m c main_arg2 : S4x1024x1408.Idx → EReal) (place r l t) := by
  unfold iblk
  rw [View.read_apply]
  show V m c main_arg2 _ = _
  rw [V_main_arg2]
  obtain ⟨h0, h1, h2⟩ := spot3 (r := r.val) (b := 128) l (idx3 t)
  exact congrArg (A m c main_arg2) (at3 _ _ l _ h0 h1 h2)

/-- A block of half a plane, at the points of that half. -/
theorem piece_place (j : Fin 8) (t : Fin cfg0.N) (h : t.val / 4 = j.val) (k : Fin 4) (hj : j.val / 2 = k.val) (o : Nat) (ho' : 512 * (j.val % 2) = o)
    (hk : Shape.Slices S4x1024x1408 ![k.val, 0, 0] S1x1024x1408) (ho : Shape.Slices S1024x1408 ![o, 0] S512x1408) (g : Vec Ideal S4x1024x1408 .f32) (x : S512x1408.Idx)
    (h0 : (x 0).val = 128 * (t.val % 4) + r.val) (h1 : (x 1).val = l.val) : piece k.val o hk ho g x = g (place r l t) := by
  rw [at2 (⟨128 * (t.val % 4) + r.val, by omega⟩ : Fin 512) l x h0 h1]
  refine (piece_apply l k o hk ho g _ ⟨128 * (t.val % 8) + r.val, by omega⟩ (by dsimp only; omega)).trans ?_
  exact congrArg (fun a => g (ix3 a _ l)) (Fin.ext (by dsimp only; omega))

theorem iblk4 (t : Fin cfg0.N) (h : t.val / 4 = 0) : (iblk m c 4 t : Vec Ideal S128x1408 .f32) (ix2 r l) = (A m c main_arg3 : S4x1024x1408.Idx → EReal) (place r l t) := by
  unfold iblk
  rw [View.read_apply]
  show V m c main_v8 _ = _
  rw [V_s0]
  refine piece_place r l 0 t h 0 rfl 0 rfl _ _ _ _ ?_ ?_
  · show win0_4.index t 0 * 128 + 1 * r.val = 128 * (t.val % 4) + r.val; rw [(idx4 t).1 h]; omega
  · show win0_4.index t 1 * 1408 + 1 * l.val = l.val; rw [(idx4 t).2]; omega

theorem iblk5 (t : Fin cfg0.N) (h : t.val / 4 = 1) : (iblk m c 5 t : Vec Ideal S128x1408 .f32) (ix2 r l) = (A m c main_arg3 : S4x1024x1408.Idx → EReal) (place r l t) := by
  unfold iblk
  rw [View.read_apply]
  show V m c main_v9 _ = _
  rw [V_s1]
  refine piece_place r l 1 t h 0 rfl 512 rfl _ _ _ _ ?_ ?_
  · show win0_5.index t 0 * 128 + 1 * r.val = 128 * (t.val % 4) + r.val; rw [(idx5 t).1 h]; omega
  · show win0_5.index t 1 * 1408 + 1 * l.val = l.val; rw [(idx5 t).2]; omega

theorem iblk6 (t : Fin cfg0.N) (h : t.val / 4 = 2) : (iblk m c 6 t : Vec Ideal S128x1408 .f32) (ix2 r l) = (A m c main_arg3 : S4x1024x1408.Idx → EReal) (place r l t) := by
  unfold iblk
  rw [View.read_apply]
  show V m c main_v10 _ = _
  rw [V_s2]
  refine piece_place r l 2 t h 1 rfl 0 rfl _ _ _ _ ?_ ?_
  · show win0_6.index t 0 * 128 + 1 * r.val = 128 * (t.val % 4) + r.val; rw [(idx6 t).1 h]; omega
  · show win0_6.index t 1 * 1408 + 1 * l.val = l.val; rw [(idx6 t).2]; omega

theorem iblk7 (t : Fin cfg0.N) (h : t.val / 4 = 3) : (iblk m c 7 t : Vec Ideal S128x1408 .f32) (ix2 r l) = (A m c main_arg3 : S4x1024x1408.Idx → EReal) (place r l t) := by
  unfold iblk
  rw [View.read_apply]
  show V m c main_v11 _ = _
  rw [V_s3]
  refine piece_place r l 3 t h 1 rfl 512 rfl _ _ _ _ ?_ ?_
  · show win0_7.index t 0 * 128 + 1 * r.val = 128 * (t.val % 4) + r.val; rw [(idx7 t).1 h]; omega
  · show win0_7.index t 1 * 1408 + 1 * l.val = l.val; rw [(idx7 t).2]; omega

theorem iblk8 (t : Fin cfg0.N) (h : t.val / 4 = 4) : (iblk m c 8 t : Vec Ideal S128x1408 .f32) (ix2 r l) = (A m c main_arg3 : S4x1024x1408.Idx → EReal) (place r l t) := by
  unfold iblk
  rw [View.read_apply]
  show V m c main_v12 _ = _
  rw [V_s4]
  refine piece_place r l 4 t h 2 rfl 0 rfl _ _ _ _ ?_ ?_
  · show win0_8.index t 0 * 128 + 1 * r.val = 128 * (t.val % 4) + r.val; rw [(idx8 t).1 h]; omega
  · show win0_8.index t 1 * 1408 + 1 * l.val = l.val; rw [(idx8 t).2]; omega

theorem iblk9 (t : Fin cfg0.N) (h : t.val / 4 = 5) : (iblk m c 9 t : Vec Ideal S128x1408 .f32) (ix2 r l) = (A m c main_arg3 : S4x1024x1408.Idx → EReal) (place r l t) := by
  unfold iblk
  rw [View.read_apply]
  show V m c main_v13 _ = _
  rw [V_s5]
  refine piece_place r l 5 t h 2 rfl 512 rfl _ _ _ _ ?_ ?_
  · show win0_9.index t 0 * 128 + 1 * r.val = 128 * (t.val % 4) + r.val; rw [(idx9 t).1 h]; omega
  · show win0_9.index t 1 * 1408 + 1 * l.val = l.val; rw [(idx9 t).2]; omega

theorem iblk10 (t : Fin cfg0.N) (h : t.val / 4 = 6) : (iblk m c 10 t : Vec Ideal S128x1408 .f32) (ix2 r l) = (A m c main_arg3 : S4x1024x1408.Idx → EReal) (place r l t) := by
  unfold iblk
  rw [View.read_apply]
  show V m c main_v14 _ = _
  rw [V_s6]
  refine piece_place r l 6 t h 3 rfl 0 rfl _ _ _ _ ?_ ?_
  · show win0_10.index t 0 * 128 + 1 * r.val = 128 * (t.val % 4) + r.val; rw [(idx10 t).1 h]; omega
  · show win0_10.index t 1 * 1408 + 1 * l.val = l.val; rw [(idx10 t).2]; omega

theorem iblk11 (t : Fin cfg0.N) (h : t.val / 4 = 7) : (iblk m c 11 t : Vec Ideal S128x1408 .f32) (ix2 r l) = (A m c main_arg3 : S4x1024x1408.Idx → EReal) (place r l t) := by
  unfold iblk
  rw [View.read_apply]
  show V m c main_v15 _ = _
  rw [V_s7]
  refine piece_place r l 7 t h 3 rfl 512 rfl _ _ _ _ ?_ ?_
  · show win0_11.index t 0 * 128 + 1 * r.val = 128 * (t.val % 4) + r.val; rw [(idx11 t).1 h]; omega
  · show win0_11.index t 1 * 1408 + 1 * l.val = l.val; rw [(idx11 t).2]; omega

/-- The gradient's block: the piece of the point. -/
theorem grad (t : Fin cfg0.N) (f : Elt Ideal .i32) (hf : f = (0#32 : BitVec 32)) :
    k0_pay2 (grid0.coords t) f (iblk m c 4 t) (iblk m c 5 t) (iblk m c 6 t) (iblk m c 7 t) (iblk m c 8 t) (iblk m c 9 t) (iblk m c 10 t) (iblk m c 11 t) (ix2 r l) = (A m c main_arg3 : S4x1024x1408.Idx → EReal) (place r l t) := by
  obtain rfl := hf
  have ht := t.isLt
  have hN : cfg0.N = 32 := N_0
  obtain ⟨h0, h1⟩ := coords_eq t
  rcases (show t.val / 4 = 0 ∨ t.val / 4 = 1 ∨ t.val / 4 = 2 ∨ t.val / 4 = 3 ∨ t.val / 4 = 4 ∨ t.val / 4 = 5 ∨ t.val / 4 = 6 ∨ t.val / 4 = 7 by omega) with h | h | h | h | h | h | h | h
  · exact (pick0 _ _ _ _ _ _ _ _ _ r l (h0.trans (by omega)) ((congrArg (· / 4) h1).trans (show t.val % 8 / 4 = 0 by omega))).trans (iblk4 m c r l t h)
  · exact (pick1 _ _ _ _ _ _ _ _ _ r l (h0.trans (by omega)) ((congrArg (· / 4) h1).trans (show t.val % 8 / 4 = 1 by omega))).trans (iblk5 m c r l t h)
  · exact (pick2 _ _ _ _ _ _ _ _ _ r l (h0.trans (by omega)) ((congrArg (· / 4) h1).trans (show t.val % 8 / 4 = 0 by omega))).trans (iblk6 m c r l t h)
  · exact (pick3 _ _ _ _ _ _ _ _ _ r l (h0.trans (by omega)) ((congrArg (· / 4) h1).trans (show t.val % 8 / 4 = 1 by omega))).trans (iblk7 m c r l t h)
  · exact (pick4 _ _ _ _ _ _ _ _ _ r l (h0.trans (by omega)) ((congrArg (· / 4) h1).trans (show t.val % 8 / 4 = 0 by omega))).trans (iblk8 m c r l t h)
  · exact (pick5 _ _ _ _ _ _ _ _ _ r l (h0.trans (by omega)) ((congrArg (· / 4) h1).trans (show t.val % 8 / 4 = 1 by omega))).trans (iblk9 m c r l t h)
  · exact (pick6 _ _ _ _ _ _ _ _ _ r l (h0.trans (by omega)) ((congrArg (· / 4) h1).trans (show t.val % 8 / 4 = 0 by omega))).trans (iblk10 m c r l t h)
  · exact (pick7 _ _ _ _ _ _ _ _ _ r l (h0.trans (by omega)) ((congrArg (· / 4) h1).trans (show t.val % 8 / 4 = 1 by omega))).trans (iblk11 m c r l t h)

/-! ## The blocks that it leaves -/

theorem cut_eq (t : Fin cfg0.N) (x : Vec Ideal S1x128x1408 .f32) : ((cfg0.win 12).cut (grid0.coords t) x : S1x128x1408.Idx → EReal) (ix3 0 r l) = x (ix3 0 r l) := rfl

theorem block12 (t : Fin cfg0.N) : ((dats m 0 c).flushed 12 t : S1x128x1408.Idx → EReal) (ix3 0 r l)
    = ((A m c main_arg3 : S4x1024x1408.Idx → EReal) (place r l t)) := by
  rw [flushed12_A]
  refine (cut_eq r l t _).trans ?_
  unfold out0_A_12
  rw [View.read_writes_eq_canon _ _ _ (fun y => cover0_A_12 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  exact (pay_g r l _).trans (grad m c r l t _ (iblk0 m c t _))

theorem block13 (t : Fin cfg0.N) : ((dats m 0 c).flushed 13 t : S1x128x1408.Idx → EReal) (ix3 0 r l)
    = delta ((A m c main_arg0 : S4x1024x1408.Idx → EReal) (place r l t)) ((A m c main_arg1 : S4x1024x1408.Idx → EReal) (place r l t)) ((A m c main_arg2 : S4x1024x1408.Idx → EReal) (place r l t)) ((A m c main_arg3 : S4x1024x1408.Idx → EReal) (place r l t)) := by
  rw [flushed13_A]
  refine (cut_eq r l t _).trans ?_
  unfold out0_A_13
  rw [View.read_writes_eq_canon _ _ _ (fun y => cover0_A_13 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_d _ _ _ r l _).trans ?_
  rw [grad m c r l t _ (iblk0 m c t _), iblk1, iblk2, iblk3]

theorem block14 (t : Fin cfg0.N) : ((dats m 0 c).flushed 14 t : S1x128x1408.Idx → EReal) (ix3 0 r l)
    = mom ((A m c main_arg1 : S4x1024x1408.Idx → EReal) (place r l t)) ((A m c main_arg3 : S4x1024x1408.Idx → EReal) (place r l t)) := by
  rw [flushed14_A]
  refine (cut_eq r l t _).trans ?_
  unfold out0_A_14
  rw [View.read_writes_eq_canon _ _ _ (fun y => cover0_A_14 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_m _ r l _).trans ?_
  rw [grad m c r l t _ (iblk0 m c t _), iblk2]

theorem block15 (t : Fin cfg0.N) : ((dats m 0 c).flushed 15 t : S1x128x1408.Idx → EReal) (ix3 0 r l)
    = var ((A m c main_arg2 : S4x1024x1408.Idx → EReal) (place r l t)) ((A m c main_arg3 : S4x1024x1408.Idx → EReal) (place r l t)) := by
  rw [flushed15_A]
  refine (cut_eq r l t _).trans ?_
  unfold out0_A_15
  rw [View.read_writes_eq_canon _ _ _ (fun y => cover0_A_15 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_v _ r l _).trans ?_
  rw [grad m c r l t _ (iblk0 m c t _), iblk3]

/-! ## The arrays -/

theorem idx12 : ∀ t : Fin cfg0.N, win0_12.index t 0 = t.val / 8 ∧ win0_12.index t 1 = t.val % 8 ∧ win0_12.index t 2 = 0 :=
  (by decide +kernel : ∀ t : Fin grid0.N, win0_12.index t 0 = t.val / 8 ∧ win0_12.index t 1 = t.val % 8 ∧ win0_12.index t 2 = 0)
theorem idx13 : ∀ t : Fin cfg0.N, win0_13.index t 0 = t.val / 8 ∧ win0_13.index t 1 = t.val % 8 ∧ win0_13.index t 2 = 0 :=
  (by decide +kernel : ∀ t : Fin grid0.N, win0_13.index t 0 = t.val / 8 ∧ win0_13.index t 1 = t.val % 8 ∧ win0_13.index t 2 = 0)
theorem idx14 : ∀ t : Fin cfg0.N, win0_14.index t 0 = t.val / 8 ∧ win0_14.index t 1 = t.val % 8 ∧ win0_14.index t 2 = 0 :=
  (by decide +kernel : ∀ t : Fin grid0.N, win0_14.index t 0 = t.val / 8 ∧ win0_14.index t 1 = t.val % 8 ∧ win0_14.index t 2 = 0)
theorem idx15 : ∀ t : Fin cfg0.N, win0_15.index t 0 = t.val / 8 ∧ win0_15.index t 1 = t.val % 8 ∧ win0_15.index t 2 = 0 :=
  (by decide +kernel : ∀ t : Fin grid0.N, win0_15.index t 0 = t.val / 8 ∧ win0_15.index t 1 = t.val % 8 ∧ win0_15.index t 2 = 0)

/-- The point that holds an element, and the element's row in its block. -/
def ptOf (p : Fin 4) (r : Fin 1024) : Fin cfg0.N := ⟨8 * p.val + r.val / 128, by have hN : cfg0.N = 32 := N_0; omega⟩
def inOf (r : Fin 1024) : Fin 128 := ⟨r.val % 128, by omega⟩

/-- A block's element back in its array. -/
theorem spot (p : Fin 4) (r : Fin 1024) (l : Fin 1408) (x y z : Nat) (h : x = (ptOf p r).val / 8 ∧ y = (ptOf p r).val % 8 ∧ z = 0) :
    x * 1 + 1 * 0 = p.val ∧ y * 128 + 1 * (inOf r).val = r.val ∧ z * 1408 + 1 * l.val = l.val := by
  have hd : (ptOf p r).val / 8 = p.val := point_div (by omega) r.isLt
  have hm : (ptOf p r).val % 8 = r.val / 128 := point_mod (by omega) r.isLt
  have hi : (inOf r).val = r.val % 128 := rfl
  omega
theorem place_ptOf (p : Fin 4) (r : Fin 1024) (l : Fin 1408) : place (inOf r) l (ptOf p r) = ix3 p r l := by
  obtain ⟨h0, h1, _⟩ := spot p r l _ _ _ ⟨rfl, rfl, rfl⟩
  exact congrArg₂ (fun a b => ix3 a b l) (Fin.ext (by dsimp only; omega)) (Fin.ext (by dsimp only; omega))

theorem arr12 (p : Fin 4) (r : Fin 1024) (l : Fin 1408) : ((dats m 0 c).arrAt 12 cfg0.N : S4x1024x1408.Idx → EReal) (ix3 p r l)
    = ((A m c main_arg3 : S4x1024x1408.Idx → EReal) (ix3 p r l)) := by
  have h := congrFun (blocks12 m c (ptOf p r) (flush0_12 _)) (ix3 0 (inOf r) l)
  rw [View.read_apply] at h
  obtain ⟨e0, e1, e2⟩ := spot p r l _ _ _ (idx12 (ptOf p r))
  have e := (congrArg ((dats m 0 c).arrAt 12 cfg0.N) (at3 p r l _ e0 e1 e2)).symm.trans (h.trans (block12 m c (inOf r) l (ptOf p r)))
  rwa [place_ptOf] at e

theorem arr13 (p : Fin 4) (r : Fin 1024) (l : Fin 1408) : ((dats m 0 c).arrAt 13 cfg0.N : S4x1024x1408.Idx → EReal) (ix3 p r l)
    = delta ((A m c main_arg0 : S4x1024x1408.Idx → EReal) (ix3 p r l)) ((A m c main_arg1 : S4x1024x1408.Idx → EReal) (ix3 p r l)) ((A m c main_arg2 : S4x1024x1408.Idx → EReal) (ix3 p r l)) ((A m c main_arg3 : S4x1024x1408.Idx → EReal) (ix3 p r l)) := by
  have h := congrFun (blocks13 m c (ptOf p r) (flush0_13 _)) (ix3 0 (inOf r) l)
  rw [View.read_apply] at h
  obtain ⟨e0, e1, e2⟩ := spot p r l _ _ _ (idx13 (ptOf p r))
  have e := (congrArg ((dats m 0 c).arrAt 13 cfg0.N) (at3 p r l _ e0 e1 e2)).symm.trans (h.trans (block13 m c (inOf r) l (ptOf p r)))
  rwa [place_ptOf] at e

theorem arr14 (p : Fin 4) (r : Fin 1024) (l : Fin 1408) : ((dats m 0 c).arrAt 14 cfg0.N : S4x1024x1408.Idx → EReal) (ix3 p r l)
    = mom ((A m c main_arg1 : S4x1024x1408.Idx → EReal) (ix3 p r l)) ((A m c main_arg3 : S4x1024x1408.Idx → EReal) (ix3 p r l)) := by
  have h := congrFun (blocks14 m c (ptOf p r) (flush0_14 _)) (ix3 0 (inOf r) l)
  rw [View.read_apply] at h
  obtain ⟨e0, e1, e2⟩ := spot p r l _ _ _ (idx14 (ptOf p r))
  have e := (congrArg ((dats m 0 c).arrAt 14 cfg0.N) (at3 p r l _ e0 e1 e2)).symm.trans (h.trans (block14 m c (inOf r) l (ptOf p r)))
  rwa [place_ptOf] at e

theorem arr15 (p : Fin 4) (r : Fin 1024) (l : Fin 1408) : ((dats m 0 c).arrAt 15 cfg0.N : S4x1024x1408.Idx → EReal) (ix3 p r l)
    = var ((A m c main_arg2 : S4x1024x1408.Idx → EReal) (ix3 p r l)) ((A m c main_arg3 : S4x1024x1408.Idx → EReal) (ix3 p r l)) := by
  have h := congrFun (blocks15 m c (ptOf p r) (flush0_15 _)) (ix3 0 (inOf r) l)
  rw [View.read_apply] at h
  obtain ⟨e0, e1, e2⟩ := spot p r l _ _ _ (idx15 (ptOf p r))
  have e := (congrArg ((dats m 0 c).arrAt 15 cfg0.N) (at3 p r l _ e0 e1 e2)).symm.trans (h.trans (block15 m c (inOf r) l (ptOf p r)))
  rwa [place_ptOf] at e

end Cert.AdamW1Ideal.Entry

namespace Cert.AdamW1

open Idealize.ShloMosaic Idealize.ShloMosaic.TcCoe Idealize.ShloMosaic.Tactic Idealize.SL.Sem Cert.AdamW1RefIdeal Cert.AdamW1RefIdeal.Read Cert.Adam

variable (w mo vo g : Vec Ideal S4x1024x1408 .f32) (p : Fin 4) (r : Fin 1024) (l : Fin 1408)

theorem mom_eq : val_main_v4 (F := Ideal) mo g (ix3 p r l) = mom (mo (ix3 p r l)) (g (ix3 p r l)) := by
  pointwise [val_main_v4, val_main_v3, val_main_v2, val_main_v1, val_main_v0, val_main_cst, val_main_cst_0]
  rfl

theorem var_eq : val_main_v10 (F := Ideal) vo g (ix3 p r l) = var (vo (ix3 p r l)) (g (ix3 p r l)) := by
  pointwise [val_main_v10, val_main_v9, val_main_v8, val_main_v7, val_main_v6, val_main_v5, val_main_cst_1, val_main_cst_2]
  rfl

theorem delta_eq : val_main_v23 (F := Ideal) w mo vo g (ix3 p r l) = delta (w (ix3 p r l)) (mo (ix3 p r l)) (vo (ix3 p r l)) (g (ix3 p r l)) := by
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [mom_eq, var_eq]
  rfl

theorem algebraic : algebraic_AdamW1Ideal_AdamW1RefIdeal := by
  intro m g m' g' _ hag
  refine ⟨_, _, _, _, AdamW1Ideal.Value.run_blocks m g, (θ_run AdamW1RefIdeal.defs _ _).mono (fun r h c => ?_) (AdamW1RefIdeal.Value.run m' g')⟩
  obtain ⟨a0, a1, a2, a3⟩ := hag c
  obtain ⟨h0, h1, h2, h3, hargs⟩ := h c
  refine ⟨h0.trans (a3.trans (funext fun i => ?_)), h1.trans ((val_main_v23_eq _ _ _ _).trans (funext fun i => ?_)), h2.trans ((val_main_v4_eq _ _).trans (funext fun i => ?_)),
    h3.trans ((val_main_v10_eq _ _).trans (funext fun i => ?_)), hargs⟩
  · rw [eq_ix3 i]
    exact (AdamW1Ideal.Entry.arr12 m c _ _ _).symm
  · rw [a0, a1, a2, a3, eq_ix3 i]
    exact (delta_eq _ _ _ _ _ _ _).trans (AdamW1Ideal.Entry.arr13 m c _ _ _).symm
  · rw [a1, a3, eq_ix3 i]
    exact (mom_eq _ _ _ _ _).trans (AdamW1Ideal.Entry.arr14 m c _ _ _).symm
  · rw [a2, a3, eq_ix3 i]
    exact (var_eq _ _ _ _ _).trans (AdamW1Ideal.Entry.arr15 m c _ _ _).symm

end Cert.AdamW1

end
-- ==== Proof.AdamW2.lean ====
/- AdamW of the second feed-forward weight: four planes, in blocks of 176 rows. -/
module

public import proofs.«01_k».proof.Proof.Adam
public import proofs.«01_k».proof.Proof.Gen.AdamW2Ideal.Value
public import proofs.«01_k».proof.Proof.Gen.AdamW2RefIdeal.Run
public import proofs.«01_k».proof.Proof.Gen.AdamW2RefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AdamW2Ideal.Entry

open Idealize.ShloMosaic Idealize.ShloMosaic.TcCoe Idealize.ShloMosaic.Tactic Idealize.SL.Sem Cert.AdamW2Ideal Cert.AdamW2Ideal.Gen Cert.AdamW2Ideal.Value Cert.Adam
open scoped BigOperators

/-! ## The body's values -/

variable (i : grid0.Coords) (s0 s1 s2 s3 s4 s5 s6 s7 : Vec Ideal S176x1024 .f32) (w mo vo : Vec Ideal S1x176x1024 .f32) (r : Fin 176) (l : Fin 1024)

/-- The halves' bit: the points of a plane's first half read the even block, the rest the odd one. -/
theorem bit_upper (x : Nat) (h : x / 2 = 0) : Scalar.xori (Scalar.xori (Scalar.cmpi .sge (BitVec.ofNat 32 x) 2#32) (Scalar.cmpi .eq 0#32 1#32)) 1#1 = 1#1 := by
  have hx : x < 2 := by omega
  clear h
  decide +revert
theorem bit_lower (x : Nat) (hx : x < 4) (h : x / 2 = 1) : Scalar.xori (Scalar.xori (Scalar.cmpi .sge (BitVec.ofNat 32 x) 2#32) (Scalar.cmpi .eq 0#32 1#32)) 1#1 = 0#1 := by
  decide +revert

theorem pick0 (h : (i 0).val = 0) (h' : (i 1).val / 2 = 0) : k0_pay2 i (0#32 : Elt Ideal .i32) s0 s1 s2 s3 s4 s5 s6 s7 (ix2 r l) = s0 (ix2 r l) := by
  pointwise [k0_pay2]
  rw [h, bit_upper _ h']
  rfl
theorem pick1 (h : (i 0).val = 0) (h' : (i 1).val / 2 = 1) : k0_pay2 i (0#32 : Elt Ideal .i32) s0 s1 s2 s3 s4 s5 s6 s7 (ix2 r l) = s1 (ix2 r l) := by
  pointwise [k0_pay2]
  rw [h, bit_lower _ (i 1).isLt h']
  rfl
theorem pick2 (h : (i 0).val = 1) (h' : (i 1).val / 2 = 0) : k0_pay2 i (0#32 : Elt Ideal .i32) s0 s1 s2 s3 s4 s5 s6 s7 (ix2 r l) = s2 (ix2 r l) := by
  pointwise [k0_pay2]
  rw [h, bit_upper _ h']
  rfl
theorem pick3 (h : (i 0).val = 1) (h' : (i 1).val / 2 = 1) : k0_pay2 i (0#32 : Elt Ideal .i32) s0 s1 s2 s3 s4 s5 s6 s7 (ix2 r l) = s3 (ix2 r l) := by
  pointwise [k0_pay2]
  rw [h, bit_lower _ (i 1).isLt h']
  rfl
theorem pick4 (h : (i 0).val = 2) (h' : (i 1).val / 2 = 0) : k0_pay2 i (0#32 : Elt Ideal .i32) s0 s1 s2 s3 s4 s5 s6 s7 (ix2 r l) = s4 (ix2 r l) := by
  pointwise [k0_pay2]
  rw [h, bit_upper _ h']
  rfl
theorem pick5 (h : (i 0).val = 2) (h' : (i 1).val / 2 = 1) : k0_pay2 i (0#32 : Elt Ideal .i32) s0 s1 s2 s3 s4 s5 s6 s7 (ix2 r l) = s5 (ix2 r l) := by
  pointwise [k0_pay2]
  rw [h, bit_lower _ (i 1).isLt h']
  rfl
theorem pick6 (h : (i 0).val = 3) (h' : (i 1).val / 2 = 0) : k0_pay2 i (0#32 : Elt Ideal .i32) s0 s1 s2 s3 s4 s5 s6 s7 (ix2 r l) = s6 (ix2 r l) := by
  pointwise [k0_pay2]
  rw [h, bit_upper _ h']
  rfl
theorem pick7 (h : (i 0).val = 3) (h' : (i 1).val / 2 = 1) : k0_pay2 i (0#32 : Elt Ideal .i32) s0 s1 s2 s3 s4 s5 s6 s7 (ix2 r l) = s7 (ix2 r l) := by
  pointwise [k0_pay2]
  rw [h, bit_lower _ (i 1).isLt h']
  rfl

variable (g : FVec Ideal S176x1024 .f32)

theorem pay_g : k0_pay3 g (ix3 0 r l) = g (ix2 r l) := by
  pointwise [k0_pay3]

theorem pay_m : k0_pay6 g mo (ix3 0 r l) = mom (mo (ix3 0 r l)) (g (ix2 r l)) := by
  pointwise [k0_pay6, k0_pay4]
  rfl

theorem pay_v : k0_pay7 g vo (ix3 0 r l) = var (vo (ix3 0 r l)) (g (ix2 r l)) := by
  pointwise [k0_pay7, k0_pay5]
  rfl

theorem pay_d : k0_pay1 (k0_pay8 g mo vo) (k0_pay9 w) k0_pay10 (ix3 0 r l)
    = delta (w (ix3 0 r l)) (mo (ix3 0 r l)) (vo (ix3 0 r l)) (g (ix2 r l)) := by
  pointwise [k0_pay1, k0_pay4, k0_pay5, k0_pay8, k0_pay9, k0_pay10]
  rfl

end Cert.AdamW2Ideal.Entry

namespace Cert.AdamW2Ideal.Entry

open Idealize.ShloMosaic Idealize.ShloMosaic.TcCoe Idealize.ShloMosaic.Tactic Idealize.SL.Sem Cert.AdamW2Ideal Cert.AdamW2Ideal.Gen Cert.AdamW2Ideal.Value Cert.Adam

/-! ## The blocks that a point reads -/

variable (m : (ℓ : Loc nD τ sig) → Buf (Elt Ideal) ℓ) (c : Dev nD)

abbrev A (b : Ref sig .tc) : Buf (Elt Ideal) ((c : Thread nD τ).loc b) := m ((c : Thread nD τ).loc b)

/-- Half a plane of the gradient: 352 rows of plane `k` from row `o`. -/
def piece (k o : Nat) (hk : Shape.Slices S4x704x1024 ![k, 0, 0] S1x704x1024) (ho : Shape.Slices S704x1024 ![o, 0] S352x1024) (g : Vec Ideal S4x704x1024 .f32) : Vec Ideal S352x1024 .f32 :=
  extractStridedSlice S352x1024 ![o, 0] (shapeCast S704x1024 (extractStridedSlice S1x704x1024 ![k, 0, 0] g hk) shapeCasts_S1x704x1024_S704x1024) ho

variable (r : Fin 176) (l : Fin 1024)

theorem piece_apply (k : Fin 4) (o : Nat) (hk : Shape.Slices S4x704x1024 ![k.val, 0, 0] S1x704x1024) (ho : Shape.Slices S704x1024 ![o, 0] S352x1024) (g : Vec Ideal S4x704x1024 .f32) (r : Fin 352) (r' : Fin 704)
    (hr : o + r.val = r'.val) : piece k.val o hk ho g (ix2 r l) = g (ix3 k r' l) := by
  pointwise [piece]
  exact congrArg (fun a => g (ix3 k a l)) (Fin.ext hr)

theorem V_s0 : V m c main_v8 = (piece 0 0 slices_S4x704x1024_S1x704x1024_0_0_0 slices_S704x1024_S352x1024_0_0 (A m c main_arg3) : S352x1024.Idx → EReal) := by
  unfold V
  simp only [hostOps0]
  after_results
  rfl
theorem V_s1 : V m c main_v9 = (piece 0 352 slices_S4x704x1024_S1x704x1024_0_0_0 slices_S704x1024_S352x1024_352_0 (A m c main_arg3) : S352x1024.Idx → EReal) := by
  unfold V
  simp only [hostOps0]
  after_results
  rfl
theorem V_s2 : V m c main_v10 = (piece 1 0 slices_S4x704x1024_S1x704x1024_1_0_0 slices_S704x1024_S352x1024_0_0 (A m c main_arg3) : S352x1024.Idx → EReal) := by
  unfold V
  simp only [hostOps0]
  after_results
  rfl
theorem V_s3 : V m c main_v11 = (piece 1 352 slices_S4x704x1024_S1x704x1024_1_0_0 slices_S704x1024_S352x1024_352_0 (A m c main_arg3) : S352x1024.Idx → EReal) := by
  unfold V
  simp only [hostOps0]
  after_results
  rfl
theorem V_s4 : V m c main_v12 = (piece 2 0 slices_S4x704x1024_S1x704x1024_2_0_0 slices_S704x1024_S352x1024_0_0 (A m c main_arg3) : S352x1024.Idx → EReal) := by
  unfold V
  simp only [hostOps0]
  after_results
  rfl
theorem V_s5 : V m c main_v13 = (piece 2 352 slices_S4x704x1024_S1x704x1024_2_0_0 slices_S704x1024_S352x1024_352_0 (A m c main_arg3) : S352x1024.Idx → EReal) := by
  unfold V
  simp only [hostOps0]
  after_results
  rfl
theorem V_s6 : V m c main_v14 = (piece 3 0 slices_S4x704x1024_S1x704x1024_3_0_0 slices_S704x1024_S352x1024_0_0 (A m c main_arg3) : S352x1024.Idx → EReal) := by
  unfold V
  simp only [hostOps0]
  after_results
  rfl
theorem V_s7 : V m c main_v15 = (piece 3 352 slices_S4x704x1024_S1x704x1024_3_0_0 slices_S704x1024_S352x1024_352_0 (A m c main_arg3) : S352x1024.Idx → EReal) := by
  unfold V
  simp only [hostOps0]
  after_results
  rfl
theorem V_flag : V m c main_v16 = ((fun _ => 0#32) : S1.Idx → BitVec 32) := by
  unfold V
  simp only [hostOps0]
  after_results
  rfl

theorem coords_eq : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
theorem idx4 : ∀ t : Fin cfg0.N, (t.val / 2 = 0 → win0_4.index t 0 = t.val % 2) ∧ win0_4.index t 1 = 0 :=
  (by decide +kernel : ∀ t : Fin grid0.N, (t.val / 2 = 0 → win0_4.index t 0 = t.val % 2) ∧ win0_4.index t 1 = 0)
theorem idx5 : ∀ t : Fin cfg0.N, (t.val / 2 = 1 → win0_5.index t 0 = t.val % 2) ∧ win0_5.index t 1 = 0 :=
  (by decide +kernel : ∀ t : Fin grid0.N, (t.val / 2 = 1 → win0_5.index t 0 = t.val % 2) ∧ win0_5.index t 1 = 0)
theorem idx6 : ∀ t : Fin cfg0.N, (t.val / 2 = 2 → win0_6.index t 0 = t.val % 2) ∧ win0_6.index t 1 = 0 :=
  (by decide +kernel : ∀ t : Fin grid0.N, (t.val / 2 = 2 → win0_6.index t 0 = t.val % 2) ∧ win0_6.index t 1 = 0)
theorem idx7 : ∀ t : Fin cfg0.N, (t.val / 2 = 3 → win0_7.index t 0 = t.val % 2) ∧ win0_7.index t 1 = 0 :=
  (by decide +kernel : ∀ t : Fin grid0.N, (t.val / 2 = 3 → win0_7.index t 0 = t.val % 2) ∧ win0_7.index t 1 = 0)
theorem idx8 : ∀ t : Fin cfg0.N, (t.val / 2 = 4 → win0_8.index t 0 = t.val % 2) ∧ win0_8.index t 1 = 0 :=
  (by decide +kernel : ∀ t : Fin grid0.N, (t.val / 2 = 4 → win0_8.index t 0 = t.val % 2) ∧ win0_8.index t 1 = 0)
theorem idx9 : ∀ t : Fin cfg0.N, (t.val / 2 = 5 → win0_9.index t 0 = t.val % 2) ∧ win0_9.index t 1 = 0 :=
  (by decide +kernel : ∀ t : Fin grid0.N, (t.val / 2 = 5 → win0_9.index t 0 = t.val % 2) ∧ win0_9.index t 1 = 0)
theorem idx10 : ∀ t : Fin cfg0.N, (t.val / 2 = 6 → win0_10.index t 0 = t.val % 2) ∧ win0_10.index t 1 = 0 :=
  (by decide +kernel : ∀ t : Fin grid0.N, (t.val / 2 = 6 → win0_10.index t 0 = t.val % 2) ∧ win0_10.index t 1 = 0)
theorem idx11 : ∀ t : Fin cfg0.N, (t.val / 2 = 7 → win0_11.index t 0 = t.val % 2) ∧ win0_11.index t 1 = 0 :=
  (by decide +kernel : ∀ t : Fin grid0.N, (t.val / 2 = 7 → win0_11.index t 0 = t.val % 2) ∧ win0_11.index t 1 = 0)

/-- The element of an array that a point's block holds at a row and a column. -/
abbrev place (t : Fin cfg0.N) : S4x704x1024.Idx :=
  ix3 (⟨t.val / 4, by have := t.isLt; have hN : cfg0.N = 16 := N_0; omega⟩ : Fin 4) (⟨176 * (t.val % 4) + r.val, by omega⟩ : Fin 704) l

theorem iblk0 (t : Fin cfg0.N) (x : S1.Idx) : (iblk m c 0 t : S1.Idx → BitVec 32) x = 0#32 := by
  unfold iblk
  rw [View.read_apply]
  show V m c main_v16 _ = _
  rw [V_flag]

theorem iblk1 (t : Fin cfg0.N) : (iblk m c 1 t : Vec Ideal S1x176x1024 .f32) (ix3 0 r l) = (A m c main_arg0 : S4x704x1024.Idx → EReal) (place r l t) := by
  unfold iblk
  rw [View.read_apply]
  show V m c main_arg0 _ = _
  rw [V_main_arg0]
  obtain ⟨h0, h1, h2⟩ := spot3 (r := r.val) (b := 176) l (idx1 t)
  exact congrArg (A m c main_arg0) (at3 _ _ l _ h0 h1 h2)

theorem iblk2 (t : Fin cfg0.N) : (iblk m c 2 t : Vec Ideal S1x176x1024 .f32) (ix3 0 r l) = (A m c main_arg1 : S4x704x1024.Idx → EReal) (place r l t) := by
  unfold iblk
  rw [View.read_apply]
  show V m c main_arg1 _ = _
  rw [V_main_arg1]
  obtain ⟨h0, h1, h2⟩ := spot3 (r := r.val) (b := 176) l (idx2 t)
  exact congrArg (A m c main_arg1) (at3 _ _ l _ h0 h1 h2)

theorem iblk3 (t : Fin cfg0.N) : (iblk m c 3 t : Vec Ideal S1x176x1024 .f32) (ix3 0 r l) = (A m c main_arg2 : S4x704x1024.Idx → EReal) (place r l t) := by
  unfold iblk
  rw [View.read_apply]
  show V m c main_arg2 _ = _
  rw [V_main_arg2]
  obtain ⟨h0, h1, h2⟩ := spot3 (r := r.val) (b := 176) l (idx3 t)
  exact congrArg (A m c main_arg2) (at3 _ _ l _ h0 h1 h2)

/-- A block of half a plane, at the points of that half. -/
theorem piece_place (j : Fin 8) (t : Fin cfg0.N) (h : t.val / 2 = j.val) (k : Fin 4) (hj : j.val / 2 = k.val) (o : Nat) (ho' : 352 * (j.val % 2) = o)
    (hk : Shape.Slices S4x704x1024 ![k.val, 0, 0] S1x704x1024) (ho : Shape.Slices S704x1024 ![o, 0] S352x1024) (g : Vec Ideal S4x704x1024 .f32) (x : S352x1024.Idx)
    (h0 : (x 0).val = 176 * (t.val % 2) + r.val) (h1 : (x 1).val = l.val) : piece k.val o hk ho g x = g (place r l t) := by
  rw [at2 (⟨176 * (t.val % 2) + r.val, by omega⟩ : Fin 352) l x h0 h1]
  refine (piece_apply l k o hk ho g _ ⟨176 * (t.val % 4) + r.val, by omega⟩ (by dsimp only; omega)).trans ?_
  exact congrArg (fun a => g (ix3 a _ l)) (Fin.ext (by dsimp only; omega))

theorem iblk4 (t : Fin cfg0.N) (h : t.val / 2 = 0) : (iblk m c 4 t : Vec Ideal S176x1024 .f32) (ix2 r l) = (A m c main_arg3 : S4x704x1024.Idx → EReal) (place r l t) := by
  unfold iblk
  rw [View.read_apply]
  show V m c main_v8 _ = _
  rw [V_s0]
  refine piece_place r l 0 t h 0 rfl 0 rfl _ _ _ _ ?_ ?_
  · show win0_4.index t 0 * 176 + 1 * r.val = 176 * (t.val % 2) + r.val; rw [(idx4 t).1 h]; omega
  · show win0_4.index t 1 * 1024 + 1 * l.val = l.val; rw [(idx4 t).2]; omega

theorem iblk5 (t : Fin cfg0.N) (h : t.val / 2 = 1) : (iblk m c 5 t : Vec Ideal S176x1024 .f32) (ix2 r l) = (A m c main_arg3 : S4x704x1024.Idx → EReal) (place r l t) := by
  unfold iblk
  rw [View.read_apply]
  show V m c main_v9 _ = _
  rw [V_s1]
  refine piece_place r l 1 t h 0 rfl 352 rfl _ _ _ _ ?_ ?_
  · show win0_5.index t 0 * 176 + 1 * r.val = 176 * (t.val % 2) + r.val; rw [(idx5 t).1 h]; omega
  · show win0_5.index t 1 * 1024 + 1 * l.val = l.val; rw [(idx5 t).2]; omega

theorem iblk6 (t : Fin cfg0.N) (h : t.val / 2 = 2) : (iblk m c 6 t : Vec Ideal S176x1024 .f32) (ix2 r l) = (A m c main_arg3 : S4x704x1024.Idx → EReal) (place r l t) := by
  unfold iblk
  rw [View.read_apply]
  show V m c main_v10 _ = _
  rw [V_s2]
  refine piece_place r l 2 t h 1 rfl 0 rfl _ _ _ _ ?_ ?_
  · show win0_6.index t 0 * 176 + 1 * r.val = 176 * (t.val % 2) + r.val; rw [(idx6 t).1 h]; omega
  · show win0_6.index t 1 * 1024 + 1 * l.val = l.val; rw [(idx6 t).2]; omega

theorem iblk7 (t : Fin cfg0.N) (h : t.val / 2 = 3) : (iblk m c 7 t : Vec Ideal S176x1024 .f32) (ix2 r l) = (A m c main_arg3 : S4x704x1024.Idx → EReal) (place r l t) := by
  unfold iblk
  rw [View.read_apply]
  show V m c main_v11 _ = _
  rw [V_s3]
  refine piece_place r l 3 t h 1 rfl 352 rfl _ _ _ _ ?_ ?_
  · show win0_7.index t 0 * 176 + 1 * r.val = 176 * (t.val % 2) + r.val; rw [(idx7 t).1 h]; omega
  · show win0_7.index t 1 * 1024 + 1 * l.val = l.val; rw [(idx7 t).2]; omega

theorem iblk8 (t : Fin cfg0.N) (h : t.val / 2 = 4) : (iblk m c 8 t : Vec Ideal S176x1024 .f32) (ix2 r l) = (A m c main_arg3 : S4x704x1024.Idx → EReal) (place r l t) := by
  unfold iblk
  rw [View.read_apply]
  show V m c main_v12 _ = _
  rw [V_s4]
  refine piece_place r l 4 t h 2 rfl 0 rfl _ _ _ _ ?_ ?_
  · show win0_8.index t 0 * 176 + 1 * r.val = 176 * (t.val % 2) + r.val; rw [(idx8 t).1 h]; omega
  · show win0_8.index t 1 * 1024 + 1 * l.val = l.val; rw [(idx8 t).2]; omega

theorem iblk9 (t : Fin cfg0.N) (h : t.val / 2 = 5) : (iblk m c 9 t : Vec Ideal S176x1024 .f32) (ix2 r l) = (A m c main_arg3 : S4x704x1024.Idx → EReal) (place r l t) := by
  unfold iblk
  rw [View.read_apply]
  show V m c main_v13 _ = _
  rw [V_s5]
  refine piece_place r l 5 t h 2 rfl 352 rfl _ _ _ _ ?_ ?_
  · show win0_9.index t 0 * 176 + 1 * r.val = 176 * (t.val % 2) + r.val; rw [(idx9 t).1 h]; omega
  · show win0_9.index t 1 * 1024 + 1 * l.val = l.val; rw [(idx9 t).2]; omega

theorem iblk10 (t : Fin cfg0.N) (h : t.val / 2 = 6) : (iblk m c 10 t : Vec Ideal S176x1024 .f32) (ix2 r l) = (A m c main_arg3 : S4x704x1024.Idx → EReal) (place r l t) := by
  unfold iblk
  rw [View.read_apply]
  show V m c main_v14 _ = _
  rw [V_s6]
  refine piece_place r l 6 t h 3 rfl 0 rfl _ _ _ _ ?_ ?_
  · show win0_10.index t 0 * 176 + 1 * r.val = 176 * (t.val % 2) + r.val; rw [(idx10 t).1 h]; omega
  · show win0_10.index t 1 * 1024 + 1 * l.val = l.val; rw [(idx10 t).2]; omega

theorem iblk11 (t : Fin cfg0.N) (h : t.val / 2 = 7) : (iblk m c 11 t : Vec Ideal S176x1024 .f32) (ix2 r l) = (A m c main_arg3 : S4x704x1024.Idx → EReal) (place r l t) := by
  unfold iblk
  rw [View.read_apply]
  show V m c main_v15 _ = _
  rw [V_s7]
  refine piece_place r l 7 t h 3 rfl 352 rfl _ _ _ _ ?_ ?_
  · show win0_11.index t 0 * 176 + 1 * r.val = 176 * (t.val % 2) + r.val; rw [(idx11 t).1 h]; omega
  · show win0_11.index t 1 * 1024 + 1 * l.val = l.val; rw [(idx11 t).2]; omega

/-- The gradient's block: the piece of the point. -/
theorem grad (t : Fin cfg0.N) (f : Elt Ideal .i32) (hf : f = (0#32 : BitVec 32)) :
    k0_pay2 (grid0.coords t) f (iblk m c 4 t) (iblk m c 5 t) (iblk m c 6 t) (iblk m c 7 t) (iblk m c 8 t) (iblk m c 9 t) (iblk m c 10 t) (iblk m c 11 t) (ix2 r l) = (A m c main_arg3 : S4x704x1024.Idx → EReal) (place r l t) := by
  obtain rfl := hf
  have ht := t.isLt
  have hN : cfg0.N = 16 := N_0
  obtain ⟨h0, h1⟩ := coords_eq t
  rcases (show t.val / 2 = 0 ∨ t.val / 2 = 1 ∨ t.val / 2 = 2 ∨ t.val / 2 = 3 ∨ t.val / 2 = 4 ∨ t.val / 2 = 5 ∨ t.val / 2 = 6 ∨ t.val / 2 = 7 by omega) with h | h | h | h | h | h | h | h
  · exact (pick0 _ _ _ _ _ _ _ _ _ r l (h0.trans (by omega)) ((congrArg (· / 2) h1).trans (show t.val % 4 / 2 = 0 by omega))).trans (iblk4 m c r l t h)
  · exact (pick1 _ _ _ _ _ _ _ _ _ r l (h0.trans (by omega)) ((congrArg (· / 2) h1).trans (show t.val % 4 / 2 = 1 by omega))).trans (iblk5 m c r l t h)
  · exact (pick2 _ _ _ _ _ _ _ _ _ r l (h0.trans (by omega)) ((congrArg (· / 2) h1).trans (show t.val % 4 / 2 = 0 by omega))).trans (iblk6 m c r l t h)
  · exact (pick3 _ _ _ _ _ _ _ _ _ r l (h0.trans (by omega)) ((congrArg (· / 2) h1).trans (show t.val % 4 / 2 = 1 by omega))).trans (iblk7 m c r l t h)
  · exact (pick4 _ _ _ _ _ _ _ _ _ r l (h0.trans (by omega)) ((congrArg (· / 2) h1).trans (show t.val % 4 / 2 = 0 by omega))).trans (iblk8 m c r l t h)
  · exact (pick5 _ _ _ _ _ _ _ _ _ r l (h0.trans (by omega)) ((congrArg (· / 2) h1).trans (show t.val % 4 / 2 = 1 by omega))).trans (iblk9 m c r l t h)
  · exact (pick6 _ _ _ _ _ _ _ _ _ r l (h0.trans (by omega)) ((congrArg (· / 2) h1).trans (show t.val % 4 / 2 = 0 by omega))).trans (iblk10 m c r l t h)
  · exact (pick7 _ _ _ _ _ _ _ _ _ r l (h0.trans (by omega)) ((congrArg (· / 2) h1).trans (show t.val % 4 / 2 = 1 by omega))).trans (iblk11 m c r l t h)

/-! ## The blocks that it leaves -/

theorem cut_eq (t : Fin cfg0.N) (x : Vec Ideal S1x176x1024 .f32) : ((cfg0.win 12).cut (grid0.coords t) x : S1x176x1024.Idx → EReal) (ix3 0 r l) = x (ix3 0 r l) := rfl

theorem block12 (t : Fin cfg0.N) : ((dats m 0 c).flushed 12 t : S1x176x1024.Idx → EReal) (ix3 0 r l)
    = ((A m c main_arg3 : S4x704x1024.Idx → EReal) (place r l t)) := by
  rw [flushed12_A]
  refine (cut_eq r l t _).trans ?_
  unfold out0_A_12
  rw [View.read_writes_eq_canon _ _ _ (fun y => cover0_A_12 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  exact (pay_g r l _).trans (grad m c r l t _ (iblk0 m c t _))

theorem block13 (t : Fin cfg0.N) : ((dats m 0 c).flushed 13 t : S1x176x1024.Idx → EReal) (ix3 0 r l)
    = delta ((A m c main_arg0 : S4x704x1024.Idx → EReal) (place r l t)) ((A m c main_arg1 : S4x704x1024.Idx → EReal) (place r l t)) ((A m c main_arg2 : S4x704x1024.Idx → EReal) (place r l t)) ((A m c main_arg3 : S4x704x1024.Idx → EReal) (place r l t)) := by
  rw [flushed13_A]
  refine (cut_eq r l t _).trans ?_
  unfold out0_A_13
  rw [View.read_writes_eq_canon _ _ _ (fun y => cover0_A_13 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_d _ _ _ r l _).trans ?_
  rw [grad m c r l t _ (iblk0 m c t _), iblk1, iblk2, iblk3]

theorem block14 (t : Fin cfg0.N) : ((dats m 0 c).flushed 14 t : S1x176x1024.Idx → EReal) (ix3 0 r l)
    = mom ((A m c main_arg1 : S4x704x1024.Idx → EReal) (place r l t)) ((A m c main_arg3 : S4x704x1024.Idx → EReal) (place r l t)) := by
  rw [flushed14_A]
  refine (cut_eq r l t _).trans ?_
  unfold out0_A_14
  rw [View.read_writes_eq_canon _ _ _ (fun y => cover0_A_14 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_m _ r l _).trans ?_
  rw [grad m c r l t _ (iblk0 m c t _), iblk2]

theorem block15 (t : Fin cfg0.N) : ((dats m 0 c).flushed 15 t : S1x176x1024.Idx → EReal) (ix3 0 r l)
    = var ((A m c main_arg2 : S4x704x1024.Idx → EReal) (place r l t)) ((A m c main_arg3 : S4x704x1024.Idx → EReal) (place r l t)) := by
  rw [flushed15_A]
  refine (cut_eq r l t _).trans ?_
  unfold out0_A_15
  rw [View.read_writes_eq_canon _ _ _ (fun y => cover0_A_15 _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_v _ r l _).trans ?_
  rw [grad m c r l t _ (iblk0 m c t _), iblk3]

/-! ## The arrays -/

theorem idx12 : ∀ t : Fin cfg0.N, win0_12.index t 0 = t.val / 4 ∧ win0_12.index t 1 = t.val % 4 ∧ win0_12.index t 2 = 0 :=
  (by decide +kernel : ∀ t : Fin grid0.N, win0_12.index t 0 = t.val / 4 ∧ win0_12.index t 1 = t.val % 4 ∧ win0_12.index t 2 = 0)
theorem idx13 : ∀ t : Fin cfg0.N, win0_13.index t 0 = t.val / 4 ∧ win0_13.index t 1 = t.val % 4 ∧ win0_13.index t 2 = 0 :=
  (by decide +kernel : ∀ t : Fin grid0.N, win0_13.index t 0 = t.val / 4 ∧ win0_13.index t 1 = t.val % 4 ∧ win0_13.index t 2 = 0)
theorem idx14 : ∀ t : Fin cfg0.N, win0_14.index t 0 = t.val / 4 ∧ win0_14.index t 1 = t.val % 4 ∧ win0_14.index t 2 = 0 :=
  (by decide +kernel : ∀ t : Fin grid0.N, win0_14.index t 0 = t.val / 4 ∧ win0_14.index t 1 = t.val % 4 ∧ win0_14.index t 2 = 0)
theorem idx15 : ∀ t : Fin cfg0.N, win0_15.index t 0 = t.val / 4 ∧ win0_15.index t 1 = t.val % 4 ∧ win0_15.index t 2 = 0 :=
  (by decide +kernel : ∀ t : Fin grid0.N, win0_15.index t 0 = t.val / 4 ∧ win0_15.index t 1 = t.val % 4 ∧ win0_15.index t 2 = 0)

/-- The point that holds an element, and the element's row in its block. -/
def ptOf (p : Fin 4) (r : Fin 704) : Fin cfg0.N := ⟨4 * p.val + r.val / 176, by have hN : cfg0.N = 16 := N_0; omega⟩
def inOf (r : Fin 704) : Fin 176 := ⟨r.val % 176, by omega⟩

/-- A block's element back in its array. -/
theorem spot (p : Fin 4) (r : Fin 704) (l : Fin 1024) (x y z : Nat) (h : x = (ptOf p r).val / 4 ∧ y = (ptOf p r).val % 4 ∧ z = 0) :
    x * 1 + 1 * 0 = p.val ∧ y * 176 + 1 * (inOf r).val = r.val ∧ z * 1024 + 1 * l.val = l.val := by
  have hd : (ptOf p r).val / 4 = p.val := point_div (by omega) r.isLt
  have hm : (ptOf p r).val % 4 = r.val / 176 := point_mod (by omega) r.isLt
  have hi : (inOf r).val = r.val % 176 := rfl
  omega
theorem place_ptOf (p : Fin 4) (r : Fin 704) (l : Fin 1024) : place (inOf r) l (ptOf p r) = ix3 p r l := by
  obtain ⟨h0, h1, _⟩ := spot p r l _ _ _ ⟨rfl, rfl, rfl⟩
  exact congrArg₂ (fun a b => ix3 a b l) (Fin.ext (by dsimp only; omega)) (Fin.ext (by dsimp only; omega))

theorem arr12 (p : Fin 4) (r : Fin 704) (l : Fin 1024) : ((dats m 0 c).arrAt 12 cfg0.N : S4x704x1024.Idx → EReal) (ix3 p r l)
    = ((A m c main_arg3 : S4x704x1024.Idx → EReal) (ix3 p r l)) := by
  have h := congrFun (blocks12 m c (ptOf p r) (flush0_12 _)) (ix3 0 (inOf r) l)
  rw [View.read_apply] at h
  obtain ⟨e0, e1, e2⟩ := spot p r l _ _ _ (idx12 (ptOf p r))
  have e := (congrArg ((dats m 0 c).arrAt 12 cfg0.N) (at3 p r l _ e0 e1 e2)).symm.trans (h.trans (block12 m c (inOf r) l (ptOf p r)))
  rwa [place_ptOf] at e

theorem arr13 (p : Fin 4) (r : Fin 704) (l : Fin 1024) : ((dats m 0 c).arrAt 13 cfg0.N : S4x704x1024.Idx → EReal) (ix3 p r l)
    = delta ((A m c main_arg0 : S4x704x1024.Idx → EReal) (ix3 p r l)) ((A m c main_arg1 : S4x704x1024.Idx → EReal) (ix3 p r l)) ((A m c main_arg2 : S4x704x1024.Idx → EReal) (ix3 p r l)) ((A m c main_arg3 : S4x704x1024.Idx → EReal) (ix3 p r l)) := by
  have h := congrFun (blocks13 m c (ptOf p r) (flush0_13 _)) (ix3 0 (inOf r) l)
  rw [View.read_apply] at h
  obtain ⟨e0, e1, e2⟩ := spot p r l _ _ _ (idx13 (ptOf p r))
  have e := (congrArg ((dats m 0 c).arrAt 13 cfg0.N) (at3 p r l _ e0 e1 e2)).symm.trans (h.trans (block13 m c (inOf r) l (ptOf p r)))
  rwa [place_ptOf] at e

theorem arr14 (p : Fin 4) (r : Fin 704) (l : Fin 1024) : ((dats m 0 c).arrAt 14 cfg0.N : S4x704x1024.Idx → EReal) (ix3 p r l)
    = mom ((A m c main_arg1 : S4x704x1024.Idx → EReal) (ix3 p r l)) ((A m c main_arg3 : S4x704x1024.Idx → EReal) (ix3 p r l)) := by
  have h := congrFun (blocks14 m c (ptOf p r) (flush0_14 _)) (ix3 0 (inOf r) l)
  rw [View.read_apply] at h
  obtain ⟨e0, e1, e2⟩ := spot p r l _ _ _ (idx14 (ptOf p r))
  have e := (congrArg ((dats m 0 c).arrAt 14 cfg0.N) (at3 p r l _ e0 e1 e2)).symm.trans (h.trans (block14 m c (inOf r) l (ptOf p r)))
  rwa [place_ptOf] at e

theorem arr15 (p : Fin 4) (r : Fin 704) (l : Fin 1024) : ((dats m 0 c).arrAt 15 cfg0.N : S4x704x1024.Idx → EReal) (ix3 p r l)
    = var ((A m c main_arg2 : S4x704x1024.Idx → EReal) (ix3 p r l)) ((A m c main_arg3 : S4x704x1024.Idx → EReal) (ix3 p r l)) := by
  have h := congrFun (blocks15 m c (ptOf p r) (flush0_15 _)) (ix3 0 (inOf r) l)
  rw [View.read_apply] at h
  obtain ⟨e0, e1, e2⟩ := spot p r l _ _ _ (idx15 (ptOf p r))
  have e := (congrArg ((dats m 0 c).arrAt 15 cfg0.N) (at3 p r l _ e0 e1 e2)).symm.trans (h.trans (block15 m c (inOf r) l (ptOf p r)))
  rwa [place_ptOf] at e

end Cert.AdamW2Ideal.Entry

namespace Cert.AdamW2

open Idealize.ShloMosaic Idealize.ShloMosaic.TcCoe Idealize.ShloMosaic.Tactic Idealize.SL.Sem Cert.AdamW2RefIdeal Cert.AdamW2RefIdeal.Read Cert.Adam

variable (w mo vo g : Vec Ideal S4x704x1024 .f32) (p : Fin 4) (r : Fin 704) (l : Fin 1024)

theorem mom_eq : val_main_v4 (F := Ideal) mo g (ix3 p r l) = mom (mo (ix3 p r l)) (g (ix3 p r l)) := by
  pointwise [val_main_v4, val_main_v3, val_main_v2, val_main_v1, val_main_v0, val_main_cst, val_main_cst_0]
  rfl

theorem var_eq : val_main_v10 (F := Ideal) vo g (ix3 p r l) = var (vo (ix3 p r l)) (g (ix3 p r l)) := by
  pointwise [val_main_v10, val_main_v9, val_main_v8, val_main_v7, val_main_v6, val_main_v5, val_main_cst_1, val_main_cst_2]
  rfl

theorem delta_eq : val_main_v23 (F := Ideal) w mo vo g (ix3 p r l) = delta (w (ix3 p r l)) (mo (ix3 p r l)) (vo (ix3 p r l)) (g (ix3 p r l)) := by
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [mom_eq, var_eq]
  rfl

theorem algebraic : algebraic_AdamW2Ideal_AdamW2RefIdeal := by
  intro m g m' g' _ hag
  refine ⟨_, _, _, _, AdamW2Ideal.Value.run_blocks m g, (θ_run AdamW2RefIdeal.defs _ _).mono (fun r h c => ?_) (AdamW2RefIdeal.Value.run m' g')⟩
  obtain ⟨a0, a1, a2, a3⟩ := hag c
  obtain ⟨h0, h1, h2, h3, hargs⟩ := h c
  refine ⟨h0.trans (a3.trans (funext fun i => ?_)), h1.trans ((val_main_v23_eq _ _ _ _).trans (funext fun i => ?_)), h2.trans ((val_main_v4_eq _ _).trans (funext fun i => ?_)),
    h3.trans ((val_main_v10_eq _ _).trans (funext fun i => ?_)), hargs⟩
  · rw [eq_ix3 i]
    exact (AdamW2Ideal.Entry.arr12 m c _ _ _).symm
  · rw [a0, a1, a2, a3, eq_ix3 i]
    exact (delta_eq _ _ _ _ _ _ _).trans (AdamW2Ideal.Entry.arr13 m c _ _ _).symm
  · rw [a1, a3, eq_ix3 i]
    exact (mom_eq _ _ _ _ _).trans (AdamW2Ideal.Entry.arr14 m c _ _ _).symm
  · rw [a2, a3, eq_ix3 i]
    exact (var_eq _ _ _ _ _).trans (AdamW2Ideal.Entry.arr15 m c _ _ _).symm

end Cert.AdamW2

end
-- ==== Proof.AdamSmall.lean ====
/- AdamW of the six small weights, packed end to end into one block of 176 rows. -/
module

public import proofs.«01_k».proof.Proof.Adam
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AdamSmall

open Idealize.ShloMosaic Idealize.ShloMosaic.TcCoe Idealize.ShloMosaic.Tactic Idealize.SL.Sem Cert.AdamSmallRefIdeal Cert.AdamSmallRefIdeal.Gen Cert.AdamSmallRefIdeal.Read Cert.Adam

/-- One value for each of the six small weights. -/
structure Six where
  b : Vec Ideal S2x9216 .f32
  n : Vec Ideal S2x3x256 .f32
  q : Vec Ideal S2x64 .f32
  k : Vec Ideal S2x64 .f32
  w : Vec Ideal S2x3x128 .f32
  d : Vec Ideal S2x512 .f32

/-- The six applied to a function element by element. -/
def Six.map (F : EReal → EReal → EReal → EReal → EReal) (x y z g : Six) : Six :=
  ⟨fun i => F (x.b i) (y.b i) (z.b i) (g.b i), fun i => F (x.n i) (y.n i) (z.n i) (g.n i), fun i => F (x.q i) (y.q i) (z.q i) (g.q i), fun i => F (x.k i) (y.k i) (z.k i) (g.k i), fun i => F (x.w i) (y.w i) (z.w i) (g.w i), fun i => F (x.d i) (y.d i) (z.d i) (g.d i)⟩

/-- Zeros after the six. -/
def tail : Vec Ideal S512 .f32 := broadcastInDim S512 ![] bcast_S_S512 (constant (F := Ideal) S_ .f32 0x00000000#32)

/-- The six end to end, with something after them. -/
def join (e : Vec Ideal S512 .f32) (x : Six) : Vec Ideal S22528 .f32 :=
  concatenate S22528 0 [⟨S18432, shapeCast S18432 x.b shapeCasts_S2x9216_S18432⟩, ⟨S1536, shapeCast S1536 x.n shapeCasts_S2x3x256_S1536⟩, ⟨S128, shapeCast S128 x.q shapeCasts_S2x64_S128⟩, ⟨S128, shapeCast S128 x.k shapeCasts_S2x64_S128⟩, ⟨S768, shapeCast S768 x.w shapeCasts_S2x3x128_S768⟩, ⟨S1024, shapeCast S1024 x.d shapeCasts_S2x512_S1024⟩, ⟨S512, e⟩]
    concatenates_S18432_S1536_S128_S128_S768_S1024_S512_S22528_d0

def flat (x : Six) : Vec Ideal S22528 .f32 := join tail x

theorem tail_apply (i : S512.Idx) : tail i = 0 := Ideal.ofBits_zero .f32

/-- Four values of every element of the six and of what follows. -/
def fours (x y z g : Six) : List ((s : Shape) × (s.Idx → EReal × EReal × EReal × EReal)) :=
  [⟨S18432, fun i => (shapeCast S18432 x.b shapeCasts_S2x9216_S18432 i, shapeCast S18432 y.b shapeCasts_S2x9216_S18432 i, shapeCast S18432 z.b shapeCasts_S2x9216_S18432 i, shapeCast S18432 g.b shapeCasts_S2x9216_S18432 i)⟩, ⟨S1536, fun i => (shapeCast S1536 x.n shapeCasts_S2x3x256_S1536 i, shapeCast S1536 y.n shapeCasts_S2x3x256_S1536 i, shapeCast S1536 z.n shapeCasts_S2x3x256_S1536 i, shapeCast S1536 g.n shapeCasts_S2x3x256_S1536 i)⟩, ⟨S128, fun i => (shapeCast S128 x.q shapeCasts_S2x64_S128 i, shapeCast S128 y.q shapeCasts_S2x64_S128 i, shapeCast S128 z.q shapeCasts_S2x64_S128 i, shapeCast S128 g.q shapeCasts_S2x64_S128 i)⟩, ⟨S128, fun i => (shapeCast S128 x.k shapeCasts_S2x64_S128 i, shapeCast S128 y.k shapeCasts_S2x64_S128 i, shapeCast S128 z.k shapeCasts_S2x64_S128 i, shapeCast S128 g.k shapeCasts_S2x64_S128 i)⟩, ⟨S768, fun i => (shapeCast S768 x.w shapeCasts_S2x3x128_S768 i, shapeCast S768 y.w shapeCasts_S2x3x128_S768 i, shapeCast S768 z.w shapeCasts_S2x3x128_S768 i, shapeCast S768 g.w shapeCasts_S2x3x128_S768 i)⟩, ⟨S1024, fun i => (shapeCast S1024 x.d shapeCasts_S2x512_S1024 i, shapeCast S1024 y.d shapeCasts_S2x512_S1024 i, shapeCast S1024 z.d shapeCasts_S2x512_S1024 i, shapeCast S1024 g.d shapeCasts_S2x512_S1024 i)⟩, ⟨S512, fun i => (tail i, tail i, tail i, tail i)⟩]

theorem fours_fit (x y z g : Six) : Shape.Concatenates ((fours x y z g).map (·.1)) S22528 0 :=
  concatenates_S18432_S1536_S128_S128_S768_S1024_S512_S22528_d0

theorem flat_map (F : EReal → EReal → EReal → EReal → EReal) (hF : F 0 0 0 0 = 0) (x y z g : Six) (i : S22528.Idx) :
    flat (Six.map F x y z g) i = F (flat x i) (flat y i) (flat z i) (flat g i) := by
  have ht : tail = fun i => F (tail i) (tail i) (tail i) (tail i) := funext fun i => by rw [tail_apply]; exact hF.symm
  have e (G : EReal × EReal × EReal × EReal → EReal) := concatenate_comp G S22528 0 (fours x y z g) (fours_fit x y z g) (fours_fit x y z g) i
  refine (congrFun (congrArg (fun e => join e (Six.map F x y z g)) ht) i).trans ((e fun q => F q.1 q.2.1 q.2.2.1 q.2.2.2).trans ?_)
  have e1 : flat x i = _ := e fun q => q.1
  have e2 : flat y i = _ := e fun q => q.2.1
  have e3 : flat z i = _ := e fun q => q.2.2.1
  have e4 : flat g i = _ := e fun q => q.2.2.2
  rw [e1, e2, e3, e4]

theorem v152_eq (g : Six) : val_main_v152 (F := Ideal) g.b g.n g.q g.k g.w g.d = shapeCast S1x176x128 (flat g) shapeCasts_S22528_S1x176x128 := rfl

theorem v161_eq (w m v g : Six) : val_main_v161 (F := Ideal) w.b m.b v.b g.b w.n m.n v.n g.n w.q m.q v.q g.q w.k m.k v.k g.k w.w m.w v.w g.w w.d m.d v.d g.d
    = shapeCast S1x176x128 (flat (Six.map delta w m v g)) shapeCasts_S22528_S1x176x128 := rfl

theorem v170_eq (w m v g : Six) : val_main_v170 (F := Ideal) m.b g.b m.n g.n m.q g.q m.k g.k m.w g.w m.d g.d
    = shapeCast S1x176x128 (flat (Six.map (fun _ m _ g => mom m g) w m v g)) shapeCasts_S22528_S1x176x128 := rfl

theorem v179_eq (w m v g : Six) : val_main_v179 (F := Ideal) v.b g.b v.n g.n v.q g.q v.k g.k v.w g.w v.d g.d
    = shapeCast S1x176x128 (flat (Six.map (fun _ _ v g => var v g) w m v g)) shapeCasts_S22528_S1x176x128 := rfl

end Cert.AdamSmall

namespace Cert.AdamSmallIdeal.Entry

open Idealize.ShloMosaic Idealize.ShloMosaic.TcCoe Idealize.ShloMosaic.Tactic Idealize.SL.Sem Cert.AdamSmallIdeal Cert.AdamSmallIdeal.Gen Cert.AdamSmallIdeal.Value Cert.Adam Cert.AdamSmall

/-! ## The body's values -/

variable (s : Vec Ideal S176x128 .f32) (w mo vo : Vec Ideal S1x176x128 .f32) (r : Fin 176) (l : Fin 128)

theorem pay_g : k0_pay3 s (ix3 0 r l) = s (ix2 r l) := by
  pointwise [k0_pay3, k0_pay2]

theorem pay_m : k0_pay6 s mo (ix3 0 r l) = mom (mo (ix3 0 r l)) (s (ix2 r l)) := by
  pointwise [k0_pay6, k0_pay4, k0_pay2]
  rfl

theorem pay_v : k0_pay7 s vo (ix3 0 r l) = var (vo (ix3 0 r l)) (s (ix2 r l)) := by
  pointwise [k0_pay7, k0_pay5, k0_pay2]
  rfl

theorem pay_d : k0_pay1 (k0_pay8 s mo) (k0_pay9 s vo) (Scalar.ofBits .f32 0x322BCC77#32) w (ix3 0 r l)
    = delta (w (ix3 0 r l)) (mo (ix3 0 r l)) (vo (ix3 0 r l)) (s (ix2 r l)) := by
  pointwise [k0_pay1, k0_pay4, k0_pay5, k0_pay8, k0_pay9, k0_pay2]
  rfl

end Cert.AdamSmallIdeal.Entry

namespace Cert.AdamSmallIdeal.Entry

open Idealize.ShloMosaic Idealize.ShloMosaic.TcCoe Idealize.ShloMosaic.Tactic Idealize.SL.Sem Cert.AdamSmallIdeal Cert.AdamSmallIdeal.Gen Cert.AdamSmallIdeal.Value Cert.Adam Cert.AdamSmall

/-! ## The blocks that it reads -/

variable (m : (ℓ : Loc nD τ sig) → Buf (Elt Ideal) ℓ) (c : Dev nD)

abbrev A (b : Ref sig .tc) : Buf (Elt Ideal) ((c : Thread nD τ).loc b) := m ((c : Thread nD τ).loc b)

/-- The six weights, their moments and their gradients. -/
def ws : Six := ⟨A m c main_arg0, A m c main_arg4, A m c main_arg8, A m c main_arg12, A m c main_arg16, A m c main_arg20⟩
def ms : Six := ⟨A m c main_arg1, A m c main_arg5, A m c main_arg9, A m c main_arg13, A m c main_arg17, A m c main_arg21⟩
def vs : Six := ⟨A m c main_arg2, A m c main_arg6, A m c main_arg10, A m c main_arg14, A m c main_arg18, A m c main_arg22⟩
def gs : Six := ⟨A m c main_arg3, A m c main_arg7, A m c main_arg11, A m c main_arg15, A m c main_arg19, A m c main_arg23⟩

/-- The packed rows. -/
def rows (x : Six) : Vec Ideal S176x128 .f32 := shapeCast S176x128 (flat x) shapeCasts_S22528_S176x128
def block (x : Six) : Vec Ideal S1x176x128 .f32 := broadcastInDim S1x176x128 ![1, 2] bcast_S176x128_S1x176x128_1_2 (rows x)

variable (r : Fin 176) (l : Fin 128)

/-- The place of a row's element. -/
abbrev at1 : S22528.Idx := ix1 (⟨r.val * 128 + l.val, by omega⟩ : Fin 22528)

theorem rows_apply (x : Six) : rows x (ix2 r l) = flat x (at1 r l) := by
  unfold rows
  generalize flat x = y
  pointwise
theorem block_apply (x : Six) : block x (ix3 0 r l) = flat x (at1 r l) := by
  refine Eq.trans ?_ (rows_apply r l x)
  unfold block
  generalize rows x = y
  pointwise

theorem V_ws : V m c main_v9 = (block (ws m c) : S1x176x128.Idx → EReal) := by
  unfold V
  simp only [hostOps0]
  after_results
  rfl
theorem V_ms : V m c main_v19 = (block (ms m c) : S1x176x128.Idx → EReal) := by
  unfold V
  simp only [hostOps0]
  after_results
  rfl
theorem V_vs : V m c main_v29 = (block (vs m c) : S1x176x128.Idx → EReal) := by
  unfold V
  simp only [hostOps0]
  after_results
  rfl
theorem V_gs : V m c main_v38 = (rows (gs m c) : S176x128.Idx → EReal) := by
  unfold V
  simp only [hostOps0]
  after_results
  rfl

theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem idx8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-- The whole block's element. -/
theorem spot (l : Fin 128) (x y z : Nat) (h : x = 0 ∧ y = 0 ∧ z = 0) :
    x * 1 + 1 * 0 = (0 : Fin 1).val ∧ y * 176 + 1 * r.val = r.val ∧ z * 128 + 1 * l.val = l.val := by
  have h0 : (0 : Fin 1).val = 0 := rfl
  omega

theorem iblk1 (t : Fin cfg0.N) : (iblk m c 1 t : Vec Ideal S1x176x128 .f32) (ix3 0 r l) = flat (ws m c) (at1 r l) := by
  unfold iblk
  rw [View.read_apply]
  show V m c main_v9 _ = _
  rw [V_ws]
  obtain ⟨h0, h1, h2⟩ := spot r l _ _ _ (idx1 t)
  exact (congrArg (block (ws m c)) (at3 0 r l _ h0 h1 h2)).trans (block_apply r l _)

theorem iblk2 (t : Fin cfg0.N) : (iblk m c 2 t : Vec Ideal S1x176x128 .f32) (ix3 0 r l) = flat (ms m c) (at1 r l) := by
  unfold iblk
  rw [View.read_apply]
  show V m c main_v19 _ = _
  rw [V_ms]
  obtain ⟨h0, h1, h2⟩ := spot r l _ _ _ (idx2 t)
  exact (congrArg (block (ms m c)) (at3 0 r l _ h0 h1 h2)).trans (block_apply r l _)

theorem iblk3 (t : Fin cfg0.N) : (iblk m c 3 t : Vec Ideal S1x176x128 .f32) (ix3 0 r l) = flat (vs m c) (at1 r l) := by
  unfold iblk
  rw [View.read_apply]
  show V m c main_v29 _ = _
  rw [V_vs]
  obtain ⟨h0, h1, h2⟩ := spot r l _ _ _ (idx3 t)
  exact (congrArg (block (vs m c)) (at3 0 r l _ h0 h1 h2)).trans (block_apply r l _)

theorem iblk4 (t : Fin cfg0.N) : (iblk m c 4 t : Vec Ideal S176x128 .f32) (ix2 r l) = flat (gs m c) (at1 r l) := by
  unfold iblk
  rw [View.read_apply]
  show V m c main_v38 _ = _
  rw [V_gs]
  obtain ⟨_, h1, h2⟩ := spot r l _ _ _ ⟨rfl, idx4 t⟩
  exact (congrArg (rows (gs m c)) (at2 r l _ h1 h2)).trans (rows_apply r l _)

/-! ## The block that it leaves of each result -/

theorem cut_eq (t : Fin cfg0.N) (x : Vec Ideal S1x176x128 .f32) : ((cfg0.win 5).cut (grid0.coords t) x : S1x176x128.Idx → EReal) (ix3 0 r l) = x (ix3 0 r l) := rfl

theorem block5 (t : Fin cfg0.N) : ((dats m 0 c).flushed 5 t : S1x176x128.Idx → EReal) (ix3 0 r l)
    = (flat (gs m c) (at1 r l)) := by
  rw [flushed5_A]
  refine (cut_eq r l t _).trans ?_
  unfold out0_A_5
  rw [View.read_writes_eq_canon _ _ _ (fun y => cover0_A_5 _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  exact (pay_g _ r l).trans (iblk4 m c r l t)

theorem block6 (t : Fin cfg0.N) : ((dats m 0 c).flushed 6 t : S1x176x128.Idx → EReal) (ix3 0 r l)
    = delta (flat (ws m c) (at1 r l)) (flat (ms m c) (at1 r l)) (flat (vs m c) (at1 r l)) (flat (gs m c) (at1 r l)) := by
  rw [flushed6_A]
  refine (cut_eq r l t _).trans ?_
  unfold out0_A_6
  rw [View.read_writes_eq_canon _ _ _ (fun y => cover0_A_6 _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_d _ _ _ _ r l).trans ?_
  rw [iblk4, iblk1, iblk2, iblk3]

theorem block7 (t : Fin cfg0.N) : ((dats m 0 c).flushed 7 t : S1x176x128.Idx → EReal) (ix3 0 r l)
    = mom (flat (ms m c) (at1 r l)) (flat (gs m c) (at1 r l)) := by
  rw [flushed7_A]
  refine (cut_eq r l t _).trans ?_
  unfold out0_A_7
  rw [View.read_writes_eq_canon _ _ _ (fun y => cover0_A_7 _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_m _ _ r l).trans ?_
  rw [iblk4, iblk2]

theorem block8 (t : Fin cfg0.N) : ((dats m 0 c).flushed 8 t : S1x176x128.Idx → EReal) (ix3 0 r l)
    = var (flat (vs m c) (at1 r l)) (flat (gs m c) (at1 r l)) := by
  rw [flushed8_A]
  refine (cut_eq r l t _).trans ?_
  unfold out0_A_8
  rw [View.read_writes_eq_canon _ _ _ (fun y => cover0_A_8 _ _ _ _ _ _ _ _ _ _ _ _ _ _ _ _ _ _ _ _ _ _ _ _ _ y)]
  unfold kernelRun0_A
  dsimp only
  sl_unfold_words
  rw [View.canon_unit_zero hz3]
  simp only [View.readAt_eq_ld, Memref.IsWhole.read_unread, ld2, ld3]
  refine (pay_v _ _ r l).trans ?_
  rw [iblk4, iblk3]

/-- The one point. -/
def pt : Fin cfg0.N := ⟨0, by have hN : cfg0.N = 1 := N_0; omega⟩

theorem arr5 : ((dats m 0 c).arrAt 5 cfg0.N : S1x176x128.Idx → EReal) (ix3 0 r l)
    = (flat (gs m c) (at1 r l)) := by
  have h := congrFun (blocks5 m c pt (flush0_5 _)) (ix3 0 r l)
  rw [View.read_apply] at h
  obtain ⟨e0, e1, e2⟩ := spot r l _ _ _ (idx5 pt)
  exact (congrArg ((dats m 0 c).arrAt 5 cfg0.N) (at3 0 r l _ e0 e1 e2)).symm.trans (h.trans (block5 m c r l pt))

theorem arr6 : ((dats m 0 c).arrAt 6 cfg0.N : S1x176x128.Idx → EReal) (ix3 0 r l)
    = delta (flat (ws m c) (at1 r l)) (flat (ms m c) (at1 r l)) (flat (vs m c) (at1 r l)) (flat (gs m c) (at1 r l)) := by
  have h := congrFun (blocks6 m c pt (flush0_6 _)) (ix3 0 r l)
  rw [View.read_apply] at h
  obtain ⟨e0, e1, e2⟩ := spot r l _ _ _ (idx6 pt)
  exact (congrArg ((dats m 0 c).arrAt 6 cfg0.N) (at3 0 r l _ e0 e1 e2)).symm.trans (h.trans (block6 m c r l pt))

theorem arr7 : ((dats m 0 c).arrAt 7 cfg0.N : S1x176x128.Idx → EReal) (ix3 0 r l)
    = mom (flat (ms m c) (at1 r l)) (flat (gs m c) (at1 r l)) := by
  have h := congrFun (blocks7 m c pt (flush0_7 _)) (ix3 0 r l)
  rw [View.read_apply] at h
  obtain ⟨e0, e1, e2⟩ := spot r l _ _ _ (idx7 pt)
  exact (congrArg ((dats m 0 c).arrAt 7 cfg0.N) (at3 0 r l _ e0 e1 e2)).symm.trans (h.trans (block7 m c r l pt))

theorem arr8 : ((dats m 0 c).arrAt 8 cfg0.N : S1x176x128.Idx → EReal) (ix3 0 r l)
    = var (flat (vs m c) (at1 r l)) (flat (gs m c) (at1 r l)) := by
  have h := congrFun (blocks8 m c pt (flush0_8 _)) (ix3 0 r l)
  rw [View.read_apply] at h
  obtain ⟨e0, e1, e2⟩ := spot r l _ _ _ (idx8 pt)
  exact (congrArg ((dats m 0 c).arrAt 8 cfg0.N) (at3 0 r l _ e0 e1 e2)).symm.trans (h.trans (block8 m c r l pt))

end Cert.AdamSmallIdeal.Entry

namespace Cert.AdamSmall

open Idealize.ShloMosaic Idealize.ShloMosaic.TcCoe Idealize.ShloMosaic.Tactic Idealize.SL.Sem Cert.AdamSmallRefIdeal Cert.AdamSmallRefIdeal.Gen Cert.AdamSmallRefIdeal.Read Cert.Adam

theorem cast_apply (x : Six) (r : Fin 176) (l : Fin 128) :
    shapeCast S1x176x128 (flat x) shapeCasts_S22528_S1x176x128 (ix3 0 r l) = flat x (ix1 (⟨r.val * 128 + l.val, by omega⟩ : Fin 22528)) := by
  generalize flat x = y
  pointwise

variable (m : (ℓ : Loc AdamSmallRefIdeal.nD AdamSmallRefIdeal.τ AdamSmallRefIdeal.sig) → Buf (Elt Ideal) ℓ) (c : Dev AdamSmallRefIdeal.nD)

/-- The reference's six weights, their moments and their gradients. -/
def ws : Six := ⟨m ((c : Thread AdamSmallRefIdeal.nD AdamSmallRefIdeal.τ).loc AdamSmallRefIdeal.main_arg0), m ((c : Thread AdamSmallRefIdeal.nD AdamSmallRefIdeal.τ).loc AdamSmallRefIdeal.main_arg4), m ((c : Thread AdamSmallRefIdeal.nD AdamSmallRefIdeal.τ).loc AdamSmallRefIdeal.main_arg8), m ((c : Thread AdamSmallRefIdeal.nD AdamSmallRefIdeal.τ).loc AdamSmallRefIdeal.main_arg12), m ((c : Thread AdamSmallRefIdeal.nD AdamSmallRefIdeal.τ).loc AdamSmallRefIdeal.main_arg16), m ((c : Thread AdamSmallRefIdeal.nD AdamSmallRefIdeal.τ).loc AdamSmallRefIdeal.main_arg20)⟩
def ms : Six := ⟨m ((c : Thread AdamSmallRefIdeal.nD AdamSmallRefIdeal.τ).loc AdamSmallRefIdeal.main_arg1), m ((c : Thread AdamSmallRefIdeal.nD AdamSmallRefIdeal.τ).loc AdamSmallRefIdeal.main_arg5), m ((c : Thread AdamSmallRefIdeal.nD AdamSmallRefIdeal.τ).loc AdamSmallRefIdeal.main_arg9), m ((c : Thread AdamSmallRefIdeal.nD AdamSmallRefIdeal.τ).loc AdamSmallRefIdeal.main_arg13), m ((c : Thread AdamSmallRefIdeal.nD AdamSmallRefIdeal.τ).loc AdamSmallRefIdeal.main_arg17), m ((c : Thread AdamSmallRefIdeal.nD AdamSmallRefIdeal.τ).loc AdamSmallRefIdeal.main_arg21)⟩
def vs : Six := ⟨m ((c : Thread AdamSmallRefIdeal.nD AdamSmallRefIdeal.τ).loc AdamSmallRefIdeal.main_arg2), m ((c : Thread AdamSmallRefIdeal.nD AdamSmallRefIdeal.τ).loc AdamSmallRefIdeal.main_arg6), m ((c : Thread AdamSmallRefIdeal.nD AdamSmallRefIdeal.τ).loc AdamSmallRefIdeal.main_arg10), m ((c : Thread AdamSmallRefIdeal.nD AdamSmallRefIdeal.τ).loc AdamSmallRefIdeal.main_arg14), m ((c : Thread AdamSmallRefIdeal.nD AdamSmallRefIdeal.τ).loc AdamSmallRefIdeal.main_arg18), m ((c : Thread AdamSmallRefIdeal.nD AdamSmallRefIdeal.τ).loc AdamSmallRefIdeal.main_arg22)⟩
def gs : Six := ⟨m ((c : Thread AdamSmallRefIdeal.nD AdamSmallRefIdeal.τ).loc AdamSmallRefIdeal.main_arg3), m ((c : Thread AdamSmallRefIdeal.nD AdamSmallRefIdeal.τ).loc AdamSmallRefIdeal.main_arg7), m ((c : Thread AdamSmallRefIdeal.nD AdamSmallRefIdeal.τ).loc AdamSmallRefIdeal.main_arg11), m ((c : Thread AdamSmallRefIdeal.nD AdamSmallRefIdeal.τ).loc AdamSmallRefIdeal.main_arg15), m ((c : Thread AdamSmallRefIdeal.nD AdamSmallRefIdeal.τ).loc AdamSmallRefIdeal.main_arg19), m ((c : Thread AdamSmallRefIdeal.nD AdamSmallRefIdeal.τ).loc AdamSmallRefIdeal.main_arg23)⟩

theorem algebraic : algebraic_AdamSmallIdeal_AdamSmallRefIdeal := by
  intro m g m' g' _ hag
  refine ⟨_, _, _, _, AdamSmallIdeal.Value.run_blocks m g, (θ_run AdamSmallRefIdeal.defs _ _).mono (fun r h c => ?_) (AdamSmallRefIdeal.Value.run m' g')⟩
  obtain ⟨a0, a1, a2, a3, a4, a5, a6, a7, a8, a9, a10, a11, a12, a13, a14, a15, a16, a17, a18, a19, a20, a21, a22, a23⟩ := hag c
  have ews : ws m' c = AdamSmallIdeal.Entry.ws m c := by
    unfold ws AdamSmallIdeal.Entry.ws
    rw [a0, a4, a8, a12, a16, a20]
  have ems : ms m' c = AdamSmallIdeal.Entry.ms m c := by
    unfold ms AdamSmallIdeal.Entry.ms
    rw [a1, a5, a9, a13, a17, a21]
  have evs : vs m' c = AdamSmallIdeal.Entry.vs m c := by
    unfold vs AdamSmallIdeal.Entry.vs
    rw [a2, a6, a10, a14, a18, a22]
  have egs : gs m' c = AdamSmallIdeal.Entry.gs m c := by
    unfold gs AdamSmallIdeal.Entry.gs
    rw [a3, a7, a11, a15, a19, a23]
  obtain ⟨h0, h1, h2, h3, hargs⟩ := h c
  have r0 := h0.trans ((val_main_v152_eq _).trans (v152_eq (gs m' c)))
  have r1 := h1.trans ((val_main_v161_eq _).trans (v161_eq (ws m' c) (ms m' c) (vs m' c) (gs m' c)))
  have r2 := h2.trans ((val_main_v170_eq _).trans (v170_eq (ws m' c) (ms m' c) (vs m' c) (gs m' c)))
  have r3 := h3.trans ((val_main_v179_eq _).trans (v179_eq (ws m' c) (ms m' c) (vs m' c) (gs m' c)))
  rw [egs] at r0
  rw [ews, ems, evs, egs] at r1 r2 r3
  refine ⟨r0.trans (funext fun i => ?_), r1.trans (funext fun i => ?_), r2.trans (funext fun i => ?_), r3.trans (funext fun i => ?_), hargs⟩
  all_goals
    obtain ⟨a, k, l, rfl⟩ : ∃ a k l, i = ix3 a k l := ⟨_, _, _, eq_ix3 i⟩
    obtain rfl : a = 0 := Subsingleton.elim _ _
  · exact (cast_apply _ k l).trans (AdamSmallIdeal.Entry.arr5 m c k l).symm
  · exact (cast_apply _ k l).trans ((flat_map _ delta_zero _ _ _ _ _).trans (AdamSmallIdeal.Entry.arr6 m c k l).symm)
  · exact (cast_apply _ k l).trans ((flat_map _ mom_zero _ _ _ _ _).trans (AdamSmallIdeal.Entry.arr7 m c k l).symm)
  · exact (cast_apply _ k l).trans ((flat_map _ var_zero _ _ _ _ _).trans (AdamSmallIdeal.Entry.arr8 m c k l).symm)

end Cert.AdamSmall

end
-- ==== Proof.Loss.lean ====
/- The last half step: the loss's cotangent, and the loss summed over the tiles of rows. -/
module

public import proofs.«01_k».proof.Proof.Ffn
public import proofs.«01_k».proof.Proof.Spec
public import proofs.«01_k».proof.Proof.Adam
public import proofs.«01_k».proof.Proof.Gen.LossIdeal.Value
public import proofs.«01_k».proof.Proof.Gen.LossRefIdeal.Run
public import proofs.«01_k».proof.Proof.Gen.LossRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

noncomputable section

namespace Cert.Step

open Idealize.ShloMosaic
open scoped BigOperators

variable (P : Par) (x t : Fin 1024 → EReal)

/-- How far a row's element is from its target. -/
def diff (l : Fin 1024) : EReal := next P x l - t l

def sq (l : Fin 1024) : EReal := diff P x t l * diff P x t l

/-- A factor that is a real number not below zero may be taken out of a sum. -/
theorem sum_mul_real {ι : Type} (s : Finset ι) (f : ι → EReal) {c : ℝ} (h : 0 ≤ c) : (∑ i ∈ s, f i) * (c : EReal) = ∑ i ∈ s, f i * (c : EReal) :=
  map_sum (⟨⟨fun a => a * (c : EReal), zero_mul _⟩, fun a b => EReal.right_distrib_of_nonneg_of_ne_top (EReal.coe_nonneg.mpr h) (EReal.coe_ne_top c) a b⟩ : EReal →+ EReal) f s

theorem ofBits_inv : Ideal.ofBits .f32 0x3A800000#32 = ((1 / 1024 : ℝ) : EReal) := by
  simp [Ideal.ofBits, Ideal.ieee, -EReal.coe_mul]; norm_num

theorem ofBits_half_inv : Ideal.ofBits .f32 0x3A000000#32 = ((1 / 2048 : ℝ) : EReal) := by
  simp [Ideal.ofBits, Ideal.ieee, -EReal.coe_mul]; norm_num

/-- The loss of all rows. -/
def loss (X T : Fin 8192 → Fin 1024 → EReal) : EReal := (∑ r, ∑ l, sq P (X r) (T r) l) * ((1 / 2048 : ℝ) : EReal)

/-- The cotangent's factor, as the derivative of the halved mean of squares gives it. -/
theorem factor (d : EReal) : Ideal.div (Ideal.ofBits .f32 0x3F000000#32 * Ideal.ofBits .f32 0x3F800000#32) (Ideal.ofBits .f32 0x44800000#32) * (Ideal.ofBits .f32 0x40000000#32 * d)
    = d * ((1 / 1024 : ℝ) : EReal) := by
  rw [Half.ofBits_half, Half.ofBits_one, Half.ofBits_width, Half.ofBits_two, ← EReal.coe_mul, Half.div_real (by norm_num), ← mul_assoc, ← EReal.coe_mul, mul_comm]
  norm_num

/-- Half the sum over the rows of their means of squares. -/
theorem halved (X T : Fin 8192 → Fin 1024 → EReal) :
    Ideal.ofBits .f32 0x3F000000#32 * (∑ r, Ideal.div (∑ l, sq P (X r) (T r) l) (Ideal.ofBits .f32 0x44800000#32)) = loss P X T := by
  simp only [Half.ofBits_half, Half.ofBits_width, Ideal.div_coe (show (1024 : ℝ) ≠ 0 by norm_num)]
  rw [← sum_mul_real _ _ (by norm_num : (0 : ℝ) ≤ 1 / 1024), mul_comm, mul_assoc, ← EReal.coe_mul]
  unfold loss
  norm_num

end Cert.Step

namespace Cert.LossIdeal.Entry

open Idealize.ShloMosaic Idealize.ShloMosaic.TcCoe Idealize.ShloMosaic.Tactic Idealize.SL.Sem Cert.LossIdeal Cert.LossIdeal.Gen Cert.LossIdeal.Value Cert.Step
open Cert.FfnIdeal.Entry (Blk ld2 hz)
open Cert.Adam (at2 at3)
open scoped BigOperators

/-! ## What the body computes -/

theorem diff_eq (v0 : Vec Ideal S512x1024 .f32) (t : Vec Ideal S1x1024 .f32) (f : FVec Ideal S512x1024 .f32) (y : Vec Ideal S512x1024 .f32) (r : Fin 512) (l : Fin 1024) :
    k0_pay1 v0 (k0_pay5 t) f (Scalar.ofBits .f32 0x3F000000#32) y (ix2 r l)
      = v0 (ix2 r l) + Ideal.ofBits .f32 0x3F000000#32 * t (ix2 0 l) * f (ix2 r l) - y (ix2 r l) := by
  pointwise [k0_pay1, k0_pay5]

theorem scaled_eq (v0 : Vec Ideal S512x1024 .f32) (t : FVec Ideal S1x1024 .f32) (f : FVec Ideal S512x1024 .f32) (k : Ideal .f32) (y : Vec Ideal S512x1024 .f32)
    (r : Fin 512) (l : Fin 1024) : k0_pay2 v0 t f k y (ix2 r l) = k0_pay1 v0 t f k y (ix2 r l) * Ideal.ofBits .f32 0x3A800000#32 := by
  pointwise [k0_pay2]

theorem total_eq (v0 : Vec Ideal S512x1024 .f32) (t : FVec Ideal S1x1024 .f32) (f : FVec Ideal S512x1024 .f32) (k : Ideal .f32) (y : Vec Ideal S512x1024 .f32)
    (a : Vec Ideal S8x128 .f32) (s : Fin 8) (q : Fin 128) : k0_pay4 v0 t f k y a (ix2 s q)
      = a (ix2 s q) + (∑ l : Fin 1024, ∑ r : Fin 512, k0_pay1 v0 t f k y (ix2 r l) * k0_pay1 v0 t f k y (ix2 r l)) * Ideal.ofBits .f32 0x3A000000#32 := by
  pointwise [k0_pay4]

/-! ## One point -/

variable {c : Dev nD} {i : grid0.Coords} {arg1 : Memref sig .tc .vmem S512x1024 .f32} {harg1 : arg1.IsWhole} {arg2 : Memref sig .tc .vmem S512x1024 .f32} {harg2 : arg2.IsWhole}
  {arg3 : Memref sig .tc .vmem S8x1024 .f32} {harg3 : arg3.IsWhole} {arg4 : Memref sig .tc .vmem S4x1024x1408 .bf16} {harg4 : arg4.IsWhole}
  {arg5 : Memref sig .tc .vmem S2816x1024 .bf16} {harg5 : arg5.IsWhole} {arg6 : Memref sig .tc .vmem S512x1024 .f32} {harg6 : arg6.IsWhole}
  {arg7 : Memref sig .tc .vmem S512x5632 .bf16} {harg7 : arg7.IsWhole} {arg8 : Memref sig .tc .vmem S512x1024 .bf16} {harg8 : arg8.IsWhole}
  {arg9 : Memref sig .tc .vmem S8x128 .f32} {harg9 : arg9.IsWhole} (hA : cond0_0 i) (hB : ¬cond0_0 i)
  {x0 y0 : Vec Ideal S512x1024 .f32} {x1 : Vec Ideal S8x1024 .f32} {x2 : Vec Ideal S4x1024x1408 .bf16} {x3 : Vec Ideal S2816x1024 .bf16} {xo : Vec Ideal S8x128 .f32}
  {P : Par} {X T : Fin 512 → Fin 1024 → EReal} (B : Blk P X x0 x1 x2 x3) (hT : ∀ r l, y0 (ix2 r l) = T r l)

/-- The step's own product, from the loads of the block. -/
abbrev outv (x0 : Vec Ideal S512x1024 .f32) (x1 : Vec Ideal S8x1024 .f32) (x2 : Vec Ideal S4x1024x1408 .bf16) (x3 : Vec Ideal S2816x1024 .bf16) : FVec Ideal S512x1024 .f32 :=
  FfnIdeal.Gen.k0_pay13 (FfnIdeal.Gen.k0_pay15 x0 x1 x2 x3) (FfnIdeal.Gen.k0_pay16 x0 x1 x2 x3) (FfnIdeal.Gen.k0_pay17 x0 x1 x2 x3) (FfnIdeal.Gen.k0_pay18 x0 x1 x2 x3)
    (View.ld x3 FfnIdeal.Gen.r0_9) (View.ld x2 FfnIdeal.Gen.r0_10) (View.ld x2 FfnIdeal.Gen.r0_11) (View.ld x3 FfnIdeal.Gen.r0_14)

/-- The distance from the target, from the loads of the block. -/
abbrev diffv (x0 y0 : Vec Ideal S512x1024 .f32) (x1 : Vec Ideal S8x1024 .f32) (x2 : Vec Ideal S4x1024x1408 .bf16) (x3 : Vec Ideal S2816x1024 .bf16) : FVec Ideal S512x1024 .f32 :=
  k0_pay1 (View.ld x0 (Rect.unit (s := S512x1024) ![0, 0] S512x1024.size inb_S512x1024_S512x1024_0_0))
    (k0_pay5 (View.ld x1 (Rect.unit (s := S8x1024) ![3, 0] S1x1024.size inb_S8x1024_S1x1024_3_0))) (outv x0 x1 x2 x3) (Scalar.ofBits .f32 0x3F000000#32)
    (View.ld y0 (Rect.unit (s := S512x1024) ![0, 0] S512x1024.size inb_S512x1024_S512x1024_0_0))

include B hT in
theorem diffB (r : Fin 512) (l : Fin 1024) : diffv x0 y0 x1 x2 x3 (ix2 r l) = diff P (X r) (T r) l := by
  refine (diff_eq _ _ _ _ r l).trans ?_
  rw [ld2 x0 0 0 _ r l r l (Nat.zero_add _).symm (Nat.zero_add _).symm, ld2 y0 0 0 _ r l r l (Nat.zero_add _).symm (Nat.zero_add _).symm,
    ld2 x1 3 0 _ 0 l 3 l rfl (Nat.zero_add _).symm, show outv x0 x1 x2 x3 (ix2 r l) = _ from FfnIdeal.Entry.outB B r l, B.x r l, B.gt l, hT r l]
  rfl

/-- The sum of the tile's squares. -/
def tileSq (P : Par) (X T : Fin 512 → Fin 1024 → EReal) : EReal := ∑ l, ∑ r, sq P (X r) (T r) l

include B hT in
theorem out5_A (r : Fin 512) (l : Fin 1024) : out0_A_5 c i arg1 harg1 arg2 harg2 arg3 harg3 arg4 harg4 arg5 harg5 arg6 harg6 arg7 harg7 arg8 harg8 arg9 harg9 hA x0 y0 x1 x2 x3 (ix2 r l) = diff P (X r) (T r) l * ((1 / 1024 : ℝ) : EReal) := by
  unfold out0_A_5
  rw [View.read_writes_eq_canon _ _ _ (cover0_A_5 c i arg1 harg1 arg2 harg2 arg3 harg3 arg4 harg4 arg5 harg5 arg6 harg6 arg7 harg7 arg8 harg8 arg9 harg9 hA x0 y0 x1 x2 x3)]
  unfold kernelRun0_A
  dsimp only
  sl_unfold_words
  rw [View.canon_unit_zero hz]
  simp only [View.readAt_eq_ld, harg1.read_unread, harg2.read_unread, harg3.read_unread, harg4.read_unread, harg5.read_unread]
  refine (scaled_eq _ _ _ _ _ r l).trans ?_
  rw [ofBits_inv]
  exact congrArg (· * _) (diffB B hT r l)

include B hT in
theorem out5_B (r : Fin 512) (l : Fin 1024) : out0_B_5 c i arg1 harg1 arg2 harg2 arg3 harg3 arg4 harg4 arg5 harg5 arg6 harg6 arg7 harg7 arg8 harg8 arg9 harg9 hB x0 y0 x1 x2 x3 xo (ix2 r l) = diff P (X r) (T r) l * ((1 / 1024 : ℝ) : EReal) := by
  unfold out0_B_5
  rw [View.read_writes_eq_canon _ _ _ (cover0_B_5 c i arg1 harg1 arg2 harg2 arg3 harg3 arg4 harg4 arg5 harg5 arg6 harg6 arg7 harg7 arg8 harg8 arg9 harg9 hB x0 y0 x1 x2 x3 xo)]
  unfold kernelRun0_B
  dsimp only
  sl_unfold_words
  rw [View.canon_unit_zero hz]
  simp only [View.readAt_eq_ld, harg1.read_unread, harg2.read_unread, harg3.read_unread, harg4.read_unread, harg5.read_unread]
  refine (scaled_eq _ _ _ _ _ r l).trans ?_
  rw [ofBits_inv]
  exact congrArg (· * _) (diffB B hT r l)

include B in
theorem out6_A (r : Fin 512) (k : Fin 5632) : out0_A_6 c i arg1 harg1 arg2 harg2 arg3 harg3 arg4 harg4 arg5 harg5 arg6 harg6 arg7 harg7 arg8 harg8 arg9 harg9 hA x0 y0 x1 x2 x3 (ix2 r k) = pre P (X r) k := by
  unfold out0_A_6
  rw [View.read_writes_eq_canon _ _ _ (cover0_A_6 c i arg1 harg1 arg2 harg2 arg3 harg3 arg4 harg4 arg5 harg5 arg6 harg6 arg7 harg7 arg8 harg8 arg9 harg9 hA x0 y0 x1 x2 x3)]
  unfold kernelRun0_A
  dsimp only
  sl_unfold_words
  simp only [View.readAt_eq_ld, harg1.read_unread, harg2.read_unread, harg3.read_unread, harg4.read_unread, harg5.read_unread]
  exact FfnIdeal.Entry.block5 B r k

include B in
theorem out6_B (r : Fin 512) (k : Fin 5632) : out0_B_6 c i arg1 harg1 arg2 harg2 arg3 harg3 arg4 harg4 arg5 harg5 arg6 harg6 arg7 harg7 arg8 harg8 arg9 harg9 hB x0 y0 x1 x2 x3 xo (ix2 r k) = pre P (X r) k := by
  unfold out0_B_6
  rw [View.read_writes_eq_canon _ _ _ (cover0_B_6 c i arg1 harg1 arg2 harg2 arg3 harg3 arg4 harg4 arg5 harg5 arg6 harg6 arg7 harg7 arg8 harg8 arg9 harg9 hB x0 y0 x1 x2 x3 xo)]
  unfold kernelRun0_B
  dsimp only
  sl_unfold_words
  simp only [View.readAt_eq_ld, harg1.read_unread, harg2.read_unread, harg3.read_unread, harg4.read_unread, harg5.read_unread]
  exact FfnIdeal.Entry.block5 B r k

include B in
theorem out7_A (r : Fin 512) (l : Fin 1024) : out0_A_7 c i arg1 harg1 arg2 harg2 arg3 harg3 arg4 harg4 arg5 harg5 arg6 harg6 arg7 harg7 arg8 harg8 arg9 harg9 hA x0 y0 x1 x2 x3 (ix2 r l) = out P (X r) l := by
  unfold out0_A_7
  rw [View.read_writes_eq_canon _ _ _ (cover0_A_7 c i arg1 harg1 arg2 harg2 arg3 harg3 arg4 harg4 arg5 harg5 arg6 harg6 arg7 harg7 arg8 harg8 arg9 harg9 hA x0 y0 x1 x2 x3)]
  unfold kernelRun0_A
  dsimp only
  sl_unfold_words
  rw [View.canon_unit_zero hz]
  simp only [View.readAt_eq_ld, harg1.read_unread, harg2.read_unread, harg3.read_unread, harg4.read_unread, harg5.read_unread]
  exact FfnIdeal.Entry.outB B r l

include B in
theorem out7_B (r : Fin 512) (l : Fin 1024) : out0_B_7 c i arg1 harg1 arg2 harg2 arg3 harg3 arg4 harg4 arg5 harg5 arg6 harg6 arg7 harg7 arg8 harg8 arg9 harg9 hB x0 y0 x1 x2 x3 xo (ix2 r l) = out P (X r) l := by
  unfold out0_B_7
  rw [View.read_writes_eq_canon _ _ _ (cover0_B_7 c i arg1 harg1 arg2 harg2 arg3 harg3 arg4 harg4 arg5 harg5 arg6 harg6 arg7 harg7 arg8 harg8 arg9 harg9 hB x0 y0 x1 x2 x3 xo)]
  unfold kernelRun0_B
  dsimp only
  sl_unfold_words
  rw [View.canon_unit_zero hz]
  simp only [View.readAt_eq_ld, harg1.read_unread, harg2.read_unread, harg3.read_unread, harg4.read_unread, harg5.read_unread]
  exact FfnIdeal.Entry.outB B r l

include B hT in
theorem total (a : Vec Ideal S8x128 .f32) (s : Fin 8) (q : Fin 128) : k0_pay4 (View.ld x0 (Rect.unit (s := S512x1024) ![0, 0] S512x1024.size inb_S512x1024_S512x1024_0_0))
      (k0_pay5 (View.ld x1 (Rect.unit (s := S8x1024) ![3, 0] S1x1024.size inb_S8x1024_S1x1024_3_0))) (outv x0 x1 x2 x3) (Scalar.ofBits .f32 0x3F000000#32)
      (View.ld y0 (Rect.unit (s := S512x1024) ![0, 0] S512x1024.size inb_S512x1024_S512x1024_0_0)) a (ix2 s q) = a (ix2 s q) + tileSq P X T * ((1 / 2048 : ℝ) : EReal) := by
  refine (total_eq _ _ _ _ _ a s q).trans (congrArg (a (ix2 s q) + ·) ?_)
  rw [ofBits_half_inv]
  exact congrArg (· * _) (Finset.sum_congr rfl fun l _ => Finset.sum_congr rfl fun r _ => congrArg₂ (· * ·) (diffB B hT r l) (diffB B hT r l))

include B hT in
theorem out8_A (s : Fin 8) (q : Fin 128) : out0_A_8 c i arg1 harg1 arg2 harg2 arg3 harg3 arg4 harg4 arg5 harg5 arg6 harg6 arg7 harg7 arg8 harg8 arg9 harg9 hA x0 y0 x1 x2 x3 (ix2 s q) = tileSq P X T * ((1 / 2048 : ℝ) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 hA x0 y0 x1 x2 x3)]
  unfold kernelRun0_A
  dsimp only
  sl_unfold_words
  rw [View.canon_cons_unit_zero hz]
  simp only [View.readAt_eq_ld, harg1.read_unread, harg2.read_unread, harg3.read_unread, harg4.read_unread, harg5.read_unread]
  refine (total B hT _ s q).trans ?_
  rw [View.readCov_eq_canon', View.canon_unit_zero hz]
  unfold k0_pay3
  exact (congrArg (· + _) Ideal.ofBits_zero_f32).trans (zero_add _)

include B hT in
theorem out8_B (s : Fin 8) (q : Fin 128) : out0_B_8 c i arg1 harg1 arg2 harg2 arg3 harg3 arg4 harg4 arg5 harg5 arg6 harg6 arg7 harg7 arg8 harg8 arg9 harg9 hB x0 y0 x1 x2 x3 xo (ix2 s q) = xo (ix2 s q) + tileSq P X T * ((1 / 2048 : ℝ) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 hB x0 y0 x1 x2 x3 xo)]
  unfold kernelRun0_B
  dsimp only
  sl_unfold_words
  rw [View.canon_unit_zero hz]
  simp only [View.readAt_eq_ld, harg1.read_unread, harg2.read_unread, harg3.read_unread, harg4.read_unread, harg5.read_unread, harg9.read_unread]
  refine (total B hT _ s q).trans (congrArg (· + _) ?_)
  exact ld2 xo 0 0 _ s q s q (Nat.zero_add _).symm (Nat.zero_add _).symm

/-! ## The arrays that the call starts from -/

variable (m : (ℓ : Loc nD τ sig) → Buf (Elt Ideal) ℓ) (d : Dev nD)

/-- An argument on device `d`. -/
abbrev A (b : Ref sig .tc) : Buf (Elt Ideal) ((d : Thread nD τ).loc b) := m ((d : Thread nD τ).loc b)

theorem V_w1 : V m d main_v2 = (FfnIdeal.Entry.blocks (A m d main_arg6) : S4x1024x1408.Idx → EReal) := by
  unfold V
  simp only [hostOps0]
  after_results
  rfl

theorem V_vec : V m d main_v9 = (FfnIdeal.Entry.rows (A m d main_arg2) (A m d main_arg3) (A m d main_arg4) (A m d main_arg5) : S8x1024.Idx → EReal) := by
  unfold V
  simp only [hostOps0]
  after_results
  rfl

theorem V_w2 : V m d main_v10 = (A m d main_arg7 : S2816x1024.Idx → EReal) := by
  unfold V
  simp only [hostOps0]
  after_results
  rfl

/-- Row `r` of point `t`'s block is this row of the array. -/
def rowOf (t : Fin cfg0.N) (r : Fin 512) : Fin 8192 := ⟨512 * t.val + r.val, by have := t.isLt; have hN : cfg0.N = 16 := N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)

theorem iblk0 (t : Fin cfg0.N) (r : Fin 512) (l : Fin 1024) :
    (iblk m d 0 t : Vec Ideal S512x1024 .f32) (ix2 r l) = (A m d main_arg0 : S8192x1024.Idx → EReal) (ix2 (rowOf t r) l) := by
  unfold iblk
  rw [View.read_apply]
  show V m d main_arg0 _ = _
  rw [V_main_arg0]
  refine congrArg (A m d main_arg0) (at2 _ _ _ ?_ ?_)
  · show win0_0.index t 0 * 512 + 1 * r.val = 512 * t.val + r.val; rw [(idx0 t).1]; omega
  · show win0_0.index t 1 * 1024 + 1 * l.val = l.val; rw [(idx0 t).2]; omega

theorem iblk1 (t : Fin cfg0.N) (r : Fin 512) (l : Fin 1024) :
    (iblk m d 1 t : Vec Ideal S512x1024 .f32) (ix2 r l) = (A m d main_arg1 : S8192x1024.Idx → EReal) (ix2 (rowOf t r) l) := by
  unfold iblk
  rw [View.read_apply]
  show V m d main_arg1 _ = _
  rw [V_main_arg1]
  refine congrArg (A m d main_arg1) (at2 _ _ _ ?_ ?_)
  · show win0_1.index t 0 * 512 + 1 * r.val = 512 * t.val + r.val; rw [(idx1 t).1]; omega
  · show win0_1.index t 1 * 1024 + 1 * l.val = l.val; rw [(idx1 t).2]; omega

theorem iblk2 (t : Fin cfg0.N) (s : Fin 8) (l : Fin 1024) : (iblk m d 2 t : Vec Ideal S8x1024 .f32) (ix2 s l)
    = FfnIdeal.Entry.rows (A m d main_arg2) (A m d main_arg3) (A m d main_arg4) (A m d main_arg5) (ix2 s l) := by
  unfold iblk
  rw [View.read_apply]
  show V m d main_v9 _ = _
  rw [V_vec]
  refine congrArg (FfnIdeal.Entry.rows _ _ _ _) (at2 _ _ _ ?_ ?_)
  · show win0_2.index t 0 * 8 + 1 * s.val = s.val; rw [(idx2 t).1]; omega
  · show win0_2.index t 1 * 1024 + 1 * l.val = l.val; rw [(idx2 t).2]; omega

theorem iblk3 (t : Fin cfg0.N) (q : Fin 4) (k : Fin 1024) (j : Fin 1408) :
    (iblk m d 3 t : Vec Ideal S4x1024x1408 .bf16) (ix3 q k j) = FfnIdeal.Entry.blocks (A m d main_arg6) (ix3 q k j) := by
  unfold iblk
  rw [View.read_apply]
  show V m d main_v2 _ = _
  rw [V_w1]
  refine congrArg (FfnIdeal.Entry.blocks _) (at3 _ _ _ _ ?_ ?_ ?_)
  · show win0_3.index t 0 * 4 + 1 * q.val = q.val; rw [(idx3 t).1]; omega
  · show win0_3.index t 1 * 1024 + 1 * k.val = k.val; rw [(idx3 t).2.1]; omega
  · show win0_3.index t 2 * 1408 + 1 * j.val = j.val; rw [(idx3 t).2.2]; omega

theorem iblk4 (t : Fin cfg0.N) (j : Fin 2816) (l : Fin 1024) :
    (iblk m d 4 t : Vec Ideal S2816x1024 .bf16) (ix2 j l) = (A m d main_arg7 : S2816x1024.Idx → EReal) (ix2 j l) := by
  unfold iblk
  rw [View.read_apply]
  show V m d main_v10 _ = _
  rw [V_w2]
  refine congrArg (A m d main_arg7) (at2 _ _ _ ?_ ?_)
  · show win0_4.index t 0 * 2816 + 1 * j.val = j.val; rw [(idx4 t).1]; omega
  · show win0_4.index t 1 * 1024 + 1 * l.val = l.val; rw [(idx4 t).2]; omega

/-- The parameters on device `d`. -/
abbrev par : Par := params (A m d main_arg2) (A m d main_arg3) (A m d main_arg4) (A m d main_arg5) (A m d main_arg6) (A m d main_arg7)

/-- A row of the input and of the target on device `d`. -/
abbrev inp (r : Fin 8192) : Fin 1024 → EReal := row (A m d main_arg0) r
abbrev tgt (r : Fin 8192) : Fin 1024 → EReal := row (A m d main_arg1) r

theorem blk (t : Fin cfg0.N) : Blk (par m d) (fun r => inp m d (rowOf t r)) (iblk m d 0 t) (iblk m d 2 t) (iblk m d 3 t) (iblk m d 4 t) where
  x r l := iblk0 m d t r l
  ng l := (iblk2 m d t 0 l).trans (FfnIdeal.Entry.rows_apply _ _ _ _ l).1
  sc l := (iblk2 m d t 1 l).trans (FfnIdeal.Entry.rows_apply _ _ _ _ l).2.1
  sh l := (iblk2 m d t 2 l).trans (FfnIdeal.Entry.rows_apply _ _ _ _ l).2.2.1
  gt l := (iblk2 m d t 3 l).trans (FfnIdeal.Entry.rows_apply _ _ _ _ l).2.2.2
  w1 q k j := (iblk3 m d t q k j).trans (FfnIdeal.Entry.blocks_apply _ q k j)
  w2 j l := iblk4 m d t j l

/-! ## The results -/

/-- The point that holds a row, and the row's place in its block. -/
def ptOf (r : Fin 8192) : Fin cfg0.N := ⟨r.val / 512, by have hN : cfg0.N = 16 := N_0; omega⟩
def inOf (r : Fin 8192) : Fin 512 := ⟨r.val % 512, by omega⟩
theorem rowOf_ptOf (r : Fin 8192) : rowOf (ptOf r) (inOf r) = r := Fin.ext (by show 512 * (r.val / 512) + r.val % 512 = r.val; omega)

theorem block5 (t : Fin cfg0.N) (r : Fin 512) (l : Fin 1024) : ((dats m 0 d).flushed 5 t : Vec Ideal S512x1024 .f32) (ix2 r l)
    = diff (par m d) (inp m d (rowOf t r)) (tgt m d (rowOf t r)) l * ((1 / 1024 : ℝ) : EReal) := by
  by_cases h : t.val % 16 = 0
  · rw [flushed5_A m d t h]
    exact out5_A _ (blk m d t) (iblk1 m d t) r l
  · rw [flushed5_B m d t h]
    exact out5_B _ (blk m d t) (iblk1 m d t) r l

theorem block6 (t : Fin cfg0.N) (r : Fin 512) (k : Fin 5632) : ((dats m 0 d).flushed 6 t : Vec Ideal S512x5632 .bf16) (ix2 r k)
    = pre (par m d) (inp m d (rowOf t r)) k := by
  by_cases h : t.val % 16 = 0
  · rw [flushed6_A m d t h]
    exact out6_A _ (blk m d t) r k
  · rw [flushed6_B m d t h]
    exact out6_B _ (blk m d t) r k

theorem block7 (t : Fin cfg0.N) (r : Fin 512) (l : Fin 1024) : ((dats m 0 d).flushed 7 t : Vec Ideal S512x1024 .bf16) (ix2 r l)
    = out (par m d) (inp m d (rowOf t r)) l := by
  by_cases h : t.val % 16 = 0
  · rw [flushed7_A m d t h]
    exact out7_A _ (blk m d t) r l
  · rw [flushed7_B m d t h]
    exact out7_B _ (blk m d t) r l

theorem arr5 (r : Fin 8192) (l : Fin 1024) : ((dats m 0 d).arrAt 5 cfg0.N : S8192x1024.Idx → EReal) (ix2 r l)
    = diff (par m d) (inp m d r) (tgt m d r) l * ((1 / 1024 : ℝ) : EReal) := by
  have h := congrFun (blocks5 m d (ptOf r) (flush0_5 _)) (ix2 (inOf r) l)
  rw [View.read_apply] at h
  have e := h.trans (block5 m d (ptOf r) (inOf r) l)
  rw [rowOf_ptOf] at e
  rw [← e]
  refine congrArg ((dats m 0 d).arrAt 5 cfg0.N) (at2 r l _ ?_ ?_).symm
  · show win0_5.index (ptOf r) 0 * 512 + 1 * (r.val % 512) = r.val; rw [(idx5 _).1]; show r.val / 512 * 512 + _ = _; omega
  · show win0_5.index (ptOf r) 1 * 1024 + 1 * l.val = l.val; rw [(idx5 _).2]; omega

theorem arr6 (r : Fin 8192) (k : Fin 5632) : ((dats m 0 d).arrAt 6 cfg0.N : S8192x5632.Idx → EReal) (ix2 r k) = pre (par m d) (inp m d r) k := by
  have h := congrFun (blocks6 m d (ptOf r) (flush0_6 _)) (ix2 (inOf r) k)
  rw [View.read_apply] at h
  have e := h.trans (block6 m d (ptOf r) (inOf r) k)
  rw [rowOf_ptOf] at e
  rw [← e]
  refine congrArg ((dats m 0 d).arrAt 6 cfg0.N) (at2 r k _ ?_ ?_).symm
  · show win0_6.index (ptOf r) 0 * 512 + 1 * (r.val % 512) = r.val; rw [(idx6 _).1]; show r.val / 512 * 512 + _ = _; omega
  · show win0_6.index (ptOf r) 1 * 5632 + 1 * k.val = k.val; rw [(idx6 _).2]; omega

theorem arr7 (r : Fin 8192) (l : Fin 1024) : ((dats m 0 d).arrAt 7 cfg0.N : S8192x1024.Idx → EReal) (ix2 r l) = out (par m d) (inp m d r) l := by
  have h := congrFun (blocks7 m d (ptOf r) (flush0_7 _)) (ix2 (inOf r) l)
  rw [View.read_apply] at h
  have e := h.trans (block7 m d (ptOf r) (inOf r) l)
  rw [rowOf_ptOf] at e
  rw [← e]
  refine congrArg ((dats m 0 d).arrAt 7 cfg0.N) (at2 r l _ ?_ ?_).symm
  · show win0_7.index (ptOf r) 0 * 512 + 1 * (r.val % 512) = r.val; rw [(idx7 _).1]; show r.val / 512 * 512 + _ = _; omega
  · show win0_7.index (ptOf r) 1 * 1024 + 1 * l.val = l.val; rw [(idx7 _).2]; omega

/-! ## The loss -/

/-- The squares of point `t`'s rows. -/
def ptSq (t : Fin cfg0.N) : EReal := tileSq (par m d) (fun r => inp m d (rowOf t r)) (fun r => tgt m d (rowOf t r))

theorem first8 (t : Fin cfg0.N) (h : t.val % 16 = 0) (s : Fin 8) (q : Fin 128) :
    (outsAt0 m d t.val t.isLt).2.2.2 (ix2 s q) = ptSq m d t * ((1 / 2048 : ℝ) : EReal) := by
  simp only [outsAt0_A m d t h]
  exact out8_A ((hcond0_0 t).mpr h) (blk m d t) (iblk1 m d t) s q

theorem later8 (t : Fin cfg0.N) (h : ¬t.val % 16 = 0) (s : Fin 8) (q : Fin 128) : (outsAt0 m d t.val t.isLt).2.2.2 (ix2 s q)
    = (outsAt0 m d (t.val - 1) (lt_of_le_of_lt (Nat.sub_le _ _) t.isLt)).2.2.2 (ix2 s q) + ptSq m d t * ((1 / 2048 : ℝ) : EReal) := by
  simp only [outsAt0_B m d t h]
  exact out8_B (fun e => h ((hcond0_0 t).mp e)) (blk m d t) (iblk1 m d t) s q

theorem outs8 (s : Fin 8) (q : Fin 128) : ∀ (n : Nat) (h : n < cfg0.N), (outsAt0 m d n h).2.2.2 (ix2 s q)
    = ∑ t : Fin (n + 1), ptSq m d ⟨t.val, by omega⟩ * ((1 / 2048 : ℝ) : EReal)
  | 0, h => by
    rw [Fin.sum_univ_one]
    exact first8 m d ⟨0, h⟩ rfl s q
  | n + 1, h => by
    have hN : cfg0.N = 16 := N_0
    have hB : ¬(⟨n + 1, h⟩ : Fin cfg0.N).val % 16 = 0 := by dsimp only; omega
    rw [Fin.sum_univ_castSucc]
    exact (later8 m d ⟨n + 1, h⟩ hB s q).trans <| congrArg (· + _) (outs8 s q n (Nat.lt_of_succ_lt h))

/-- All 16 points together: every row once. -/
theorem all_rows (h : 15 < cfg0.N) : (∑ t : Fin 16, ptSq m d ⟨t.val, by omega⟩ * ((1 / 2048 : ℝ) : EReal)) = loss (par m d) (inp m d) (tgt m d) := by
  rw [← sum_mul_real _ _ (by norm_num : (0 : ℝ) ≤ 1 / 2048)]
  unfold loss ptSq tileSq
  refine congrArg (· * _) ?_
  simp only [Finset.sum_comm (s := (Finset.univ : Finset (Fin 1024)))]
  rw [← Fintype.sum_prod_type']
  refine Fintype.sum_equiv (finProdFinEquiv (m := 16) (n := 512)) _ _ fun x => ?_
  have e : rowOf (⟨x.1.val, by have := x.1.isLt; omega⟩ : Fin cfg0.N) x.2 = finProdFinEquiv (m := 16) (n := 512) x :=
    Fin.ext (by show 512 * x.1.val + x.2.val = x.2.val + 512 * x.1.val; omega)
  rw [e]

theorem block8 (t : Fin cfg0.N) (hf : (cfg0.win 8).flush t = true) :
    ((cfg0.win 8).blk t).view.read (Elt Ideal) ((dats m 0 d).arrAt 8 cfg0.N) = (dats m 0 d).flushed 8 t :=
  (dats m 0 d).read_blk_arrAt_eq_flushed 8 (fun t t' hf hf' ne => absurd (Fin.ext (by
    have hN : cfg0.N = 16 := N_0
    have := (flush0_8 t).mp hf; have := (flush0_8 t').mp hf'; have := t.isLt; have := t'.isLt; omega)) ne) cfg0.N t t.isLt hf

theorem arr8_at (t : Fin cfg0.N) (ht : t.val % 16 = 15) (s : Fin 8) (q : Fin 128) :
    ((dats m 0 d).arrAt 8 cfg0.N : S8x128.Idx → EReal) (ix2 s q) = (outsAt0 m d t.val t.isLt).2.2.2 (ix2 s q) := by
  have h := congrFun (block8 m d t ((flush0_8 t).mpr ht)) (ix2 s q)
  rw [View.read_apply, flushed8] at h
  refine Eq.trans ?_ h
  refine congrArg ((dats m 0 d).arrAt 8 cfg0.N) (at2 s q _ ?_ ?_).symm
  · show win0_8.index t 0 * 8 + 1 * s.val = s.val; rw [(idx8 t).1]; omega
  · show win0_8.index t 1 * 128 + 1 * q.val = q.val; rw [(idx8 t).2]; omega

theorem arr8 (s : Fin 8) (q : Fin 128) : ((dats m 0 d).arrAt 8 cfg0.N : S8x128.Idx → EReal) (ix2 s q) = loss (par m d) (inp m d) (tgt m d) := by
  have last : 15 < cfg0.N := by have hN : cfg0.N = 16 := N_0; omega
  exact (arr8_at m d ⟨15, last⟩ rfl s q).trans ((outs8 m d s q 15 last).trans (all_rows m d last))

end Cert.LossIdeal.Entry

namespace Cert.Loss

open Idealize.ShloMosaic Idealize.ShloMosaic.TcCoe Idealize.ShloMosaic.Tactic Idealize.SL.Sem Cert.LossRefIdeal Cert.LossRefIdeal.Read Cert.Step
open scoped BigOperators

variable (x y : Vec Ideal S8192x1024 .f32) (ng sc sh gt : Vec Ideal S1024 .f32) (w1 : Vec Ideal S1024x5632 .f32) (w2 : Vec Ideal S2816x1024 .f32)

theorem v21 (r : Fin 8192) (j : Fin 5632) : val_main_v21 (F := Ideal) x ng sc sh w1 (ix2 r j) = pre (params ng sc sh gt w1 w2) (row x r) j :=
  Ffn.v21 x ng sc sh gt w1 w2 r j

theorem v26 (r : Fin 8192) (l : Fin 1024) : val_main_v26 (F := Ideal) x ng sc sh w1 w2 (ix2 r l) = out (params ng sc sh gt w1 w2) (row x r) l :=
  Ffn.v26 x ng sc sh gt w1 w2 r l

theorem v32 (r : Fin 8192) (l : Fin 1024) : val_main_v32 (F := Ideal) x ng sc sh gt w1 w2 (ix2 r l) = next (params ng sc sh gt w1 w2) (row x r) l :=
  Ffn.v32 x ng sc sh gt w1 w2 r l

theorem v33 (r : Fin 8192) (l : Fin 1024) :
    val_main_v33 (F := Ideal) x y ng sc sh gt w1 w2 (ix2 r l) = diff (params ng sc sh gt w1 w2) (row x r) (row y r) l := by
  pointwise [val_main_v33]
  rw [v32]
  rfl

theorem v47 (r : Fin 8192) (l : Fin 1024) : val_main_v47 (F := Ideal) x y ng sc sh gt w1 w2 (ix2 r l)
    = diff (params ng sc sh gt w1 w2) (row x r) (row y r) l * ((1 / 1024 : ℝ) : EReal) := by
  rw [← factor, ← v33]
  pointwise [val_main_v47, val_main_v46, val_main_v45, val_main_v44, val_main_cst_11, val_main_v43, val_main_v42, val_main_cst_10, val_main_cst_9, val_main_v36, val_main_v35, val_main_cst_4]

theorem v50 (s : Fin 8) (q : Fin 128) : val_main_v50 (F := Ideal) x y ng sc sh gt w1 w2 (ix2 s q) = loss (params ng sc sh gt w1 w2) (row x) (row y) := by
  rw [← halved]
  unfold Step.sq
  simp only [← v33]
  pointwise [val_main_v50, val_main_v41, val_main_cst_8, val_main_v40, val_main_cst_7, val_main_v39, val_main_v38, val_main_cst_6, val_main_v37, val_main_cst_5, val_main_v34]

theorem algebraic : algebraic_LossIdeal_LossRefIdeal := by
  intro m g m' g' _ hag
  refine ⟨_, _, _, _, LossIdeal.Value.run_blocks m g, (θ_run LossRefIdeal.defs _ _).mono (fun r h c => ?_) (LossRefIdeal.Value.run m' g')⟩
  obtain ⟨a0, a1, a2, a3, a4, a5, a6, a7⟩ := hag c
  obtain ⟨h0, h1, h2, h3, hargs⟩ := h c
  refine ⟨h0.trans ((val_main_v47_eq _ _).trans (funext fun i => ?_)), h1.trans ((val_main_v48_eq _ _ _ _ _).trans (funext fun i => ?_)),
    h2.trans ((val_main_v49_eq _ _).trans (funext fun i => ?_)), h3.trans ((val_main_v50_eq _ _).trans (funext fun i => ?_)), hargs⟩
  · rw [a0, a1, a2, a3, a4, a5, a6, a7, eq_ix2 i]
    exact (v47 _ _ _ _ _ _ _ _ _ _).trans (LossIdeal.Entry.arr5 m c _ _).symm
  · rw [a0, a2, a3, a4, a6, eq_ix2 i]
    exact (v21 _ _ _ _ (LossIdeal.Entry.A m c LossIdeal.main_arg5) _ (LossIdeal.Entry.A m c LossIdeal.main_arg7) _ _).trans (LossIdeal.Entry.arr6 m c _ _).symm
  · rw [a0, a2, a3, a4, a6, a7, eq_ix2 i]
    exact (v26 _ _ _ _ (LossIdeal.Entry.A m c LossIdeal.main_arg5) _ _ _ _).trans (LossIdeal.Entry.arr7 m c _ _).symm
  · rw [a0, a1, a2, a3, a4, a5, a6, a7, eq_ix2 i]
    exact (v50 _ _ _ _ _ _ _ _ _ _).trans (LossIdeal.Entry.arr8 m c _ _).symm

end Cert.Loss

end
-- ==== Proof.Mod.lean ====
/- The modulation from the conditioning. -/
module

public import proofs.«01_k».proof.Proof.Wada
public import proofs.«01_k».proof.Proof.Gen.ModIdeal.Value
public import proofs.«01_k».proof.Proof.Gen.ModRefIdeal.Run
public import proofs.«01_k».proof.Proof.Gen.ModRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.ModIdeal.Entry

open Idealize.ShloMosaic Idealize.ShloMosaic.TcCoe Idealize.ShloMosaic.Tactic Idealize.SL.Sem Cert.ModIdeal Cert.ModIdeal.Gen Cert.ModIdeal.Value Cert.Adam Cert.Wada
open scoped BigOperators

theorem block (x0 : Vec Ideal S8x1024 .f32) (x1 : Vec Ideal S1x1024x2304 .f32) (x2 : Vec Ideal S1x1x2304 .f32) (b : Fin 8) (l : Fin 2304) :
    out0_3 x0 x1 x2 (ix3 0 b l) = (∑ k : Fin 1024, silu (x0 (ix2 b k)) * x1 (ix3 0 k l)) + x2 (ix3 0 0 l) := by
  unfold out0_3
  rw [View.canon_unit_zero hz3, ld2, ld3, ld3]
  pointwise [k0_pay1]
  rfl

variable (m : (ℓ : Loc nD τ sig) → Buf (Elt Ideal) ℓ) (c : Dev nD)

/-- An argument on device `c`. -/
abbrev A (b : Ref sig .tc) : Buf (Elt Ideal) ((c : Thread nD τ).loc b) := m ((c : Thread nD τ).loc b)

/-- The bias with a row for each layer. -/
def bias (x : Vec Ideal S2x2304 .f32) : Vec Ideal S2x1x2304 .f32 := shapeCast S2x1x2304 x shapeCasts_S2x2304_S2x1x2304

theorem bias_apply (x : Vec Ideal S2x2304 .f32) (p : Fin 2) (l : Fin 2304) : bias x (ix3 p 0 l) = x (ix2 p l) := by
  pointwise [bias]

theorem V_b : V m c main_v0 = (bias (A m c main_arg2) : S2x1x2304.Idx → EReal) := by
  unfold V
  simp only [hostOps0]
  after_results
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The point that computes a layer. -/
def ptOf (p : Fin 2) : Fin cfg0.N := ⟨p.val, by have hN : cfg0.N = 2 := N_0; omega⟩

theorem iblk0 (t : Fin cfg0.N) (b : Fin 8) (k : Fin 1024) : (iblk m c 0 t : Vec Ideal S8x1024 .f32) (ix2 b k) = (A m c main_arg0 : S8x1024.Idx → EReal) (ix2 b k) := by
  unfold iblk
  rw [View.read_apply]
  show V m c main_arg0 _ = _
  rw [V_main_arg0]
  refine congrArg (A m c main_arg0) (at2 b k _ ?_ ?_)
  · show win0_0.index t 0 * 8 + 1 * b.val = b.val; rw [(idx0 t).1]; omega
  · show win0_0.index t 1 * 1024 + 1 * k.val = k.val; rw [(idx0 t).2]; omega

theorem iblk1 (p : Fin 2) (k : Fin 1024) (l : Fin 2304) :
    (iblk m c 1 (ptOf p) : Vec Ideal S1x1024x2304 .f32) (ix3 0 k l) = (A m c main_arg1 : S2x1024x2304.Idx → EReal) (ix3 p k l) := by
  unfold iblk
  rw [View.read_apply]
  show V m c main_arg1 _ = _
  rw [V_main_arg1]
  refine congrArg (A m c main_arg1) (at3 p k l _ ?_ ?_ ?_)
  · show win0_1.index (ptOf p) 0 * 1 + 1 * 0 = p.val; rw [(idx1 _).1]; show p.val * 1 + 1 * 0 = _; omega
  · show win0_1.index (ptOf p) 1 * 1024 + 1 * k.val = k.val; rw [(idx1 _).2.1]; omega
  · show win0_1.index (ptOf p) 2 * 2304 + 1 * l.val = l.val; rw [(idx1 _).2.2]; omega

theorem iblk2 (p : Fin 2) (l : Fin 2304) :
    (iblk m c 2 (ptOf p) : Vec Ideal S1x1x2304 .f32) (ix3 0 0 l) = bias (A m c main_arg2) (ix3 p 0 l) := by
  unfold iblk
  rw [View.read_apply]
  show V m c main_v0 _ = _
  rw [V_b]
  refine congrArg (bias _) (at3 p 0 l _ ?_ ?_ ?_)
  · show win0_2.index (ptOf p) 0 * 1 + 1 * 0 = p.val; rw [(idx2 _).1]; show p.val * 1 + 1 * 0 = _; omega
  · show win0_2.index (ptOf p) 1 * 1 + 1 * 0 = 0; rw [(idx2 _).2.1]
  · show win0_2.index (ptOf p) 2 * 2304 + 1 * l.val = l.val; rw [(idx2 _).2.2]; omega

theorem arr (p : Fin 2) (b : Fin 8) (l : Fin 2304) : ((dats m 0 c).arrAt 3 cfg0.N : S2x8x2304.Idx → EReal) (ix3 p b l)
    = (∑ k : Fin 1024, silu ((A m c main_arg0 : S8x1024.Idx → EReal) (ix2 b k)) * (A m c main_arg1 : S2x1024x2304.Idx → EReal) (ix3 p k l))
      + (A m c main_arg2 : S2x2304.Idx → EReal) (ix2 p l) := by
  have h := congrFun (blocks3 m c (ptOf p) (flush0_3 _)) (ix3 0 b l)
  rw [View.read_apply, flushed3] at h
  have e := h.trans (block _ _ _ b l)
  simp only [iblk0, iblk1, iblk2, bias_apply] at e
  rw [← e]
  refine congrArg ((dats m 0 c).arrAt 3 cfg0.N) (at3 p b l _ ?_ ?_ ?_).symm
  · show win0_3.index (ptOf p) 0 * 1 + 1 * 0 = p.val; rw [(idx3 _).1]; show p.val * 1 + 1 * 0 = _; omega
  · show win0_3.index (ptOf p) 1 * 8 + 1 * b.val = b.val; rw [(idx3 _).2.1]; omega
  · show win0_3.index (ptOf p) 2 * 2304 + 1 * l.val = l.val; rw [(idx3 _).2.2]; omega

end Cert.ModIdeal.Entry

namespace Cert.Mod
open Idealize.ShloMosaic Idealize.ShloMosaic.TcCoe Idealize.ShloMosaic.Tactic Idealize.SL.Sem Cert.ModRefIdeal Cert.ModRefIdeal.Read Cert.Wada

open scoped BigOperators
theorem refAt (x0 : Vec Ideal S8x1024 .f32) (x1 : Vec Ideal S2x1024x2304 .f32) (x2 : Vec Ideal S2x2304 .f32) (p : Fin 2) (b : Fin 8) (l : Fin 2304) :
    val_main_v20 (F := Ideal) x0 x1 x2 (ix3 p b l) = (∑ k : Fin 1024, silu (x0 (ix2 b k)) * x1 (ix3 p k l)) + x2 (ix2 p l) := by
  rw [← val_main_v20_eq]
  match p with
  | ⟨0, _⟩ =>
    pointwise []
    rfl
  | ⟨1, _⟩ =>
    pointwise []
    rfl

theorem algebraic : algebraic_ModIdeal_ModRefIdeal := by
  intro m g m' g' _ hag
  refine ⟨_, ModIdeal.Value.run_blocks m g, (θ_run ModRefIdeal.defs _ _).mono (fun r h c => ?_) (ModRefIdeal.Value.run m' g')⟩
  obtain ⟨a0, a1, a2⟩ := hag c
  obtain ⟨h0, h1⟩ := h c
  refine ⟨h0.trans ((val_main_v20_eq _ _ _).trans (funext fun i => ?_)), h1⟩
  rw [a0, a1, a2, eq_ix3 i]
  exact (refAt _ _ _ _ _ _).trans (ModIdeal.Entry.arr m c _ _ _).symm

end Cert.Mod

end
-- ==== Proof.Chips.lean ====
/- The sum of the chips' shares of a large gradient. -/
module

public import proofs.«01_k».proof.Proof.Adam
public import proofs.«01_k».proof.Proof.Gen.ChipsIdeal.Value
public import proofs.«01_k».proof.Proof.Gen.ChipsRefIdeal.Run
public import proofs.«01_k».proof.Proof.Gen.ChipsRefIdeal.Read
public import proofs.«01_k».proof.Defs
public import Idealize.ShloMosaic.Lib.Quiescent
public import Idealize.ShloMosaic.Lib.Pointwise
public import Idealize.ShloMosaic.Lib.Pipeline.ValueKit.Tiles
public import Idealize.ShloMosaic.Lib.WritesUnit

@[expose] public section

set_option maxRecDepth 16384

noncomputable section

namespace Cert.ChipsIdeal.Entry

open Idealize.ShloMosaic Idealize.ShloMosaic.TcCoe Idealize.ShloMosaic.Tactic Idealize.SL.Sem Cert.ChipsIdeal Cert.ChipsIdeal.Gen Cert.ChipsIdeal.Value Cert.Adam
open scoped BigOperators

theorem part (x : Vec Ideal S4x256x1408 .bf16) (o : Nat) (inb) (q : Fin 4) (h : q.val = o) (r : Fin 256) (l : Fin 1408) :
    View.ld x (Rect.unit (s := S4x256x1408) ![o, 0, 0] S1x256x1408.size inb) (ix3 0 r l) = x (ix3 q r l) := by
  refine congrArg x (at3 q r l _ ?_ ?_ ?_)
  · show o + 1 * 0 = q.val; omega
  · show 0 + 1 * r.val = r.val; omega
  · show 0 + 1 * l.val = l.val; omega

theorem block (x : Vec Ideal S4x256x1408 .bf16) (r : Fin 256) (l : Fin 1408) : out0_1 x (ix2 r l) = ∑ q : Fin 4, x (ix3 q r l) := by
  unfold out0_1
  rw [View.canon_unit_zero hz2, Fin.sum_univ_four]
  pointwise [k0_pay1]

variable (m : (ℓ : Loc nD τ sig) → Buf (Elt Ideal) ℓ) (c : Dev nD)

/-- The argument on device `c`. -/
abbrev X : S4x512x1408.Idx → EReal := m ((c : Thread nD τ).loc main_arg0)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The point that holds a row, and the row's place in its block. -/
def ptOf (r : Fin 512) : Fin cfg0.N := ⟨r.val / 256, by have hN : cfg0.N = 2 := N_0; omega⟩
def inOf (r : Fin 512) : Fin 256 := ⟨r.val % 256, by omega⟩

theorem iblk0 (q : Fin 4) (r : Fin 512) (l : Fin 1408) : (iblk m c 0 (ptOf r) : Vec Ideal S4x256x1408 .bf16) (ix3 q (inOf r) l) = X m c (ix3 q r l) := by
  unfold iblk
  rw [View.read_apply]
  show V m c main_arg0 _ = _
  rw [V_main_arg0]
  refine congrArg (X m c) (at3 q r l _ ?_ ?_ ?_)
  · show win0_0.index (ptOf r) 0 * 4 + 1 * q.val = q.val; rw [(idx0 _).1]; omega
  · show win0_0.index (ptOf r) 1 * 256 + 1 * (r.val % 256) = r.val; rw [(idx0 _).2.1]; show r.val / 256 * 256 + _ = _; omega
  · show win0_0.index (ptOf r) 2 * 1408 + 1 * l.val = l.val; rw [(idx0 _).2.2]; omega

theorem arr (r : Fin 512) (l : Fin 1408) : ((dats m 0 c).arrAt 1 cfg0.N : S512x1408.Idx → EReal) (ix2 r l) = ∑ q : Fin 4, X m c (ix3 q r l) := by
  have h := congrFun (blocks1 m c (ptOf r) (flush0_1 _)) (ix2 (inOf r) l)
  rw [View.read_apply, flushed1] at h
  have e := h.trans (block _ (inOf r) l)
  simp only [iblk0] at e
  rw [← e]
  refine congrArg ((dats m 0 c).arrAt 1 cfg0.N) (at2 r l _ ?_ ?_).symm
  · show win0_1.index (ptOf r) 0 * 256 + 1 * (r.val % 256) = r.val; rw [(idx1 _).1]; show r.val / 256 * 256 + _ = _; omega
  · show win0_1.index (ptOf r) 1 * 1408 + 1 * l.val = l.val; rw [(idx1 _).2]; omega

end Cert.ChipsIdeal.Entry

namespace Cert.Chips
open Idealize.ShloMosaic Idealize.ShloMosaic.TcCoe Idealize.ShloMosaic.Tactic Idealize.SL.Sem Cert.ChipsRefIdeal Cert.ChipsRefIdeal.Read

open scoped BigOperators
theorem refAt (x : Vec Ideal S4x512x1408 .bf16) (r : Fin 512) (l : Fin 1408) : val_main_v1 (F := Ideal) x (ix2 r l) = ∑ q : Fin 4, x (ix3 q r l) := by
  rw [← val_main_v1_eq]
  pointwise []

theorem algebraic : algebraic_ChipsIdeal_ChipsRefIdeal := by
  intro m g m' g' _ hag
  refine ⟨_, ChipsIdeal.Value.run_blocks m g, (θ_run ChipsRefIdeal.defs _ _).mono (fun r h c => ?_) (ChipsRefIdeal.Value.run m' g')⟩
  obtain ⟨h0, h1⟩ := h c
  refine ⟨h0.trans ((val_main_v1_eq _).trans (funext fun i => ?_)), h1⟩
  rw [hag c, eq_ix2 i]
  exact (refAt _ _ _).trans (ChipsIdeal.Entry.arr m c _ _).symm

end Cert.Chips

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Equal
public import proofs.«01_k».proof.Proof.W1
public import proofs.«01_k».proof.Proof.W2
public import proofs.«01_k».proof.Proof.Win
public import proofs.«01_k».proof.Proof.Wout
public import proofs.«01_k».proof.Proof.Ffn
public import proofs.«01_k».proof.Proof.Sum
public import proofs.«01_k».proof.Proof.Wada
public import proofs.«01_k».proof.Proof.AdamWada
public import proofs.«01_k».proof.Proof.AdamWin
public import proofs.«01_k».proof.Proof.AdamWout
public import proofs.«01_k».proof.Proof.AdamW1
public import proofs.«01_k».proof.Proof.AdamW2
public import proofs.«01_k».proof.Proof.AdamSmall
public import proofs.«01_k».proof.Proof.Loss
public import proofs.«01_k».proof.Proof.Mod
public import proofs.«01_k».proof.Proof.Chips
public import Idealize.ShloMosaic.Lib.Quiescent
public import Idealize.ShloMosaic.Adequacy
public import Idealize.ShloMosaic.Init
public import proofs.«01_k».proof.Proof.Gen.W1.Frame
public import proofs.«01_k».proof.Proof.Gen.W1Ideal.Value
public import proofs.«01_k».proof.Proof.Gen.W1RefIdeal.Run
public import proofs.«01_k».proof.Proof.Gen.W1RefIdeal.Read
public import proofs.«01_k».proof.Proof.Gen.W2.Frame
public import proofs.«01_k».proof.Proof.Gen.W2Ideal.Value
public import proofs.«01_k».proof.Proof.Gen.W2RefIdeal.Run
public import proofs.«01_k».proof.Proof.Gen.W2RefIdeal.Read
public import proofs.«01_k».proof.Proof.Gen.Win.Frame
public import proofs.«01_k».proof.Proof.Gen.WinIdeal.Value
public import proofs.«01_k».proof.Proof.Gen.WinRefIdeal.Run
public import proofs.«01_k».proof.Proof.Gen.WinRefIdeal.Read
public import proofs.«01_k».proof.Proof.Gen.Wout.Frame
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Sum.Frame
public import proofs.«01_k».proof.Proof.Gen.SumIdeal.Value
public import proofs.«01_k».proof.Proof.Gen.SumRefIdeal.Run
public import proofs.«01_k».proof.Proof.Gen.SumRefIdeal.Read
public import proofs.«01_k».proof.Proof.Gen.Wada.Frame
public import proofs.«01_k».proof.Proof.Gen.WadaIdeal.Value
public import proofs.«01_k».proof.Proof.Gen.WadaRefIdeal.Run
public import proofs.«01_k».proof.Proof.Gen.WadaRefIdeal.Read
public import proofs.«01_k».proof.Proof.Gen.AdamWada.Frame
public import proofs.«01_k».proof.Proof.Gen.AdamWadaIdeal.Value
public import proofs.«01_k».proof.Proof.Gen.AdamWadaRefIdeal.Run
public import proofs.«01_k».proof.Proof.Gen.AdamWadaRefIdeal.Read
public import proofs.«01_k».proof.Proof.Gen.AdamWin.Frame
public import proofs.«01_k».proof.Proof.Gen.AdamWinIdeal.Value
public import proofs.«01_k».proof.Proof.Gen.AdamWinRefIdeal.Run
public import proofs.«01_k».proof.Proof.Gen.AdamWinRefIdeal.Read
public import proofs.«01_k».proof.Proof.Gen.AdamWout.Frame
public import proofs.«01_k».proof.Proof.Gen.AdamWoutIdeal.Value
public import proofs.«01_k».proof.Proof.Gen.AdamWoutRefIdeal.Run
public import proofs.«01_k».proof.Proof.Gen.AdamWoutRefIdeal.Read
public import proofs.«01_k».proof.Proof.Gen.AdamW1.Frame
public import proofs.«01_k».proof.Proof.Gen.AdamW1Ideal.Value
public import proofs.«01_k».proof.Proof.Gen.AdamW1RefIdeal.Run
public import proofs.«01_k».proof.Proof.Gen.AdamW1RefIdeal.Read
public import proofs.«01_k».proof.Proof.Gen.AdamW2.Frame
public import proofs.«01_k».proof.Proof.Gen.AdamW2Ideal.Value
public import proofs.«01_k».proof.Proof.Gen.AdamW2RefIdeal.Run
public import proofs.«01_k».proof.Proof.Gen.AdamW2RefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.Chips.Frame
public import proofs.«01_k».proof.Proof.Gen.ChipsIdeal.Value
public import proofs.«01_k».proof.Proof.Gen.ChipsRefIdeal.Run
public import proofs.«01_k».proof.Proof.Gen.ChipsRefIdeal.Read

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.W1.Gen.facts, Cert.W1Ideal.Gen.facts, Cert.W1RefIdeal.Gen.facts,
  Cert.W2.Gen.facts, Cert.W2Ideal.Gen.facts, Cert.W2RefIdeal.Gen.facts,
  Cert.Win.Gen.facts, Cert.WinIdeal.Gen.facts, Cert.WinRefIdeal.Gen.facts,
  Cert.Wout.Gen.facts, Cert.WoutIdeal.Gen.facts, Cert.WoutRefIdeal.Gen.facts,
  Cert.Ffn.Gen.facts, Cert.FfnIdeal.Gen.facts, Cert.FfnRefIdeal.Gen.facts,
  Cert.Sum.Gen.facts, Cert.SumIdeal.Gen.facts, Cert.SumRefIdeal.Gen.facts,
  Cert.Wada.Gen.facts, Cert.WadaIdeal.Gen.facts, Cert.WadaRefIdeal.Gen.facts,
  Cert.AdamWada.Gen.facts, Cert.AdamWadaIdeal.Gen.facts, Cert.AdamWadaRefIdeal.Gen.facts,
  Cert.AdamWin.Gen.facts, Cert.AdamWinIdeal.Gen.facts, Cert.AdamWinRefIdeal.Gen.facts,
  Cert.AdamWout.Gen.facts, Cert.AdamWoutIdeal.Gen.facts, Cert.AdamWoutRefIdeal.Gen.facts,
  Cert.AdamW1.Gen.facts, Cert.AdamW1Ideal.Gen.facts, Cert.AdamW1RefIdeal.Gen.facts,
  Cert.AdamW2.Gen.facts, Cert.AdamW2Ideal.Gen.facts, Cert.AdamW2RefIdeal.Gen.facts,
  Cert.AdamSmall.Gen.facts, Cert.AdamSmallIdeal.Gen.facts, Cert.AdamSmallRefIdeal.Gen.facts,
  Cert.Loss.Gen.facts, Cert.LossIdeal.Gen.facts, Cert.LossRefIdeal.Gen.facts,
  Cert.Mod.Gen.facts, Cert.ModIdeal.Gen.facts, Cert.ModRefIdeal.Gen.facts,
  Cert.Chips.Gen.facts, Cert.ChipsIdeal.Gen.facts, Cert.ChipsRefIdeal.Gen.facts,
  Cert.Pre_finite.Gen.facts,
  fun m g _ => Cert.Kernel.Gen.frame m g,
  fun m g _ => Cert.KernelIdeal.Gen.frame m g,
  fun m g _ => Cert.KernelIdeal.Gen.frame m g,
  fun m g _ => Cert.Half.frame_reference m g,
  fun m g _ => Cert.Half.frame_reference m g,
  fun m g _ => Cert.W1.Gen.frame m g,
  fun m g _ => Cert.W1Ideal.Gen.frame m g,
  fun m g _ => (θ_run Cert.W1RefIdeal.defs _ _).mono (fun r h => ⟨fun c => (h c).2, sem_eq_zero_of_no_sems (by decide) _⟩) (Cert.W1RefIdeal.Value.run m g),
  fun m g _ => Cert.W2.Gen.frame m g,
  fun m g _ => Cert.W2Ideal.Gen.frame m g,
  fun m g _ => (θ_run Cert.W2RefIdeal.defs _ _).mono (fun r h => ⟨fun c => (h c).2, sem_eq_zero_of_no_sems (by decide) _⟩) (Cert.W2RefIdeal.Value.run m g),
  fun m g _ => Cert.Win.Gen.frame m g,
  fun m g _ => Cert.WinIdeal.Gen.frame m g,
  fun m g _ => (θ_run Cert.WinRefIdeal.defs _ _).mono (fun r h => ⟨fun c => (h c).2, sem_eq_zero_of_no_sems (by decide) _⟩) (Cert.WinRefIdeal.Value.run m g),
  fun m g _ => Cert.Wout.Gen.frame m g,
  fun m g _ => Cert.WoutIdeal.Gen.frame m g,
  fun m g _ => (θ_run Cert.WoutRefIdeal.defs _ _).mono (fun r h => ⟨fun c => (h c).2, sem_eq_zero_of_no_sems (by decide) _⟩) (Cert.WoutRefIdeal.Value.run m g),
  fun m g _ => Cert.Ffn.Gen.frame m g,
  fun m g _ => Cert.FfnIdeal.Gen.frame m g,
  fun m g _ => (θ_run Cert.FfnRefIdeal.defs _ _).mono (fun r h => ⟨fun c => (h c).2.2.2, sem_eq_zero_of_no_sems (by decide) _⟩) (Cert.FfnRefIdeal.Value.run m g),
  fun m g _ => Cert.Sum.Gen.frame m g,
  fun m g _ => Cert.SumIdeal.Gen.frame m g,
  fun m g _ => (θ_run Cert.SumRefIdeal.defs _ _).mono (fun r h => ⟨fun c => (h c).2, sem_eq_zero_of_no_sems (by decide) _⟩) (Cert.SumRefIdeal.Value.run m g),
  fun m g _ => Cert.Wada.Gen.frame m g,
  fun m g _ => Cert.WadaIdeal.Gen.frame m g,
  fun m g _ => (θ_run Cert.WadaRefIdeal.defs _ _).mono (fun r h => ⟨fun c => (h c).2, sem_eq_zero_of_no_sems (by decide) _⟩) (Cert.WadaRefIdeal.Value.run m g),
  fun m g _ => Cert.AdamWada.Gen.frame m g,
  fun m g _ => Cert.AdamWadaIdeal.Gen.frame m g,
  fun m g _ => (θ_run Cert.AdamWadaRefIdeal.defs _ _).mono (fun r h => ⟨fun c => (h c).2.2.2.2, sem_eq_zero_of_no_sems (by decide) _⟩) (Cert.AdamWadaRefIdeal.Value.run m g),
  fun m g _ => Cert.AdamWin.Gen.frame m g,
  fun m g _ => Cert.AdamWinIdeal.Gen.frame m g,
  fun m g _ => (θ_run Cert.AdamWinRefIdeal.defs _ _).mono (fun r h => ⟨fun c => (h c).2.2.2.2, sem_eq_zero_of_no_sems (by decide) _⟩) (Cert.AdamWinRefIdeal.Value.run m g),
  fun m g _ => Cert.AdamWout.Gen.frame m g,
  fun m g _ => Cert.AdamWoutIdeal.Gen.frame m g,
  fun m g _ => (θ_run Cert.AdamWoutRefIdeal.defs _ _).mono (fun r h => ⟨fun c => (h c).2.2.2.2, sem_eq_zero_of_no_sems (by decide) _⟩) (Cert.AdamWoutRefIdeal.Value.run m g),
  fun m g _ => Cert.AdamW1.Gen.frame m g,
  fun m g _ => Cert.AdamW1Ideal.Gen.frame m g,
  fun m g _ => (θ_run Cert.AdamW1RefIdeal.defs _ _).mono (fun r h => ⟨fun c => (h c).2.2.2.2, sem_eq_zero_of_no_sems (by decide) _⟩) (Cert.AdamW1RefIdeal.Value.run m g),
  fun m g _ => Cert.AdamW2.Gen.frame m g,
  fun m g _ => Cert.AdamW2Ideal.Gen.frame m g,
  fun m g _ => (θ_run Cert.AdamW2RefIdeal.defs _ _).mono (fun r h => ⟨fun c => (h c).2.2.2.2, sem_eq_zero_of_no_sems (by decide) _⟩) (Cert.AdamW2RefIdeal.Value.run m g),
  fun m g _ => Cert.AdamSmall.Gen.frame m g,
  fun m g _ => Cert.AdamSmallIdeal.Gen.frame m g,
  fun m g _ => (θ_run Cert.AdamSmallRefIdeal.defs _ _).mono (fun r h => ⟨fun c => (h c).2.2.2.2, sem_eq_zero_of_no_sems (by decide) _⟩) (Cert.AdamSmallRefIdeal.Value.run m g),
  fun m g _ => Cert.Loss.Gen.frame m g,
  fun m g _ => Cert.LossIdeal.Gen.frame m g,
  fun m g _ => (θ_run Cert.LossRefIdeal.defs _ _).mono (fun r h => ⟨fun c => (h c).2.2.2.2, sem_eq_zero_of_no_sems (by decide) _⟩) (Cert.LossRefIdeal.Value.run m g),
  fun m g _ => Cert.Mod.Gen.frame m g,
  fun m g _ => Cert.ModIdeal.Gen.frame m g,
  fun m g _ => (θ_run Cert.ModRefIdeal.defs _ _).mono (fun r h => ⟨fun c => (h c).2, sem_eq_zero_of_no_sems (by decide) _⟩) (Cert.ModRefIdeal.Value.run m g),
  fun m g _ => Cert.Chips.Gen.frame m g,
  fun m g _ => Cert.ChipsIdeal.Gen.frame m g,
  fun m g _ => (θ_run Cert.ChipsRefIdeal.defs _ _).mono (fun r h => ⟨fun c => (h c).2, sem_eq_zero_of_no_sems (by decide) _⟩) (Cert.ChipsRefIdeal.Value.run m g),
  trivial, Cert.Half.algebraic,
  trivial, Cert.W1.algebraic,
  trivial, Cert.W2.algebraic,
  trivial, Cert.Win.algebraic,
  trivial, Cert.Wout.algebraic,
  trivial, Cert.Ffn.algebraic,
  trivial, Cert.Sum.algebraic,
  trivial, Cert.Wada.algebraic,
  trivial, Cert.AdamWada.algebraic,
  trivial, Cert.AdamWin.algebraic,
  trivial, Cert.AdamWout.algebraic,
  trivial, Cert.AdamW1.algebraic,
  trivial, Cert.AdamW2.algebraic,
  trivial, Cert.AdamSmall.algebraic,
  trivial, Cert.Loss.algebraic,
  trivial, Cert.Mod.algebraic,
  trivial, Cert.Chips.algebraic⟩

end Cert.Proof

end
